-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_S5Post (m : (ℓ : Loc Cert.S5Post.nD Cert.S5Post.τ Cert.S5Post.sig) → Buf (Elt Bits) ℓ) : Prop :=
  True

def Pre_S5PostIdeal (m : (ℓ : Loc Cert.S5PostIdeal.nD Cert.S5PostIdeal.τ Cert.S5PostIdeal.sig) → Buf (Elt Ideal) ℓ) : Prop :=
  True

def Pre_S5PostRefIdeal (m : (ℓ : Loc Cert.S5PostRefIdeal.nD Cert.S5PostRefIdeal.τ Cert.S5PostRefIdeal.sig) → Buf (Elt Ideal) ℓ) : Prop :=
  True

def Pre_Queries (m : (ℓ : Loc Cert.Queries.nD Cert.Queries.τ Cert.Queries.sig) → Buf (Elt Bits) ℓ) : Prop :=
  True

def Pre_QueriesIdeal (m : (ℓ : Loc Cert.QueriesIdeal.nD Cert.QueriesIdeal.τ Cert.QueriesIdeal.sig) → Buf (Elt Ideal) ℓ) : Prop :=
  True

def Pre_QueriesRefIdeal (m : (ℓ : Loc Cert.QueriesRefIdeal.nD Cert.QueriesRefIdeal.τ Cert.QueriesRefIdeal.sig) → Buf (Elt Ideal) ℓ) : Prop :=
  True

def Pre_KeysValues (m : (ℓ : Loc Cert.KeysValues.nD Cert.KeysValues.τ Cert.KeysValues.sig) → Buf (Elt Bits) ℓ) : Prop :=
  True

def Pre_KeysValuesIdeal (m : (ℓ : Loc Cert.KeysValuesIdeal.nD Cert.KeysValuesIdeal.τ Cert.KeysValuesIdeal.sig) → Buf (Elt Ideal) ℓ) : Prop :=
  True

def Pre_KeysValuesRefIdeal (m : (ℓ : Loc Cert.KeysValuesRefIdeal.nD Cert.KeysValuesRefIdeal.τ Cert.KeysValuesRefIdeal.sig) → Buf (Elt Ideal) ℓ) : Prop :=
  True

def Pre_InCtx (m : (ℓ : Loc Cert.InCtx.nD Cert.InCtx.τ Cert.InCtx.sig) → Buf (Elt Bits) ℓ) : Prop :=
  True

def Pre_InCtxIdeal (m : (ℓ : Loc Cert.InCtxIdeal.nD Cert.InCtxIdeal.τ Cert.InCtxIdeal.sig) → Buf (Elt Ideal) ℓ) : Prop :=
  True

def Pre_InCtxRefIdeal (m : (ℓ : Loc Cert.InCtxRefIdeal.nD Cert.InCtxRefIdeal.τ Cert.InCtxRefIdeal.sig) → Buf (Elt Ideal) ℓ) : Prop :=
  True

def Pre_MergeCtx (m : (ℓ : Loc Cert.MergeCtx.nD Cert.MergeCtx.τ Cert.MergeCtx.sig) → Buf (Elt Bits) ℓ) : Prop :=
  True

def Pre_MergeCtxIdeal (m : (ℓ : Loc Cert.MergeCtxIdeal.nD Cert.MergeCtxIdeal.τ Cert.MergeCtxIdeal.sig) → Buf (Elt Ideal) ℓ) : Prop :=
  True

def Pre_MergeCtxRefIdeal (m : (ℓ : Loc Cert.MergeCtxRefIdeal.nD Cert.MergeCtxRefIdeal.τ Cert.MergeCtxRefIdeal.sig) → Buf (Elt Ideal) ℓ) : Prop :=
  True

def Pre_OutCtx (m : (ℓ : Loc Cert.OutCtx.nD Cert.OutCtx.τ Cert.OutCtx.sig) → Buf (Elt Bits) ℓ) : Prop :=
  True

def Pre_OutCtxIdeal (m : (ℓ : Loc Cert.OutCtxIdeal.nD Cert.OutCtxIdeal.τ Cert.OutCtxIdeal.sig) → Buf (Elt Ideal) ℓ) : Prop :=
  True

def Pre_OutCtxRefIdeal (m : (ℓ : Loc Cert.OutCtxRefIdeal.nD Cert.OutCtxRefIdeal.τ Cert.OutCtxRefIdeal.sig) → Buf (Elt Ideal) ℓ) : Prop :=
  True

def Pre_MlpCtx (m : (ℓ : Loc Cert.MlpCtx.nD Cert.MlpCtx.τ Cert.MlpCtx.sig) → Buf (Elt Bits) ℓ) : Prop :=
  True

def Pre_MlpCtxIdeal (m : (ℓ : Loc Cert.MlpCtxIdeal.nD Cert.MlpCtxIdeal.τ Cert.MlpCtxIdeal.sig) → Buf (Elt Ideal) ℓ) : Prop :=
  True

def Pre_MlpCtxRefIdeal (m : (ℓ : Loc Cert.MlpCtxRefIdeal.nD Cert.MlpCtxRefIdeal.τ Cert.MlpCtxRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_S5Post [hS5Post : Cert.S5Post.Facts] : Prop :=
  ∀ (m : (ℓ : Loc Cert.S5Post.nD Cert.S5Post.τ Cert.S5Post.sig) → Buf (Elt Bits) ℓ) (g : Dev Cert.S5Post.nD → PrngReg), Pre_S5Post m →
    θ_run (Cert.S5Post.defs (F := Bits)) (onTc (τ := Cert.S5Post.τ) (Cert.S5Post.main (F := Bits))) ⟨m, fun _ => 0, g⟩ (fun r => (∀ c : Dev Cert.S5Post.nD,
      r.2.mem ((c.tc : Thread Cert.S5Post.nD Cert.S5Post.τ).loc Cert.S5Post.main_arg0) = m ((c.tc : Thread Cert.S5Post.nD Cert.S5Post.τ).loc Cert.S5Post.main_arg0)
      ∧ r.2.mem ((c.tc : Thread Cert.S5Post.nD Cert.S5Post.τ).loc Cert.S5Post.main_arg1) = m ((c.tc : Thread Cert.S5Post.nD Cert.S5Post.τ).loc Cert.S5Post.main_arg1)
      ∧ r.2.mem ((c.tc : Thread Cert.S5Post.nD Cert.S5Post.τ).loc Cert.S5Post.main_arg2) = m ((c.tc : Thread Cert.S5Post.nD Cert.S5Post.τ).loc Cert.S5Post.main_arg2)
      ∧ r.2.mem ((c.tc : Thread Cert.S5Post.nD Cert.S5Post.τ).loc Cert.S5Post.main_arg3) = m ((c.tc : Thread Cert.S5Post.nD Cert.S5Post.τ).loc Cert.S5Post.main_arg3)
      ∧ r.2.mem ((c.tc : Thread Cert.S5Post.nD Cert.S5Post.τ).loc Cert.S5Post.main_arg4) = m ((c.tc : Thread Cert.S5Post.nD Cert.S5Post.τ).loc Cert.S5Post.main_arg4))
      ∧ r.2.sem = fun _ => 0)

def quiescent_S5PostIdeal [hS5PostIdeal : Cert.S5PostIdeal.Facts] : Prop :=
  ∀ (m : (ℓ : Loc Cert.S5PostIdeal.nD Cert.S5PostIdeal.τ Cert.S5PostIdeal.sig) → Buf (Elt Ideal) ℓ) (g : Dev Cert.S5PostIdeal.nD → PrngReg), Pre_S5PostIdeal m →
    θ_run (Cert.S5PostIdeal.defs (F := Ideal)) (onTc (τ := Cert.S5PostIdeal.τ) (Cert.S5PostIdeal.main (F := Ideal))) ⟨m, fun _ => 0, g⟩ (fun r => (∀ c : Dev Cert.S5PostIdeal.nD,
      r.2.mem ((c.tc : Thread Cert.S5PostIdeal.nD Cert.S5PostIdeal.τ).loc Cert.S5PostIdeal.main_arg0) = m ((c.tc : Thread Cert.S5PostIdeal.nD Cert.S5PostIdeal.τ).loc Cert.S5PostIdeal.main_arg0)
      ∧ r.2.mem ((c.tc : Thread Cert.S5PostIdeal.nD Cert.S5PostIdeal.τ).loc Cert.S5PostIdeal.main_arg1) = m ((c.tc : Thread Cert.S5PostIdeal.nD Cert.S5PostIdeal.τ).loc Cert.S5PostIdeal.main_arg1)
      ∧ r.2.mem ((c.tc : Thread Cert.S5PostIdeal.nD Cert.S5PostIdeal.τ).loc Cert.S5PostIdeal.main_arg2) = m ((c.tc : Thread Cert.S5PostIdeal.nD Cert.S5PostIdeal.τ).loc Cert.S5PostIdeal.main_arg2)
      ∧ r.2.mem ((c.tc : Thread Cert.S5PostIdeal.nD Cert.S5PostIdeal.τ).loc Cert.S5PostIdeal.main_arg3) = m ((c.tc : Thread Cert.S5PostIdeal.nD Cert.S5PostIdeal.τ).loc Cert.S5PostIdeal.main_arg3)
      ∧ r.2.mem ((c.tc : Thread Cert.S5PostIdeal.nD Cert.S5PostIdeal.τ).loc Cert.S5PostIdeal.main_arg4) = m ((c.tc : Thread Cert.S5PostIdeal.nD Cert.S5PostIdeal.τ).loc Cert.S5PostIdeal.main_arg4))
      ∧ r.2.sem = fun _ => 0)

def quiescent_S5PostRefIdeal [hS5PostRefIdeal : Cert.S5PostRefIdeal.Facts] : Prop :=
  ∀ (m : (ℓ : Loc Cert.S5PostRefIdeal.nD Cert.S5PostRefIdeal.τ Cert.S5PostRefIdeal.sig) → Buf (Elt Ideal) ℓ) (g : Dev Cert.S5PostRefIdeal.nD → PrngReg), Pre_S5PostRefIdeal m →
    θ_run (Cert.S5PostRefIdeal.defs (F := Ideal)) (onTc (τ := Cert.S5PostRefIdeal.τ) (Cert.S5PostRefIdeal.main (F := Ideal))) ⟨m, fun _ => 0, g⟩ (fun r => (∀ c : Dev Cert.S5PostRefIdeal.nD,
      r.2.mem ((c.tc : Thread Cert.S5PostRefIdeal.nD Cert.S5PostRefIdeal.τ).loc Cert.S5PostRefIdeal.main_arg0) = m ((c.tc : Thread Cert.S5PostRefIdeal.nD Cert.S5PostRefIdeal.τ).loc Cert.S5PostRefIdeal.main_arg0)
      ∧ r.2.mem ((c.tc : Thread Cert.S5PostRefIdeal.nD Cert.S5PostRefIdeal.τ).loc Cert.S5PostRefIdeal.main_arg1) = m ((c.tc : Thread Cert.S5PostRefIdeal.nD Cert.S5PostRefIdeal.τ).loc Cert.S5PostRefIdeal.main_arg1)
      ∧ r.2.mem ((c.tc : Thread Cert.S5PostRefIdeal.nD Cert.S5PostRefIdeal.τ).loc Cert.S5PostRefIdeal.main_arg2) = m ((c.tc : Thread Cert.S5PostRefIdeal.nD Cert.S5PostRefIdeal.τ).loc Cert.S5PostRefIdeal.main_arg2)
      ∧ r.2.mem ((c.tc : Thread Cert.S5PostRefIdeal.nD Cert.S5PostRefIdeal.τ).loc Cert.S5PostRefIdeal.main_arg3) = m ((c.tc : Thread Cert.S5PostRefIdeal.nD Cert.S5PostRefIdeal.τ).loc Cert.S5PostRefIdeal.main_arg3)
      ∧ r.2.mem ((c.tc : Thread Cert.S5PostRefIdeal.nD Cert.S5PostRefIdeal.τ).loc Cert.S5PostRefIdeal.main_arg4) = m ((c.tc : Thread Cert.S5PostRefIdeal.nD Cert.S5PostRefIdeal.τ).loc Cert.S5PostRefIdeal.main_arg4))
      ∧ r.2.sem = fun _ => 0)

def quiescent_Queries [hQueries : Cert.Queries.Facts] : Prop :=
  ∀ (m : (ℓ : Loc Cert.Queries.nD Cert.Queries.τ Cert.Queries.sig) → Buf (Elt Bits) ℓ) (g : Dev Cert.Queries.nD → PrngReg), Pre_Queries m →
    θ_run (Cert.Queries.defs (F := Bits)) (onTc (τ := Cert.Queries.τ) (Cert.Queries.main (F := Bits))) ⟨m, fun _ => 0, g⟩ (fun r => (∀ c : Dev Cert.Queries.nD,
      r.2.mem ((c.tc : Thread Cert.Queries.nD Cert.Queries.τ).loc Cert.Queries.main_arg0) = m ((c.tc : Thread Cert.Queries.nD Cert.Queries.τ).loc Cert.Queries.main_arg0)
      ∧ r.2.mem ((c.tc : Thread Cert.Queries.nD Cert.Queries.τ).loc Cert.Queries.main_arg1) = m ((c.tc : Thread Cert.Queries.nD Cert.Queries.τ).loc Cert.Queries.main_arg1)
      ∧ r.2.mem ((c.tc : Thread Cert.Queries.nD Cert.Queries.τ).loc Cert.Queries.main_arg2) = m ((c.tc : Thread Cert.Queries.nD Cert.Queries.τ).loc Cert.Queries.main_arg2)
      ∧ r.2.mem ((c.tc : Thread Cert.Queries.nD Cert.Queries.τ).loc Cert.Queries.main_arg3) = m ((c.tc : Thread Cert.Queries.nD Cert.Queries.τ).loc Cert.Queries.main_arg3)
      ∧ r.2.mem ((c.tc : Thread Cert.Queries.nD Cert.Queries.τ).loc Cert.Queries.main_arg4) = m ((c.tc : Thread Cert.Queries.nD Cert.Queries.τ).loc Cert.Queries.main_arg4)
      ∧ r.2.mem ((c.tc : Thread Cert.Queries.nD Cert.Queries.τ).loc Cert.Queries.main_arg5) = m ((c.tc : Thread Cert.Queries.nD Cert.Queries.τ).loc Cert.Queries.main_arg5)
      ∧ r.2.mem ((c.tc : Thread Cert.Queries.nD Cert.Queries.τ).loc Cert.Queries.main_arg6) = m ((c.tc : Thread Cert.Queries.nD Cert.Queries.τ).loc Cert.Queries.main_arg6))
      ∧ r.2.sem = fun _ => 0)

def quiescent_QueriesIdeal [hQueriesIdeal : Cert.QueriesIdeal.Facts] : Prop :=
  ∀ (m : (ℓ : Loc Cert.QueriesIdeal.nD Cert.QueriesIdeal.τ Cert.QueriesIdeal.sig) → Buf (Elt Ideal) ℓ) (g : Dev Cert.QueriesIdeal.nD → PrngReg), Pre_QueriesIdeal m →
    θ_run (Cert.QueriesIdeal.defs (F := Ideal)) (onTc (τ := Cert.QueriesIdeal.τ) (Cert.QueriesIdeal.main (F := Ideal))) ⟨m, fun _ => 0, g⟩ (fun r => (∀ c : Dev Cert.QueriesIdeal.nD,
      r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
      ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1)
      ∧ r.2.mem ((c.tc : Thread Cert.QueriesIdeal.nD Cert.QueriesIdeal.τ).loc Cert.QueriesIdeal.main_arg2) = m ((c.tc : Thread Cert.QueriesIdeal.nD Cert.QueriesIdeal.τ).loc Cert.QueriesIdeal.main_arg2)
      ∧ r.2.mem ((c.tc : Thread Cert.QueriesIdeal.nD Cert.QueriesIdeal.τ).loc Cert.QueriesIdeal.main_arg3) = m ((c.tc : Thread Cert.QueriesIdeal.nD Cert.QueriesIdeal.τ).loc Cert.QueriesIdeal.main_arg3)
      ∧ r.2.mem ((c.tc : Thread Cert.QueriesIdeal.nD Cert.QueriesIdeal.τ).loc Cert.QueriesIdeal.main_arg4) = m ((c.tc : Thread Cert.QueriesIdeal.nD Cert.QueriesIdeal.τ).loc Cert.QueriesIdeal.main_arg4)
      ∧ r.2.mem ((c.tc : Thread Cert.QueriesIdeal.nD Cert.QueriesIdeal.τ).loc Cert.QueriesIdeal.main_arg5) = m ((c.tc : Thread Cert.QueriesIdeal.nD Cert.QueriesIdeal.τ).loc Cert.QueriesIdeal.main_arg5)
      ∧ r.2.mem ((c.tc : Thread Cert.QueriesIdeal.nD Cert.QueriesIdeal.τ).loc Cert.QueriesIdeal.main_arg6) = m ((c.tc : Thread Cert.QueriesIdeal.nD Cert.QueriesIdeal.τ).loc Cert.QueriesIdeal.main_arg6))
      ∧ r.2.sem = fun _ => 0)

def quiescent_QueriesRefIdeal [hQueriesRefIdeal : Cert.QueriesRefIdeal.Facts] : Prop :=
  ∀ (m : (ℓ : Loc Cert.QueriesRefIdeal.nD Cert.QueriesRefIdeal.τ Cert.QueriesRefIdeal.sig) → Buf (Elt Ideal) ℓ) (g : Dev Cert.QueriesRefIdeal.nD → PrngReg), Pre_QueriesRefIdeal m →
    θ_run (Cert.QueriesRefIdeal.defs (F := Ideal)) (onTc (τ := Cert.QueriesRefIdeal.τ) (Cert.QueriesRefIdeal.main (F := Ideal))) ⟨m, fun _ => 0, g⟩ (fun r => (∀ c : Dev Cert.QueriesRefIdeal.nD,
      r.2.mem ((c.tc : Thread Cert.QueriesRefIdeal.nD Cert.QueriesRefIdeal.τ).loc Cert.QueriesRefIdeal.main_arg0) = m ((c.tc : Thread Cert.QueriesRefIdeal.nD Cert.QueriesRefIdeal.τ).loc Cert.QueriesRefIdeal.main_arg0)
      ∧ r.2.mem ((c.tc : Thread Cert.QueriesRefIdeal.nD Cert.QueriesRefIdeal.τ).loc Cert.QueriesRefIdeal.main_arg1) = m ((c.tc : Thread Cert.QueriesRefIdeal.nD Cert.QueriesRefIdeal.τ).loc Cert.QueriesRefIdeal.main_arg1)
      ∧ r.2.mem ((c.tc : Thread Cert.QueriesRefIdeal.nD Cert.QueriesRefIdeal.τ).loc Cert.QueriesRefIdeal.main_arg2) = m ((c.tc : Thread Cert.QueriesRefIdeal.nD Cert.QueriesRefIdeal.τ).loc Cert.QueriesRefIdeal.main_arg2)
      ∧ r.2.mem ((c.tc : Thread Cert.QueriesRefIdeal.nD Cert.QueriesRefIdeal.τ).loc Cert.QueriesRefIdeal.main_arg3) = m ((c.tc : Thread Cert.QueriesRefIdeal.nD Cert.QueriesRefIdeal.τ).loc Cert.QueriesRefIdeal.main_arg3)
      ∧ r.2.mem ((c.tc : Thread Cert.QueriesRefIdeal.nD Cert.QueriesRefIdeal.τ).loc Cert.QueriesRefIdeal.main_arg4) = m ((c.tc : Thread Cert.QueriesRefIdeal.nD Cert.QueriesRefIdeal.τ).loc Cert.QueriesRefIdeal.main_arg4)
      ∧ r.2.mem ((c.tc : Thread Cert.QueriesRefIdeal.nD Cert.QueriesRefIdeal.τ).loc Cert.QueriesRefIdeal.main_arg5) = m ((c.tc : Thread Cert.QueriesRefIdeal.nD Cert.QueriesRefIdeal.τ).loc Cert.QueriesRefIdeal.main_arg5)
      ∧ r.2.mem ((c.tc : Thread Cert.QueriesRefIdeal.nD Cert.QueriesRefIdeal.τ).loc Cert.QueriesRefIdeal.main_arg6) = m ((c.tc : Thread Cert.QueriesRefIdeal.nD Cert.QueriesRefIdeal.τ).loc Cert.QueriesRefIdeal.main_arg6))
      ∧ r.2.sem = fun _ => 0)

def quiescent_KeysValues [hKeysValues : Cert.KeysValues.Facts] : Prop :=
  ∀ (m : (ℓ : Loc Cert.KeysValues.nD Cert.KeysValues.τ Cert.KeysValues.sig) → Buf (Elt Bits) ℓ) (g : Dev Cert.KeysValues.nD → PrngReg), Pre_KeysValues m →
    θ_run (Cert.KeysValues.defs (F := Bits)) (onTc (τ := Cert.KeysValues.τ) (Cert.KeysValues.main (F := Bits))) ⟨m, fun _ => 0, g⟩ (fun r => (∀ c : Dev Cert.KeysValues.nD,
      r.2.mem ((c.tc : Thread Cert.KeysValues.nD Cert.KeysValues.τ).loc Cert.KeysValues.main_arg0) = m ((c.tc : Thread Cert.KeysValues.nD Cert.KeysValues.τ).loc Cert.KeysValues.main_arg0)
      ∧ r.2.mem ((c.tc : Thread Cert.KeysValues.nD Cert.KeysValues.τ).loc Cert.KeysValues.main_arg1) = m ((c.tc : Thread Cert.KeysValues.nD Cert.KeysValues.τ).loc Cert.KeysValues.main_arg1)
      ∧ r.2.mem ((c.tc : Thread Cert.KeysValues.nD Cert.KeysValues.τ).loc Cert.KeysValues.main_arg2) = m ((c.tc : Thread Cert.KeysValues.nD Cert.KeysValues.τ).loc Cert.KeysValues.main_arg2)
      ∧ r.2.mem ((c.tc : Thread Cert.KeysValues.nD Cert.KeysValues.τ).loc Cert.KeysValues.main_arg3) = m ((c.tc : Thread Cert.KeysValues.nD Cert.KeysValues.τ).loc Cert.KeysValues.main_arg3)
      ∧ r.2.mem ((c.tc : Thread Cert.KeysValues.nD Cert.KeysValues.τ).loc Cert.KeysValues.main_arg4) = m ((c.tc : Thread Cert.KeysValues.nD Cert.KeysValues.τ).loc Cert.KeysValues.main_arg4)
      ∧ r.2.mem ((c.tc : Thread Cert.KeysValues.nD Cert.KeysValues.τ).loc Cert.KeysValues.main_arg5) = m ((c.tc : Thread Cert.KeysValues.nD Cert.KeysValues.τ).loc Cert.KeysValues.main_arg5)
      ∧ r.2.mem ((c.tc : Thread Cert.KeysValues.nD Cert.KeysValues.τ).loc Cert.KeysValues.main_arg6) = m ((c.tc : Thread Cert.KeysValues.nD Cert.KeysValues.τ).loc Cert.KeysValues.main_arg6)
      ∧ r.2.mem ((c.tc : Thread Cert.KeysValues.nD Cert.KeysValues.τ).loc Cert.KeysValues.main_arg7) = m ((c.tc : Thread Cert.KeysValues.nD Cert.KeysValues.τ).loc Cert.KeysValues.main_arg7))
      ∧ r.2.sem = fun _ => 0)

def quiescent_KeysValuesIdeal [hKeysValuesIdeal : Cert.KeysValuesIdeal.Facts] : Prop :=
  ∀ (m : (ℓ : Loc Cert.KeysValuesIdeal.nD Cert.KeysValuesIdeal.τ Cert.KeysValuesIdeal.sig) → Buf (Elt Ideal) ℓ) (g : Dev Cert.KeysValuesIdeal.nD → PrngReg), Pre_KeysValuesIdeal m →
    θ_run (Cert.KeysValuesIdeal.defs (F := Ideal)) (onTc (τ := Cert.KeysValuesIdeal.τ) (Cert.KeysValuesIdeal.main (F := Ideal))) ⟨m, fun _ => 0, g⟩ (fun r => (∀ c : Dev Cert.KeysValuesIdeal.nD,
      r.2.mem ((c.tc : Thread Cert.KeysValuesIdeal.nD Cert.KeysValuesIdeal.τ).loc Cert.KeysValuesIdeal.main_arg0) = m ((c.tc : Thread Cert.KeysValuesIdeal.nD Cert.KeysValuesIdeal.τ).loc Cert.KeysValuesIdeal.main_arg0)
      ∧ r.2.mem ((c.tc : Thread Cert.KeysValuesIdeal.nD Cert.KeysValuesIdeal.τ).loc Cert.KeysValuesIdeal.main_arg1) = m ((c.tc : Thread Cert.KeysValuesIdeal.nD Cert.KeysValuesIdeal.τ).loc Cert.KeysValuesIdeal.main_arg1)
      ∧ r.2.mem ((c.tc : Thread Cert.KeysValuesIdeal.nD Cert.KeysValuesIdeal.τ).loc Cert.KeysValuesIdeal.main_arg2) = m ((c.tc : Thread Cert.KeysValuesIdeal.nD Cert.KeysValuesIdeal.τ).loc Cert.KeysValuesIdeal.main_arg2)
      ∧ r.2.mem ((c.tc : Thread Cert.KeysValuesIdeal.nD Cert.KeysValuesIdeal.τ).loc Cert.KeysValuesIdeal.main_arg3) = m ((c.tc : Thread Cert.KeysValuesIdeal.nD Cert.KeysValuesIdeal.τ).loc Cert.KeysValuesIdeal.main_arg3)
      ∧ r.2.mem ((c.tc : Thread Cert.KeysValuesIdeal.nD Cert.KeysValuesIdeal.τ).loc Cert.KeysValuesIdeal.main_arg4) = m ((c.tc : Thread Cert.KeysValuesIdeal.nD Cert.KeysValuesIdeal.τ).loc Cert.KeysValuesIdeal.main_arg4)
      ∧ r.2.mem ((c.tc : Thread Cert.KeysValuesIdeal.nD Cert.KeysValuesIdeal.τ).loc Cert.KeysValuesIdeal.main_arg5) = m ((c.tc : Thread Cert.KeysValuesIdeal.nD Cert.KeysValuesIdeal.τ).loc Cert.KeysValuesIdeal.main_arg5)
      ∧ r.2.mem ((c.tc : Thread Cert.KeysValuesIdeal.nD Cert.KeysValuesIdeal.τ).loc Cert.KeysValuesIdeal.main_arg6) = m ((c.tc : Thread Cert.KeysValuesIdeal.nD Cert.KeysValuesIdeal.τ).loc Cert.KeysValuesIdeal.main_arg6)
      ∧ r.2.mem ((c.tc : Thread Cert.KeysValuesIdeal.nD Cert.KeysValuesIdeal.τ).loc Cert.KeysValuesIdeal.main_arg7) = m ((c.tc : Thread Cert.KeysValuesIdeal.nD Cert.KeysValuesIdeal.τ).loc Cert.KeysValuesIdeal.main_arg7))
      ∧ r.2.sem = fun _ => 0)

def quiescent_KeysValuesRefIdeal [hKeysValuesRefIdeal : Cert.KeysValuesRefIdeal.Facts] : Prop :=
  ∀ (m : (ℓ : Loc Cert.KeysValuesRefIdeal.nD Cert.KeysValuesRefIdeal.τ Cert.KeysValuesRefIdeal.sig) → Buf (Elt Ideal) ℓ) (g : Dev Cert.KeysValuesRefIdeal.nD → PrngReg), Pre_KeysValuesRefIdeal m →
    θ_run (Cert.KeysValuesRefIdeal.defs (F := Ideal)) (onTc (τ := Cert.KeysValuesRefIdeal.τ) (Cert.KeysValuesRefIdeal.main (F := Ideal))) ⟨m, fun _ => 0, g⟩ (fun r => (∀ c : Dev Cert.KeysValuesRefIdeal.nD,
      r.2.mem ((c.tc : Thread Cert.KeysValuesRefIdeal.nD Cert.KeysValuesRefIdeal.τ).loc Cert.KeysValuesRefIdeal.main_arg0) = m ((c.tc : Thread Cert.KeysValuesRefIdeal.nD Cert.KeysValuesRefIdeal.τ).loc Cert.KeysValuesRefIdeal.main_arg0)
      ∧ r.2.mem ((c.tc : Thread Cert.KeysValuesRefIdeal.nD Cert.KeysValuesRefIdeal.τ).loc Cert.KeysValuesRefIdeal.main_arg1) = m ((c.tc : Thread Cert.KeysValuesRefIdeal.nD Cert.KeysValuesRefIdeal.τ).loc Cert.KeysValuesRefIdeal.main_arg1)
      ∧ r.2.mem ((c.tc : Thread Cert.KeysValuesRefIdeal.nD Cert.KeysValuesRefIdeal.τ).loc Cert.KeysValuesRefIdeal.main_arg2) = m ((c.tc : Thread Cert.KeysValuesRefIdeal.nD Cert.KeysValuesRefIdeal.τ).loc Cert.KeysValuesRefIdeal.main_arg2)
      ∧ r.2.mem ((c.tc : Thread Cert.KeysValuesRefIdeal.nD Cert.KeysValuesRefIdeal.τ).loc Cert.KeysValuesRefIdeal.main_arg3) = m ((c.tc : Thread Cert.KeysValuesRefIdeal.nD Cert.KeysValuesRefIdeal.τ).loc Cert.KeysValuesRefIdeal.main_arg3)
      ∧ r.2.mem ((c.tc : Thread Cert.KeysValuesRefIdeal.nD Cert.KeysValuesRefIdeal.τ).loc Cert.KeysValuesRefIdeal.main_arg4) = m ((c.tc : Thread Cert.KeysValuesRefIdeal.nD Cert.KeysValuesRefIdeal.τ).loc Cert.KeysValuesRefIdeal.main_arg4)
      ∧ r.2.mem ((c.tc : Thread Cert.KeysValuesRefIdeal.nD Cert.KeysValuesRefIdeal.τ).loc Cert.KeysValuesRefIdeal.main_arg5) = m ((c.tc : Thread Cert.KeysValuesRefIdeal.nD Cert.KeysValuesRefIdeal.τ).loc Cert.KeysValuesRefIdeal.main_arg5)
      ∧ r.2.mem ((c.tc : Thread Cert.KeysValuesRefIdeal.nD Cert.KeysValuesRefIdeal.τ).loc Cert.KeysValuesRefIdeal.main_arg6) = m ((c.tc : Thread Cert.KeysValuesRefIdeal.nD Cert.KeysValuesRefIdeal.τ).loc Cert.KeysValuesRefIdeal.main_arg6)
      ∧ r.2.mem ((c.tc : Thread Cert.KeysValuesRefIdeal.nD Cert.KeysValuesRefIdeal.τ).loc Cert.KeysValuesRefIdeal.main_arg7) = m ((c.tc : Thread Cert.KeysValuesRefIdeal.nD Cert.KeysValuesRefIdeal.τ).loc Cert.KeysValuesRefIdeal.main_arg7))
      ∧ r.2.sem = fun _ => 0)

def quiescent_InCtx [hInCtx : Cert.InCtx.Facts] : Prop :=
  ∀ (m : (ℓ : Loc Cert.InCtx.nD Cert.InCtx.τ Cert.InCtx.sig) → Buf (Elt Bits) ℓ) (g : Dev Cert.InCtx.nD → PrngReg), Pre_InCtx m →
    θ_run (Cert.InCtx.defs (F := Bits)) (onTc (τ := Cert.InCtx.τ) (Cert.InCtx.main (F := Bits))) ⟨m, fun _ => 0, g⟩ (fun r => (∀ c : Dev Cert.InCtx.nD,
      r.2.mem ((c.tc : Thread Cert.InCtx.nD Cert.InCtx.τ).loc Cert.InCtx.main_arg0) = m ((c.tc : Thread Cert.InCtx.nD Cert.InCtx.τ).loc Cert.InCtx.main_arg0)
      ∧ r.2.mem ((c.tc : Thread Cert.InCtx.nD Cert.InCtx.τ).loc Cert.InCtx.main_arg1) = m ((c.tc : Thread Cert.InCtx.nD Cert.InCtx.τ).loc Cert.InCtx.main_arg1)
      ∧ r.2.mem ((c.tc : Thread Cert.InCtx.nD Cert.InCtx.τ).loc Cert.InCtx.main_arg2) = m ((c.tc : Thread Cert.InCtx.nD Cert.InCtx.τ).loc Cert.InCtx.main_arg2)
      ∧ r.2.mem ((c.tc : Thread Cert.InCtx.nD Cert.InCtx.τ).loc Cert.InCtx.main_arg3) = m ((c.tc : Thread Cert.InCtx.nD Cert.InCtx.τ).loc Cert.InCtx.main_arg3))
      ∧ r.2.sem = fun _ => 0)

def quiescent_InCtxIdeal [hInCtxIdeal : Cert.InCtxIdeal.Facts] : Prop :=
  ∀ (m : (ℓ : Loc Cert.InCtxIdeal.nD Cert.InCtxIdeal.τ Cert.InCtxIdeal.sig) → Buf (Elt Ideal) ℓ) (g : Dev Cert.InCtxIdeal.nD → PrngReg), Pre_InCtxIdeal m →
    θ_run (Cert.InCtxIdeal.defs (F := Ideal)) (onTc (τ := Cert.InCtxIdeal.τ) (Cert.InCtxIdeal.main (F := Ideal))) ⟨m, fun _ => 0, g⟩ (fun r => (∀ c : Dev Cert.InCtxIdeal.nD,
      r.2.mem ((c.tc : Thread Cert.InCtxIdeal.nD Cert.InCtxIdeal.τ).loc Cert.InCtxIdeal.main_arg0) = m ((c.tc : Thread Cert.InCtxIdeal.nD Cert.InCtxIdeal.τ).loc Cert.InCtxIdeal.main_arg0)
      ∧ r.2.mem ((c.tc : Thread Cert.InCtxIdeal.nD Cert.InCtxIdeal.τ).loc Cert.InCtxIdeal.main_arg1) = m ((c.tc : Thread Cert.InCtxIdeal.nD Cert.InCtxIdeal.τ).loc Cert.InCtxIdeal.main_arg1)
      ∧ r.2.mem ((c.tc : Thread Cert.InCtxIdeal.nD Cert.InCtxIdeal.τ).loc Cert.InCtxIdeal.main_arg2) = m ((c.tc : Thread Cert.InCtxIdeal.nD Cert.InCtxIdeal.τ).loc Cert.InCtxIdeal.main_arg2)
      ∧ r.2.mem ((c.tc : Thread Cert.InCtxIdeal.nD Cert.InCtxIdeal.τ).loc Cert.InCtxIdeal.main_arg3) = m ((c.tc : Thread Cert.InCtxIdeal.nD Cert.InCtxIdeal.τ).loc Cert.InCtxIdeal.main_arg3))
      ∧ r.2.sem = fun _ => 0)

def quiescent_InCtxRefIdeal [hInCtxRefIdeal : Cert.InCtxRefIdeal.Facts] : Prop :=
  ∀ (m : (ℓ : Loc Cert.InCtxRefIdeal.nD Cert.InCtxRefIdeal.τ Cert.InCtxRefIdeal.sig) → Buf (Elt Ideal) ℓ) (g : Dev Cert.InCtxRefIdeal.nD → PrngReg), Pre_InCtxRefIdeal m →
    θ_run (Cert.InCtxRefIdeal.defs (F := Ideal)) (onTc (τ := Cert.InCtxRefIdeal.τ) (Cert.InCtxRefIdeal.main (F := Ideal))) ⟨m, fun _ => 0, g⟩ (fun r => (∀ c : Dev Cert.InCtxRefIdeal.nD,
      r.2.mem ((c.tc : Thread Cert.InCtxRefIdeal.nD Cert.InCtxRefIdeal.τ).loc Cert.InCtxRefIdeal.main_arg0) = m ((c.tc : Thread Cert.InCtxRefIdeal.nD Cert.InCtxRefIdeal.τ).loc Cert.InCtxRefIdeal.main_arg0)
      ∧ r.2.mem ((c.tc : Thread Cert.InCtxRefIdeal.nD Cert.InCtxRefIdeal.τ).loc Cert.InCtxRefIdeal.main_arg1) = m ((c.tc : Thread Cert.InCtxRefIdeal.nD Cert.InCtxRefIdeal.τ).loc Cert.InCtxRefIdeal.main_arg1)
      ∧ r.2.mem ((c.tc : Thread Cert.InCtxRefIdeal.nD Cert.InCtxRefIdeal.τ).loc Cert.InCtxRefIdeal.main_arg2) = m ((c.tc : Thread Cert.InCtxRefIdeal.nD Cert.InCtxRefIdeal.τ).loc Cert.InCtxRefIdeal.main_arg2)
      ∧ r.2.mem ((c.tc : Thread Cert.InCtxRefIdeal.nD Cert.InCtxRefIdeal.τ).loc Cert.InCtxRefIdeal.main_arg3) = m ((c.tc : Thread Cert.InCtxRefIdeal.nD Cert.InCtxRefIdeal.τ).loc Cert.InCtxRefIdeal.main_arg3))
      ∧ r.2.sem = fun _ => 0)

def quiescent_MergeCtx [hMergeCtx : Cert.MergeCtx.Facts] : Prop :=
  ∀ (m : (ℓ : Loc Cert.MergeCtx.nD Cert.MergeCtx.τ Cert.MergeCtx.sig) → Buf (Elt Bits) ℓ) (g : Dev Cert.MergeCtx.nD → PrngReg), Pre_MergeCtx m →
    θ_run (Cert.MergeCtx.defs (F := Bits)) (onTc (τ := Cert.MergeCtx.τ) (Cert.MergeCtx.main (F := Bits))) ⟨m, fun _ => 0, g⟩ (fun r => (∀ c : Dev Cert.MergeCtx.nD,
      r.2.mem ((c.tc : Thread Cert.MergeCtx.nD Cert.MergeCtx.τ).loc Cert.MergeCtx.main_arg0) = m ((c.tc : Thread Cert.MergeCtx.nD Cert.MergeCtx.τ).loc Cert.MergeCtx.main_arg0)
      ∧ r.2.mem ((c.tc : Thread Cert.MergeCtx.nD Cert.MergeCtx.τ).loc Cert.MergeCtx.main_arg1) = m ((c.tc : Thread Cert.MergeCtx.nD Cert.MergeCtx.τ).loc Cert.MergeCtx.main_arg1)
      ∧ r.2.mem ((c.tc : Thread Cert.MergeCtx.nD Cert.MergeCtx.τ).loc Cert.MergeCtx.main_arg2) = m ((c.tc : Thread Cert.MergeCtx.nD Cert.MergeCtx.τ).loc Cert.MergeCtx.main_arg2)
      ∧ r.2.mem ((c.tc : Thread Cert.MergeCtx.nD Cert.MergeCtx.τ).loc Cert.MergeCtx.main_arg3) = m ((c.tc : Thread Cert.MergeCtx.nD Cert.MergeCtx.τ).loc Cert.MergeCtx.main_arg3)
      ∧ r.2.mem ((c.tc : Thread Cert.MergeCtx.nD Cert.MergeCtx.τ).loc Cert.MergeCtx.main_arg4) = m ((c.tc : Thread Cert.MergeCtx.nD Cert.MergeCtx.τ).loc Cert.MergeCtx.main_arg4))
      ∧ r.2.sem = fun _ => 0)

def quiescent_MergeCtxIdeal [hMergeCtxIdeal : Cert.MergeCtxIdeal.Facts] : Prop :=
  ∀ (m : (ℓ : Loc Cert.MergeCtxIdeal.nD Cert.MergeCtxIdeal.τ Cert.MergeCtxIdeal.sig) → Buf (Elt Ideal) ℓ) (g : Dev Cert.MergeCtxIdeal.nD → PrngReg), Pre_MergeCtxIdeal m →
    θ_run (Cert.MergeCtxIdeal.defs (F := Ideal)) (onTc (τ := Cert.MergeCtxIdeal.τ) (Cert.MergeCtxIdeal.main (F := Ideal))) ⟨m, fun _ => 0, g⟩ (fun r => (∀ c : Dev Cert.MergeCtxIdeal.nD,
      r.2.mem ((c.tc : Thread Cert.MergeCtxIdeal.nD Cert.MergeCtxIdeal.τ).loc Cert.MergeCtxIdeal.main_arg0) = m ((c.tc : Thread Cert.MergeCtxIdeal.nD Cert.MergeCtxIdeal.τ).loc Cert.MergeCtxIdeal.main_arg0)
      ∧ r.2.mem ((c.tc : Thread Cert.MergeCtxIdeal.nD Cert.MergeCtxIdeal.τ).loc Cert.MergeCtxIdeal.main_arg1) = m ((c.tc : Thread Cert.MergeCtxIdeal.nD Cert.MergeCtxIdeal.τ).loc Cert.MergeCtxIdeal.main_arg1)
      ∧ r.2.mem ((c.tc : Thread Cert.MergeCtxIdeal.nD Cert.MergeCtxIdeal.τ).loc Cert.MergeCtxIdeal.main_arg2) = m ((c.tc : Thread Cert.MergeCtxIdeal.nD Cert.MergeCtxIdeal.τ).loc Cert.MergeCtxIdeal.main_arg2)
      ∧ r.2.mem ((c.tc : Thread Cert.MergeCtxIdeal.nD Cert.MergeCtxIdeal.τ).loc Cert.MergeCtxIdeal.main_arg3) = m ((c.tc : Thread Cert.MergeCtxIdeal.nD Cert.MergeCtxIdeal.τ).loc Cert.MergeCtxIdeal.main_arg3)
      ∧ r.2.mem ((c.tc : Thread Cert.MergeCtxIdeal.nD Cert.MergeCtxIdeal.τ).loc Cert.MergeCtxIdeal.main_arg4) = m ((c.tc : Thread Cert.MergeCtxIdeal.nD Cert.MergeCtxIdeal.τ).loc Cert.MergeCtxIdeal.main_arg4))
      ∧ r.2.sem = fun _ => 0)

def quiescent_MergeCtxRefIdeal [hMergeCtxRefIdeal : Cert.MergeCtxRefIdeal.Facts] : Prop :=
  ∀ (m : (ℓ : Loc Cert.MergeCtxRefIdeal.nD Cert.MergeCtxRefIdeal.τ Cert.MergeCtxRefIdeal.sig) → Buf (Elt Ideal) ℓ) (g : Dev Cert.MergeCtxRefIdeal.nD → PrngReg), Pre_MergeCtxRefIdeal m →
    θ_run (Cert.MergeCtxRefIdeal.defs (F := Ideal)) (onTc (τ := Cert.MergeCtxRefIdeal.τ) (Cert.MergeCtxRefIdeal.main (F := Ideal))) ⟨m, fun _ => 0, g⟩ (fun r => (∀ c : Dev Cert.MergeCtxRefIdeal.nD,
      r.2.mem ((c.tc : Thread Cert.MergeCtxRefIdeal.nD Cert.MergeCtxRefIdeal.τ).loc Cert.MergeCtxRefIdeal.main_arg0) = m ((c.tc : Thread Cert.MergeCtxRefIdeal.nD Cert.MergeCtxRefIdeal.τ).loc Cert.MergeCtxRefIdeal.main_arg0)
      ∧ r.2.mem ((c.tc : Thread Cert.MergeCtxRefIdeal.nD Cert.MergeCtxRefIdeal.τ).loc Cert.MergeCtxRefIdeal.main_arg1) = m ((c.tc : Thread Cert.MergeCtxRefIdeal.nD Cert.MergeCtxRefIdeal.τ).loc Cert.MergeCtxRefIdeal.main_arg1)
      ∧ r.2.mem ((c.tc : Thread Cert.MergeCtxRefIdeal.nD Cert.MergeCtxRefIdeal.τ).loc Cert.MergeCtxRefIdeal.main_arg2) = m ((c.tc : Thread Cert.MergeCtxRefIdeal.nD Cert.MergeCtxRefIdeal.τ).loc Cert.MergeCtxRefIdeal.main_arg2)
      ∧ r.2.mem ((c.tc : Thread Cert.MergeCtxRefIdeal.nD Cert.MergeCtxRefIdeal.τ).loc Cert.MergeCtxRefIdeal.main_arg3) = m ((c.tc : Thread Cert.MergeCtxRefIdeal.nD Cert.MergeCtxRefIdeal.τ).loc Cert.MergeCtxRefIdeal.main_arg3)
      ∧ r.2.mem ((c.tc : Thread Cert.MergeCtxRefIdeal.nD Cert.MergeCtxRefIdeal.τ).loc Cert.MergeCtxRefIdeal.main_arg4) = m ((c.tc : Thread Cert.MergeCtxRefIdeal.nD Cert.MergeCtxRefIdeal.τ).loc Cert.MergeCtxRefIdeal.main_arg4))
      ∧ r.2.sem = fun _ => 0)

def quiescent_OutCtx [hOutCtx : Cert.OutCtx.Facts] : Prop :=
  ∀ (m : (ℓ : Loc Cert.OutCtx.nD Cert.OutCtx.τ Cert.OutCtx.sig) → Buf (Elt Bits) ℓ) (g : Dev Cert.OutCtx.nD → PrngReg), Pre_OutCtx m →
    θ_run (Cert.OutCtx.defs (F := Bits)) (onTc (τ := Cert.OutCtx.τ) (Cert.OutCtx.main (F := Bits))) ⟨m, fun _ => 0, g⟩ (fun r => (∀ c : Dev Cert.OutCtx.nD,
      r.2.mem ((c.tc : Thread Cert.OutCtx.nD Cert.OutCtx.τ).loc Cert.OutCtx.main_arg0) = m ((c.tc : Thread Cert.OutCtx.nD Cert.OutCtx.τ).loc Cert.OutCtx.main_arg0)
      ∧ r.2.mem ((c.tc : Thread Cert.OutCtx.nD Cert.OutCtx.τ).loc Cert.OutCtx.main_arg1) = m ((c.tc : Thread Cert.OutCtx.nD Cert.OutCtx.τ).loc Cert.OutCtx.main_arg1)
      ∧ r.2.mem ((c.tc : Thread Cert.OutCtx.nD Cert.OutCtx.τ).loc Cert.OutCtx.main_arg2) = m ((c.tc : Thread Cert.OutCtx.nD Cert.OutCtx.τ).loc Cert.OutCtx.main_arg2)
      ∧ r.2.mem ((c.tc : Thread Cert.OutCtx.nD Cert.OutCtx.τ).loc Cert.OutCtx.main_arg3) = m ((c.tc : Thread Cert.OutCtx.nD Cert.OutCtx.τ).loc Cert.OutCtx.main_arg3))
      ∧ r.2.sem = fun _ => 0)

def quiescent_OutCtxIdeal [hOutCtxIdeal : Cert.OutCtxIdeal.Facts] : Prop :=
  ∀ (m : (ℓ : Loc Cert.OutCtxIdeal.nD Cert.OutCtxIdeal.τ Cert.OutCtxIdeal.sig) → Buf (Elt Ideal) ℓ) (g : Dev Cert.OutCtxIdeal.nD → PrngReg), Pre_OutCtxIdeal m →
    θ_run (Cert.OutCtxIdeal.defs (F := Ideal)) (onTc (τ := Cert.OutCtxIdeal.τ) (Cert.OutCtxIdeal.main (F := Ideal))) ⟨m, fun _ => 0, g⟩ (fun r => (∀ c : Dev Cert.OutCtxIdeal.nD,
      r.2.mem ((c.tc : Thread Cert.OutCtxIdeal.nD Cert.OutCtxIdeal.τ).loc Cert.OutCtxIdeal.main_arg0) = m ((c.tc : Thread Cert.OutCtxIdeal.nD Cert.OutCtxIdeal.τ).loc Cert.OutCtxIdeal.main_arg0)
      ∧ r.2.mem ((c.tc : Thread Cert.OutCtxIdeal.nD Cert.OutCtxIdeal.τ).loc Cert.OutCtxIdeal.main_arg1) = m ((c.tc : Thread Cert.OutCtxIdeal.nD Cert.OutCtxIdeal.τ).loc Cert.OutCtxIdeal.main_arg1)
      ∧ r.2.mem ((c.tc : Thread Cert.OutCtxIdeal.nD Cert.OutCtxIdeal.τ).loc Cert.OutCtxIdeal.main_arg2) = m ((c.tc : Thread Cert.OutCtxIdeal.nD Cert.OutCtxIdeal.τ).loc Cert.OutCtxIdeal.main_arg2)
      ∧ r.2.mem ((c.tc : Thread Cert.OutCtxIdeal.nD Cert.OutCtxIdeal.τ).loc Cert.OutCtxIdeal.main_arg3) = m ((c.tc : Thread Cert.OutCtxIdeal.nD Cert.OutCtxIdeal.τ).loc Cert.OutCtxIdeal.main_arg3))
      ∧ r.2.sem = fun _ => 0)

def quiescent_OutCtxRefIdeal [hOutCtxRefIdeal : Cert.OutCtxRefIdeal.Facts] : Prop :=
  ∀ (m : (ℓ : Loc Cert.OutCtxRefIdeal.nD Cert.OutCtxRefIdeal.τ Cert.OutCtxRefIdeal.sig) → Buf (Elt Ideal) ℓ) (g : Dev Cert.OutCtxRefIdeal.nD → PrngReg), Pre_OutCtxRefIdeal m →
    θ_run (Cert.OutCtxRefIdeal.defs (F := Ideal)) (onTc (τ := Cert.OutCtxRefIdeal.τ) (Cert.OutCtxRefIdeal.main (F := Ideal))) ⟨m, fun _ => 0, g⟩ (fun r => (∀ c : Dev Cert.OutCtxRefIdeal.nD,
      r.2.mem ((c.tc : Thread Cert.OutCtxRefIdeal.nD Cert.OutCtxRefIdeal.τ).loc Cert.OutCtxRefIdeal.main_arg0) = m ((c.tc : Thread Cert.OutCtxRefIdeal.nD Cert.OutCtxRefIdeal.τ).loc Cert.OutCtxRefIdeal.main_arg0)
      ∧ r.2.mem ((c.tc : Thread Cert.OutCtxRefIdeal.nD Cert.OutCtxRefIdeal.τ).loc Cert.OutCtxRefIdeal.main_arg1) = m ((c.tc : Thread Cert.OutCtxRefIdeal.nD Cert.OutCtxRefIdeal.τ).loc Cert.OutCtxRefIdeal.main_arg1)
      ∧ r.2.mem ((c.tc : Thread Cert.OutCtxRefIdeal.nD Cert.OutCtxRefIdeal.τ).loc Cert.OutCtxRefIdeal.main_arg2) = m ((c.tc : Thread Cert.OutCtxRefIdeal.nD Cert.OutCtxRefIdeal.τ).loc Cert.OutCtxRefIdeal.main_arg2)
      ∧ r.2.mem ((c.tc : Thread Cert.OutCtxRefIdeal.nD Cert.OutCtxRefIdeal.τ).loc Cert.OutCtxRefIdeal.main_arg3) = m ((c.tc : Thread Cert.OutCtxRefIdeal.nD Cert.OutCtxRefIdeal.τ).loc Cert.OutCtxRefIdeal.main_arg3))
      ∧ r.2.sem = fun _ => 0)

def quiescent_MlpCtx [hMlpCtx : Cert.MlpCtx.Facts] : Prop :=
  ∀ (m : (ℓ : Loc Cert.MlpCtx.nD Cert.MlpCtx.τ Cert.MlpCtx.sig) → Buf (Elt Bits) ℓ) (g : Dev Cert.MlpCtx.nD → PrngReg), Pre_MlpCtx m →
    θ_run (Cert.MlpCtx.defs (F := Bits)) (onTc (τ := Cert.MlpCtx.τ) (Cert.MlpCtx.main (F := Bits))) ⟨m, fun _ => 0, g⟩ (fun r => (∀ c : Dev Cert.MlpCtx.nD,
      r.2.mem ((c.tc : Thread Cert.MlpCtx.nD Cert.MlpCtx.τ).loc Cert.MlpCtx.main_arg0) = m ((c.tc : Thread Cert.MlpCtx.nD Cert.MlpCtx.τ).loc Cert.MlpCtx.main_arg0)
      ∧ r.2.mem ((c.tc : Thread Cert.MlpCtx.nD Cert.MlpCtx.τ).loc Cert.MlpCtx.main_arg1) = m ((c.tc : Thread Cert.MlpCtx.nD Cert.MlpCtx.τ).loc Cert.MlpCtx.main_arg1)
      ∧ r.2.mem ((c.tc : Thread Cert.MlpCtx.nD Cert.MlpCtx.τ).loc Cert.MlpCtx.main_arg2) = m ((c.tc : Thread Cert.MlpCtx.nD Cert.MlpCtx.τ).loc Cert.MlpCtx.main_arg2)
      ∧ r.2.mem ((c.tc : Thread Cert.MlpCtx.nD Cert.MlpCtx.τ).loc Cert.MlpCtx.main_arg3) = m ((c.tc : Thread Cert.MlpCtx.nD Cert.MlpCtx.τ).loc Cert.MlpCtx.main_arg3)
      ∧ r.2.mem ((c.tc : Thread Cert.MlpCtx.nD Cert.MlpCtx.τ).loc Cert.MlpCtx.main_arg4) = m ((c.tc : Thread Cert.MlpCtx.nD Cert.MlpCtx.τ).loc Cert.MlpCtx.main_arg4))
      ∧ r.2.sem = fun _ => 0)

def quiescent_MlpCtxIdeal [hMlpCtxIdeal : Cert.MlpCtxIdeal.Facts] : Prop :=
  ∀ (m : (ℓ : Loc Cert.MlpCtxIdeal.nD Cert.MlpCtxIdeal.τ Cert.MlpCtxIdeal.sig) → Buf (Elt Ideal) ℓ) (g : Dev Cert.MlpCtxIdeal.nD → PrngReg), Pre_MlpCtxIdeal m →
    θ_run (Cert.MlpCtxIdeal.defs (F := Ideal)) (onTc (τ := Cert.MlpCtxIdeal.τ) (Cert.MlpCtxIdeal.main (F := Ideal))) ⟨m, fun _ => 0, g⟩ (fun r => (∀ c : Dev Cert.MlpCtxIdeal.nD,
      r.2.mem ((c.tc : Thread Cert.MlpCtxIdeal.nD Cert.MlpCtxIdeal.τ).loc Cert.MlpCtxIdeal.main_arg0) = m ((c.tc : Thread Cert.MlpCtxIdeal.nD Cert.MlpCtxIdeal.τ).loc Cert.MlpCtxIdeal.main_arg0)
      ∧ r.2.mem ((c.tc : Thread Cert.MlpCtxIdeal.nD Cert.MlpCtxIdeal.τ).loc Cert.MlpCtxIdeal.main_arg1) = m ((c.tc : Thread Cert.MlpCtxIdeal.nD Cert.MlpCtxIdeal.τ).loc Cert.MlpCtxIdeal.main_arg1)
      ∧ r.2.mem ((c.tc : Thread Cert.MlpCtxIdeal.nD Cert.MlpCtxIdeal.τ).loc Cert.MlpCtxIdeal.main_arg2) = m ((c.tc : Thread Cert.MlpCtxIdeal.nD Cert.MlpCtxIdeal.τ).loc Cert.MlpCtxIdeal.main_arg2)
      ∧ r.2.mem ((c.tc : Thread Cert.MlpCtxIdeal.nD Cert.MlpCtxIdeal.τ).loc Cert.MlpCtxIdeal.main_arg3) = m ((c.tc : Thread Cert.MlpCtxIdeal.nD Cert.MlpCtxIdeal.τ).loc Cert.MlpCtxIdeal.main_arg3)
      ∧ r.2.mem ((c.tc : Thread Cert.MlpCtxIdeal.nD Cert.MlpCtxIdeal.τ).loc Cert.MlpCtxIdeal.main_arg4) = m ((c.tc : Thread Cert.MlpCtxIdeal.nD Cert.MlpCtxIdeal.τ).loc Cert.MlpCtxIdeal.main_arg4))
      ∧ r.2.sem = fun _ => 0)

def quiescent_MlpCtxRefIdeal [hMlpCtxRefIdeal : Cert.MlpCtxRefIdeal.Facts] : Prop :=
  ∀ (m : (ℓ : Loc Cert.MlpCtxRefIdeal.nD Cert.MlpCtxRefIdeal.τ Cert.MlpCtxRefIdeal.sig) → Buf (Elt Ideal) ℓ) (g : Dev Cert.MlpCtxRefIdeal.nD → PrngReg), Pre_MlpCtxRefIdeal m →
    θ_run (Cert.MlpCtxRefIdeal.defs (F := Ideal)) (onTc (τ := Cert.MlpCtxRefIdeal.τ) (Cert.MlpCtxRefIdeal.main (F := Ideal))) ⟨m, fun _ => 0, g⟩ (fun r => (∀ c : Dev Cert.MlpCtxRefIdeal.nD,
      r.2.mem ((c.tc : Thread Cert.MlpCtxRefIdeal.nD Cert.MlpCtxRefIdeal.τ).loc Cert.MlpCtxRefIdeal.main_arg0) = m ((c.tc : Thread Cert.MlpCtxRefIdeal.nD Cert.MlpCtxRefIdeal.τ).loc Cert.MlpCtxRefIdeal.main_arg0)
      ∧ r.2.mem ((c.tc : Thread Cert.MlpCtxRefIdeal.nD Cert.MlpCtxRefIdeal.τ).loc Cert.MlpCtxRefIdeal.main_arg1) = m ((c.tc : Thread Cert.MlpCtxRefIdeal.nD Cert.MlpCtxRefIdeal.τ).loc Cert.MlpCtxRefIdeal.main_arg1)
      ∧ r.2.mem ((c.tc : Thread Cert.MlpCtxRefIdeal.nD Cert.MlpCtxRefIdeal.τ).loc Cert.MlpCtxRefIdeal.main_arg2) = m ((c.tc : Thread Cert.MlpCtxRefIdeal.nD Cert.MlpCtxRefIdeal.τ).loc Cert.MlpCtxRefIdeal.main_arg2)
      ∧ r.2.mem ((c.tc : Thread Cert.MlpCtxRefIdeal.nD Cert.MlpCtxRefIdeal.τ).loc Cert.MlpCtxRefIdeal.main_arg3) = m ((c.tc : Thread Cert.MlpCtxRefIdeal.nD Cert.MlpCtxRefIdeal.τ).loc Cert.MlpCtxRefIdeal.main_arg3)
      ∧ r.2.mem ((c.tc : Thread Cert.MlpCtxRefIdeal.nD Cert.MlpCtxRefIdeal.τ).loc Cert.MlpCtxRefIdeal.main_arg4) = m ((c.tc : Thread Cert.MlpCtxRefIdeal.nD Cert.MlpCtxRefIdeal.τ).loc Cert.MlpCtxRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v6)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v6) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v38) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v13)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v13) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v41) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v10)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v10) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v15) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v6)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v6) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v11) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_S5Post_S5PostIdeal : Prop :=
  True

def algebraic_S5PostIdeal_S5PostRefIdeal [hS5PostIdeal : Cert.S5PostIdeal.Facts] [hS5PostRefIdeal : Cert.S5PostRefIdeal.Facts] : Prop :=
  ∀ (m : (ℓ : Loc Cert.S5PostIdeal.nD Cert.S5PostIdeal.τ Cert.S5PostIdeal.sig) → Buf (Elt Ideal) ℓ) (g : Dev Cert.S5PostIdeal.nD → PrngReg)
    (m' : (ℓ : Loc Cert.S5PostRefIdeal.nD Cert.S5PostRefIdeal.τ Cert.S5PostRefIdeal.sig) → Buf (Elt Ideal) ℓ) (g' : Dev Cert.S5PostRefIdeal.nD → PrngReg), Pre_S5PostIdeal m →
    (∀ c : Dev Cert.S5PostIdeal.nD,
      m' ((c.tc : Thread Cert.S5PostRefIdeal.nD Cert.S5PostRefIdeal.τ).loc Cert.S5PostRefIdeal.main_arg0) = m ((c.tc : Thread Cert.S5PostIdeal.nD Cert.S5PostIdeal.τ).loc Cert.S5PostIdeal.main_arg0)
      ∧ m' ((c.tc : Thread Cert.S5PostRefIdeal.nD Cert.S5PostRefIdeal.τ).loc Cert.S5PostRefIdeal.main_arg1) = m ((c.tc : Thread Cert.S5PostIdeal.nD Cert.S5PostIdeal.τ).loc Cert.S5PostIdeal.main_arg1)
      ∧ m' ((c.tc : Thread Cert.S5PostRefIdeal.nD Cert.S5PostRefIdeal.τ).loc Cert.S5PostRefIdeal.main_arg2) = m ((c.tc : Thread Cert.S5PostIdeal.nD Cert.S5PostIdeal.τ).loc Cert.S5PostIdeal.main_arg2)
      ∧ m' ((c.tc : Thread Cert.S5PostRefIdeal.nD Cert.S5PostRefIdeal.τ).loc Cert.S5PostRefIdeal.main_arg3) = m ((c.tc : Thread Cert.S5PostIdeal.nD Cert.S5PostIdeal.τ).loc Cert.S5PostIdeal.main_arg3)
      ∧ m' ((c.tc : Thread Cert.S5PostRefIdeal.nD Cert.S5PostRefIdeal.τ).loc Cert.S5PostRefIdeal.main_arg4) = m ((c.tc : Thread Cert.S5PostIdeal.nD Cert.S5PostIdeal.τ).loc Cert.S5PostIdeal.main_arg4)) →
    ∃ (v0 : (c : Dev Cert.S5PostIdeal.nD) → Buf (Elt Ideal) ((c.tc : Thread Cert.S5PostIdeal.nD Cert.S5PostIdeal.τ).loc Cert.S5PostIdeal.main_v8)),
      θ_run (Cert.S5PostIdeal.defs (F := Ideal)) (onTc (τ := Cert.S5PostIdeal.τ) (Cert.S5PostIdeal.main (F := Ideal))) ⟨m, fun _ => 0, g⟩ (fun r => ∀ c : Dev Cert.S5PostIdeal.nD,
          r.2.mem ((c.tc : Thread Cert.S5PostIdeal.nD Cert.S5PostIdeal.τ).loc Cert.S5PostIdeal.main_v8) = v0 c
          ∧ r.2.mem ((c.tc : Thread Cert.S5PostIdeal.nD Cert.S5PostIdeal.τ).loc Cert.S5PostIdeal.main_arg0) = m ((c.tc : Thread Cert.S5PostIdeal.nD Cert.S5PostIdeal.τ).loc Cert.S5PostIdeal.main_arg0)
          ∧ r.2.mem ((c.tc : Thread Cert.S5PostIdeal.nD Cert.S5PostIdeal.τ).loc Cert.S5PostIdeal.main_arg1) = m ((c.tc : Thread Cert.S5PostIdeal.nD Cert.S5PostIdeal.τ).loc Cert.S5PostIdeal.main_arg1)
          ∧ r.2.mem ((c.tc : Thread Cert.S5PostIdeal.nD Cert.S5PostIdeal.τ).loc Cert.S5PostIdeal.main_arg2) = m ((c.tc : Thread Cert.S5PostIdeal.nD Cert.S5PostIdeal.τ).loc Cert.S5PostIdeal.main_arg2)
          ∧ r.2.mem ((c.tc : Thread Cert.S5PostIdeal.nD Cert.S5PostIdeal.τ).loc Cert.S5PostIdeal.main_arg3) = m ((c.tc : Thread Cert.S5PostIdeal.nD Cert.S5PostIdeal.τ).loc Cert.S5PostIdeal.main_arg3)
          ∧ r.2.mem ((c.tc : Thread Cert.S5PostIdeal.nD Cert.S5PostIdeal.τ).loc Cert.S5PostIdeal.main_arg4) = m ((c.tc : Thread Cert.S5PostIdeal.nD Cert.S5PostIdeal.τ).loc Cert.S5PostIdeal.main_arg4))
      ∧ θ_run (Cert.S5PostRefIdeal.defs (F := Ideal)) (onTc (τ := Cert.S5PostRefIdeal.τ) (Cert.S5PostRefIdeal.main (F := Ideal))) ⟨m', fun _ => 0, g'⟩ (fun r => ∀ c : Dev Cert.S5PostRefIdeal.nD,
          r.2.mem ((c.tc : Thread Cert.S5PostRefIdeal.nD Cert.S5PostRefIdeal.τ).loc Cert.S5PostRefIdeal.main_v29) = v0 c
          ∧ r.2.mem ((c.tc : Thread Cert.S5PostRefIdeal.nD Cert.S5PostRefIdeal.τ).loc Cert.S5PostRefIdeal.main_arg0) = m' ((c.tc : Thread Cert.S5PostRefIdeal.nD Cert.S5PostRefIdeal.τ).loc Cert.S5PostRefIdeal.main_arg0)
          ∧ r.2.mem ((c.tc : Thread Cert.S5PostRefIdeal.nD Cert.S5PostRefIdeal.τ).loc Cert.S5PostRefIdeal.main_arg1) = m' ((c.tc : Thread Cert.S5PostRefIdeal.nD Cert.S5PostRefIdeal.τ).loc Cert.S5PostRefIdeal.main_arg1)
          ∧ r.2.mem ((c.tc : Thread Cert.S5PostRefIdeal.nD Cert.S5PostRefIdeal.τ).loc Cert.S5PostRefIdeal.main_arg2) = m' ((c.tc : Thread Cert.S5PostRefIdeal.nD Cert.S5PostRefIdeal.τ).loc Cert.S5PostRefIdeal.main_arg2)
          ∧ r.2.mem ((c.tc : Thread Cert.S5PostRefIdeal.nD Cert.S5PostRefIdeal.τ).loc Cert.S5PostRefIdeal.main_arg3) = m' ((c.tc : Thread Cert.S5PostRefIdeal.nD Cert.S5PostRefIdeal.τ).loc Cert.S5PostRefIdeal.main_arg3)
          ∧ r.2.mem ((c.tc : Thread Cert.S5PostRefIdeal.nD Cert.S5PostRefIdeal.τ).loc Cert.S5PostRefIdeal.main_arg4) = m' ((c.tc : Thread Cert.S5PostRefIdeal.nD Cert.S5PostRefIdeal.τ).loc Cert.S5PostRefIdeal.main_arg4))

def preserves_Queries_QueriesIdeal : Prop :=
  True

def algebraic_QueriesIdeal_QueriesRefIdeal [hQueriesIdeal : Cert.QueriesIdeal.Facts] [hQueriesRefIdeal : Cert.QueriesRefIdeal.Facts] : Prop :=
  ∀ (m : (ℓ : Loc Cert.QueriesIdeal.nD Cert.QueriesIdeal.τ Cert.QueriesIdeal.sig) → Buf (Elt Ideal) ℓ) (g : Dev Cert.QueriesIdeal.nD → PrngReg)
    (m' : (ℓ : Loc Cert.QueriesRefIdeal.nD Cert.QueriesRefIdeal.τ Cert.QueriesRefIdeal.sig) → Buf (Elt Ideal) ℓ) (g' : Dev Cert.QueriesRefIdeal.nD → PrngReg), Pre_QueriesIdeal m →
    (∀ c : Dev Cert.QueriesIdeal.nD,
      m' ((c.tc : Thread Cert.QueriesRefIdeal.nD Cert.QueriesRefIdeal.τ).loc Cert.QueriesRefIdeal.main_arg0) = m ((c.tc : Thread Cert.QueriesIdeal.nD Cert.QueriesIdeal.τ).loc Cert.QueriesIdeal.main_arg0)
      ∧ m' ((c.tc : Thread Cert.QueriesRefIdeal.nD Cert.QueriesRefIdeal.τ).loc Cert.QueriesRefIdeal.main_arg1) = m ((c.tc : Thread Cert.QueriesIdeal.nD Cert.QueriesIdeal.τ).loc Cert.QueriesIdeal.main_arg1)
      ∧ m' ((c.tc : Thread Cert.QueriesRefIdeal.nD Cert.QueriesRefIdeal.τ).loc Cert.QueriesRefIdeal.main_arg2) = m ((c.tc : Thread Cert.QueriesIdeal.nD Cert.QueriesIdeal.τ).loc Cert.QueriesIdeal.main_arg2)
      ∧ m' ((c.tc : Thread Cert.QueriesRefIdeal.nD Cert.QueriesRefIdeal.τ).loc Cert.QueriesRefIdeal.main_arg3) = m ((c.tc : Thread Cert.QueriesIdeal.nD Cert.QueriesIdeal.τ).loc Cert.QueriesIdeal.main_arg3)
      ∧ m' ((c.tc : Thread Cert.QueriesRefIdeal.nD Cert.QueriesRefIdeal.τ).loc Cert.QueriesRefIdeal.main_arg4) = m ((c.tc : Thread Cert.QueriesIdeal.nD Cert.QueriesIdeal.τ).loc Cert.QueriesIdeal.main_arg4)
      ∧ m' ((c.tc : Thread Cert.QueriesRefIdeal.nD Cert.QueriesRefIdeal.τ).loc Cert.QueriesRefIdeal.main_arg5) = m ((c.tc : Thread Cert.QueriesIdeal.nD Cert.QueriesIdeal.τ).loc Cert.QueriesIdeal.main_arg5)
      ∧ m' ((c.tc : Thread Cert.QueriesRefIdeal.nD Cert.QueriesRefIdeal.τ).loc Cert.QueriesRefIdeal.main_arg6) = m ((c.tc : Thread Cert.QueriesIdeal.nD Cert.QueriesIdeal.τ).loc Cert.QueriesIdeal.main_arg6)) →
    ∃ (v0 : (c : Dev Cert.QueriesIdeal.nD) → Buf (Elt Ideal) ((c.tc : Thread Cert.QueriesIdeal.nD Cert.QueriesIdeal.τ).loc Cert.QueriesIdeal.main_v15)),
      θ_run (Cert.QueriesIdeal.defs (F := Ideal)) (onTc (τ := Cert.QueriesIdeal.τ) (Cert.QueriesIdeal.main (F := Ideal))) ⟨m, fun _ => 0, g⟩ (fun r => ∀ c : Dev Cert.QueriesIdeal.nD,
          r.2.mem ((c.tc : Thread Cert.QueriesIdeal.nD Cert.QueriesIdeal.τ).loc Cert.QueriesIdeal.main_v15) = v0 c
          ∧ r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
          ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1)
          ∧ r.2.mem ((c.tc : Thread Cert.QueriesIdeal.nD Cert.QueriesIdeal.τ).loc Cert.QueriesIdeal.main_arg2) = m ((c.tc : Thread Cert.QueriesIdeal.nD Cert.QueriesIdeal.τ).loc Cert.QueriesIdeal.main_arg2)
          ∧ r.2.mem ((c.tc : Thread Cert.QueriesIdeal.nD Cert.QueriesIdeal.τ).loc Cert.QueriesIdeal.main_arg3) = m ((c.tc : Thread Cert.QueriesIdeal.nD Cert.QueriesIdeal.τ).loc Cert.QueriesIdeal.main_arg3)
          ∧ r.2.mem ((c.tc : Thread Cert.QueriesIdeal.nD Cert.QueriesIdeal.τ).loc Cert.QueriesIdeal.main_arg4) = m ((c.tc : Thread Cert.QueriesIdeal.nD Cert.QueriesIdeal.τ).loc Cert.QueriesIdeal.main_arg4)
          ∧ r.2.mem ((c.tc : Thread Cert.QueriesIdeal.nD Cert.QueriesIdeal.τ).loc Cert.QueriesIdeal.main_arg5) = m ((c.tc : Thread Cert.QueriesIdeal.nD Cert.QueriesIdeal.τ).loc Cert.QueriesIdeal.main_arg5)
          ∧ r.2.mem ((c.tc : Thread Cert.QueriesIdeal.nD Cert.QueriesIdeal.τ).loc Cert.QueriesIdeal.main_arg6) = m ((c.tc : Thread Cert.QueriesIdeal.nD Cert.QueriesIdeal.τ).loc Cert.QueriesIdeal.main_arg6))
      ∧ θ_run (Cert.QueriesRefIdeal.defs (F := Ideal)) (onTc (τ := Cert.QueriesRefIdeal.τ) (Cert.QueriesRefIdeal.main (F := Ideal))) ⟨m', fun _ => 0, g'⟩ (fun r => ∀ c : Dev Cert.QueriesRefIdeal.nD,
          r.2.mem ((c.tc : Thread Cert.QueriesRefIdeal.nD Cert.QueriesRefIdeal.τ).loc Cert.QueriesRefIdeal.main_v63) = v0 c
          ∧ r.2.mem ((c.tc : Thread Cert.QueriesRefIdeal.nD Cert.QueriesRefIdeal.τ).loc Cert.QueriesRefIdeal.main_arg0) = m' ((c.tc : Thread Cert.QueriesRefIdeal.nD Cert.QueriesRefIdeal.τ).loc Cert.QueriesRefIdeal.main_arg0)
          ∧ r.2.mem ((c.tc : Thread Cert.QueriesRefIdeal.nD Cert.QueriesRefIdeal.τ).loc Cert.QueriesRefIdeal.main_arg1) = m' ((c.tc : Thread Cert.QueriesRefIdeal.nD Cert.QueriesRefIdeal.τ).loc Cert.QueriesRefIdeal.main_arg1)
          ∧ r.2.mem ((c.tc : Thread Cert.QueriesRefIdeal.nD Cert.QueriesRefIdeal.τ).loc Cert.QueriesRefIdeal.main_arg2) = m' ((c.tc : Thread Cert.QueriesRefIdeal.nD Cert.QueriesRefIdeal.τ).loc Cert.QueriesRefIdeal.main_arg2)
          ∧ r.2.mem ((c.tc : Thread Cert.QueriesRefIdeal.nD Cert.QueriesRefIdeal.τ).loc Cert.QueriesRefIdeal.main_arg3) = m' ((c.tc : Thread Cert.QueriesRefIdeal.nD Cert.QueriesRefIdeal.τ).loc Cert.QueriesRefIdeal.main_arg3)
          ∧ r.2.mem ((c.tc : Thread Cert.QueriesRefIdeal.nD Cert.QueriesRefIdeal.τ).loc Cert.QueriesRefIdeal.main_arg4) = m' ((c.tc : Thread Cert.QueriesRefIdeal.nD Cert.QueriesRefIdeal.τ).loc Cert.QueriesRefIdeal.main_arg4)
          ∧ r.2.mem ((c.tc : Thread Cert.QueriesRefIdeal.nD Cert.QueriesRefIdeal.τ).loc Cert.QueriesRefIdeal.main_arg5) = m' ((c.tc : Thread Cert.QueriesRefIdeal.nD Cert.QueriesRefIdeal.τ).loc Cert.QueriesRefIdeal.main_arg5)
          ∧ r.2.mem ((c.tc : Thread Cert.QueriesRefIdeal.nD Cert.QueriesRefIdeal.τ).loc Cert.QueriesRefIdeal.main_arg6) = m' ((c.tc : Thread Cert.QueriesRefIdeal.nD Cert.QueriesRefIdeal.τ).loc Cert.QueriesRefIdeal.main_arg6))

def preserves_KeysValues_KeysValuesIdeal : Prop :=
  True

def algebraic_KeysValuesIdeal_KeysValuesRefIdeal [hKeysValuesIdeal : Cert.KeysValuesIdeal.Facts] [hKeysValuesRefIdeal : Cert.KeysValuesRefIdeal.Facts] : Prop :=
  ∀ (m : (ℓ : Loc Cert.KeysValuesIdeal.nD Cert.KeysValuesIdeal.τ Cert.KeysValuesIdeal.sig) → Buf (Elt Ideal) ℓ) (g : Dev Cert.KeysValuesIdeal.nD → PrngReg)
    (m' : (ℓ : Loc Cert.KeysValuesRefIdeal.nD Cert.KeysValuesRefIdeal.τ Cert.KeysValuesRefIdeal.sig) → Buf (Elt Ideal) ℓ) (g' : Dev Cert.KeysValuesRefIdeal.nD → PrngReg), Pre_KeysValuesIdeal m →
    (∀ c : Dev Cert.KeysValuesIdeal.nD,
      m' ((c.tc : Thread Cert.KeysValuesRefIdeal.nD Cert.KeysValuesRefIdeal.τ).loc Cert.KeysValuesRefIdeal.main_arg0) = m ((c.tc : Thread Cert.KeysValuesIdeal.nD Cert.KeysValuesIdeal.τ).loc Cert.KeysValuesIdeal.main_arg0)
      ∧ m' ((c.tc : Thread Cert.KeysValuesRefIdeal.nD Cert.KeysValuesRefIdeal.τ).loc Cert.KeysValuesRefIdeal.main_arg1) = m ((c.tc : Thread Cert.KeysValuesIdeal.nD Cert.KeysValuesIdeal.τ).loc Cert.KeysValuesIdeal.main_arg1)
      ∧ m' ((c.tc : Thread Cert.KeysValuesRefIdeal.nD Cert.KeysValuesRefIdeal.τ).loc Cert.KeysValuesRefIdeal.main_arg2) = m ((c.tc : Thread Cert.KeysValuesIdeal.nD Cert.KeysValuesIdeal.τ).loc Cert.KeysValuesIdeal.main_arg2)
      ∧ m' ((c.tc : Thread Cert.KeysValuesRefIdeal.nD Cert.KeysValuesRefIdeal.τ).loc Cert.KeysValuesRefIdeal.main_arg3) = m ((c.tc : Thread Cert.KeysValuesIdeal.nD Cert.KeysValuesIdeal.τ).loc Cert.KeysValuesIdeal.main_arg3)
      ∧ m' ((c.tc : Thread Cert.KeysValuesRefIdeal.nD Cert.KeysValuesRefIdeal.τ).loc Cert.KeysValuesRefIdeal.main_arg4) = m ((c.tc : Thread Cert.KeysValuesIdeal.nD Cert.KeysValuesIdeal.τ).loc Cert.KeysValuesIdeal.main_arg4)
      ∧ m' ((c.tc : Thread Cert.KeysValuesRefIdeal.nD Cert.KeysValuesRefIdeal.τ).loc Cert.KeysValuesRefIdeal.main_arg5) = m ((c.tc : Thread Cert.KeysValuesIdeal.nD Cert.KeysValuesIdeal.τ).loc Cert.KeysValuesIdeal.main_arg5)
      ∧ m' ((c.tc : Thread Cert.KeysValuesRefIdeal.nD Cert.KeysValuesRefIdeal.τ).loc Cert.KeysValuesRefIdeal.main_arg6) = m ((c.tc : Thread Cert.KeysValuesIdeal.nD Cert.KeysValuesIdeal.τ).loc Cert.KeysValuesIdeal.main_arg6)
      ∧ m' ((c.tc : Thread Cert.KeysValuesRefIdeal.nD Cert.KeysValuesRefIdeal.τ).loc Cert.KeysValuesRefIdeal.main_arg7) = m ((c.tc : Thread Cert.KeysValuesIdeal.nD Cert.KeysValuesIdeal.τ).loc Cert.KeysValuesIdeal.main_arg7)) →
    ∃ (v0 : (c : Dev Cert.KeysValuesIdeal.nD) → Buf (Elt Ideal) ((c.tc : Thread Cert.KeysValuesIdeal.nD Cert.KeysValuesIdeal.τ).loc Cert.KeysValuesIdeal.main_v13_0)) (v1 : (c : Dev Cert.KeysValuesIdeal.nD) → Buf (Elt Ideal) ((c.tc : Thread Cert.KeysValuesIdeal.nD Cert.KeysValuesIdeal.τ).loc Cert.KeysValuesIdeal.main_v13_1)),
      θ_run (Cert.KeysValuesIdeal.defs (F := Ideal)) (onTc (τ := Cert.KeysValuesIdeal.τ) (Cert.KeysValuesIdeal.main (F := Ideal))) ⟨m, fun _ => 0, g⟩ (fun r => ∀ c : Dev Cert.KeysValuesIdeal.nD,
          r.2.mem ((c.tc : Thread Cert.KeysValuesIdeal.nD Cert.KeysValuesIdeal.τ).loc Cert.KeysValuesIdeal.main_v13_0) = v0 c
          ∧ r.2.mem ((c.tc : Thread Cert.KeysValuesIdeal.nD Cert.KeysValuesIdeal.τ).loc Cert.KeysValuesIdeal.main_v13_1) = v1 c
          ∧ r.2.mem ((c.tc : Thread Cert.KeysValuesIdeal.nD Cert.KeysValuesIdeal.τ).loc Cert.KeysValuesIdeal.main_arg0) = m ((c.tc : Thread Cert.KeysValuesIdeal.nD Cert.KeysValuesIdeal.τ).loc Cert.KeysValuesIdeal.main_arg0)
          ∧ r.2.mem ((c.tc : Thread Cert.KeysValuesIdeal.nD Cert.KeysValuesIdeal.τ).loc Cert.KeysValuesIdeal.main_arg1) = m ((c.tc : Thread Cert.KeysValuesIdeal.nD Cert.KeysValuesIdeal.τ).loc Cert.KeysValuesIdeal.main_arg1)
          ∧ r.2.mem ((c.tc : Thread Cert.KeysValuesIdeal.nD Cert.KeysValuesIdeal.τ).loc Cert.KeysValuesIdeal.main_arg2) = m ((c.tc : Thread Cert.KeysValuesIdeal.nD Cert.KeysValuesIdeal.τ).loc Cert.KeysValuesIdeal.main_arg2)
          ∧ r.2.mem ((c.tc : Thread Cert.KeysValuesIdeal.nD Cert.KeysValuesIdeal.τ).loc Cert.KeysValuesIdeal.main_arg3) = m ((c.tc : Thread Cert.KeysValuesIdeal.nD Cert.KeysValuesIdeal.τ).loc Cert.KeysValuesIdeal.main_arg3)
          ∧ r.2.mem ((c.tc : Thread Cert.KeysValuesIdeal.nD Cert.KeysValuesIdeal.τ).loc Cert.KeysValuesIdeal.main_arg4) = m ((c.tc : Thread Cert.KeysValuesIdeal.nD Cert.KeysValuesIdeal.τ).loc Cert.KeysValuesIdeal.main_arg4)
          ∧ r.2.mem ((c.tc : Thread Cert.KeysValuesIdeal.nD Cert.KeysValuesIdeal.τ).loc Cert.KeysValuesIdeal.main_arg5) = m ((c.tc : Thread Cert.KeysValuesIdeal.nD Cert.KeysValuesIdeal.τ).loc Cert.KeysValuesIdeal.main_arg5)
          ∧ r.2.mem ((c.tc : Thread Cert.KeysValuesIdeal.nD Cert.KeysValuesIdeal.τ).loc Cert.KeysValuesIdeal.main_arg6) = m ((c.tc : Thread Cert.KeysValuesIdeal.nD Cert.KeysValuesIdeal.τ).loc Cert.KeysValuesIdeal.main_arg6)
          ∧ r.2.mem ((c.tc : Thread Cert.KeysValuesIdeal.nD Cert.KeysValuesIdeal.τ).loc Cert.KeysValuesIdeal.main_arg7) = m ((c.tc : Thread Cert.KeysValuesIdeal.nD Cert.KeysValuesIdeal.τ).loc Cert.KeysValuesIdeal.main_arg7))
      ∧ θ_run (Cert.KeysValuesRefIdeal.defs (F := Ideal)) (onTc (τ := Cert.KeysValuesRefIdeal.τ) (Cert.KeysValuesRefIdeal.main (F := Ideal))) ⟨m', fun _ => 0, g'⟩ (fun r => ∀ c : Dev Cert.KeysValuesRefIdeal.nD,
          r.2.mem ((c.tc : Thread Cert.KeysValuesRefIdeal.nD Cert.KeysValuesRefIdeal.τ).loc Cert.KeysValuesRefIdeal.main_v65) = v0 c
          ∧ r.2.mem ((c.tc : Thread Cert.KeysValuesRefIdeal.nD Cert.KeysValuesRefIdeal.τ).loc Cert.KeysValuesRefIdeal.main_v68) = v1 c
          ∧ r.2.mem ((c.tc : Thread Cert.KeysValuesRefIdeal.nD Cert.KeysValuesRefIdeal.τ).loc Cert.KeysValuesRefIdeal.main_arg0) = m' ((c.tc : Thread Cert.KeysValuesRefIdeal.nD Cert.KeysValuesRefIdeal.τ).loc Cert.KeysValuesRefIdeal.main_arg0)
          ∧ r.2.mem ((c.tc : Thread Cert.KeysValuesRefIdeal.nD Cert.KeysValuesRefIdeal.τ).loc Cert.KeysValuesRefIdeal.main_arg1) = m' ((c.tc : Thread Cert.KeysValuesRefIdeal.nD Cert.KeysValuesRefIdeal.τ).loc Cert.KeysValuesRefIdeal.main_arg1)
          ∧ r.2.mem ((c.tc : Thread Cert.KeysValuesRefIdeal.nD Cert.KeysValuesRefIdeal.τ).loc Cert.KeysValuesRefIdeal.main_arg2) = m' ((c.tc : Thread Cert.KeysValuesRefIdeal.nD Cert.KeysValuesRefIdeal.τ).loc Cert.KeysValuesRefIdeal.main_arg2)
          ∧ r.2.mem ((c.tc : Thread Cert.KeysValuesRefIdeal.nD Cert.KeysValuesRefIdeal.τ).loc Cert.KeysValuesRefIdeal.main_arg3) = m' ((c.tc : Thread Cert.KeysValuesRefIdeal.nD Cert.KeysValuesRefIdeal.τ).loc Cert.KeysValuesRefIdeal.main_arg3)
          ∧ r.2.mem ((c.tc : Thread Cert.KeysValuesRefIdeal.nD Cert.KeysValuesRefIdeal.τ).loc Cert.KeysValuesRefIdeal.main_arg4) = m' ((c.tc : Thread Cert.KeysValuesRefIdeal.nD Cert.KeysValuesRefIdeal.τ).loc Cert.KeysValuesRefIdeal.main_arg4)
          ∧ r.2.mem ((c.tc : Thread Cert.KeysValuesRefIdeal.nD Cert.KeysValuesRefIdeal.τ).loc Cert.KeysValuesRefIdeal.main_arg5) = m' ((c.tc : Thread Cert.KeysValuesRefIdeal.nD Cert.KeysValuesRefIdeal.τ).loc Cert.KeysValuesRefIdeal.main_arg5)
          ∧ r.2.mem ((c.tc : Thread Cert.KeysValuesRefIdeal.nD Cert.KeysValuesRefIdeal.τ).loc Cert.KeysValuesRefIdeal.main_arg6) = m' ((c.tc : Thread Cert.KeysValuesRefIdeal.nD Cert.KeysValuesRefIdeal.τ).loc Cert.KeysValuesRefIdeal.main_arg6)
          ∧ r.2.mem ((c.tc : Thread Cert.KeysValuesRefIdeal.nD Cert.KeysValuesRefIdeal.τ).loc Cert.KeysValuesRefIdeal.main_arg7) = m' ((c.tc : Thread Cert.KeysValuesRefIdeal.nD Cert.KeysValuesRefIdeal.τ).loc Cert.KeysValuesRefIdeal.main_arg7))

def preserves_InCtx_InCtxIdeal : Prop :=
  True

def algebraic_InCtxIdeal_InCtxRefIdeal [hInCtxIdeal : Cert.InCtxIdeal.Facts] [hInCtxRefIdeal : Cert.InCtxRefIdeal.Facts] : Prop :=
  ∀ (m : (ℓ : Loc Cert.InCtxIdeal.nD Cert.InCtxIdeal.τ Cert.InCtxIdeal.sig) → Buf (Elt Ideal) ℓ) (g : Dev Cert.InCtxIdeal.nD → PrngReg)
    (m' : (ℓ : Loc Cert.InCtxRefIdeal.nD Cert.InCtxRefIdeal.τ Cert.InCtxRefIdeal.sig) → Buf (Elt Ideal) ℓ) (g' : Dev Cert.InCtxRefIdeal.nD → PrngReg), Pre_InCtxIdeal m →
    (∀ c : Dev Cert.InCtxIdeal.nD,
      m' ((c.tc : Thread Cert.InCtxRefIdeal.nD Cert.InCtxRefIdeal.τ).loc Cert.InCtxRefIdeal.main_arg0) = m ((c.tc : Thread Cert.InCtxIdeal.nD Cert.InCtxIdeal.τ).loc Cert.InCtxIdeal.main_arg0)
      ∧ m' ((c.tc : Thread Cert.InCtxRefIdeal.nD Cert.InCtxRefIdeal.τ).loc Cert.InCtxRefIdeal.main_arg1) = m ((c.tc : Thread Cert.InCtxIdeal.nD Cert.InCtxIdeal.τ).loc Cert.InCtxIdeal.main_arg1)
      ∧ m' ((c.tc : Thread Cert.InCtxRefIdeal.nD Cert.InCtxRefIdeal.τ).loc Cert.InCtxRefIdeal.main_arg2) = m ((c.tc : Thread Cert.InCtxIdeal.nD Cert.InCtxIdeal.τ).loc Cert.InCtxIdeal.main_arg2)
      ∧ m' ((c.tc : Thread Cert.InCtxRefIdeal.nD Cert.InCtxRefIdeal.τ).loc Cert.InCtxRefIdeal.main_arg3) = m ((c.tc : Thread Cert.InCtxIdeal.nD Cert.InCtxIdeal.τ).loc Cert.InCtxIdeal.main_arg3)) →
    ∃ (v0 : (c : Dev Cert.InCtxIdeal.nD) → Buf (Elt Ideal) ((c.tc : Thread Cert.InCtxIdeal.nD Cert.InCtxIdeal.τ).loc Cert.InCtxIdeal.main_v14)),
      θ_run (Cert.InCtxIdeal.defs (F := Ideal)) (onTc (τ := Cert.InCtxIdeal.τ) (Cert.InCtxIdeal.main (F := Ideal))) ⟨m, fun _ => 0, g⟩ (fun r => ∀ c : Dev Cert.InCtxIdeal.nD,
          r.2.mem ((c.tc : Thread Cert.InCtxIdeal.nD Cert.InCtxIdeal.τ).loc Cert.InCtxIdeal.main_v14) = v0 c
          ∧ r.2.mem ((c.tc : Thread Cert.InCtxIdeal.nD Cert.InCtxIdeal.τ).loc Cert.InCtxIdeal.main_arg0) = m ((c.tc : Thread Cert.InCtxIdeal.nD Cert.InCtxIdeal.τ).loc Cert.InCtxIdeal.main_arg0)
          ∧ r.2.mem ((c.tc : Thread Cert.InCtxIdeal.nD Cert.InCtxIdeal.τ).loc Cert.InCtxIdeal.main_arg1) = m ((c.tc : Thread Cert.InCtxIdeal.nD Cert.InCtxIdeal.τ).loc Cert.InCtxIdeal.main_arg1)
          ∧ r.2.mem ((c.tc : Thread Cert.InCtxIdeal.nD Cert.InCtxIdeal.τ).loc Cert.InCtxIdeal.main_arg2) = m ((c.tc : Thread Cert.InCtxIdeal.nD Cert.InCtxIdeal.τ).loc Cert.InCtxIdeal.main_arg2)
          ∧ r.2.mem ((c.tc : Thread Cert.InCtxIdeal.nD Cert.InCtxIdeal.τ).loc Cert.InCtxIdeal.main_arg3) = m ((c.tc : Thread Cert.InCtxIdeal.nD Cert.InCtxIdeal.τ).loc Cert.InCtxIdeal.main_arg3))
      ∧ θ_run (Cert.InCtxRefIdeal.defs (F := Ideal)) (onTc (τ := Cert.InCtxRefIdeal.τ) (Cert.InCtxRefIdeal.main (F := Ideal))) ⟨m', fun _ => 0, g'⟩ (fun r => ∀ c : Dev Cert.InCtxRefIdeal.nD,
          r.2.mem ((c.tc : Thread Cert.InCtxRefIdeal.nD Cert.InCtxRefIdeal.τ).loc Cert.InCtxRefIdeal.main_v37) = v0 c
          ∧ r.2.mem ((c.tc : Thread Cert.InCtxRefIdeal.nD Cert.InCtxRefIdeal.τ).loc Cert.InCtxRefIdeal.main_arg0) = m' ((c.tc : Thread Cert.InCtxRefIdeal.nD Cert.InCtxRefIdeal.τ).loc Cert.InCtxRefIdeal.main_arg0)
          ∧ r.2.mem ((c.tc : Thread Cert.InCtxRefIdeal.nD Cert.InCtxRefIdeal.τ).loc Cert.InCtxRefIdeal.main_arg1) = m' ((c.tc : Thread Cert.InCtxRefIdeal.nD Cert.InCtxRefIdeal.τ).loc Cert.InCtxRefIdeal.main_arg1)
          ∧ r.2.mem ((c.tc : Thread Cert.InCtxRefIdeal.nD Cert.InCtxRefIdeal.τ).loc Cert.InCtxRefIdeal.main_arg2) = m' ((c.tc : Thread Cert.InCtxRefIdeal.nD Cert.InCtxRefIdeal.τ).loc Cert.InCtxRefIdeal.main_arg2)
          ∧ r.2.mem ((c.tc : Thread Cert.InCtxRefIdeal.nD Cert.InCtxRefIdeal.τ).loc Cert.InCtxRefIdeal.main_arg3) = m' ((c.tc : Thread Cert.InCtxRefIdeal.nD Cert.InCtxRefIdeal.τ).loc Cert.InCtxRefIdeal.main_arg3))

def preserves_MergeCtx_MergeCtxIdeal : Prop :=
  True

def algebraic_MergeCtxIdeal_MergeCtxRefIdeal [hMergeCtxIdeal : Cert.MergeCtxIdeal.Facts] [hMergeCtxRefIdeal : Cert.MergeCtxRefIdeal.Facts] : Prop :=
  ∀ (m : (ℓ : Loc Cert.MergeCtxIdeal.nD Cert.MergeCtxIdeal.τ Cert.MergeCtxIdeal.sig) → Buf (Elt Ideal) ℓ) (g : Dev Cert.MergeCtxIdeal.nD → PrngReg)
    (m' : (ℓ : Loc Cert.MergeCtxRefIdeal.nD Cert.MergeCtxRefIdeal.τ Cert.MergeCtxRefIdeal.sig) → Buf (Elt Ideal) ℓ) (g' : Dev Cert.MergeCtxRefIdeal.nD → PrngReg), Pre_MergeCtxIdeal m →
    (∀ c : Dev Cert.MergeCtxIdeal.nD,
      m' ((c.tc : Thread Cert.MergeCtxRefIdeal.nD Cert.MergeCtxRefIdeal.τ).loc Cert.MergeCtxRefIdeal.main_arg0) = m ((c.tc : Thread Cert.MergeCtxIdeal.nD Cert.MergeCtxIdeal.τ).loc Cert.MergeCtxIdeal.main_arg0)
      ∧ m' ((c.tc : Thread Cert.MergeCtxRefIdeal.nD Cert.MergeCtxRefIdeal.τ).loc Cert.MergeCtxRefIdeal.main_arg1) = m ((c.tc : Thread Cert.MergeCtxIdeal.nD Cert.MergeCtxIdeal.τ).loc Cert.MergeCtxIdeal.main_arg1)
      ∧ m' ((c.tc : Thread Cert.MergeCtxRefIdeal.nD Cert.MergeCtxRefIdeal.τ).loc Cert.MergeCtxRefIdeal.main_arg2) = m ((c.tc : Thread Cert.MergeCtxIdeal.nD Cert.MergeCtxIdeal.τ).loc Cert.MergeCtxIdeal.main_arg2)
      ∧ m' ((c.tc : Thread Cert.MergeCtxRefIdeal.nD Cert.MergeCtxRefIdeal.τ).loc Cert.MergeCtxRefIdeal.main_arg3) = m ((c.tc : Thread Cert.MergeCtxIdeal.nD Cert.MergeCtxIdeal.τ).loc Cert.MergeCtxIdeal.main_arg3)
      ∧ m' ((c.tc : Thread Cert.MergeCtxRefIdeal.nD Cert.MergeCtxRefIdeal.τ).loc Cert.MergeCtxRefIdeal.main_arg4) = m ((c.tc : Thread Cert.MergeCtxIdeal.nD Cert.MergeCtxIdeal.τ).loc Cert.MergeCtxIdeal.main_arg4)) →
    ∃ (v0 : (c : Dev Cert.MergeCtxIdeal.nD) → Buf (Elt Ideal) ((c.tc : Thread Cert.MergeCtxIdeal.nD Cert.MergeCtxIdeal.τ).loc Cert.MergeCtxIdeal.main_v10)),
      θ_run (Cert.MergeCtxIdeal.defs (F := Ideal)) (onTc (τ := Cert.MergeCtxIdeal.τ) (Cert.MergeCtxIdeal.main (F := Ideal))) ⟨m, fun _ => 0, g⟩ (fun r => ∀ c : Dev Cert.MergeCtxIdeal.nD,
          r.2.mem ((c.tc : Thread Cert.MergeCtxIdeal.nD Cert.MergeCtxIdeal.τ).loc Cert.MergeCtxIdeal.main_v10) = v0 c
          ∧ r.2.mem ((c.tc : Thread Cert.MergeCtxIdeal.nD Cert.MergeCtxIdeal.τ).loc Cert.MergeCtxIdeal.main_arg0) = m ((c.tc : Thread Cert.MergeCtxIdeal.nD Cert.MergeCtxIdeal.τ).loc Cert.MergeCtxIdeal.main_arg0)
          ∧ r.2.mem ((c.tc : Thread Cert.MergeCtxIdeal.nD Cert.MergeCtxIdeal.τ).loc Cert.MergeCtxIdeal.main_arg1) = m ((c.tc : Thread Cert.MergeCtxIdeal.nD Cert.MergeCtxIdeal.τ).loc Cert.MergeCtxIdeal.main_arg1)
          ∧ r.2.mem ((c.tc : Thread Cert.MergeCtxIdeal.nD Cert.MergeCtxIdeal.τ).loc Cert.MergeCtxIdeal.main_arg2) = m ((c.tc : Thread Cert.MergeCtxIdeal.nD Cert.MergeCtxIdeal.τ).loc Cert.MergeCtxIdeal.main_arg2)
          ∧ r.2.mem ((c.tc : Thread Cert.MergeCtxIdeal.nD Cert.MergeCtxIdeal.τ).loc Cert.MergeCtxIdeal.main_arg3) = m ((c.tc : Thread Cert.MergeCtxIdeal.nD Cert.MergeCtxIdeal.τ).loc Cert.MergeCtxIdeal.main_arg3)
          ∧ r.2.mem ((c.tc : Thread Cert.MergeCtxIdeal.nD Cert.MergeCtxIdeal.τ).loc Cert.MergeCtxIdeal.main_arg4) = m ((c.tc : Thread Cert.MergeCtxIdeal.nD Cert.MergeCtxIdeal.τ).loc Cert.MergeCtxIdeal.main_arg4))
      ∧ θ_run (Cert.MergeCtxRefIdeal.defs (F := Ideal)) (onTc (τ := Cert.MergeCtxRefIdeal.τ) (Cert.MergeCtxRefIdeal.main (F := Ideal))) ⟨m', fun _ => 0, g'⟩ (fun r => ∀ c : Dev Cert.MergeCtxRefIdeal.nD,
          r.2.mem ((c.tc : Thread Cert.MergeCtxRefIdeal.nD Cert.MergeCtxRefIdeal.τ).loc Cert.MergeCtxRefIdeal.main_v15) = v0 c
          ∧ r.2.mem ((c.tc : Thread Cert.MergeCtxRefIdeal.nD Cert.MergeCtxRefIdeal.τ).loc Cert.MergeCtxRefIdeal.main_arg0) = m' ((c.tc : Thread Cert.MergeCtxRefIdeal.nD Cert.MergeCtxRefIdeal.τ).loc Cert.MergeCtxRefIdeal.main_arg0)
          ∧ r.2.mem ((c.tc : Thread Cert.MergeCtxRefIdeal.nD Cert.MergeCtxRefIdeal.τ).loc Cert.MergeCtxRefIdeal.main_arg1) = m' ((c.tc : Thread Cert.MergeCtxRefIdeal.nD Cert.MergeCtxRefIdeal.τ).loc Cert.MergeCtxRefIdeal.main_arg1)
          ∧ r.2.mem ((c.tc : Thread Cert.MergeCtxRefIdeal.nD Cert.MergeCtxRefIdeal.τ).loc Cert.MergeCtxRefIdeal.main_arg2) = m' ((c.tc : Thread Cert.MergeCtxRefIdeal.nD Cert.MergeCtxRefIdeal.τ).loc Cert.MergeCtxRefIdeal.main_arg2)
          ∧ r.2.mem ((c.tc : Thread Cert.MergeCtxRefIdeal.nD Cert.MergeCtxRefIdeal.τ).loc Cert.MergeCtxRefIdeal.main_arg3) = m' ((c.tc : Thread Cert.MergeCtxRefIdeal.nD Cert.MergeCtxRefIdeal.τ).loc Cert.MergeCtxRefIdeal.main_arg3)
          ∧ r.2.mem ((c.tc : Thread Cert.MergeCtxRefIdeal.nD Cert.MergeCtxRefIdeal.τ).loc Cert.MergeCtxRefIdeal.main_arg4) = m' ((c.tc : Thread Cert.MergeCtxRefIdeal.nD Cert.MergeCtxRefIdeal.τ).loc Cert.MergeCtxRefIdeal.main_arg4))

def preserves_OutCtx_OutCtxIdeal : Prop :=
  True

def algebraic_OutCtxIdeal_OutCtxRefIdeal [hOutCtxIdeal : Cert.OutCtxIdeal.Facts] [hOutCtxRefIdeal : Cert.OutCtxRefIdeal.Facts] : Prop :=
  ∀ (m : (ℓ : Loc Cert.OutCtxIdeal.nD Cert.OutCtxIdeal.τ Cert.OutCtxIdeal.sig) → Buf (Elt Ideal) ℓ) (g : Dev Cert.OutCtxIdeal.nD → PrngReg)
    (m' : (ℓ : Loc Cert.OutCtxRefIdeal.nD Cert.OutCtxRefIdeal.τ Cert.OutCtxRefIdeal.sig) → Buf (Elt Ideal) ℓ) (g' : Dev Cert.OutCtxRefIdeal.nD → PrngReg), Pre_OutCtxIdeal m →
    (∀ c : Dev Cert.OutCtxIdeal.nD,
      m' ((c.tc : Thread Cert.OutCtxRefIdeal.nD Cert.OutCtxRefIdeal.τ).loc Cert.OutCtxRefIdeal.main_arg0) = m ((c.tc : Thread Cert.OutCtxIdeal.nD Cert.OutCtxIdeal.τ).loc Cert.OutCtxIdeal.main_arg0)
      ∧ m' ((c.tc : Thread Cert.OutCtxRefIdeal.nD Cert.OutCtxRefIdeal.τ).loc Cert.OutCtxRefIdeal.main_arg1) = m ((c.tc : Thread Cert.OutCtxIdeal.nD Cert.OutCtxIdeal.τ).loc Cert.OutCtxIdeal.main_arg1)
      ∧ m' ((c.tc : Thread Cert.OutCtxRefIdeal.nD Cert.OutCtxRefIdeal.τ).loc Cert.OutCtxRefIdeal.main_arg2) = m ((c.tc : Thread Cert.OutCtxIdeal.nD Cert.OutCtxIdeal.τ).loc Cert.OutCtxIdeal.main_arg2)
      ∧ m' ((c.tc : Thread Cert.OutCtxRefIdeal.nD Cert.OutCtxRefIdeal.τ).loc Cert.OutCtxRefIdeal.main_arg3) = m ((c.tc : Thread Cert.OutCtxIdeal.nD Cert.OutCtxIdeal.τ).loc Cert.OutCtxIdeal.main_arg3)) →
    ∃ (v0 : (c : Dev Cert.OutCtxIdeal.nD) → Buf (Elt Ideal) ((c.tc : Thread Cert.OutCtxIdeal.nD Cert.OutCtxIdeal.τ).loc Cert.OutCtxIdeal.main_v7)),
      θ_run (Cert.OutCtxIdeal.defs (F := Ideal)) (onTc (τ := Cert.OutCtxIdeal.τ) (Cert.OutCtxIdeal.main (F := Ideal))) ⟨m, fun _ => 0, g⟩ (fun r => ∀ c : Dev Cert.OutCtxIdeal.nD,
          r.2.mem ((c.tc : Thread Cert.OutCtxIdeal.nD Cert.OutCtxIdeal.τ).loc Cert.OutCtxIdeal.main_v7) = v0 c
          ∧ r.2.mem ((c.tc : Thread Cert.OutCtxIdeal.nD Cert.OutCtxIdeal.τ).loc Cert.OutCtxIdeal.main_arg0) = m ((c.tc : Thread Cert.OutCtxIdeal.nD Cert.OutCtxIdeal.τ).loc Cert.OutCtxIdeal.main_arg0)
          ∧ r.2.mem ((c.tc : Thread Cert.OutCtxIdeal.nD Cert.OutCtxIdeal.τ).loc Cert.OutCtxIdeal.main_arg1) = m ((c.tc : Thread Cert.OutCtxIdeal.nD Cert.OutCtxIdeal.τ).loc Cert.OutCtxIdeal.main_arg1)
          ∧ r.2.mem ((c.tc : Thread Cert.OutCtxIdeal.nD Cert.OutCtxIdeal.τ).loc Cert.OutCtxIdeal.main_arg2) = m ((c.tc : Thread Cert.OutCtxIdeal.nD Cert.OutCtxIdeal.τ).loc Cert.OutCtxIdeal.main_arg2)
          ∧ r.2.mem ((c.tc : Thread Cert.OutCtxIdeal.nD Cert.OutCtxIdeal.τ).loc Cert.OutCtxIdeal.main_arg3) = m ((c.tc : Thread Cert.OutCtxIdeal.nD Cert.OutCtxIdeal.τ).loc Cert.OutCtxIdeal.main_arg3))
      ∧ θ_run (Cert.OutCtxRefIdeal.defs (F := Ideal)) (onTc (τ := Cert.OutCtxRefIdeal.τ) (Cert.OutCtxRefIdeal.main (F := Ideal))) ⟨m', fun _ => 0, g'⟩ (fun r => ∀ c : Dev Cert.OutCtxRefIdeal.nD,
          r.2.mem ((c.tc : Thread Cert.OutCtxRefIdeal.nD Cert.OutCtxRefIdeal.τ).loc Cert.OutCtxRefIdeal.main_v11) = v0 c
          ∧ r.2.mem ((c.tc : Thread Cert.OutCtxRefIdeal.nD Cert.OutCtxRefIdeal.τ).loc Cert.OutCtxRefIdeal.main_arg0) = m' ((c.tc : Thread Cert.OutCtxRefIdeal.nD Cert.OutCtxRefIdeal.τ).loc Cert.OutCtxRefIdeal.main_arg0)
          ∧ r.2.mem ((c.tc : Thread Cert.OutCtxRefIdeal.nD Cert.OutCtxRefIdeal.τ).loc Cert.OutCtxRefIdeal.main_arg1) = m' ((c.tc : Thread Cert.OutCtxRefIdeal.nD Cert.OutCtxRefIdeal.τ).loc Cert.OutCtxRefIdeal.main_arg1)
          ∧ r.2.mem ((c.tc : Thread Cert.OutCtxRefIdeal.nD Cert.OutCtxRefIdeal.τ).loc Cert.OutCtxRefIdeal.main_arg2) = m' ((c.tc : Thread Cert.OutCtxRefIdeal.nD Cert.OutCtxRefIdeal.τ).loc Cert.OutCtxRefIdeal.main_arg2)
          ∧ r.2.mem ((c.tc : Thread Cert.OutCtxRefIdeal.nD Cert.OutCtxRefIdeal.τ).loc Cert.OutCtxRefIdeal.main_arg3) = m' ((c.tc : Thread Cert.OutCtxRefIdeal.nD Cert.OutCtxRefIdeal.τ).loc Cert.OutCtxRefIdeal.main_arg3))

def preserves_MlpCtx_MlpCtxIdeal : Prop :=
  True

def algebraic_MlpCtxIdeal_MlpCtxRefIdeal [hMlpCtxIdeal : Cert.MlpCtxIdeal.Facts] [hMlpCtxRefIdeal : Cert.MlpCtxRefIdeal.Facts] : Prop :=
  ∀ (m : (ℓ : Loc Cert.MlpCtxIdeal.nD Cert.MlpCtxIdeal.τ Cert.MlpCtxIdeal.sig) → Buf (Elt Ideal) ℓ) (g : Dev Cert.MlpCtxIdeal.nD → PrngReg)
    (m' : (ℓ : Loc Cert.MlpCtxRefIdeal.nD Cert.MlpCtxRefIdeal.τ Cert.MlpCtxRefIdeal.sig) → Buf (Elt Ideal) ℓ) (g' : Dev Cert.MlpCtxRefIdeal.nD → PrngReg), Pre_MlpCtxIdeal m →
    (∀ c : Dev Cert.MlpCtxIdeal.nD,
      m' ((c.tc : Thread Cert.MlpCtxRefIdeal.nD Cert.MlpCtxRefIdeal.τ).loc Cert.MlpCtxRefIdeal.main_arg0) = m ((c.tc : Thread Cert.MlpCtxIdeal.nD Cert.MlpCtxIdeal.τ).loc Cert.MlpCtxIdeal.main_arg0)
      ∧ m' ((c.tc : Thread Cert.MlpCtxRefIdeal.nD Cert.MlpCtxRefIdeal.τ).loc Cert.MlpCtxRefIdeal.main_arg1) = m ((c.tc : Thread Cert.MlpCtxIdeal.nD Cert.MlpCtxIdeal.τ).loc Cert.MlpCtxIdeal.main_arg1)
      ∧ m' ((c.tc : Thread Cert.MlpCtxRefIdeal.nD Cert.MlpCtxRefIdeal.τ).loc Cert.MlpCtxRefIdeal.main_arg2) = m ((c.tc : Thread Cert.MlpCtxIdeal.nD Cert.MlpCtxIdeal.τ).loc Cert.MlpCtxIdeal.main_arg2)
      ∧ m' ((c.tc : Thread Cert.MlpCtxRefIdeal.nD Cert.MlpCtxRefIdeal.τ).loc Cert.MlpCtxRefIdeal.main_arg3) = m ((c.tc : Thread Cert.MlpCtxIdeal.nD Cert.MlpCtxIdeal.τ).loc Cert.MlpCtxIdeal.main_arg3)
      ∧ m' ((c.tc : Thread Cert.MlpCtxRefIdeal.nD Cert.MlpCtxRefIdeal.τ).loc Cert.MlpCtxRefIdeal.main_arg4) = m ((c.tc : Thread Cert.MlpCtxIdeal.nD Cert.MlpCtxIdeal.τ).loc Cert.MlpCtxIdeal.main_arg4)) →
    ∃ (v0 : (c : Dev Cert.MlpCtxIdeal.nD) → Buf (Elt Ideal) ((c.tc : Thread Cert.MlpCtxIdeal.nD Cert.MlpCtxIdeal.τ).loc Cert.MlpCtxIdeal.main_v7)),
      θ_run (Cert.MlpCtxIdeal.defs (F := Ideal)) (onTc (τ := Cert.MlpCtxIdeal.τ) (Cert.MlpCtxIdeal.main (F := Ideal))) ⟨m, fun _ => 0, g⟩ (fun r => ∀ c : Dev Cert.MlpCtxIdeal.nD,
          r.2.mem ((c.tc : Thread Cert.MlpCtxIdeal.nD Cert.MlpCtxIdeal.τ).loc Cert.MlpCtxIdeal.main_v7) = v0 c
          ∧ r.2.mem ((c.tc : Thread Cert.MlpCtxIdeal.nD Cert.MlpCtxIdeal.τ).loc Cert.MlpCtxIdeal.main_arg0) = m ((c.tc : Thread Cert.MlpCtxIdeal.nD Cert.MlpCtxIdeal.τ).loc Cert.MlpCtxIdeal.main_arg0)
          ∧ r.2.mem ((c.tc : Thread Cert.MlpCtxIdeal.nD Cert.MlpCtxIdeal.τ).loc Cert.MlpCtxIdeal.main_arg1) = m ((c.tc : Thread Cert.MlpCtxIdeal.nD Cert.MlpCtxIdeal.τ).loc Cert.MlpCtxIdeal.main_arg1)
          ∧ r.2.mem ((c.tc : Thread Cert.MlpCtxIdeal.nD Cert.MlpCtxIdeal.τ).loc Cert.MlpCtxIdeal.main_arg2) = m ((c.tc : Thread Cert.MlpCtxIdeal.nD Cert.MlpCtxIdeal.τ).loc Cert.MlpCtxIdeal.main_arg2)
          ∧ r.2.mem ((c.tc : Thread Cert.MlpCtxIdeal.nD Cert.MlpCtxIdeal.τ).loc Cert.MlpCtxIdeal.main_arg3) = m ((c.tc : Thread Cert.MlpCtxIdeal.nD Cert.MlpCtxIdeal.τ).loc Cert.MlpCtxIdeal.main_arg3)
          ∧ r.2.mem ((c.tc : Thread Cert.MlpCtxIdeal.nD Cert.MlpCtxIdeal.τ).loc Cert.MlpCtxIdeal.main_arg4) = m ((c.tc : Thread Cert.MlpCtxIdeal.nD Cert.MlpCtxIdeal.τ).loc Cert.MlpCtxIdeal.main_arg4))
      ∧ θ_run (Cert.MlpCtxRefIdeal.defs (F := Ideal)) (onTc (τ := Cert.MlpCtxRefIdeal.τ) (Cert.MlpCtxRefIdeal.main (F := Ideal))) ⟨m', fun _ => 0, g'⟩ (fun r => ∀ c : Dev Cert.MlpCtxRefIdeal.nD,
          r.2.mem ((c.tc : Thread Cert.MlpCtxRefIdeal.nD Cert.MlpCtxRefIdeal.τ).loc Cert.MlpCtxRefIdeal.main_v35) = v0 c
          ∧ r.2.mem ((c.tc : Thread Cert.MlpCtxRefIdeal.nD Cert.MlpCtxRefIdeal.τ).loc Cert.MlpCtxRefIdeal.main_arg0) = m' ((c.tc : Thread Cert.MlpCtxRefIdeal.nD Cert.MlpCtxRefIdeal.τ).loc Cert.MlpCtxRefIdeal.main_arg0)
          ∧ r.2.mem ((c.tc : Thread Cert.MlpCtxRefIdeal.nD Cert.MlpCtxRefIdeal.τ).loc Cert.MlpCtxRefIdeal.main_arg1) = m' ((c.tc : Thread Cert.MlpCtxRefIdeal.nD Cert.MlpCtxRefIdeal.τ).loc Cert.MlpCtxRefIdeal.main_arg1)
          ∧ r.2.mem ((c.tc : Thread Cert.MlpCtxRefIdeal.nD Cert.MlpCtxRefIdeal.τ).loc Cert.MlpCtxRefIdeal.main_arg2) = m' ((c.tc : Thread Cert.MlpCtxRefIdeal.nD Cert.MlpCtxRefIdeal.τ).loc Cert.MlpCtxRefIdeal.main_arg2)
          ∧ r.2.mem ((c.tc : Thread Cert.MlpCtxRefIdeal.nD Cert.MlpCtxRefIdeal.τ).loc Cert.MlpCtxRefIdeal.main_arg3) = m' ((c.tc : Thread Cert.MlpCtxRefIdeal.nD Cert.MlpCtxRefIdeal.τ).loc Cert.MlpCtxRefIdeal.main_arg3)
          ∧ r.2.mem ((c.tc : Thread Cert.MlpCtxRefIdeal.nD Cert.MlpCtxRefIdeal.τ).loc Cert.MlpCtxRefIdeal.main_arg4) = m' ((c.tc : Thread Cert.MlpCtxRefIdeal.nD Cert.MlpCtxRefIdeal.τ).loc Cert.MlpCtxRefIdeal.main_arg4))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpRefIdeal : Cert.MlpRefIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hS5Post : Cert.S5Post.Facts) (hS5PostIdeal : Cert.S5PostIdeal.Facts) (hS5PostRefIdeal : Cert.S5PostRefIdeal.Facts) (hQueries : Cert.Queries.Facts) (hQueriesIdeal : Cert.QueriesIdeal.Facts) (hQueriesRefIdeal : Cert.QueriesRefIdeal.Facts) (hKeysValues : Cert.KeysValues.Facts) (hKeysValuesIdeal : Cert.KeysValuesIdeal.Facts) (hKeysValuesRefIdeal : Cert.KeysValuesRefIdeal.Facts) (hInCtx : Cert.InCtx.Facts) (hInCtxIdeal : Cert.InCtxIdeal.Facts) (hInCtxRefIdeal : Cert.InCtxRefIdeal.Facts) (hMergeCtx : Cert.MergeCtx.Facts) (hMergeCtxIdeal : Cert.MergeCtxIdeal.Facts) (hMergeCtxRefIdeal : Cert.MergeCtxRefIdeal.Facts) (hOutCtx : Cert.OutCtx.Facts) (hOutCtxIdeal : Cert.OutCtxIdeal.Facts) (hOutCtxRefIdeal : Cert.OutCtxRefIdeal.Facts) (hMlpCtx : Cert.MlpCtx.Facts) (hMlpCtxIdeal : Cert.MlpCtxIdeal.Facts) (hMlpCtxRefIdeal : Cert.MlpCtxRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpRefIdeal (hMlpRefIdeal := hMlpRefIdeal)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_S5Post (hS5Post := hS5Post)
    ∧ quiescent_S5PostIdeal (hS5PostIdeal := hS5PostIdeal)
    ∧ quiescent_S5PostRefIdeal (hS5PostRefIdeal := hS5PostRefIdeal)
    ∧ quiescent_Queries (hQueries := hQueries)
    ∧ quiescent_QueriesIdeal (hQueriesIdeal := hQueriesIdeal)
    ∧ quiescent_QueriesRefIdeal (hQueriesRefIdeal := hQueriesRefIdeal)
    ∧ quiescent_KeysValues (hKeysValues := hKeysValues)
    ∧ quiescent_KeysValuesIdeal (hKeysValuesIdeal := hKeysValuesIdeal)
    ∧ quiescent_KeysValuesRefIdeal (hKeysValuesRefIdeal := hKeysValuesRefIdeal)
    ∧ quiescent_InCtx (hInCtx := hInCtx)
    ∧ quiescent_InCtxIdeal (hInCtxIdeal := hInCtxIdeal)
    ∧ quiescent_InCtxRefIdeal (hInCtxRefIdeal := hInCtxRefIdeal)
    ∧ quiescent_MergeCtx (hMergeCtx := hMergeCtx)
    ∧ quiescent_MergeCtxIdeal (hMergeCtxIdeal := hMergeCtxIdeal)
    ∧ quiescent_MergeCtxRefIdeal (hMergeCtxRefIdeal := hMergeCtxRefIdeal)
    ∧ quiescent_OutCtx (hOutCtx := hOutCtx)
    ∧ quiescent_OutCtxIdeal (hOutCtxIdeal := hOutCtxIdeal)
    ∧ quiescent_OutCtxRefIdeal (hOutCtxRefIdeal := hOutCtxRefIdeal)
    ∧ quiescent_MlpCtx (hMlpCtx := hMlpCtx)
    ∧ quiescent_MlpCtxIdeal (hMlpCtxIdeal := hMlpCtxIdeal)
    ∧ quiescent_MlpCtxRefIdeal (hMlpCtxRefIdeal := hMlpCtxRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpRefIdeal (hMlpIdeal := hMlpIdeal) (hMlpRefIdeal := hMlpRefIdeal)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_S5Post_S5PostIdeal
    ∧ algebraic_S5PostIdeal_S5PostRefIdeal (hS5PostIdeal := hS5PostIdeal) (hS5PostRefIdeal := hS5PostRefIdeal)
    ∧ preserves_Queries_QueriesIdeal
    ∧ algebraic_QueriesIdeal_QueriesRefIdeal (hQueriesIdeal := hQueriesIdeal) (hQueriesRefIdeal := hQueriesRefIdeal)
    ∧ preserves_KeysValues_KeysValuesIdeal
    ∧ algebraic_KeysValuesIdeal_KeysValuesRefIdeal (hKeysValuesIdeal := hKeysValuesIdeal) (hKeysValuesRefIdeal := hKeysValuesRefIdeal)
    ∧ preserves_InCtx_InCtxIdeal
    ∧ algebraic_InCtxIdeal_InCtxRefIdeal (hInCtxIdeal := hInCtxIdeal) (hInCtxRefIdeal := hInCtxRefIdeal)
    ∧ preserves_MergeCtx_MergeCtxIdeal
    ∧ algebraic_MergeCtxIdeal_MergeCtxRefIdeal (hMergeCtxIdeal := hMergeCtxIdeal) (hMergeCtxRefIdeal := hMergeCtxRefIdeal)
    ∧ preserves_OutCtx_OutCtxIdeal
    ∧ algebraic_OutCtxIdeal_OutCtxRefIdeal (hOutCtxIdeal := hOutCtxIdeal) (hOutCtxRefIdeal := hOutCtxRefIdeal)
    ∧ preserves_MlpCtx_MlpCtxIdeal
    ∧ algebraic_MlpCtxIdeal_MlpCtxRefIdeal (hMlpCtxIdeal := hMlpCtxIdeal) (hMlpCtxRefIdeal := hMlpCtxRefIdeal)
-- ==== Pre_finite.lean ====
abbrev S4x4096x8x192 : Shape := ⟨4, ![4, 4096, 8, 192]⟩
abbrev S4x4096x8x128 : Shape := ⟨4, ![4, 4096, 8, 128]⟩
abbrev S4x256x8x192 : Shape := ⟨4, ![4, 256, 8, 192]⟩
abbrev S4x256x8x128 : Shape := ⟨4, ![4, 256, 8, 128]⟩
abbrev S_ : Shape := ⟨0, ![]⟩

class Facts : Prop where
  bcast_S_S4x4096x8x192 : S_.BroadcastsInDim S4x4096x8x192 (![] : Fin 0 → Fin S4x4096x8x192.rank)
  bcast_S_S4x256x8x192 : S_.BroadcastsInDim S4x256x8x192 (![] : Fin 0 → Fin S4x256x8x192.rank)

variable [Facts]

def fn {F : FTy → Type} [FloatOps F] (main_arg0 : FVec F S4x4096x8x192 .f32) (main_arg1 : FVec F S4x4096x8x192 .f32) (main_arg2 : FVec F S4x4096x8x128 .f32) (main_arg3 : FVec F S4x256x8x192 .f32) (main_arg4 : FVec F S4x256x8x128 .f32) : IVec S4x4096x8x192 1 × IVec S4x4096x8x192 1 × IVec S4x256x8x192 1 :=
  let main_v0 : FVec F S4x4096x8x192 .f32 := Host.absf main_arg0
  let main_cst : FVec F S_ .f32 := constant S_ .f32 0x7F800000#32
  let main_v1 : FVec F S4x4096x8x192 .f32 := broadcastInDim S4x4096x8x192 ![] bcast_S_S4x4096x8x192 main_cst
  let main_v2 : IVec S4x4096x8x192 1 := cmpf .olt main_v0 main_v1
  let main_v3 : FVec F S4x4096x8x192 .f32 := Host.absf main_arg1
  let main_cst_0 : FVec F S_ .f32 := constant S_ .f32 0x7F800000#32
  let main_v4 : FVec F S4x4096x8x192 .f32 := broadcastInDim S4x4096x8x192 ![] bcast_S_S4x4096x8x192 main_cst_0
  let main_v5 : IVec S4x4096x8x192 1 := cmpf .olt main_v3 main_v4
  let main_v6 : FVec F S4x256x8x192 .f32 := Host.absf main_arg3
  let main_cst_1 : FVec F S_ .f32 := constant S_ .f32 0x7F800000#32
  let main_v7 : FVec F S4x256x8x192 .f32 := broadcastInDim S4x256x8x192 ![] bcast_S_S4x256x8x192 main_cst_1
  let main_v8 : IVec S4x256x8x192 1 := cmpf .olt main_v6 main_v7
  (main_v2, main_v5, main_v8)
-- ==== Kernel.lean ====
abbrev S4x4096x8x192 : Shape := ⟨4, ![4, 4096, 8, 192]⟩
abbrev S4x4096x8x128 : Shape := ⟨4, ![4, 4096, 8, 128]⟩
abbrev S4x256x8x192 : Shape := ⟨4, ![4, 256, 8, 192]⟩
abbrev S4x256x8x128 : Shape := ⟨4, ![4, 256, 8, 128]⟩
abbrev S_ : Shape := ⟨0, ![]⟩
abbrev S4x8x4096x192 : Shape := ⟨4, ![4, 8, 4096, 192]⟩
abbrev S4x8x4096x256 : Shape := ⟨4, ![4, 8, 4096, 256]⟩
abbrev S4x8x4096x128 : Shape := ⟨4, ![4, 8, 4096, 128]⟩
abbrev S4x8x4096x1 : Shape := ⟨4, ![4, 8, 4096, 1]⟩
abbrev S4x8x4096x127 : Shape := ⟨4, ![4, 8, 4096, 127]⟩
abbrev S4x8x256x192 : Shape := ⟨4, ![4, 8, 256, 192]⟩
abbrev S4x8x256x256 : Shape := ⟨4, ![4, 8, 256, 256]⟩
abbrev S4x8x256x128 : Shape := ⟨4, ![4, 8, 256, 128]⟩
abbrev S4x8x256x1 : Shape := ⟨4, ![4, 8, 256, 1]⟩
abbrev S4x8x256x127 : Shape := ⟨4, ![4, 8, 256, 127]⟩
abbrev S4x4096x1024 : Shape := ⟨3, ![4, 4096, 1024]⟩
abbrev S1x2x256x256 : Shape := ⟨4, ![1, 2, 256, 256]⟩
abbrev S1x2x4096x256 : Shape := ⟨4, ![1, 2, 4096, 256]⟩
abbrev S1x256x256 : Shape := ⟨3, ![1, 256, 256]⟩
abbrev S2x256x1 : Shape := ⟨3, ![2, 256, 1]⟩
abbrev S2x256x256 : Shape := ⟨3, ![2, 256, 256]⟩
abbrev S1x1x256x256 : Shape := ⟨4, ![1, 1, 256, 256]⟩
abbrev S256x256 : Shape := ⟨2, ![256, 256]⟩
abbrev S1x1x4096x256 : Shape := ⟨4, ![1, 1, 4096, 256]⟩
abbrev S4096x256 : Shape := ⟨2, ![4096, 256]⟩
abbrev S256x4096 : Shape := ⟨2, ![256, 4096]⟩
abbrev S1x256x1 : Shape := ⟨3, ![1, 256, 1]⟩
abbrev S256x1 : Shape := ⟨2, ![256, 1]⟩
abbrev S256 : Shape := ⟨1, ![256]⟩
abbrev S256x128 : Shape := ⟨2, ![256, 128]⟩
abbrev S1x256x128 : Shape := ⟨3, ![1, 256, 128]⟩

abbrev nBuf : Space → Nat
  | .hbm => 44
  | .vmem => 14
  | .smem => 0
  | _ => 0

abbrev bufTy : (tb : Table) → Fin (tcTables nBuf tb) → BufTy
  | .hbm, ⟨0, _⟩ => ⟨S4x4096x8x192, .f32⟩
  | .hbm, ⟨1, _⟩ => ⟨S4x4096x8x192, .f32⟩
  | .hbm, ⟨2, _⟩ => ⟨S4x4096x8x128, .f32⟩
  | .hbm, ⟨3, _⟩ => ⟨S4x256x8x192, .f32⟩
  | .hbm, ⟨4, _⟩ => ⟨S4x256x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x4096x8x192, .f32⟩
  | .hbm, ⟨13, _⟩ => ⟨S4x4096x8x192, .f32⟩
  | .hbm, ⟨14, _⟩ => ⟨S4x8x4096x192, .f32⟩
  | .hbm, ⟨15, _⟩ => ⟨S_, .i32⟩
  | .hbm, ⟨16, _⟩ => ⟨S_, .f32⟩
  | .hbm, ⟨17, _⟩ => ⟨S4x8x4096x256, .f32⟩
  | .hbm, ⟨18, _⟩ => ⟨S4x8x4096x256, .bf16⟩
  | .hbm, ⟨19, _⟩ => ⟨S4x8x4096x192, .f32⟩
  | .hbm, ⟨20, _⟩ => ⟨S_, .i32⟩
  | .hbm, ⟨21, _⟩ => ⟨S_, .f32⟩
  | .hbm, ⟨22, _⟩ => ⟨S4x8x4096x256, .f32⟩
  | .hbm, ⟨23, _⟩ => ⟨S4x8x4096x256, .bf16⟩
  | .hbm, ⟨24, _⟩ => ⟨S4x8x4096x128, .f32⟩
  | .hbm, ⟨25, _⟩ => ⟨S_, .f32⟩
  | .hbm, ⟨26, _⟩ => ⟨S4x8x4096x1, .f32⟩
  | .hbm, ⟨27, _⟩ => ⟨S_, .f32⟩
  | .hbm, ⟨28, _⟩ => ⟨S4x8x4096x127, .f32⟩
  | .hbm, ⟨29, _⟩ => ⟨S4x8x4096x256, .f32⟩
  | .hbm, ⟨30, _⟩ => ⟨S4x8x4096x256, .bf16⟩
  | .hbm, ⟨31, _⟩ => ⟨S4x8x256x192, .f32⟩
  | .hbm, ⟨32, _⟩ => ⟨S_, .i32⟩
  | .hbm, ⟨33, _⟩ => ⟨S_, .f32⟩
  | .hbm, ⟨34, _⟩ => ⟨S4x8x256x256, .f32⟩
  | .hbm, ⟨35, _⟩ => ⟨S4x8x256x256, .bf16⟩
  | .hbm, ⟨36, _⟩ => ⟨S4x8x256x128, .f32⟩
  | .hbm, ⟨37, _⟩ => ⟨S_, .f32⟩
  | .hbm, ⟨38, _⟩ => ⟨S4x8x256x1, .f32⟩
  | .hbm, ⟨39, _⟩ => ⟨S_, .f32⟩
  | .hbm, ⟨40, _⟩ => ⟨S4x8x256x127, .f32⟩
  | .hbm, ⟨41, _⟩ => ⟨S4x8x256x256, .f32⟩
  | .hbm, ⟨42, _⟩ => ⟨S4x8x256x256, .bf16⟩
  | .hbm, ⟨43, _⟩ => ⟨S4x4096x1024, .bf16⟩
  | .local _ .vmem, ⟨0, _⟩ => ⟨S1x2x256x256, .bf16⟩
  | .local _ .vmem, ⟨1, _⟩ => ⟨S1x2x256x256, .bf16⟩
  | .local _ .vmem, ⟨2, _⟩ => ⟨S1x2x4096x256, .bf16⟩
  | .local _ .vmem, ⟨3, _⟩ => ⟨S1x2x4096x256, .bf16⟩
  | .local _ .vmem, ⟨4, _⟩ => ⟨S1x2x4096x256, .bf16⟩
  | .local _ .vmem, ⟨5, _⟩ => ⟨S1x2x4096x256, .bf16⟩
  | .local _ .vmem, ⟨6, _⟩ => ⟨S1x2x256x256, .bf16⟩
  | .local _ .vmem, ⟨7, _⟩ => ⟨S1x2x256x256, .bf16⟩
  | .local _ .vmem, ⟨8, _⟩ => ⟨S1x2x256x256, .bf16⟩
  | .local _ .vmem, ⟨9, _⟩ => ⟨S1x2x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S2x256x1, .f32⟩
  | .local _ .vmem, ⟨13, _⟩ => ⟨S2x256x256, .f32⟩
  | _, _ => ⟨S4x4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_call1_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_call2_v0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨4, ![4, 4, 16, 1], ![false, false, false, false]⟩

def k0_cond2 (i : grid0.Coords) : BitVec 1 :=
  let arg3 : BitVec 32 := BitVec.ofNat 32 (i 3).val
  let c0_i32_52 : BitVec 32 := 0#32
  let v63 : BitVec 1 := Scalar.cmpi .eq arg3 c0_i32_52
  let v64 : BitVec 32 := Scalar.extui v63
  let c0_i32_53 : BitVec 32 := 0#32
  let v65 : BitVec 1 := Scalar.cmpi .ne v64 c0_i32_53
  v65

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg3.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg3.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x2x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x2x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x2x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1x2x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]

abbrev stage0_4 : Fin 2 → Memref sig .tc .vmem S1x2x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== ReferenceIdeal.lean ====
abbrev S4x4096x8x192 : Shape := ⟨4, ![4, 4096, 8, 192]⟩
abbrev S4x4096x8x128 : Shape := ⟨4, ![4, 4096, 8, 128]⟩
abbrev S4x256x8x192 : Shape := ⟨4, ![4, 256, 8, 192]⟩
abbrev S4x256x8x128 : Shape := ⟨4, ![4, 256, 8, 128]⟩
abbrev S4x4352x8x192 : Shape := ⟨4, ![4, 4352, 8, 192]⟩
abbrev S4x4352x8x128 : Shape := ⟨4, ![4, 4352, 8, 128]⟩
abbrev S4x8x4096x4352 : Shape := ⟨4, ![4, 8, 4096, 4352]⟩
abbrev S_ : Shape := ⟨0, ![]⟩
abbrev S4x8x4096 : Shape := ⟨3, ![4, 8, 4096]⟩
abbrev S4x8x4096x1 : Shape := ⟨4, ![4, 8, 4096, 1]⟩
abbrev S4x8x128x4096 : Shape := ⟨4, ![4, 8, 128, 4096]⟩
abbrev S4x4096x1024 : Shape := ⟨3, ![4, 4096, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x8x192, .f32⟩
  | .hbm, ⟨1, _⟩ => ⟨S4x4096x8x192, .f32⟩
  | .hbm, ⟨2, _⟩ => ⟨S4x4096x8x128, .f32⟩
  | .hbm, ⟨3, _⟩ => ⟨S4x256x8x192, .f32⟩
  | .hbm, ⟨4, _⟩ => ⟨S4x256x8x128, .f32⟩
  | .hbm, ⟨5, _⟩ => ⟨S4x4352x8x192, .f32⟩
  | .hbm, ⟨6, _⟩ => ⟨S4x4352x8x128, .f32⟩
  | .hbm, ⟨7, _⟩ => ⟨S4x8x4096x4352, .f32⟩
  | .hbm, ⟨8, _⟩ => ⟨S_, .f32⟩
  | .hbm, ⟨9, _⟩ => ⟨S_, .f32⟩
  | .hbm, ⟨10, _⟩ => ⟨S4x8x4096x4352, .f32⟩
  | .hbm, ⟨11, _⟩ => ⟨S4x8x4096x4352, .f32⟩
  | .hbm, ⟨12, _⟩ => ⟨S_, .f32⟩
  | .hbm, ⟨13, _⟩ => ⟨S4x8x4096, .f32⟩
  | .hbm, ⟨14, _⟩ => ⟨S_, .f32⟩
  | .hbm, ⟨15, _⟩ => ⟨S4x8x4096, .f32⟩
  | .hbm, ⟨16, _⟩ => ⟨S4x8x4096, .f32⟩
  | .hbm, ⟨17, _⟩ => ⟨S4x8x4096x1, .f32⟩
  | .hbm, ⟨18, _⟩ => ⟨S4x8x4096x4352, .f32⟩
  | .hbm, ⟨19, _⟩ => ⟨S4x8x4096x4352, .f32⟩
  | .hbm, ⟨20, _⟩ => ⟨S4x8x4096x4352, .f32⟩
  | .hbm, ⟨21, _⟩ => ⟨S_, .f32⟩
  | .hbm, ⟨22, _⟩ => ⟨S4x8x4096, .f32⟩
  | .hbm, ⟨23, _⟩ => ⟨S4x8x4096x1, .f32⟩
  | .hbm, ⟨24, _⟩ => ⟨S4x8x4096x4352, .f32⟩
  | .hbm, ⟨25, _⟩ => ⟨S4x8x4096x4352, .f32⟩
  | .hbm, ⟨26, _⟩ => ⟨S4x8x128x4096, .f32⟩
  | .hbm, ⟨27, _⟩ => ⟨S4x4096x8x128, .f32⟩
  | .hbm, ⟨28, _⟩ => ⟨S4x4096x1024, .f32⟩
  | .hbm, ⟨29, _⟩ => ⟨S4x4096x1024, .bf16⟩
  | _, _ => ⟨S4x4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Mlp.lean ====
abbrev S4x4096x2048 : Shape := ⟨3, ![4, 4096, 2048]⟩
abbrev S4x12288 : Shape := ⟨2, ![4, 12288]⟩
abbrev S2048 : Shape := ⟨1, ![2048]⟩
abbrev S2048x8192 : Shape := ⟨2, ![2048, 8192]⟩
abbrev S8192x2048 : Shape := ⟨2, ![8192, 2048]⟩
abbrev S16384x2048 : Shape := ⟨2, ![16384, 2048]⟩
abbrev S1x2048 : Shape := ⟨2, ![1, 2048]⟩
abbrev S_ : Shape := ⟨0, ![]⟩
abbrev S8x12288 : Shape := ⟨2, ![8, 12288]⟩
abbrev S8x6x1x2048 : Shape := ⟨4, ![8, 6, 1, 2048]⟩
abbrev S512x2048 : Shape := ⟨2, ![512, 2048]⟩
abbrev S1x1x1x2048 : Shape := ⟨4, ![1, 1, 1, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 14
  | .vmem => 17
  | .smem => 0
  | _ => 0

abbrev bufTy : (tb : Table) → Fin (tcTables nBuf tb) → BufTy
  | .hbm, ⟨0, _⟩ => ⟨S4x4096x2048, .f32⟩
  | .hbm, ⟨1, _⟩ => ⟨S4x12288, .f32⟩
  | .hbm, ⟨2, _⟩ => ⟨S2048, .f32⟩
  | .hbm, ⟨3, _⟩ => ⟨S2048x8192, .f32⟩
  | .hbm, ⟨4, _⟩ => ⟨S8192x2048, .f32⟩
  | .hbm, ⟨5, _⟩ => ⟨S16384x2048, .f32⟩
  | .hbm, ⟨6, _⟩ => ⟨S1x2048, .f32⟩
  | .hbm, ⟨7, _⟩ => ⟨S_, .i32⟩
  | .hbm, ⟨8, _⟩ => ⟨S_, .f32⟩
  | .hbm, ⟨9, _⟩ => ⟨S8x12288, .f32⟩
  | .hbm, ⟨10, _⟩ => ⟨S8x6x1x2048, .f32⟩
  | .hbm, ⟨11, _⟩ => ⟨S2048x8192, .bf16⟩
  | .hbm, ⟨12, _⟩ => ⟨S8192x2048, .bf16⟩
  | .hbm, ⟨13, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x1x1x2048, .f32⟩
  | .local _ .vmem, ⟨8, _⟩ => ⟨S1x1x1x2048, .f32⟩
  | .local _ .vmem, ⟨9, _⟩ => ⟨S2048x1024, .bf16⟩
  | .local _ .vmem, ⟨10, _⟩ => ⟨S2048x1024, .bf16⟩
  | .local _ .vmem, ⟨11, _⟩ => ⟨S1024x2048, .bf16⟩
  | .local _ .vmem, ⟨12, _⟩ => ⟨S1024x2048, .bf16⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c0_i32_5 : BitVec 32 := 0#32
  let c0_i32_6 : BitVec 32 := 0#32
  ![v16.toNat, c3_i32.toNat, c0_i32_4.toNat, c0_i32_5.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let c0_i32_4 : BitVec 32 := 0#32
  let c0_i32_5 : BitVec 32 := 0#32
  let c0_i32_6 : BitVec 32 := 0#32
  ![v16.toNat, c4_i32.toNat, c0_i32_4.toNat, c0_i32_5.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32 : BitVec 32 := 5#32
  let c0_i32_4 : BitVec 32 := 0#32
  let c0_i32_5 : BitVec 32 := 0#32
  let c0_i32_6 : BitVec 32 := 0#32
  ![v16.toNat, c5_i32.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MlpRefIdeal.lean ====
abbrev S4x4096x2048 : Shape := ⟨3, ![4, 4096, 2048]⟩
abbrev S4x12288 : Shape := ⟨2, ![4, 12288]⟩
abbrev S2048 : Shape := ⟨1, ![2048]⟩
abbrev S2048x8192 : Shape := ⟨2, ![2048, 8192]⟩
abbrev S8192x2048 : Shape := ⟨2, ![8192, 2048]⟩
abbrev S4x2048 : Shape := ⟨2, ![4, 2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x8192 : Shape := ⟨3, ![4, 4096, 8192]⟩
abbrev S16384x2048 : Shape := ⟨2, ![16384, 2048]⟩

abbrev nBuf : Space → Nat
  | .hbm => 50
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x12288, .f32⟩
  | .hbm, ⟨2, _⟩ => ⟨S2048, .f32⟩
  | .hbm, ⟨3, _⟩ => ⟨S2048x8192, .f32⟩
  | .hbm, ⟨4, _⟩ => ⟨S8192x2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S4x4096x2048, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x2048, .f32⟩
  | .hbm, ⟨29, _⟩ => ⟨S4x4096x2048, .f32⟩
  | .hbm, ⟨30, _⟩ => ⟨S1x1x2048, .f32⟩
  | .hbm, ⟨31, _⟩ => ⟨S4x4096x2048, .f32⟩
  | .hbm, ⟨32, _⟩ => ⟨S4x4096x2048, .f32⟩
  | .hbm, ⟨33, _⟩ => ⟨S_, .f32⟩
  | .hbm, ⟨34, _⟩ => ⟨S4x1x2048, .f32⟩
  | .hbm, ⟨35, _⟩ => ⟨S4x1x2048, .f32⟩
  | .hbm, ⟨36, _⟩ => ⟨S4x4096x2048, .f32⟩
  | .hbm, ⟨37, _⟩ => ⟨S4x4096x2048, .f32⟩
  | .hbm, ⟨38, _⟩ => ⟨S4x4096x2048, .f32⟩
  | .hbm, ⟨39, _⟩ => ⟨S4x4096x2048, .f32⟩
  | .hbm, ⟨40, _⟩ => ⟨S4x4096x8192, .f32⟩
  | .hbm, ⟨41, _⟩ => ⟨S_, .f32⟩
  | .hbm, ⟨42, _⟩ => ⟨S4x4096x8192, .f32⟩
  | .hbm, ⟨43, _⟩ => ⟨S4x4096x8192, .f32⟩
  | .hbm, ⟨44, _⟩ => ⟨S4x4096x8192, .f32⟩
  | .hbm, ⟨45, _⟩ => ⟨S4x4096x2048, .f32⟩
  | .hbm, ⟨46, _⟩ => ⟨S4x4096x2048, .f32⟩
  | .hbm, ⟨47, _⟩ => ⟨S4x4096x2048, .f32⟩
  | .hbm, ⟨48, _⟩ => ⟨S4x4096x2048, .f32⟩
  | .hbm, ⟨49, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_call0_cst : Ref sig .tc := ⟨.hbm, 41, rfl⟩
abbrev main_call0_v0 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== InProj.lean ====
abbrev S4x4096x2048 : Shape := ⟨3, ![4, 4096, 2048]⟩
abbrev S4x12288 : Shape := ⟨2, ![4, 12288]⟩
abbrev S2048 : Shape := ⟨1, ![2048]⟩
abbrev S2048x11744 : Shape := ⟨2, ![2048, 11744]⟩
abbrev S2048x3072 : Shape := ⟨2, ![2048, 3072]⟩
abbrev S2048x1024 : Shape := ⟨2, ![2048, 1024]⟩
abbrev S2048x6144 : Shape := ⟨2, ![2048, 6144]⟩
abbrev S2048x64 : Shape := ⟨2, ![2048, 64]⟩
abbrev S2048x416 : Shape := ⟨2, ![2048, 416]⟩
abbrev S_ : Shape := ⟨0, ![]⟩
abbrev S2048x32 : Shape := ⟨2, ![2048, 32]⟩
abbrev S2048x11776 : Shape := ⟨2, ![2048, 11776]⟩
abbrev S16384x2048 : Shape := ⟨2, ![16384, 2048]⟩
abbrev S1x2048 : Shape := ⟨2, ![1, 2048]⟩
abbrev S8x12288 : Shape := ⟨2, ![8, 12288]⟩
abbrev S8x6x1x2048 : Shape := ⟨4, ![8, 6, 1, 2048]⟩
abbrev S16384x11776 : Shape := ⟨2, ![16384, 11776]⟩
abbrev S1024x2048 : Shape := ⟨2, ![1024, 2048]⟩
abbrev S1x1x1x2048 : Shape := ⟨4, ![1, 1, 1, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 21
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S4x12288, .f32⟩
  | .hbm, ⟨2, _⟩ => ⟨S2048, .f32⟩
  | .hbm, ⟨3, _⟩ => ⟨S2048x11744, .f32⟩
  | .hbm, ⟨4, _⟩ => ⟨S2048x3072, .f32⟩
  | .hbm, ⟨5, _⟩ => ⟨S2048x1024, .f32⟩
  | .hbm, ⟨6, _⟩ => ⟨S2048x6144, .f32⟩
  | .hbm, ⟨7, _⟩ => ⟨S2048x1024, .f32⟩
  | .hbm, ⟨8, _⟩ => ⟨S2048x64, .f32⟩
  | .hbm, ⟨9, _⟩ => ⟨S2048x416, .f32⟩
  | .hbm, ⟨10, _⟩ => ⟨S_, .f32⟩
  | .hbm, ⟨11, _⟩ => ⟨S2048x32, .f32⟩
  | .hbm, ⟨12, _⟩ => ⟨S2048x11776, .f32⟩
  | .hbm, ⟨13, _⟩ => ⟨S2048x11776, .bf16⟩
  | .hbm, ⟨14, _⟩ => ⟨S16384x2048, .f32⟩
  | .hbm, ⟨15, _⟩ => ⟨S1x2048, .f32⟩
  | .hbm, ⟨16, _⟩ => ⟨S_, .i32⟩
  | .hbm, ⟨17, _⟩ => ⟨S_, .f32⟩
  | .hbm, ⟨18, _⟩ => ⟨S8x12288, .f32⟩
  | .hbm, ⟨19, _⟩ => ⟨S8x6x1x2048, .f32⟩
  | .hbm, ⟨20, _⟩ => ⟨S16384x11776, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S2048x512, .bf16⟩
  | .local _ .vmem, ⟨8, _⟩ => ⟨S2048x512, .bf16⟩
  | .local _ .vmem, ⟨9, _⟩ => ⟨S1024x512, .bf16⟩
  | .local _ .vmem, ⟨10, _⟩ => ⟨S1024x512, .bf16⟩
  | .local _ .vmem, ⟨11, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 23], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![v16.toNat, c1_i32_4.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjRefIdeal.lean ====
abbrev S4x4096x2048 : Shape := ⟨3, ![4, 4096, 2048]⟩
abbrev S4x12288 : Shape := ⟨2, ![4, 12288]⟩
abbrev S2048 : Shape := ⟨1, ![2048]⟩
abbrev S2048x11744 : Shape := ⟨2, ![2048, 11744]⟩
abbrev S4x2048 : Shape := ⟨2, ![4, 2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x11744 : Shape := ⟨3, ![4, 4096, 11744]⟩
abbrev S4x4096x1024 : Shape := ⟨3, ![4, 4096, 1024]⟩
abbrev S4x4096x64 : Shape := ⟨3, ![4, 4096, 64]⟩
abbrev S4x4096x3072 : Shape := ⟨3, ![4, 4096, 3072]⟩
abbrev S4x4096x416 : Shape := ⟨3, ![4, 4096, 416]⟩
abbrev S4x4096x6144 : Shape := ⟨3, ![4, 4096, 6144]⟩
abbrev S4x4096x32 : Shape := ⟨3, ![4, 4096, 32]⟩
abbrev S4x4096x11776 : Shape := ⟨3, ![4, 4096, 11776]⟩
abbrev S16384x11776 : Shape := ⟨2, ![16384, 11776]⟩

abbrev nBuf : Space → Nat
  | .hbm => 51
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x12288, .f32⟩
  | .hbm, ⟨2, _⟩ => ⟨S2048, .f32⟩
  | .hbm, ⟨3, _⟩ => ⟨S2048x11744, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x4096x2048, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S4x4096x2048, .f32⟩
  | .hbm, ⟨28, _⟩ => ⟨S4x4096x2048, .f32⟩
  | .hbm, ⟨29, _⟩ => ⟨S1x1x2048, .f32⟩
  | .hbm, ⟨30, _⟩ => ⟨S4x4096x2048, .f32⟩
  | .hbm, ⟨31, _⟩ => ⟨S4x4096x2048, .f32⟩
  | .hbm, ⟨32, _⟩ => ⟨S_, .f32⟩
  | .hbm, ⟨33, _⟩ => ⟨S4x1x2048, .f32⟩
  | .hbm, ⟨34, _⟩ => ⟨S4x1x2048, .f32⟩
  | .hbm, ⟨35, _⟩ => ⟨S4x4096x2048, .f32⟩
  | .hbm, ⟨36, _⟩ => ⟨S4x4096x2048, .f32⟩
  | .hbm, ⟨37, _⟩ => ⟨S4x4096x2048, .f32⟩
  | .hbm, ⟨38, _⟩ => ⟨S4x4096x2048, .f32⟩
  | .hbm, ⟨39, _⟩ => ⟨S4x4096x11744, .f32⟩
  | .hbm, ⟨40, _⟩ => ⟨S4x4096x1024, .f32⟩
  | .hbm, ⟨41, _⟩ => ⟨S4x4096x64, .f32⟩
  | .hbm, ⟨42, _⟩ => ⟨S4x4096x3072, .f32⟩
  | .hbm, ⟨43, _⟩ => ⟨S4x4096x416, .f32⟩
  | .hbm, ⟨44, _⟩ => ⟨S4x4096x1024, .f32⟩
  | .hbm, ⟨45, _⟩ => ⟨S4x4096x6144, .f32⟩
  | .hbm, ⟨46, _⟩ => ⟨S_, .f32⟩
  | .hbm, ⟨47, _⟩ => ⟨S4x4096x32, .f32⟩
  | .hbm, ⟨48, _⟩ => ⟨S4x4096x11776, .f32⟩
  | .hbm, ⟨49, _⟩ => ⟨S16384x11776, .f32⟩
  | .hbm, ⟨50, _⟩ => ⟨S16384x11776, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]
-- ==== Merge.lean ====
abbrev S4x4096x1024 : Shape := ⟨3, ![4, 4096, 1024]⟩
abbrev S4x4096x6144 : Shape := ⟨3, ![4, 4096, 6144]⟩
abbrev S3x1024x2048 : Shape := ⟨3, ![3, 1024, 2048]⟩
abbrev S16384x6144 : Shape := ⟨2, ![16384, 6144]⟩
abbrev S_ : Shape := ⟨0, ![]⟩
abbrev S16384x11776 : Shape := ⟨2, ![16384, 11776]⟩
abbrev S16384x1024 : Shape := ⟨2, ![16384, 1024]⟩
abbrev S16384x2048 : Shape := ⟨2, ![16384, 2048]⟩
abbrev S1024x1024 : Shape := ⟨2, ![1024, 1024]⟩
abbrev S1024x512 : Shape := ⟨2, ![1024, 512]⟩
abbrev S3x1024x512 : Shape := ⟨3, ![3, 1024, 512]⟩
abbrev S1x1024x512 : Shape := ⟨3, ![1, 1024, 512]⟩

abbrev nBuf : Space → Nat
  | .hbm => 18
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x6144, .f32⟩
  | .hbm, ⟨4, _⟩ => ⟨S3x1024x2048, .f32⟩
  | .hbm, ⟨5, _⟩ => ⟨S16384x6144, .f32⟩
  | .hbm, ⟨6, _⟩ => ⟨S16384x6144, .bf16⟩
  | .hbm, ⟨7, _⟩ => ⟨S_, .i32⟩
  | .hbm, ⟨8, _⟩ => ⟨S_, .bf16⟩
  | .hbm, ⟨9, _⟩ => ⟨S16384x11776, .bf16⟩
  | .hbm, ⟨10, _⟩ => ⟨S16384x1024, .f32⟩
  | .hbm, ⟨11, _⟩ => ⟨S16384x1024, .bf16⟩
  | .hbm, ⟨12, _⟩ => ⟨S16384x1024, .f32⟩
  | .hbm, ⟨13, _⟩ => ⟨S16384x1024, .bf16⟩
  | .hbm, ⟨14, _⟩ => ⟨S16384x1024, .f32⟩
  | .hbm, ⟨15, _⟩ => ⟨S16384x1024, .bf16⟩
  | .hbm, ⟨16, _⟩ => ⟨S3x1024x2048, .bf16⟩
  | .hbm, ⟨17, _⟩ => ⟨S16384x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S3x1024x512, .bf16⟩
  | .local _ .vmem, ⟨13, _⟩ => ⟨S3x1024x512, .bf16⟩
  | .local _ .vmem, ⟨14, _⟩ => ⟨S1024x512, .bf16⟩
  | .local _ .vmem, ⟨15, _⟩ => ⟨S1024x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeIdeal.lean ====
abbrev S4x4096x1024 : Shape := ⟨3, ![4, 4096, 1024]⟩
abbrev S4x4096x6144 : Shape := ⟨3, ![4, 4096, 6144]⟩
abbrev S3x1024x2048 : Shape := ⟨3, ![3, 1024, 2048]⟩
abbrev S16384x6144 : Shape := ⟨2, ![16384, 6144]⟩
abbrev S_ : Shape := ⟨0, ![]⟩
abbrev S16384x11776 : Shape := ⟨2, ![16384, 11776]⟩
abbrev S16384x1024 : Shape := ⟨2, ![16384, 1024]⟩
abbrev S16384x2048 : Shape := ⟨2, ![16384, 2048]⟩
abbrev S1024x1024 : Shape := ⟨2, ![1024, 1024]⟩
abbrev S1024x512 : Shape := ⟨2, ![1024, 512]⟩
abbrev S3x1024x512 : Shape := ⟨3, ![3, 1024, 512]⟩
abbrev S1x1024x512 : Shape := ⟨3, ![1, 1024, 512]⟩

abbrev nBuf : Space → Nat
  | .hbm => 18
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x6144, .f32⟩
  | .hbm, ⟨4, _⟩ => ⟨S3x1024x2048, .f32⟩
  | .hbm, ⟨5, _⟩ => ⟨S16384x6144, .f32⟩
  | .hbm, ⟨6, _⟩ => ⟨S16384x6144, .bf16⟩
  | .hbm, ⟨7, _⟩ => ⟨S_, .i32⟩
  | .hbm, ⟨8, _⟩ => ⟨S_, .bf16⟩
  | .hbm, ⟨9, _⟩ => ⟨S16384x11776, .bf16⟩
  | .hbm, ⟨10, _⟩ => ⟨S16384x1024, .f32⟩
  | .hbm, ⟨11, _⟩ => ⟨S16384x1024, .bf16⟩
  | .hbm, ⟨12, _⟩ => ⟨S16384x1024, .f32⟩
  | .hbm, ⟨13, _⟩ => ⟨S16384x1024, .bf16⟩
  | .hbm, ⟨14, _⟩ => ⟨S16384x1024, .f32⟩
  | .hbm, ⟨15, _⟩ => ⟨S16384x1024, .bf16⟩
  | .hbm, ⟨16, _⟩ => ⟨S3x1024x2048, .bf16⟩
  | .hbm, ⟨17, _⟩ => ⟨S16384x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S3x1024x512, .bf16⟩
  | .local _ .vmem, ⟨13, _⟩ => ⟨S3x1024x512, .bf16⟩
  | .local _ .vmem, ⟨14, _⟩ => ⟨S1024x512, .bf16⟩
  | .local _ .vmem, ⟨15, _⟩ => ⟨S1024x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeRefIdeal.lean ====
abbrev S4x4096x1024 : Shape := ⟨3, ![4, 4096, 1024]⟩
abbrev S4x4096x6144 : Shape := ⟨3, ![4, 4096, 6144]⟩
abbrev S3x1024x2048 : Shape := ⟨3, ![3, 1024, 2048]⟩
abbrev S_ : Shape := ⟨0, ![]⟩
abbrev S4x4096x3x2048 : Shape := ⟨4, ![4, 4096, 3, 2048]⟩
abbrev S4x4096x1x1024 : Shape := ⟨4, ![4, 4096, 1, 1024]⟩
abbrev S4x4096x3x1024 : Shape := ⟨4, ![4, 4096, 3, 1024]⟩
abbrev S3x2048x4x4096 : Shape := ⟨4, ![3, 2048, 4, 4096]⟩
abbrev S4x4096x2048 : Shape := ⟨3, ![4, 4096, 2048]⟩
abbrev S16384x2048 : Shape := ⟨2, ![16384, 2048]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x6144, .f32⟩
  | .hbm, ⟨4, _⟩ => ⟨S3x1024x2048, .f32⟩
  | .hbm, ⟨5, _⟩ => ⟨S4x4096x6144, .f32⟩
  | .hbm, ⟨6, _⟩ => ⟨S4x4096x6144, .f32⟩
  | .hbm, ⟨7, _⟩ => ⟨S_, .f32⟩
  | .hbm, ⟨8, _⟩ => ⟨S4x4096x6144, .f32⟩
  | .hbm, ⟨9, _⟩ => ⟨S4x4096x6144, .f32⟩
  | .hbm, ⟨10, _⟩ => ⟨S_, .f32⟩
  | .hbm, ⟨11, _⟩ => ⟨S4x4096x6144, .f32⟩
  | .hbm, ⟨12, _⟩ => ⟨S4x4096x6144, .f32⟩
  | .hbm, ⟨13, _⟩ => ⟨S4x4096x3x2048, .f32⟩
  | .hbm, ⟨14, _⟩ => ⟨S4x4096x1x1024, .f32⟩
  | .hbm, ⟨15, _⟩ => ⟨S4x4096x1x1024, .f32⟩
  | .hbm, ⟨16, _⟩ => ⟨S4x4096x1x1024, .f32⟩
  | .hbm, ⟨17, _⟩ => ⟨S4x4096x3x1024, .f32⟩
  | .hbm, ⟨18, _⟩ => ⟨S3x2048x4x4096, .f32⟩
  | .hbm, ⟨19, _⟩ => ⟨S4x4096x3x2048, .f32⟩
  | .hbm, ⟨20, _⟩ => ⟨S4x4096x2048, .f32⟩
  | .hbm, ⟨21, _⟩ => ⟨S16384x2048, .f32⟩
  | .hbm, ⟨22, _⟩ => ⟨S16384x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== OutProj.lean ====
abbrev S4x4096x2048 : Shape := ⟨3, ![4, 4096, 2048]⟩
abbrev S2048x2048 : Shape := ⟨2, ![2048, 2048]⟩
abbrev S4x12288 : Shape := ⟨2, ![4, 12288]⟩
abbrev S16384x2048 : Shape := ⟨2, ![16384, 2048]⟩
abbrev S_ : Shape := ⟨0, ![]⟩
abbrev S8x12288 : Shape := ⟨2, ![8, 12288]⟩
abbrev S8x6x1x2048 : Shape := ⟨4, ![8, 6, 1, 2048]⟩
abbrev S512x2048 : Shape := ⟨2, ![512, 2048]⟩
abbrev S1x1x1x2048 : Shape := ⟨4, ![1, 1, 1, 2048]⟩
abbrev S1x2048 : Shape := ⟨2, ![1, 2048]⟩

abbrev nBuf : Space → Nat
  | .hbm => 13
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S4x4096x2048, .f32⟩
  | .hbm, ⟨3, _⟩ => ⟨S4x12288, .f32⟩
  | .hbm, ⟨4, _⟩ => ⟨S16384x2048, .f32⟩
  | .hbm, ⟨5, _⟩ => ⟨S16384x2048, .bf16⟩
  | .hbm, ⟨6, _⟩ => ⟨S2048x2048, .bf16⟩
  | .hbm, ⟨7, _⟩ => ⟨S16384x2048, .f32⟩
  | .hbm, ⟨8, _⟩ => ⟨S_, .i32⟩
  | .hbm, ⟨9, _⟩ => ⟨S_, .f32⟩
  | .hbm, ⟨10, _⟩ => ⟨S8x12288, .f32⟩
  | .hbm, ⟨11, _⟩ => ⟨S8x6x1x2048, .f32⟩
  | .hbm, ⟨12, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S512x2048, .f32⟩
  | .local _ .vmem, ⟨8, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c0_i32_4 : BitVec 32 := 0#32
  let c0_i32_5 : BitVec 32 := 0#32
  ![v16.toNat, c2_i32.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjRefIdeal.lean ====
abbrev S4x4096x2048 : Shape := ⟨3, ![4, 4096, 2048]⟩
abbrev S2048x2048 : Shape := ⟨2, ![2048, 2048]⟩
abbrev S4x12288 : Shape := ⟨2, ![4, 12288]⟩
abbrev S4x2048 : Shape := ⟨2, ![4, 2048]⟩
abbrev S4x1x2048 : Shape := ⟨3, ![4, 1, 2048]⟩
abbrev S16384x2048 : Shape := ⟨2, ![16384, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S4x4096x2048, .f32⟩
  | .hbm, ⟨3, _⟩ => ⟨S4x12288, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x1x2048, .f32⟩
  | .hbm, ⟨11, _⟩ => ⟨S4x4096x2048, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== S5Post.lean ====
abbrev S4x4096x1024 : Shape := ⟨3, ![4, 4096, 1024]⟩
abbrev S1024 : Shape := ⟨1, ![1024]⟩
abbrev S1024x1024 : Shape := ⟨2, ![1024, 1024]⟩
abbrev S16384x1024 : Shape := ⟨2, ![16384, 1024]⟩
abbrev S_ : Shape := ⟨0, ![]⟩
abbrev S16384x11776 : Shape := ⟨2, ![16384, 11776]⟩
abbrev S1x1024 : Shape := ⟨2, ![1, 1024]⟩
abbrev S512x1024 : Shape := ⟨2, ![512, 1024]⟩

abbrev nBuf : Space → Nat
  | .hbm => 16
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S16384x1024, .f32⟩
  | .hbm, ⟨6, _⟩ => ⟨S16384x1024, .bf16⟩
  | .hbm, ⟨7, _⟩ => ⟨S16384x1024, .f32⟩
  | .hbm, ⟨8, _⟩ => ⟨S16384x1024, .bf16⟩
  | .hbm, ⟨9, _⟩ => ⟨S_, .i32⟩
  | .hbm, ⟨10, _⟩ => ⟨S_, .bf16⟩
  | .hbm, ⟨11, _⟩ => ⟨S16384x11776, .bf16⟩
  | .hbm, ⟨12, _⟩ => ⟨S1x1024, .f32⟩
  | .hbm, ⟨13, _⟩ => ⟨S1024x1024, .bf16⟩
  | .hbm, ⟨14, _⟩ => ⟨S1x1024, .f32⟩
  | .hbm, ⟨15, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1024x1024, .bf16⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== S5PostRefIdeal.lean ====
abbrev S4x4096x1024 : Shape := ⟨3, ![4, 4096, 1024]⟩
abbrev S1024 : Shape := ⟨1, ![1024]⟩
abbrev S1024x1024 : Shape := ⟨2, ![1024, 1024]⟩
abbrev S1x1x1024 : Shape := ⟨3, ![1, 1, 1024]⟩
abbrev S_ : Shape := ⟨0, ![]⟩
abbrev S16384x1024 : Shape := ⟨2, ![16384, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1x1x1024, .f32⟩
  | .hbm, ⟨6, _⟩ => ⟨S4x4096x1024, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S_, .f32⟩
  | .hbm, ⟨12, _⟩ => ⟨S4x4096x1024, .f32⟩
  | .hbm, ⟨13, _⟩ => ⟨S4x4096x1024, .f32⟩
  | .hbm, ⟨14, _⟩ => ⟨S4x4096x1024, .f32⟩
  | .hbm, ⟨15, _⟩ => ⟨S_, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S_, .f32⟩
  | .hbm, ⟨20, _⟩ => ⟨S4x4096x1024, .f32⟩
  | .hbm, ⟨21, _⟩ => ⟨S4x4096x1024, .f32⟩
  | .hbm, ⟨22, _⟩ => ⟨S_, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S1x1x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S_, .f32⟩
  | .hbm, ⟨33, _⟩ => ⟨S4x4096x1024, .f32⟩
  | .hbm, ⟨34, _⟩ => ⟨S4x4096x1024, .f32⟩
  | .hbm, ⟨35, _⟩ => ⟨S_, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S16384x1024, .f32⟩
  | .hbm, ⟨40, _⟩ => ⟨S16384x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Queries.lean ====
abbrev S4x4096x512 : Shape := ⟨3, ![4, 4096, 512]⟩
abbrev S512 : Shape := ⟨1, ![512]⟩
abbrev S512x1536 : Shape := ⟨2, ![512, 1536]⟩
abbrev S128 : Shape := ⟨1, ![128]⟩
abbrev S64 : Shape := ⟨1, ![64]⟩
abbrev S4096x32 : Shape := ⟨2, ![4096, 32]⟩
abbrev S512x8x192 : Shape := ⟨3, ![512, 8, 192]⟩
abbrev S_ : Shape := ⟨0, ![]⟩
abbrev S512x8x256 : Shape := ⟨3, ![512, 8, 256]⟩
abbrev S512x2048 : Shape := ⟨2, ![512, 2048]⟩
abbrev S16384x512 : Shape := ⟨2, ![16384, 512]⟩
abbrev S16384x11776 : Shape := ⟨2, ![16384, 11776]⟩
abbrev S1x512 : Shape := ⟨2, ![1, 512]⟩
abbrev S1x128 : Shape := ⟨2, ![1, 128]⟩
abbrev S1x64 : Shape := ⟨2, ![1, 64]⟩
abbrev S4096x64 : Shape := ⟨2, ![4096, 64]⟩
abbrev S4096x128 : Shape := ⟨2, ![4096, 128]⟩
abbrev S4x8x4096x256 : Shape := ⟨4, ![4, 8, 4096, 256]⟩
abbrev S512x512 : Shape := ⟨2, ![512, 512]⟩
abbrev S512x128 : Shape := ⟨2, ![512, 128]⟩
abbrev S1x8x512x256 : Shape := ⟨4, ![1, 8, 512, 256]⟩
abbrev S512x1 : Shape := ⟨2, ![512, 1]⟩
abbrev S1x1x512x128 : Shape := ⟨4, ![1, 1, 512, 128]⟩

abbrev nBuf : Space → Nat
  | .hbm => 30
  | .vmem => 12
  | .smem => 0
  | _ => 0

abbrev bufTy : (tb : Table) → Fin (tcTables nBuf tb) → BufTy
  | .hbm, ⟨0, _⟩ => ⟨S4x4096x512, .f32⟩
  | .hbm, ⟨1, _⟩ => ⟨S512, .f32⟩
  | .hbm, ⟨2, _⟩ => ⟨S512x1536, .f32⟩
  | .hbm, ⟨3, _⟩ => ⟨S128, .f32⟩
  | .hbm, ⟨4, _⟩ => ⟨S64, .f32⟩
  | .hbm, ⟨5, _⟩ => ⟨S4096x32, .f32⟩
  | .hbm, ⟨6, _⟩ => ⟨S4096x32, .f32⟩
  | .hbm, ⟨7, _⟩ => ⟨S512x8x192, .f32⟩
  | .hbm, ⟨8, _⟩ => ⟨S_, .i32⟩
  | .hbm, ⟨9, _⟩ => ⟨S_, .f32⟩
  | .hbm, ⟨10, _⟩ => ⟨S512x8x256, .f32⟩
  | .hbm, ⟨11, _⟩ => ⟨S512x2048, .f32⟩
  | .hbm, ⟨12, _⟩ => ⟨S512x2048, .bf16⟩
  | .hbm, ⟨13, _⟩ => ⟨S16384x512, .f32⟩
  | .hbm, ⟨14, _⟩ => ⟨S16384x512, .bf16⟩
  | .hbm, ⟨15, _⟩ => ⟨S_, .i32⟩
  | .hbm, ⟨16, _⟩ => ⟨S_, .bf16⟩
  | .hbm, ⟨17, _⟩ => ⟨S16384x11776, .bf16⟩
  | .hbm, ⟨18, _⟩ => ⟨S1x512, .f32⟩
  | .hbm, ⟨19, _⟩ => ⟨S1x128, .f32⟩
  | .hbm, ⟨20, _⟩ => ⟨S1x64, .f32⟩
  | .hbm, ⟨21, _⟩ => ⟨S_, .i32⟩
  | .hbm, ⟨22, _⟩ => ⟨S_, .f32⟩
  | .hbm, ⟨23, _⟩ => ⟨S1x128, .f32⟩
  | .hbm, ⟨24, _⟩ => ⟨S_, .f32⟩
  | .hbm, ⟨25, _⟩ => ⟨S4096x64, .f32⟩
  | .hbm, ⟨26, _⟩ => ⟨S4096x128, .f32⟩
  | .hbm, ⟨27, _⟩ => ⟨S4096x32, .f32⟩
  | .hbm, ⟨28, _⟩ => ⟨S4096x128, .f32⟩
  | .hbm, ⟨29, _⟩ => ⟨S4x8x4096x256, .bf16⟩
  | .local _ .vmem, ⟨0, _⟩ => ⟨S512x512, .bf16⟩
  | .local _ .vmem, ⟨1, _⟩ => ⟨S512x512, .bf16⟩
  | .local _ .vmem, ⟨2, _⟩ => ⟨S1x512, .f32⟩
  | .local _ .vmem, ⟨3, _⟩ => ⟨S512x2048, .bf16⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x8x512x256, .bf16⟩
  | .local _ .vmem, ⟨11, _⟩ => ⟨S1x8x512x256, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_call2_v0 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QueriesRefIdeal.lean ====
abbrev S4x4096x512 : Shape := ⟨3, ![4, 4096, 512]⟩
abbrev S512 : Shape := ⟨1, ![512]⟩
abbrev S512x1536 : Shape := ⟨2, ![512, 1536]⟩
abbrev S128 : Shape := ⟨1, ![128]⟩
abbrev S64 : Shape := ⟨1, ![64]⟩
abbrev S4096x32 : Shape := ⟨2, ![4096, 32]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S4x4096x1536 : Shape := ⟨3, ![4, 4096, 1536]⟩
abbrev S4x4096x8x192 : Shape := ⟨4, ![4, 4096, 8, 192]⟩
abbrev S4x4096x8x128 : Shape := ⟨4, ![4, 4096, 8, 128]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S4x4096x8x64 : Shape := ⟨4, ![4, 4096, 8, 64]⟩
abbrev S1x1x1x64 : Shape := ⟨4, ![1, 1, 1, 64]⟩
abbrev S1x4096x1x32 : Shape := ⟨4, ![1, 4096, 1, 32]⟩
abbrev S4x4096x8x32 : Shape := ⟨4, ![4, 4096, 8, 32]⟩
abbrev S4x8x4096x192 : Shape := ⟨4, ![4, 8, 4096, 192]⟩
abbrev S4x8x4096x256 : Shape := ⟨4, ![4, 8, 4096, 256]⟩

abbrev nBuf : Space → Nat
  | .hbm => 83
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S512, .f32⟩
  | .hbm, ⟨2, _⟩ => ⟨S512x1536, .f32⟩
  | .hbm, ⟨3, _⟩ => ⟨S128, .f32⟩
  | .hbm, ⟨4, _⟩ => ⟨S64, .f32⟩
  | .hbm, ⟨5, _⟩ => ⟨S4096x32, .f32⟩
  | .hbm, ⟨6, _⟩ => ⟨S4096x32, .f32⟩
  | .hbm, ⟨7, _⟩ => ⟨S4x4096x512, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x512, .f32⟩
  | .hbm, ⟨19, _⟩ => ⟨S4x4096x512, .f32⟩
  | .hbm, ⟨20, _⟩ => ⟨S1x1x512, .f32⟩
  | .hbm, ⟨21, _⟩ => ⟨S4x4096x512, .f32⟩
  | .hbm, ⟨22, _⟩ => ⟨S4x4096x512, .f32⟩
  | .hbm, ⟨23, _⟩ => ⟨S4x4096x1536, .f32⟩
  | .hbm, ⟨24, _⟩ => ⟨S4x4096x8x192, .f32⟩
  | .hbm, ⟨25, _⟩ => ⟨S4x4096x8x128, .f32⟩
  | .hbm, ⟨26, _⟩ => ⟨S4x4096x8x128, .f32⟩
  | .hbm, ⟨27, _⟩ => ⟨S_, .f32⟩
  | .hbm, ⟨28, _⟩ => ⟨S4x4096x8, .f32⟩
  | .hbm, ⟨29, _⟩ => ⟨S4x4096x8x1, .f32⟩
  | .hbm, ⟨30, _⟩ => ⟨S_, .f32⟩
  | .hbm, ⟨31, _⟩ => ⟨S4x4096x8x1, .f32⟩
  | .hbm, ⟨32, _⟩ => ⟨S4x4096x8x1, .f32⟩
  | .hbm, ⟨33, _⟩ => ⟨S_, .f32⟩
  | .hbm, ⟨34, _⟩ => ⟨S4x4096x8x1, .f32⟩
  | .hbm, ⟨35, _⟩ => ⟨S4x4096x8x1, .f32⟩
  | .hbm, ⟨36, _⟩ => ⟨S4x4096x8x1, .f32⟩
  | .hbm, ⟨37, _⟩ => ⟨S4x4096x8x128, .f32⟩
  | .hbm, ⟨38, _⟩ => ⟨S4x4096x8x128, .f32⟩
  | .hbm, ⟨39, _⟩ => ⟨S1x1x1x128, .f32⟩
  | .hbm, ⟨40, _⟩ => ⟨S4x4096x8x128, .f32⟩
  | .hbm, ⟨41, _⟩ => ⟨S4x4096x8x128, .f32⟩
  | .hbm, ⟨42, _⟩ => ⟨S4x4096x8x64, .f32⟩
  | .hbm, ⟨43, _⟩ => ⟨S4x4096x8x64, .f32⟩
  | .hbm, ⟨44, _⟩ => ⟨S_, .f32⟩
  | .hbm, ⟨45, _⟩ => ⟨S4x4096x8, .f32⟩
  | .hbm, ⟨46, _⟩ => ⟨S4x4096x8x1, .f32⟩
  | .hbm, ⟨47, _⟩ => ⟨S_, .f32⟩
  | .hbm, ⟨48, _⟩ => ⟨S4x4096x8x1, .f32⟩
  | .hbm, ⟨49, _⟩ => ⟨S4x4096x8x1, .f32⟩
  | .hbm, ⟨50, _⟩ => ⟨S_, .f32⟩
  | .hbm, ⟨51, _⟩ => ⟨S4x4096x8x1, .f32⟩
  | .hbm, ⟨52, _⟩ => ⟨S4x4096x8x1, .f32⟩
  | .hbm, ⟨53, _⟩ => ⟨S4x4096x8x1, .f32⟩
  | .hbm, ⟨54, _⟩ => ⟨S4x4096x8x64, .f32⟩
  | .hbm, ⟨55, _⟩ => ⟨S4x4096x8x64, .f32⟩
  | .hbm, ⟨56, _⟩ => ⟨S1x1x1x64, .f32⟩
  | .hbm, ⟨57, _⟩ => ⟨S4x4096x8x64, .f32⟩
  | .hbm, ⟨58, _⟩ => ⟨S4x4096x8x64, .f32⟩
  | .hbm, ⟨59, _⟩ => ⟨S1x4096x1x32, .f32⟩
  | .hbm, ⟨60, _⟩ => ⟨S1x4096x1x32, .f32⟩
  | .hbm, ⟨61, _⟩ => ⟨S4x4096x8x32, .f32⟩
  | .hbm, ⟨62, _⟩ => ⟨S4x4096x8x32, .f32⟩
  | .hbm, ⟨63, _⟩ => ⟨S4x4096x8x32, .f32⟩
  | .hbm, ⟨64, _⟩ => ⟨S4x4096x8x32, .f32⟩
  | .hbm, ⟨65, _⟩ => ⟨S4x4096x8x32, .f32⟩
  | .hbm, ⟨66, _⟩ => ⟨S4x4096x8x32, .f32⟩
  | .hbm, ⟨67, _⟩ => ⟨S4x4096x8x32, .f32⟩
  | .hbm, ⟨68, _⟩ => ⟨S4x4096x8x32, .f32⟩
  | .hbm, ⟨69, _⟩ => ⟨S4x4096x8x32, .f32⟩
  | .hbm, ⟨70, _⟩ => ⟨S4x4096x8x32, .f32⟩
  | .hbm, ⟨71, _⟩ => ⟨S4x4096x8x32, .f32⟩
  | .hbm, ⟨72, _⟩ => ⟨S4x4096x8x32, .f32⟩
  | .hbm, ⟨73, _⟩ => ⟨S4x4096x8x64, .f32⟩
  | .hbm, ⟨74, _⟩ => ⟨S4x4096x8x192, .f32⟩
  | .hbm, ⟨75, _⟩ => ⟨S_, .f32⟩
  | .hbm, ⟨76, _⟩ => ⟨S4x4096x8x192, .f32⟩
  | .hbm, ⟨77, _⟩ => ⟨S4x4096x8x192, .f32⟩
  | .hbm, ⟨78, _⟩ => ⟨S4x8x4096x192, .f32⟩
  | .hbm, ⟨79, _⟩ => ⟨S_, .i32⟩
  | .hbm, ⟨80, _⟩ => ⟨S_, .f32⟩
  | .hbm, ⟨81, _⟩ => ⟨S4x8x4096x256, .f32⟩
  | .hbm, ⟨82, _⟩ => ⟨S4x8x4096x256, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_c : Ref sig .tc := ⟨.hbm, 79, rfl⟩
abbrev main_call0_v0 : Ref sig .tc := ⟨.hbm, 80, rfl⟩
abbrev main_v62 : Ref sig .tc := ⟨.hbm, 81, rfl⟩
abbrev main_v63 : Ref sig .tc := ⟨.hbm, 82, rfl⟩

abbrev nD : Nat := 1
abbrev τ : Topo := Topo.v7x

variable {F : FTy → Type} [FloatOps F]
-- ==== KeysValues.lean ====
abbrev S4x4096x512 : Shape := ⟨3, ![4, 4096, 512]⟩
abbrev S4x4096x64 : Shape := ⟨3, ![4, 4096, 64]⟩
abbrev S512 : Shape := ⟨1, ![512]⟩
abbrev S512x2048 : Shape := ⟨2, ![512, 2048]⟩
abbrev S128 : Shape := ⟨1, ![128]⟩
abbrev S64 : Shape := ⟨1, ![64]⟩
abbrev S4096x32 : Shape := ⟨2, ![4096, 32]⟩
abbrev S4x4096x576 : Shape := ⟨3, ![4, 4096, 576]⟩
abbrev S16384x576 : Shape := ⟨2, ![16384, 576]⟩
abbrev S_ : Shape := ⟨0, ![]⟩
abbrev S16384x11776 : Shape := ⟨2, ![16384, 11776]⟩
abbrev S1x512 : Shape := ⟨2, ![1, 512]⟩
abbrev S1x128 : Shape := ⟨2, ![1, 128]⟩
abbrev S1x64 : Shape := ⟨2, ![1, 64]⟩
abbrev S4096x64 : Shape := ⟨2, ![4096, 64]⟩
abbrev S4096x128 : Shape := ⟨2, ![4096, 128]⟩
abbrev S4x8x4096x256 : Shape := ⟨4, ![4, 8, 4096, 256]⟩
abbrev S512x512 : Shape := ⟨2, ![512, 512]⟩
abbrev S512x128 : Shape := ⟨2, ![512, 128]⟩
abbrev S1x8x512x256 : Shape := ⟨4, ![1, 8, 512, 256]⟩
abbrev S512x1 : Shape := ⟨2, ![512, 1]⟩
abbrev S1x1x512x128 : Shape := ⟨4, ![1, 1, 512, 128]⟩

abbrev nBuf : Space → Nat
  | .hbm => 28
  | .vmem => 16
  | .smem => 0
  | _ => 0

abbrev bufTy : (tb : Table) → Fin (tcTables nBuf tb) → BufTy
  | .hbm, ⟨0, _⟩ => ⟨S4x4096x512, .f32⟩
  | .hbm, ⟨1, _⟩ => ⟨S4x4096x64, .f32⟩
  | .hbm, ⟨2, _⟩ => ⟨S512, .f32⟩
  | .hbm, ⟨3, _⟩ => ⟨S512x2048, .f32⟩
  | .hbm, ⟨4, _⟩ => ⟨S128, .f32⟩
  | .hbm, ⟨5, _⟩ => ⟨S64, .f32⟩
  | .hbm, ⟨6, _⟩ => ⟨S4096x32, .f32⟩
  | .hbm, ⟨7, _⟩ => ⟨S4096x32, .f32⟩
  | .hbm, ⟨8, _⟩ => ⟨S4x4096x576, .f32⟩
  | .hbm, ⟨9, _⟩ => ⟨S16384x576, .f32⟩
  | .hbm, ⟨10, _⟩ => ⟨S16384x576, .bf16⟩
  | .hbm, ⟨11, _⟩ => ⟨S_, .i32⟩
  | .hbm, ⟨12, _⟩ => ⟨S_, .bf16⟩
  | .hbm, ⟨13, _⟩ => ⟨S16384x11776, .bf16⟩
  | .hbm, ⟨14, _⟩ => ⟨S1x512, .f32⟩
  | .hbm, ⟨15, _⟩ => ⟨S512x2048, .bf16⟩
  | .hbm, ⟨16, _⟩ => ⟨S1x128, .f32⟩
  | .hbm, ⟨17, _⟩ => ⟨S1x64, .f32⟩
  | .hbm, ⟨18, _⟩ => ⟨S_, .i32⟩
  | .hbm, ⟨19, _⟩ => ⟨S_, .f32⟩
  | .hbm, ⟨20, _⟩ => ⟨S1x128, .f32⟩
  | .hbm, ⟨21, _⟩ => ⟨S_, .f32⟩
  | .hbm, ⟨22, _⟩ => ⟨S4096x64, .f32⟩
  | .hbm, ⟨23, _⟩ => ⟨S4096x128, .f32⟩
  | .hbm, ⟨24, _⟩ => ⟨S4096x32, .f32⟩
  | .hbm, ⟨25, _⟩ => ⟨S4096x128, .f32⟩
  | .hbm, ⟨26, _⟩ => ⟨S4x8x4096x256, .bf16⟩
  | .hbm, ⟨27, _⟩ => ⟨S4x8x4096x256, .bf16⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S1x512, .f32⟩
  | .local _ .vmem, ⟨5, _⟩ => ⟨S512x2048, .bf16⟩
  | .local _ .vmem, ⟨6, _⟩ => ⟨S1x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x8x512x256, .bf16⟩
  | .local _ .vmem, ⟨13, _⟩ => ⟨S1x8x512x256, .bf16⟩
  | .local _ .vmem, ⟨14, _⟩ => ⟨S1x8x512x256, .bf16⟩
  | .local _ .vmem, ⟨15, _⟩ => ⟨S1x8x512x256, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_call1_v0 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_1 (i : grid0.Coords) : Fin 2 → Nat :=
  let arg0 : BitVec 32 := BitVec.ofNat 32 (i 0).val
  let c88_i32 : BitVec 32 := 88#32
  let c0_i32 : BitVec 32 := 0#32
  ![arg0.toNat, c88_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KeysValuesRefIdeal.lean ====
abbrev S4x4096x512 : Shape := ⟨3, ![4, 4096, 512]⟩
abbrev S4x4096x64 : Shape := ⟨3, ![4, 4096, 64]⟩
abbrev S512 : Shape := ⟨1, ![512]⟩
abbrev S512x2048 : Shape := ⟨2, ![512, 2048]⟩
abbrev S128 : Shape := ⟨1, ![128]⟩
abbrev S64 : Shape := ⟨1, ![64]⟩
abbrev S4096x32 : Shape := ⟨2, ![4096, 32]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S4x4096x2048 : Shape := ⟨3, ![4, 4096, 2048]⟩
abbrev S4x4096x8x256 : Shape := ⟨4, ![4, 4096, 8, 256]⟩
abbrev S1x1x64 : Shape := ⟨3, ![1, 1, 64]⟩
abbrev S4x4096x1x64 : Shape := ⟨4, ![4, 4096, 1, 64]⟩
abbrev S1x4096x1x32 : Shape := ⟨4, ![1, 4096, 1, 32]⟩
abbrev S4x4096x1x32 : Shape := ⟨4, ![4, 4096, 1, 32]⟩
abbrev S4x4096x8x128 : Shape := ⟨4, ![4, 4096, 8, 128]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S4x4096x8x64 : Shape := ⟨4, ![4, 4096, 8, 64]⟩
abbrev S4x4096x8x192 : Shape := ⟨4, ![4, 4096, 8, 192]⟩
abbrev S4x4096x8x129 : Shape := ⟨4, ![4, 4096, 8, 129]⟩
abbrev S4x8x4096x192 : Shape := ⟨4, ![4, 8, 4096, 192]⟩
abbrev S4x8x4096x256 : Shape := ⟨4, ![4, 8, 4096, 256]⟩
abbrev S4x8x4096x129 : Shape := ⟨4, ![4, 8, 4096, 129]⟩

abbrev nBuf : Space → Nat
  | .hbm => 91
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x64, .f32⟩
  | .hbm, ⟨2, _⟩ => ⟨S512, .f32⟩
  | .hbm, ⟨3, _⟩ => ⟨S512x2048, .f32⟩
  | .hbm, ⟨4, _⟩ => ⟨S128, .f32⟩
  | .hbm, ⟨5, _⟩ => ⟨S64, .f32⟩
  | .hbm, ⟨6, _⟩ => ⟨S4096x32, .f32⟩
  | .hbm, ⟨7, _⟩ => ⟨S4096x32, .f32⟩
  | .hbm, ⟨8, _⟩ => ⟨S4x4096x512, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x512, .f32⟩
  | .hbm, ⟨20, _⟩ => ⟨S4x4096x512, .f32⟩
  | .hbm, ⟨21, _⟩ => ⟨S1x1x512, .f32⟩
  | .hbm, ⟨22, _⟩ => ⟨S4x4096x512, .f32⟩
  | .hbm, ⟨23, _⟩ => ⟨S4x4096x512, .f32⟩
  | .hbm, ⟨24, _⟩ => ⟨S4x4096x2048, .f32⟩
  | .hbm, ⟨25, _⟩ => ⟨S4x4096x8x256, .f32⟩
  | .hbm, ⟨26, _⟩ => ⟨S4x4096x64, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S_, .f32⟩
  | .hbm, ⟨31, _⟩ => ⟨S4x4096x1, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S4x4096x1, .f32⟩
  | .hbm, ⟨37, _⟩ => ⟨S4x4096x64, .f32⟩
  | .hbm, ⟨38, _⟩ => ⟨S4x4096x64, .f32⟩
  | .hbm, ⟨39, _⟩ => ⟨S1x1x64, .f32⟩
  | .hbm, ⟨40, _⟩ => ⟨S4x4096x64, .f32⟩
  | .hbm, ⟨41, _⟩ => ⟨S4x4096x64, .f32⟩
  | .hbm, ⟨42, _⟩ => ⟨S4x4096x1x64, .f32⟩
  | .hbm, ⟨43, _⟩ => ⟨S1x4096x1x32, .f32⟩
  | .hbm, ⟨44, _⟩ => ⟨S1x4096x1x32, .f32⟩
  | .hbm, ⟨45, _⟩ => ⟨S4x4096x1x32, .f32⟩
  | .hbm, ⟨46, _⟩ => ⟨S4x4096x1x32, .f32⟩
  | .hbm, ⟨47, _⟩ => ⟨S4x4096x1x32, .f32⟩
  | .hbm, ⟨48, _⟩ => ⟨S4x4096x1x32, .f32⟩
  | .hbm, ⟨49, _⟩ => ⟨S4x4096x1x32, .f32⟩
  | .hbm, ⟨50, _⟩ => ⟨S4x4096x1x32, .f32⟩
  | .hbm, ⟨51, _⟩ => ⟨S4x4096x1x32, .f32⟩
  | .hbm, ⟨52, _⟩ => ⟨S4x4096x1x32, .f32⟩
  | .hbm, ⟨53, _⟩ => ⟨S4x4096x1x32, .f32⟩
  | .hbm, ⟨54, _⟩ => ⟨S4x4096x1x32, .f32⟩
  | .hbm, ⟨55, _⟩ => ⟨S4x4096x1x32, .f32⟩
  | .hbm, ⟨56, _⟩ => ⟨S4x4096x1x32, .f32⟩
  | .hbm, ⟨57, _⟩ => ⟨S4x4096x1x64, .f32⟩
  | .hbm, ⟨58, _⟩ => ⟨S4x4096x8x128, .f32⟩
  | .hbm, ⟨59, _⟩ => ⟨S4x4096x8x128, .f32⟩
  | .hbm, ⟨60, _⟩ => ⟨S_, .f32⟩
  | .hbm, ⟨61, _⟩ => ⟨S4x4096x8, .f32⟩
  | .hbm, ⟨62, _⟩ => ⟨S4x4096x8x1, .f32⟩
  | .hbm, ⟨63, _⟩ => ⟨S_, .f32⟩
  | .hbm, ⟨64, _⟩ => ⟨S4x4096x8x1, .f32⟩
  | .hbm, ⟨65, _⟩ => ⟨S4x4096x8x1, .f32⟩
  | .hbm, ⟨66, _⟩ => ⟨S_, .f32⟩
  | .hbm, ⟨67, _⟩ => ⟨S4x4096x8x1, .f32⟩
  | .hbm, ⟨68, _⟩ => ⟨S4x4096x8x1, .f32⟩
  | .hbm, ⟨69, _⟩ => ⟨S4x4096x8x1, .f32⟩
  | .hbm, ⟨70, _⟩ => ⟨S4x4096x8x128, .f32⟩
  | .hbm, ⟨71, _⟩ => ⟨S4x4096x8x128, .f32⟩
  | .hbm, ⟨72, _⟩ => ⟨S1x1x1x128, .f32⟩
  | .hbm, ⟨73, _⟩ => ⟨S4x4096x8x128, .f32⟩
  | .hbm, ⟨74, _⟩ => ⟨S4x4096x8x128, .f32⟩
  | .hbm, ⟨75, _⟩ => ⟨S4x4096x8x64, .f32⟩
  | .hbm, ⟨76, _⟩ => ⟨S4x4096x8x192, .f32⟩
  | .hbm, ⟨77, _⟩ => ⟨S4x4096x8x128, .f32⟩
  | .hbm, ⟨78, _⟩ => ⟨S_, .f32⟩
  | .hbm, ⟨79, _⟩ => ⟨S4x4096x8x1, .f32⟩
  | .hbm, ⟨80, _⟩ => ⟨S4x4096x8x129, .f32⟩
  | .hbm, ⟨81, _⟩ => ⟨S4x8x4096x192, .f32⟩
  | .hbm, ⟨82, _⟩ => ⟨S_, .i32⟩
  | .hbm, ⟨83, _⟩ => ⟨S_, .f32⟩
  | .hbm, ⟨84, _⟩ => ⟨S4x8x4096x256, .f32⟩
  | .hbm, ⟨85, _⟩ => ⟨S4x8x4096x256, .bf16⟩
  | .hbm, ⟨86, _⟩ => ⟨S4x8x4096x129, .f32⟩
  | .hbm, ⟨87, _⟩ => ⟨S_, .i32⟩
  | .hbm, ⟨88, _⟩ => ⟨S_, .f32⟩
  | .hbm, ⟨89, _⟩ => ⟨S4x8x4096x256, .f32⟩
  | .hbm, ⟨90, _⟩ => ⟨S4x8x4096x256, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_8 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_c : Ref sig .tc := ⟨.hbm, 82, rfl⟩
abbrev main_call0_v0 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_c_9 : Ref sig .tc := ⟨.hbm, 87, rfl⟩
abbrev main_call1_v0 : Ref sig .tc := ⟨.hbm, 88, rfl⟩
abbrev main_v67 : Ref sig .tc := ⟨.hbm, 89, rfl⟩
abbrev main_v68 : Ref sig .tc := ⟨.hbm, 90, rfl⟩

abbrev nD : Nat := 1
abbrev τ : Topo := Topo.v7x

variable {F : FTy → Type} [FloatOps F]
-- ==== InCtx.lean ====
abbrev S4x256x2048 : Shape := ⟨3, ![4, 256, 2048]⟩
abbrev S12288 : Shape := ⟨1, ![12288]⟩
abbrev S2048 : Shape := ⟨1, ![2048]⟩
abbrev S2048x11744 : Shape := ⟨2, ![2048, 11744]⟩
abbrev S2048x3072 : Shape := ⟨2, ![2048, 3072]⟩
abbrev S2048x1024 : Shape := ⟨2, ![2048, 1024]⟩
abbrev S2048x6144 : Shape := ⟨2, ![2048, 6144]⟩
abbrev S2048x64 : Shape := ⟨2, ![2048, 64]⟩
abbrev S2048x416 : Shape := ⟨2, ![2048, 416]⟩
abbrev S_ : Shape := ⟨0, ![]⟩
abbrev S2048x32 : Shape := ⟨2, ![2048, 32]⟩
abbrev S2048x11776 : Shape := ⟨2, ![2048, 11776]⟩
abbrev S1024x2048 : Shape := ⟨2, ![1024, 2048]⟩
abbrev S1x2048 : Shape := ⟨2, ![1, 2048]⟩
abbrev S1x12288 : Shape := ⟨2, ![1, 12288]⟩
abbrev S8x12288 : Shape := ⟨2, ![8, 12288]⟩
abbrev S8x6x1x2048 : Shape := ⟨4, ![8, 6, 1, 2048]⟩
abbrev S1024x11776 : Shape := ⟨2, ![1024, 11776]⟩
abbrev S1x1x1x2048 : Shape := ⟨4, ![1, 1, 1, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 22
  | .vmem => 9
  | .smem => 0
  | _ => 0

abbrev bufTy : (tb : Table) → Fin (tcTables nBuf tb) → BufTy
  | .hbm, ⟨0, _⟩ => ⟨S4x256x2048, .f32⟩
  | .hbm, ⟨1, _⟩ => ⟨S12288, .f32⟩
  | .hbm, ⟨2, _⟩ => ⟨S2048, .f32⟩
  | .hbm, ⟨3, _⟩ => ⟨S2048x11744, .f32⟩
  | .hbm, ⟨4, _⟩ => ⟨S2048x3072, .f32⟩
  | .hbm, ⟨5, _⟩ => ⟨S2048x1024, .f32⟩
  | .hbm, ⟨6, _⟩ => ⟨S2048x6144, .f32⟩
  | .hbm, ⟨7, _⟩ => ⟨S2048x1024, .f32⟩
  | .hbm, ⟨8, _⟩ => ⟨S2048x64, .f32⟩
  | .hbm, ⟨9, _⟩ => ⟨S2048x416, .f32⟩
  | .hbm, ⟨10, _⟩ => ⟨S_, .f32⟩
  | .hbm, ⟨11, _⟩ => ⟨S2048x32, .f32⟩
  | .hbm, ⟨12, _⟩ => ⟨S2048x11776, .f32⟩
  | .hbm, ⟨13, _⟩ => ⟨S2048x11776, .bf16⟩
  | .hbm, ⟨14, _⟩ => ⟨S1024x2048, .f32⟩
  | .hbm, ⟨15, _⟩ => ⟨S1x2048, .f32⟩
  | .hbm, ⟨16, _⟩ => ⟨S1x12288, .f32⟩
  | .hbm, ⟨17, _⟩ => ⟨S_, .i32⟩
  | .hbm, ⟨18, _⟩ => ⟨S_, .f32⟩
  | .hbm, ⟨19, _⟩ => ⟨S8x12288, .f32⟩
  | .hbm, ⟨20, _⟩ => ⟨S8x6x1x2048, .f32⟩
  | .hbm, ⟨21, _⟩ => ⟨S1024x11776, .bf16⟩
  | .local _ .vmem, ⟨0, _⟩ => ⟨S1024x2048, .f32⟩
  | .local _ .vmem, ⟨1, _⟩ => ⟨S1x2048, .f32⟩
  | .local _ .vmem, ⟨2, _⟩ => ⟨S1x1x1x2048, .f32⟩
  | .local _ .vmem, ⟨3, _⟩ => ⟨S1x1x1x2048, .f32⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![1, 23], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  let c0_i32_2 : BitVec 32 := 0#32
  ![c4_i32.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let c1_i32 : BitVec 32 := 1#32
  let c0_i32 : BitVec 32 := 0#32
  let c0_i32_0 : BitVec 32 := 0#32
  let c0_i32_1 : BitVec 32 := 0#32
  ![c4_i32.toNat, c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InCtxRefIdeal.lean ====
abbrev S4x256x2048 : Shape := ⟨3, ![4, 256, 2048]⟩
abbrev S12288 : Shape := ⟨1, ![12288]⟩
abbrev S2048 : Shape := ⟨1, ![2048]⟩
abbrev S2048x11744 : Shape := ⟨2, ![2048, 11744]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S4x256x11744 : Shape := ⟨3, ![4, 256, 11744]⟩
abbrev S4x256x1024 : Shape := ⟨3, ![4, 256, 1024]⟩
abbrev S4x256x64 : Shape := ⟨3, ![4, 256, 64]⟩
abbrev S4x256x3072 : Shape := ⟨3, ![4, 256, 3072]⟩
abbrev S4x256x416 : Shape := ⟨3, ![4, 256, 416]⟩
abbrev S4x256x6144 : Shape := ⟨3, ![4, 256, 6144]⟩
abbrev S4x256x32 : Shape := ⟨3, ![4, 256, 32]⟩
abbrev S4x256x11776 : Shape := ⟨3, ![4, 256, 11776]⟩
abbrev S1024x11776 : Shape := ⟨2, ![1024, 11776]⟩

abbrev nBuf : Space → Nat
  | .hbm => 47
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S12288, .f32⟩
  | .hbm, ⟨2, _⟩ => ⟨S2048, .f32⟩
  | .hbm, ⟨3, _⟩ => ⟨S2048x11744, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S4x256x2048, .f32⟩
  | .hbm, ⟨11, _⟩ => ⟨S_, .f32⟩
  | .hbm, ⟨12, _⟩ => ⟨S4x256, .f32⟩
  | .hbm, ⟨13, _⟩ => ⟨S4x256x1, .f32⟩
  | .hbm, ⟨14, _⟩ => ⟨S_, .f32⟩
  | .hbm, ⟨15, _⟩ => ⟨S4x256x1, .f32⟩
  | .hbm, ⟨16, _⟩ => ⟨S4x256x1, .f32⟩
  | .hbm, ⟨17, _⟩ => ⟨S_, .f32⟩
  | .hbm, ⟨18, _⟩ => ⟨S4x256x1, .f32⟩
  | .hbm, ⟨19, _⟩ => ⟨S4x256x1, .f32⟩
  | .hbm, ⟨20, _⟩ => ⟨S4x256x1, .f32⟩
  | .hbm, ⟨21, _⟩ => ⟨S4x256x2048, .f32⟩
  | .hbm, ⟨22, _⟩ => ⟨S4x256x2048, .f32⟩
  | .hbm, ⟨23, _⟩ => ⟨S1x1x2048, .f32⟩
  | .hbm, ⟨24, _⟩ => ⟨S4x256x2048, .f32⟩
  | .hbm, ⟨25, _⟩ => ⟨S4x256x2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S1x1x2048, .f32⟩
  | .hbm, ⟨30, _⟩ => ⟨S4x256x2048, .f32⟩
  | .hbm, ⟨31, _⟩ => ⟨S4x256x2048, .f32⟩
  | .hbm, ⟨32, _⟩ => ⟨S1x1x2048, .f32⟩
  | .hbm, ⟨33, _⟩ => ⟨S4x256x2048, .f32⟩
  | .hbm, ⟨34, _⟩ => ⟨S4x256x2048, .f32⟩
  | .hbm, ⟨35, _⟩ => ⟨S4x256x11744, .f32⟩
  | .hbm, ⟨36, _⟩ => ⟨S4x256x1024, .f32⟩
  | .hbm, ⟨37, _⟩ => ⟨S4x256x64, .f32⟩
  | .hbm, ⟨38, _⟩ => ⟨S4x256x3072, .f32⟩
  | .hbm, ⟨39, _⟩ => ⟨S4x256x416, .f32⟩
  | .hbm, ⟨40, _⟩ => ⟨S4x256x1024, .f32⟩
  | .hbm, ⟨41, _⟩ => ⟨S4x256x6144, .f32⟩
  | .hbm, ⟨42, _⟩ => ⟨S_, .f32⟩
  | .hbm, ⟨43, _⟩ => ⟨S4x256x32, .f32⟩
  | .hbm, ⟨44, _⟩ => ⟨S4x256x11776, .f32⟩
  | .hbm, ⟨45, _⟩ => ⟨S1024x11776, .f32⟩
  | .hbm, ⟨46, _⟩ => ⟨S1024x11776, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]
-- ==== MergeCtx.lean ====
abbrev S4x256x1024 : Shape := ⟨3, ![4, 256, 1024]⟩
abbrev S4x256x6144 : Shape := ⟨3, ![4, 256, 6144]⟩
abbrev S3x1024x2048 : Shape := ⟨3, ![3, 1024, 2048]⟩
abbrev S1024x6144 : Shape := ⟨2, ![1024, 6144]⟩
abbrev S_ : Shape := ⟨0, ![]⟩
abbrev S1024x11776 : Shape := ⟨2, ![1024, 11776]⟩
abbrev S1024x1024 : Shape := ⟨2, ![1024, 1024]⟩
abbrev S1024x2048 : Shape := ⟨2, ![1024, 2048]⟩
abbrev S1024x512 : Shape := ⟨2, ![1024, 512]⟩
abbrev S3x1024x512 : Shape := ⟨3, ![3, 1024, 512]⟩
abbrev S1x1024x512 : Shape := ⟨3, ![1, 1024, 512]⟩

abbrev nBuf : Space → Nat
  | .hbm => 18
  | .vmem => 13
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x6144, .f32⟩
  | .hbm, ⟨4, _⟩ => ⟨S3x1024x2048, .f32⟩
  | .hbm, ⟨5, _⟩ => ⟨S1024x6144, .f32⟩
  | .hbm, ⟨6, _⟩ => ⟨S1024x6144, .bf16⟩
  | .hbm, ⟨7, _⟩ => ⟨S_, .i32⟩
  | .hbm, ⟨8, _⟩ => ⟨S_, .bf16⟩
  | .hbm, ⟨9, _⟩ => ⟨S1024x11776, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S3x1024x2048, .bf16⟩
  | .hbm, ⟨17, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S3x1024x512, .bf16⟩
  | .local _ .vmem, ⟨10, _⟩ => ⟨S3x1024x512, .bf16⟩
  | .local _ .vmem, ⟨11, _⟩ => ⟨S1024x512, .bf16⟩
  | .local _ .vmem, ⟨12, _⟩ => ⟨S1024x512, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeCtxRefIdeal.lean ====
abbrev S4x256x1024 : Shape := ⟨3, ![4, 256, 1024]⟩
abbrev S4x256x6144 : Shape := ⟨3, ![4, 256, 6144]⟩
abbrev S3x1024x2048 : Shape := ⟨3, ![3, 1024, 2048]⟩
abbrev S_ : Shape := ⟨0, ![]⟩
abbrev S4x256x3x2048 : Shape := ⟨4, ![4, 256, 3, 2048]⟩
abbrev S4x256x1x1024 : Shape := ⟨4, ![4, 256, 1, 1024]⟩
abbrev S4x256x3x1024 : Shape := ⟨4, ![4, 256, 3, 1024]⟩
abbrev S3x2048x4x256 : Shape := ⟨4, ![3, 2048, 4, 256]⟩
abbrev S4x256x2048 : Shape := ⟨3, ![4, 256, 2048]⟩
abbrev S1024x2048 : Shape := ⟨2, ![1024, 2048]⟩

abbrev nBuf : Space → Nat
  | .hbm => 23
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x6144, .f32⟩
  | .hbm, ⟨4, _⟩ => ⟨S3x1024x2048, .f32⟩
  | .hbm, ⟨5, _⟩ => ⟨S4x256x6144, .f32⟩
  | .hbm, ⟨6, _⟩ => ⟨S4x256x6144, .f32⟩
  | .hbm, ⟨7, _⟩ => ⟨S_, .f32⟩
  | .hbm, ⟨8, _⟩ => ⟨S4x256x6144, .f32⟩
  | .hbm, ⟨9, _⟩ => ⟨S4x256x6144, .f32⟩
  | .hbm, ⟨10, _⟩ => ⟨S_, .f32⟩
  | .hbm, ⟨11, _⟩ => ⟨S4x256x6144, .f32⟩
  | .hbm, ⟨12, _⟩ => ⟨S4x256x6144, .f32⟩
  | .hbm, ⟨13, _⟩ => ⟨S4x256x3x2048, .f32⟩
  | .hbm, ⟨14, _⟩ => ⟨S4x256x1x1024, .f32⟩
  | .hbm, ⟨15, _⟩ => ⟨S4x256x1x1024, .f32⟩
  | .hbm, ⟨16, _⟩ => ⟨S4x256x1x1024, .f32⟩
  | .hbm, ⟨17, _⟩ => ⟨S4x256x3x1024, .f32⟩
  | .hbm, ⟨18, _⟩ => ⟨S3x2048x4x256, .f32⟩
  | .hbm, ⟨19, _⟩ => ⟨S4x256x3x2048, .f32⟩
  | .hbm, ⟨20, _⟩ => ⟨S4x256x2048, .f32⟩
  | .hbm, ⟨21, _⟩ => ⟨S1024x2048, .f32⟩
  | .hbm, ⟨22, _⟩ => ⟨S1024x2048, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== OutCtx.lean ====
abbrev S4x256x2048 : Shape := ⟨3, ![4, 256, 2048]⟩
abbrev S2048x2048 : Shape := ⟨2, ![2048, 2048]⟩
abbrev S12288 : Shape := ⟨1, ![12288]⟩
abbrev S1024x2048 : Shape := ⟨2, ![1024, 2048]⟩
abbrev S1x12288 : Shape := ⟨2, ![1, 12288]⟩
abbrev S_ : Shape := ⟨0, ![]⟩
abbrev S8x12288 : Shape := ⟨2, ![8, 12288]⟩
abbrev S8x6x1x2048 : Shape := ⟨4, ![8, 6, 1, 2048]⟩
abbrev S512x2048 : Shape := ⟨2, ![512, 2048]⟩
abbrev S1x1x1x2048 : Shape := ⟨4, ![1, 1, 1, 2048]⟩
abbrev S1x2048 : Shape := ⟨2, ![1, 2048]⟩

abbrev nBuf : Space → Nat
  | .hbm => 14
  | .vmem => 8
  | .smem => 0
  | _ => 0

abbrev bufTy : (tb : Table) → Fin (tcTables nBuf tb) → BufTy
  | .hbm, ⟨0, _⟩ => ⟨S4x256x2048, .f32⟩
  | .hbm, ⟨1, _⟩ => ⟨S2048x2048, .f32⟩
  | .hbm, ⟨2, _⟩ => ⟨S4x256x2048, .f32⟩
  | .hbm, ⟨3, _⟩ => ⟨S12288, .f32⟩
  | .hbm, ⟨4, _⟩ => ⟨S1024x2048, .f32⟩
  | .hbm, ⟨5, _⟩ => ⟨S1024x2048, .bf16⟩
  | .hbm, ⟨6, _⟩ => ⟨S2048x2048, .bf16⟩
  | .hbm, ⟨7, _⟩ => ⟨S1024x2048, .f32⟩
  | .hbm, ⟨8, _⟩ => ⟨S1x12288, .f32⟩
  | .hbm, ⟨9, _⟩ => ⟨S_, .i32⟩
  | .hbm, ⟨10, _⟩ => ⟨S_, .f32⟩
  | .hbm, ⟨11, _⟩ => ⟨S8x12288, .f32⟩
  | .hbm, ⟨12, _⟩ => ⟨S8x6x1x2048, .f32⟩
  | .hbm, ⟨13, _⟩ => ⟨S1024x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x1x2048, .f32⟩
  | .local _ .vmem, ⟨6, _⟩ => ⟨S512x2048, .f32⟩
  | .local _ .vmem, ⟨7, _⟩ => ⟨S512x2048, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let c2_i32 : BitVec 32 := 2#32
  let c0_i32 : BitVec 32 := 0#32
  let c0_i32_0 : BitVec 32 := 0#32
  ![c4_i32.toNat, c2_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutCtxRefIdeal.lean ====
abbrev S4x256x2048 : Shape := ⟨3, ![4, 256, 2048]⟩
abbrev S2048x2048 : Shape := ⟨2, ![2048, 2048]⟩
abbrev S12288 : Shape := ⟨1, ![12288]⟩
abbrev S2048 : Shape := ⟨1, ![2048]⟩
abbrev S1x1x2048 : Shape := ⟨3, ![1, 1, 2048]⟩
abbrev S1024x2048 : Shape := ⟨2, ![1024, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S2048x2048, .f32⟩
  | .hbm, ⟨2, _⟩ => ⟨S4x256x2048, .f32⟩
  | .hbm, ⟨3, _⟩ => ⟨S12288, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S4x256x2048, .f32⟩
  | .hbm, ⟨11, _⟩ => ⟨S1x1x2048, .f32⟩
  | .hbm, ⟨12, _⟩ => ⟨S4x256x2048, .f32⟩
  | .hbm, ⟨13, _⟩ => ⟨S4x256x2048, .f32⟩
  | .hbm, ⟨14, _⟩ => ⟨S4x256x2048, .f32⟩
  | .hbm, ⟨15, _⟩ => ⟨S1024x2048, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== MlpCtx.lean ====
abbrev S4x256x2048 : Shape := ⟨3, ![4, 256, 2048]⟩
abbrev S12288 : Shape := ⟨1, ![12288]⟩
abbrev S2048 : Shape := ⟨1, ![2048]⟩
abbrev S2048x8192 : Shape := ⟨2, ![2048, 8192]⟩
abbrev S8192x2048 : Shape := ⟨2, ![8192, 2048]⟩
abbrev S1024x2048 : Shape := ⟨2, ![1024, 2048]⟩
abbrev S1x2048 : Shape := ⟨2, ![1, 2048]⟩
abbrev S1x12288 : Shape := ⟨2, ![1, 12288]⟩
abbrev S_ : Shape := ⟨0, ![]⟩
abbrev S8x12288 : Shape := ⟨2, ![8, 12288]⟩
abbrev S8x6x1x2048 : Shape := ⟨4, ![8, 6, 1, 2048]⟩
abbrev S512x2048 : Shape := ⟨2, ![512, 2048]⟩
abbrev S1x1x1x2048 : Shape := ⟨4, ![1, 1, 1, 2048]⟩
abbrev S2048x1024 : Shape := ⟨2, ![2048, 1024]⟩
abbrev S512 : Shape := ⟨1, ![512]⟩
abbrev S512x1 : Shape := ⟨2, ![512, 1]⟩
abbrev S512x1024 : Shape := ⟨2, ![512, 1024]⟩

abbrev nBuf : Space → Nat
  | .hbm => 15
  | .vmem => 14
  | .smem => 0
  | _ => 0

abbrev bufTy : (tb : Table) → Fin (tcTables nBuf tb) → BufTy
  | .hbm, ⟨0, _⟩ => ⟨S4x256x2048, .f32⟩
  | .hbm, ⟨1, _⟩ => ⟨S12288, .f32⟩
  | .hbm, ⟨2, _⟩ => ⟨S2048, .f32⟩
  | .hbm, ⟨3, _⟩ => ⟨S2048x8192, .f32⟩
  | .hbm, ⟨4, _⟩ => ⟨S8192x2048, .f32⟩
  | .hbm, ⟨5, _⟩ => ⟨S1024x2048, .f32⟩
  | .hbm, ⟨6, _⟩ => ⟨S1x2048, .f32⟩
  | .hbm, ⟨7, _⟩ => ⟨S1x12288, .f32⟩
  | .hbm, ⟨8, _⟩ => ⟨S_, .i32⟩
  | .hbm, ⟨9, _⟩ => ⟨S_, .f32⟩
  | .hbm, ⟨10, _⟩ => ⟨S8x12288, .f32⟩
  | .hbm, ⟨11, _⟩ => ⟨S8x6x1x2048, .f32⟩
  | .hbm, ⟨12, _⟩ => ⟨S2048x8192, .bf16⟩
  | .hbm, ⟨13, _⟩ => ⟨S8192x2048, .bf16⟩
  | .hbm, ⟨14, _⟩ => ⟨S1024x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S2048x1024, .bf16⟩
  | .local _ .vmem, ⟨7, _⟩ => ⟨S2048x1024, .bf16⟩
  | .local _ .vmem, ⟨8, _⟩ => ⟨S1024x2048, .bf16⟩
  | .local _ .vmem, ⟨9, _⟩ => ⟨S1024x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let c3_i32 : BitVec 32 := 3#32
  let c0_i32 : BitVec 32 := 0#32
  let c0_i32_0 : BitVec 32 := 0#32
  let c0_i32_1 : BitVec 32 := 0#32
  ![c4_i32.toNat, c3_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let c4_i32_0 : BitVec 32 := 4#32
  let c0_i32 : BitVec 32 := 0#32
  let c0_i32_1 : BitVec 32 := 0#32
  let c0_i32_2 : BitVec 32 := 0#32
  ![c4_i32.toNat, c4_i32_0.toNat, c0_i32.toNat, c0_i32_1.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let c5_i32 : BitVec 32 := 5#32
  let c0_i32 : BitVec 32 := 0#32
  let c0_i32_0 : BitVec 32 := 0#32
  let c0_i32_1 : BitVec 32 := 0#32
  ![c4_i32.toNat, c5_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MlpCtxRefIdeal.lean ====
abbrev S4x256x2048 : Shape := ⟨3, ![4, 256, 2048]⟩
abbrev S12288 : Shape := ⟨1, ![12288]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S4x256x8192 : Shape := ⟨3, ![4, 256, 8192]⟩
abbrev S1024x2048 : Shape := ⟨2, ![1024, 2048]⟩

abbrev nBuf : Space → Nat
  | .hbm => 47
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S12288, .f32⟩
  | .hbm, ⟨2, _⟩ => ⟨S2048, .f32⟩
  | .hbm, ⟨3, _⟩ => ⟨S2048x8192, .f32⟩
  | .hbm, ⟨4, _⟩ => ⟨S8192x2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S4x256x2048, .f32⟩
  | .hbm, ⟨12, _⟩ => ⟨S_, .f32⟩
  | .hbm, ⟨13, _⟩ => ⟨S4x256, .f32⟩
  | .hbm, ⟨14, _⟩ => ⟨S4x256x1, .f32⟩
  | .hbm, ⟨15, _⟩ => ⟨S_, .f32⟩
  | .hbm, ⟨16, _⟩ => ⟨S4x256x1, .f32⟩
  | .hbm, ⟨17, _⟩ => ⟨S4x256x1, .f32⟩
  | .hbm, ⟨18, _⟩ => ⟨S_, .f32⟩
  | .hbm, ⟨19, _⟩ => ⟨S4x256x1, .f32⟩
  | .hbm, ⟨20, _⟩ => ⟨S4x256x1, .f32⟩
  | .hbm, ⟨21, _⟩ => ⟨S4x256x1, .f32⟩
  | .hbm, ⟨22, _⟩ => ⟨S4x256x2048, .f32⟩
  | .hbm, ⟨23, _⟩ => ⟨S4x256x2048, .f32⟩
  | .hbm, ⟨24, _⟩ => ⟨S1x1x2048, .f32⟩
  | .hbm, ⟨25, _⟩ => ⟨S4x256x2048, .f32⟩
  | .hbm, ⟨26, _⟩ => ⟨S4x256x2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S1x1x2048, .f32⟩
  | .hbm, ⟨31, _⟩ => ⟨S4x256x2048, .f32⟩
  | .hbm, ⟨32, _⟩ => ⟨S4x256x2048, .f32⟩
  | .hbm, ⟨33, _⟩ => ⟨S1x1x2048, .f32⟩
  | .hbm, ⟨34, _⟩ => ⟨S4x256x2048, .f32⟩
  | .hbm, ⟨35, _⟩ => ⟨S4x256x2048, .f32⟩
  | .hbm, ⟨36, _⟩ => ⟨S4x256x8192, .f32⟩
  | .hbm, ⟨37, _⟩ => ⟨S_, .f32⟩
  | .hbm, ⟨38, _⟩ => ⟨S4x256x8192, .f32⟩
  | .hbm, ⟨39, _⟩ => ⟨S4x256x8192, .f32⟩
  | .hbm, ⟨40, _⟩ => ⟨S4x256x8192, .f32⟩
  | .hbm, ⟨41, _⟩ => ⟨S4x256x2048, .f32⟩
  | .hbm, ⟨42, _⟩ => ⟨S1x1x2048, .f32⟩
  | .hbm, ⟨43, _⟩ => ⟨S4x256x2048, .f32⟩
  | .hbm, ⟨44, _⟩ => ⟨S4x256x2048, .f32⟩
  | .hbm, ⟨45, _⟩ => ⟨S4x256x2048, .f32⟩
  | .hbm, ⟨46, _⟩ => ⟨S1024x2048, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_cst : Ref sig .tc := ⟨.hbm, 37, rfl⟩
abbrev main_call0_v0 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.MlpValue.lean ====
/- The MLP's result array, over the extended reals, is the reference's composed term of the arguments. -/
module

public import proofs.«01_k».proof.Defs
public import proofs.«01_k».proof.Proof.Gen.MlpIdeal.Value
public import proofs.«01_k».proof.Proof.Gen.MlpRefIdeal.Run
public import Idealize.ShloMosaic.Lib.Pipeline.ValueKit
public import Idealize.ShloMosaic.Lib.Pointwise
public import Idealize.ShloMosaic.Lib.Pipeline.ValueKit.Held
public import Idealize.ShloMosaic.Lib.Pipeline.ReadBack

@[expose] public section

set_option maxRecDepth 16384

noncomputable section

namespace Cert.MlpRefIdeal.Term

open Cert.MlpRefIdeal Cert.MlpRefIdeal.Gen Idealize.ShloMosaic

/-- A row of the modulation, one entry per sample and channel. -/
def row (k : Nat) (a1 : FVec Ideal S4x12288 .f32) (h : S4x12288.Slices ![0, k] S4x2048) : FVec Ideal S4x1x2048 .f32 :=
  broadcastInDim S4x1x2048 ![0, 2] bcast_S4x2048_S4x1x2048_0_2 (extractStridedSlice S4x2048 ![0, k] a1 h)

/-- The normalised, modulated input. -/
def hidden (a0 : FVec Ideal S4x4096x2048 .f32) (a1 : FVec Ideal S4x12288 .f32) (a2 : FVec Ideal S2048 .f32) : FVec Ideal S4x4096x2048 .f32 :=
  addf (mulf (mulf (mulf a0 (broadcastInDim S4x4096x2048 ![0, 1, 2] bcast_S4x4096x1_S4x4096x2048_0_1_2
      (Host.rsqrt (addf (Host.divf (broadcastInDim S4x4096x1 ![0, 1] bcast_S4x4096_S4x4096x1_0_1
          (Host.reduceAdd (mulf a0 a0) (constant S_ .f32 0x00000000#32) reducesTo_S4x4096x2048_S4x4096_d2 h_S_))
        (broadcastInDim S4x4096x1 ![] bcast_S_S4x4096x1 (constant S_ .f32 0x45000000#32)))
        (broadcastInDim S4x4096x1 ![] bcast_S_S4x4096x1 (constant S_ .f32 0x358637BD#32))))))
      (broadcastInDim S4x4096x2048 ![0, 1, 2] bcast_S1x1x2048_S4x4096x2048_0_1_2 (broadcastInDim S1x1x2048 ![2] bcast_S2048_S1x1x2048_2 a2)))
      (broadcastInDim S4x4096x2048 ![0, 1, 2] bcast_S4x1x2048_S4x4096x2048_0_1_2
        (addf (broadcastInDim S4x1x2048 ![] bcast_S_S4x1x2048 (constant S_ .f32 0x3F800000#32)) (row 8192 a1 slices_S4x12288_S4x2048_0_8192))))
    (broadcastInDim S4x4096x2048 ![0, 1, 2] bcast_S4x1x2048_S4x4096x2048_0_1_2 (row 6144 a1 slices_S4x12288_S4x2048_0_6144))

/-- The hidden layer before its square. -/
def relu (h : FVec Ideal S4x4096x2048 .f32) (a3 : FVec Ideal S2048x8192 .f32) : FVec Ideal S4x4096x8192 .f32 :=
  maximumf (Host.dotGeneral dot_S4x4096x2048_S2048x8192_S4x4096x8192_2_0_01_1_n_n none h a3)
    (broadcastInDim S4x4096x8192 ![] bcast_S_S4x4096x8192 (constant S_ .f32 0x00000000#32))

/-- The reference's result as a function of its argument arrays. -/
def result (a0 : FVec Ideal S4x4096x2048 .f32) (a1 : FVec Ideal S4x12288 .f32) (a2 : FVec Ideal S2048 .f32) (a3 : FVec Ideal S2048x8192 .f32)
    (a4 : FVec Ideal S8192x2048 .f32) : FVec Ideal S16384x2048 .f32 :=
  shapeCast S16384x2048 (addf a0 (mulf (broadcastInDim S4x4096x2048 ![0, 1, 2] bcast_S4x1x2048_S4x4096x2048_0_1_2 (row 10240 a1 slices_S4x12288_S4x2048_0_10240))
    (Host.dotGeneral dot_S4x4096x8192_S8192x2048_S4x4096x2048_2_0_01_1_n_n none
      (mulf (relu (hidden a0 a1 a2) a3) (relu (hidden a0 a1 a2) a3)) a4))) shapeCasts_S4x4096x2048_S16384x2048

/-- Channel `k` of a row `x` divided by the root of its mean square, then scaled and shifted. -/
def modNorm (x : Fin 2048 → EReal) (g sc sh : EReal) (k : Fin 2048) : EReal :=
  x k * Ideal.rsqrt (Ideal.div (∑ j, x j * x j) (Ideal.ofBits FTy.f32 1157627904#32) + Ideal.ofBits FTy.f32 897988541#32) * g * (1 + sc) + sh

/-- The normalised input at an index. -/
theorem hidden_at (a0 : FVec Ideal S4x4096x2048 .f32) (a1 : FVec Ideal S4x12288 .f32) (a2 : FVec Ideal S2048 .f32) (p : Fin 4) (q : Fin 4096) (k : Fin 2048) :
    hidden a0 a1 a2 (ix3 p q k) = modNorm (fun j => a0 (ix3 p q j)) (a2 (ix1 k)) (a1 (ix2 p ⟨8192 + k.val, by omega⟩))
      (a1 (ix2 p ⟨6144 + k.val, by omega⟩)) k := by
  pointwise [hidden, row, modNorm]

/-- The result's entry: the residual plus the gate times the second product of the squared hidden layer. -/
theorem result_at (a0 : FVec Ideal S4x4096x2048 .f32) (a1 : FVec Ideal S4x12288 .f32) (a2 : FVec Ideal S2048 .f32) (a3 : FVec Ideal S2048x8192 .f32)
    (a4 : FVec Ideal S8192x2048 .f32) (r : Fin 16384) (b : Fin 2048) (p : Fin 4) (q : Fin 4096) (hp : p.val = r.val / 4096) (hq : q.val = r.val % 4096) :
    result a0 a1 a2 a3 a4 (ix2 r b) = a0 (ix3 p q b) + a1 (ix2 p ⟨10240 + b.val, by omega⟩) * ∑ f : Fin 8192,
      max (∑ k, hidden a0 a1 a2 (ix3 p q k) * a3 (ix2 k f)) 0 * max (∑ k, hidden a0 a1 a2 (ix3 p q k) * a3 (ix2 k f)) 0 * a4 (ix2 f b) := by
  have ep : p = ⟨r.val / 4096, by omega⟩ := Fin.ext hp
  have eq : q = ⟨r.val % 4096, by omega⟩ := Fin.ext hq
  rw [ep, eq]
  pointwise [result, relu, row]

end Cert.MlpRefIdeal.Term

namespace Cert.MlpIdeal.MlpValue

open Cert.MlpIdeal Cert.MlpIdeal.Gen Idealize.ShloMosaic Idealize.ShloMosaic.TcCoe Idealize.SL.Sem
open Idealize.ShloMosaic.Pipeline (Dat)
open Cert.MlpRefIdeal.Term (modNorm hidden hidden_at)

/-- The normalised block at an index. -/
theorem pay1_at (x : Vec Ideal S512x2048 .f32) (g : Vec Ideal S1x2048 .f32) (sc sh : Vec Ideal S1x1x1x2048 .f32) (a : Fin 512) (k : Fin 2048) :
    k0_pay1 x g sc sh (ix2 a k) = modNorm (fun j => x (ix2 a j)) (g (ix2 0 k)) (sc (ix4 0 0 0 k)) (sh (ix4 0 0 0 k)) k := by
  pointwise [k0_pay1, modNorm]

/-- The accumulator starts at zero. -/
theorem pay2_at (a : Fin 512) (k : Fin 2048) : (k0_pay2 (F := Ideal)) (ix2 a k) = 0 := by
  pointwise [k0_pay2]

/-- One step adds the product of the squared hidden columns with their rows of the second weight. -/
theorem pay3_at (h : Vec Ideal S512x2048 .bf16) (w1 : Vec Ideal S2048x1024 .bf16) (acc : Vec Ideal S512x2048 .f32) (w2 : Vec Ideal S1024x2048 .bf16)
    (a : Fin 512) (b : Fin 2048) :
    k0_pay3 h w1 acc w2 (ix2 a b) = acc (ix2 a b) + ∑ l : Fin 1024,
      max (∑ k : Fin 2048, h (ix2 a k) * w1 (ix2 k l)) 0 * max (∑ k : Fin 2048, h (ix2 a k) * w1 (ix2 k l)) 0 * w2 (ix2 l b) := by
  pointwise [k0_pay3]

/-- The output block: the residual plus the gate times the accumulator. -/
theorem pay4_at (x : Vec Ideal S512x2048 .f32) (g : Vec Ideal S1x1x1x2048 .f32) (acc : Vec Ideal S512x2048 .f32) (a : Fin 512) (b : Fin 2048) :
    k0_pay4 x g acc (ix2 a b) = x (ix2 a b) + g (ix4 0 0 0 b) * acc (ix2 a b) := by
  pointwise [k0_pay4]

variable (m : (ℓ : Loc nD τ sig) → Buf (Elt Ideal) ℓ)

/-- The blocks the windows show at each grid point. -/
theorem idx : ∀ t : Fin cfg0.N, win0_0.index t = ![t.val / 8, 0] ∧ win0_1.index t = ![0, 0] ∧ win0_2.index t = ![t.val / 64, 3, 0, 0] ∧
    win0_3.index t = ![t.val / 64, 4, 0, 0] ∧ win0_4.index t = ![t.val / 64, 5, 0, 0] ∧ win0_5.index t = ![0, t.val % 8] ∧
    win0_6.index t = ![t.val % 8, 0] ∧ win0_7.index t = ![t.val / 8, 0] :=
  (by decide +kernel : ∀ t : Fin grid0.N, _)

theorem lt (t : Fin cfg0.N) : t.val < 256 := t.2

/-- The array row of row `a` of the block at point `t`. -/
def row (t : Fin cfg0.N) (a : Fin 512) : Fin 16384 := ⟨512 * (t.val / 8) + a.val, by have := lt t; omega⟩
/-- The sample that row belongs to. -/
def sample (t : Fin cfg0.N) (a : Fin 512) : Fin 4 := ⟨(512 * (t.val / 8) + a.val) / 4096, by have := lt t; omega⟩
/-- Its place in the sample. -/
def token (t : Fin cfg0.N) (a : Fin 512) : Fin 4096 := ⟨(512 * (t.val / 8) + a.val) % 4096, by omega⟩
/-- The hidden channel of lane `l` at point `t`. -/
def lane (t : Fin cfg0.N) (l : Fin 1024) : Fin 8192 := ⟨t.val % 8 * 1024 + l.val, by omega⟩

theorem blk0 (t : Fin cfg0.N) (f : FVec Ideal S16384x2048 .f32) (a : Fin 512) (b : Fin 2048) :
    f ((win0_0.blk t).view.emb (ix2 a b)) = f (ix2 (row t a) b) := by blk_ext [idx t, row]
theorem blk1 (t : Fin cfg0.N) (f : FVec Ideal S1x2048 .f32) (b : Fin 2048) :
    f ((win0_1.blk t).view.emb (ix2 0 b)) = f (ix2 0 b) := by blk_ext [idx t]
theorem blk2 (t : Fin cfg0.N) (f : FVec Ideal S8x6x1x2048 .f32) (b : Fin 2048) :
    f ((win0_2.blk t).view.emb (ix4 0 0 0 b)) = f (ix4 ⟨t.val / 64, by have := lt t; omega⟩ 3 0 b) := by blk_ext [idx t]
theorem blk3 (t : Fin cfg0.N) (f : FVec Ideal S8x6x1x2048 .f32) (b : Fin 2048) :
    f ((win0_3.blk t).view.emb (ix4 0 0 0 b)) = f (ix4 ⟨t.val / 64, by have := lt t; omega⟩ 4 0 b) := by blk_ext [idx t]
theorem blk4 (t : Fin cfg0.N) (f : FVec Ideal S8x6x1x2048 .f32) (b : Fin 2048) :
    f ((win0_4.blk t).view.emb (ix4 0 0 0 b)) = f (ix4 ⟨t.val / 64, by have := lt t; omega⟩ 5 0 b) := by blk_ext [idx t]
theorem blk5 (t : Fin cfg0.N) (f : FVec Ideal S2048x8192 .bf16) (a : Fin 2048) (b : Fin 1024) :
    f ((win0_5.blk t).view.emb (ix2 a b)) = f (ix2 a (lane t b)) := by blk_ext [idx t, lane]
theorem blk6 (t : Fin cfg0.N) (f : FVec Ideal S8192x2048 .bf16) (a : Fin 1024) (b : Fin 2048) :
    f ((win0_6.blk t).view.emb (ix2 a b)) = f (ix2 (lane t a) b) := by blk_ext [idx t, lane]

/-- The reshaped rows at an index. -/
theorem rows_at (v : FVec Ideal S4x4096x2048 .f32) (r : Fin 16384) (b : Fin 2048) :
    shapeCast S16384x2048 v shapeCasts_S4x4096x2048_S16384x2048 (ix2 r b) = v (ix3 ⟨r.val / 4096, by omega⟩ ⟨r.val % 4096, by omega⟩ b) := by
  pointwise
/-- The norm weight as one row. -/
theorem g_at (v : FVec Ideal S2048 .f32) (b : Fin 2048) :
    shapeCast S1x2048 v shapeCasts_S2048_S1x2048 (ix2 0 b) = v (ix1 b) := by
  pointwise
/-- Row `k` of the six rows of a sample of the padded modulation. -/
theorem mod_at (v : FVec Ideal S4x12288 .f32) (z : FVec Ideal S_ .f32) (s : Fin 8) (hs : s.val < 4) (k : Fin 6) (b : Fin 2048) :
    (shapeCast S8x6x1x2048 (pad S8x12288 ![0, 0] ![4, 0] ![0, 0] v z pads_S4x12288_S8x12288_040_000 h_S_ : FVec Ideal S8x12288 .f32)
      shapeCasts_S8x12288_S8x6x1x2048 : FVec Ideal S8x6x1x2048 .f32) (ix4 s k 0 b) = v (ix2 ⟨s.val, hs⟩ ⟨k.val * 2048 + b.val, by omega⟩) := by
  pointwise
  exact dif_pos ⟨hs, by omega⟩

/-- The input, reshaped to rows. -/
theorem v0_eq (c : Dev nD) : V m c main_v0 =
    (shapeCast S16384x2048 (m ((c.tc : Thread nD τ).loc main_arg0)) shapeCasts_S4x4096x2048_S16384x2048 : FVec Ideal S16384x2048 .f32) := by
  unfold V
  simp only [List.flatten_cons, List.flatten_nil, hostOps0, hostOps0_1, hostOps0_2, List.cons_append, List.nil_append]
  after_results
  rfl

/-- The norm weight, as one row. -/
theorem v1_eq (c : Dev nD) : V m c main_v1 =
    (shapeCast S1x2048 (m ((c.tc : Thread nD τ).loc main_arg2)) shapeCasts_S2048_S1x2048 : FVec Ideal S1x2048 .f32) := by
  unfold V
  simp only [List.flatten_cons, List.flatten_nil, hostOps0, hostOps0_1, hostOps0_2, List.cons_append, List.nil_append]
  after_results
  rfl

/-- The modulation, padded to eight samples and reshaped into six rows. -/
theorem v3_eq (c : Dev nD) : V m c main_v3 =
    (shapeCast S8x6x1x2048 (pad S8x12288 ![0, 0] ![4, 0] ![0, 0] (m ((c.tc : Thread nD τ).loc main_arg1)) (sitofp .f32 (constantI S_ 32 0#32)) pads_S4x12288_S8x12288_040_000 h_S_ : FVec Ideal S8x12288 .f32) shapeCasts_S8x12288_S8x6x1x2048 : FVec Ideal S8x6x1x2048 .f32) := by
  unfold V
  simp only [List.flatten_cons, List.flatten_nil, hostOps0, hostOps0_1, hostOps0_2, List.cons_append, List.nil_append]
  after_results
  rfl

/-- The first weight, cast. -/
theorem v4_eq (c : Dev nD) : V m c main_v4 =
    (truncf .bf16 (m ((c.tc : Thread nD τ).loc main_arg3) : FVec Ideal S2048x8192 .f32) bitsLt_bf16_f32 : FVec Ideal S2048x8192 .bf16) := by
  unfold V
  simp only [List.flatten_cons, List.flatten_nil, hostOps0, hostOps0_1, hostOps0_2, List.cons_append, List.nil_append]
  after_results

/-- The second weight, cast. -/
theorem v5_eq (c : Dev nD) : V m c main_v5 =
    (truncf .bf16 (m ((c.tc : Thread nD τ).loc main_arg4) : FVec Ideal S8192x2048 .f32) bitsLt_bf16_f32 : FVec Ideal S8192x2048 .bf16) := by
  unfold V
  simp only [List.flatten_cons, List.flatten_nil, hostOps0, hostOps0_1, hostOps0_2, List.cons_append, List.nil_append]
  after_results

/-- The block of the input, as entries of its argument. -/
theorem x_read (c : Dev nD) (t : Fin cfg0.N) (a : Fin 512) (b : Fin 2048) :
    iblk m c 0 t (ix2 a b) = m ((c.tc : Thread nD τ).loc main_arg0) (ix3 (sample t a) (token t a) b) :=
  (blk0 t (V m c main_v0) a b).trans ((congrFun (v0_eq m c) _).trans (rows_at _ _ _))
/-- The norm weight's block is the whole weight. -/
theorem g_read (c : Dev nD) (t : Fin cfg0.N) (b : Fin 2048) :
    iblk m c 1 t (ix2 0 b) = m ((c.tc : Thread nD τ).loc main_arg2) (ix1 b) :=
  (blk1 t (V m c main_v1) b).trans ((congrFun (v1_eq m c) _).trans (g_at _ _))
/-- The first weight's block: the point's columns. -/
theorem w1_read (c : Dev nD) (t : Fin cfg0.N) (a : Fin 2048) (b : Fin 1024) :
    iblk m c 5 t (ix2 a b) = m ((c.tc : Thread nD τ).loc main_arg3) (ix2 a (lane t b)) :=
  (blk5 t (V m c main_v4) a b).trans (congrFun (v4_eq m c) _)
/-- The second weight's block: the point's rows. -/
theorem w2_read (c : Dev nD) (t : Fin cfg0.N) (a : Fin 1024) (b : Fin 2048) :
    iblk m c 6 t (ix2 a b) = m ((c.tc : Thread nD τ).loc main_arg4) (ix2 (lane t a) b) :=
  (blk6 t (V m c main_v5) a b).trans (congrFun (v5_eq m c) _)
/-- The modulation's row 3 of the sample the block's rows belong to. -/
theorem m3_read (c : Dev nD) (t : Fin cfg0.N) (a : Fin 512) (b : Fin 2048) :
    iblk m c 2 t (ix4 0 0 0 b) = m ((c.tc : Thread nD τ).loc main_arg1) (ix2 (sample t a) ⟨6144 + b.val, by omega⟩) := by
  refine (blk2 t (V m c main_v3) b).trans ((congrFun (v3_eq m c) _).trans
    ((mod_at _ _ _ (by have := lt t; show t.val / 64 < 4; omega) _ _).trans ?_))
  congr 2
  exact Fin.ext (show t.val / 64 = (512 * (t.val / 8) + a.val) / 4096 by omega)

/-- The modulation's row 4 of the sample the block's rows belong to. -/
theorem m4_read (c : Dev nD) (t : Fin cfg0.N) (a : Fin 512) (b : Fin 2048) :
    iblk m c 3 t (ix4 0 0 0 b) = m ((c.tc : Thread nD τ).loc main_arg1) (ix2 (sample t a) ⟨8192 + b.val, by omega⟩) := by
  refine (blk3 t (V m c main_v3) b).trans ((congrFun (v3_eq m c) _).trans
    ((mod_at _ _ _ (by have := lt t; show t.val / 64 < 4; omega) _ _).trans ?_))
  congr 2
  exact Fin.ext (show t.val / 64 = (512 * (t.val / 8) + a.val) / 4096 by omega)

/-- The modulation's row 5 of the sample the block's rows belong to. -/
theorem m5_read (c : Dev nD) (t : Fin cfg0.N) (a : Fin 512) (b : Fin 2048) :
    iblk m c 4 t (ix4 0 0 0 b) = m ((c.tc : Thread nD τ).loc main_arg1) (ix2 (sample t a) ⟨10240 + b.val, by omega⟩) := by
  refine (blk4 t (V m c main_v3) b).trans ((congrFun (v3_eq m c) _).trans
    ((mod_at _ _ _ (by have := lt t; show t.val / 64 < 4; omega) _ _).trans ?_))
  congr 2
  exact Fin.ext (show t.val / 64 = (512 * (t.val / 8) + a.val) / 4096 by omega)

/-- The reference's normalised input, of the kernel's arguments. -/
def hid (c : Dev nD) : FVec Ideal Cert.MlpRefIdeal.S4x4096x2048 .f32 :=
  hidden (m ((c.tc : Thread nD τ).loc main_arg0)) (m ((c.tc : Thread nD τ).loc main_arg1)) (m ((c.tc : Thread nD τ).loc main_arg2))

/-- The normalised block computed from the blocks of any point is the reference's normalised input. -/
theorem norm_read (c : Dev nD) (t : Fin cfg0.N) (a : Fin 512) (k : Fin 2048) :
    k0_pay1 (iblk m c 0 t) (iblk m c 1 t) (iblk m c 3 t) (iblk m c 2 t) (ix2 a k) = hid m c (ix3 (sample t a) (token t a) k) := by
  refine (pay1_at _ _ _ _ a k).trans ?_
  rw [hid, hidden_at, g_read, m3_read m c t a, m4_read m c t a]
  congr 1
  exact funext fun j => x_read m c t a j

/-- The scratch holds the normalised block of the run's first point. -/
theorem held (c : Dev nD) (t : Fin cfg0.N) : (outsAt0 m c t.val t.isLt).2.1 =
    (fun t : Fin cfg0.N => k0_pay1 (iblk m c 0 t) (iblk m c 1 t) (iblk m c 3 t) (iblk m c 2 t)) ⟨8 * (t.val / 8), Pipeline.run_start_lt t⟩ := by
  refine Pipeline.eq_of_write_hold (fun n h => (outsAt0 m c n h).2.1) 8
    (fun t : Fin cfg0.N => k0_pay1 (iblk m c 0 t) (iblk m c 1 t) (iblk m c 3 t) (iblk m c 2 t)) (fun t h0 => ?_) (fun t h0 => ?_) t
  · rw [outsAt0_A m c t h0 (by omega)]
    funext y
    frame_out
  · by_cases h1 : t.val % 8 = 7
    · rw [outsAt0_C m c t h0 h1]
      rfl
    · rw [outsAt0_B m c t h0 h1]
      rfl

/-- At every point the scratch holds the reference's normalised rows. -/
theorem held_at (c : Dev nD) (t : Fin cfg0.N) (a : Fin 512) (k : Fin 2048) :
    (outsAt0 m c t.val t.isLt).2.1 (ix2 a k) = hid m c (ix3 (sample t a) (token t a) k) := by
  rw [held m c t]
  refine (norm_read m c ⟨8 * (t.val / 8), Pipeline.run_start_lt t⟩ a k).trans ?_
  congr 1
  simp only [sample, token]
  congr 2 <;> congr 2 <;> omega

/-- What hidden channel `f` of a token contributes to channel `b` of the product. -/
def cell (c : Dev nD) (p : Fin 4) (q : Fin 4096) (f : Fin 8192) (b : Fin 2048) : EReal :=
  max (∑ k : Fin 2048, hid m c (ix3 p q k) * (m ((c.tc : Thread nD τ).loc main_arg3) (ix2 k f) : EReal)) 0 *
  max (∑ k : Fin 2048, hid m c (ix3 p q k) * (m ((c.tc : Thread nD τ).loc main_arg3) (ix2 k f) : EReal)) 0 *
  (m ((c.tc : Thread nD τ).loc main_arg4) (ix2 f b) : EReal)

/-- One point's contribution to the accumulator. -/
def part (c : Dev nD) (t : Fin cfg0.N) (y : S512x2048.Idx) : EReal :=
  ∑ l : Fin 1024, cell m c (sample t (y 0)) (token t (y 0)) (lane t l) (y 1)

/-- A step on the normalised rows adds the point's contribution. -/
theorem step (c : Dev nD) (t : Fin cfg0.N) (h : Vec Ideal S512x2048 .bf16) (acc : Vec Ideal S512x2048 .f32)
    (hh : ∀ a k, h (ix2 a k) = hid m c (ix3 (sample t a) (token t a) k)) (a : Fin 512) (b : Fin 2048) :
    k0_pay3 h (iblk m c 5 t) acc (iblk m c 6 t) (ix2 a b) = acc (ix2 a b) + part m c t (ix2 a b) := by
  refine (pay3_at _ _ _ _ a b).trans (congrArg (acc (ix2 a b) + ·) (Finset.sum_congr rfl fun l _ => ?_))
  have e := Finset.sum_congr (s₁ := Finset.univ) rfl fun k (_ : k ∈ Finset.univ) => congrArg₂ (fun u v : EReal => u * v) (hh a k) (w1_read m c t k l)
  exact congrArg₂ (fun u v : EReal => max u 0 * max u 0 * v) e (w2_read m c t l b)

/-- The accumulator at the point that writes the block back. -/
theorem acc (c : Dev nD) (t : Fin cfg0.N) (hf : t.val % 8 = 7) (y : S512x2048.Idx) :
    (outsAt0 m c t.val t.isLt).2.2 y = 0 + ∑ s : Fin 8, part m c ⟨8 * (t.val / 8) + s.val, Pipeline.run_point_lt_of_flush t hf s⟩ y := by
  refine Pipeline.eq_sum_fin_of_reset_step_apply_of_flush (fun n h => (outsAt0 m c n h).2.2) 8 (fun _ => (0 : EReal)) (part m c)
    (fun t h0 y => ?_) (fun t h0 y => ?_) t hf y
  · rw [outsAt0_A m c t h0 (by omega)]
    frame_out
    idx_vars y
    refine (step m c t _ _ (fun a k => norm_read m c t a k) y0 y1).trans ?_
    rw [pay2_at]
  · by_cases h1 : t.val % 8 = 7
    · have hh := held_at m c t
      rw [outsAt0_C m c t h0 h1] at hh ⊢
      frame_out
      idx_vars y
      simp only [read_unread_whole] at hh ⊢
      exact step m c t _ _ hh y0 y1
    · have hh := held_at m c t
      rw [outsAt0_B m c t h0 h1] at hh ⊢
      frame_out
      idx_vars y
      simp only [read_unread_whole] at hh ⊢
      exact step m c t _ _ hh y0 y1

/-- The block written back: the residual plus the gate times the accumulator. -/
theorem out (c : Dev nD) (t : Fin cfg0.N) (hf : t.val % 8 = 7) (y : S512x2048.Idx) :
    (outsAt0 m c t.val t.isLt).1 y = k0_pay4 (iblk m c 0 t) (iblk m c 4 t) (outsAt0 m c t.val t.isLt).2.2 y := by
  have h0 : ¬ t.val % 8 = 0 := by omega
  rw [outsAt0_C m c t h0 hf]
  frame_out

/-- The result array after the run is the reference's result of the same arguments. -/
theorem result (c : Dev nD) : (dats m 0 c).arrAt 7 cfg0.N =
    Cert.MlpRefIdeal.Term.result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  refine (dats m 0 c).arrAt_eq_of_covers 7 _ (by decide +kernel) fun t hf y => ?_
  blk_simp
  have hf : t.val % 8 = 7 := (flush0_7 t).mp hf
  rw [after0_7, out m c t hf]
  idx_vars y
  generalize hX : Cert.MlpRefIdeal.Term.result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = X
  have hE : X (((View.whole main_v6).slice (win0_7.rect t)).emb (ix2 y0 y1)) = X (ix2 (row t y0) y1) := by
    blk_ext [idx t, row]
  refine Eq.trans ?_ hE.symm
  subst hX
  rw [Cert.MlpRefIdeal.Term.result_at _ _ _ _ _ (row t y0) y1 (sample t y0) (token t y0) rfl rfl]
  refine (pay4_at _ _ _ y0 y1).trans ?_
  rw [x_read, m5_read m c t y0, acc m c t hf, zero_add]
  congr 2
  unfold part
  refine Fin.sum_mul_add_congr fun s k hl => ?_
  have e1 : lane ⟨8 * (t.val / 8) + s.val, Pipeline.run_point_lt_of_flush t hf s⟩ k = ⟨s.val * 1024 + k.val, hl⟩ :=
    Fin.ext (show (8 * (t.val / 8) + s.val) % 8 * 1024 + k.val = s.val * 1024 + k.val by omega)
  have e2 : sample ⟨8 * (t.val / 8) + s.val, Pipeline.run_point_lt_of_flush t hf s⟩ y0 = sample t y0 :=
    Fin.ext (show (512 * ((8 * (t.val / 8) + s.val) / 8) + y0.val) / 4096 = (512 * (t.val / 8) + y0.val) / 4096 by
      rw [show (8 * (t.val / 8) + s.val) / 8 = t.val / 8 by omega])
  have e3 : token ⟨8 * (t.val / 8) + s.val, Pipeline.run_point_lt_of_flush t hf s⟩ y0 = token t y0 :=
    Fin.ext (show (512 * ((8 * (t.val / 8) + s.val) / 8) + y0.val) % 4096 = (512 * (t.val / 8) + y0.val) % 4096 by
      rw [show (8 * (t.val / 8) + s.val) / 8 = t.val / 8 by omega])
  show cell m c (sample _ y0) (token _ y0) (lane _ k) y1 = _
  rw [e1, e2, e3]
  rfl

/-- The kernel and the reference, launched on equal arguments, end with equal results. -/
theorem algebraic : @Cert.algebraic_MlpIdeal_MlpRefIdeal Cert.MlpIdeal.Gen.facts Cert.MlpRefIdeal.Gen.facts := by
  intro m g m' g' _ hagree
  refine ⟨fun c => (dats m 0 c).arrAt 7 cfg0.N, Cert.MlpIdeal.Value.run_blocks m g, ?_⟩
  refine (θ_run _ _ _).mono (fun r h c => ⟨(h c).1.trans ?_, (h c).2⟩) (Cert.MlpRefIdeal.Value.run (F := Ideal) m' g')
  obtain ⟨h0, h1, h2, h3, h4⟩ := hagree c
  rw [h0, h1, h2, h3, h4]
  exact (result m c).symm

/-- The reference ends with its arguments unchanged and every counter at zero. -/
theorem ref_frame : @Cert.quiescent_MlpRefIdeal Cert.MlpRefIdeal.Gen.facts := fun m g _ =>
  (θ_run _ _ _).mono (fun r h => ⟨fun c => (h c).2, Idealize.ShloMosaic.sem_eq_zero_of_no_sems (by decide) r.2⟩)
    (Cert.MlpRefIdeal.Value.run (F := Ideal) m g)

end Cert.MlpIdeal.MlpValue

end
-- ==== Proof.InProjValue.lean ====
/- The input projection's result array, over the extended reals, is the reference's composed term of the arguments. -/
module

public import proofs.«01_k».proof.Defs
public import proofs.«01_k».proof.Proof.Gen.InProjIdeal.Value
public import proofs.«01_k».proof.Proof.Gen.InProjRefIdeal.Run
public import Idealize.ShloMosaic.Lib.Pipeline.ValueKit
public import Idealize.ShloMosaic.Lib.Pointwise
public import Idealize.ShloMosaic.Lib.Pipeline.ValueKit.Held
public import Idealize.ShloMosaic.Lib.Pipeline.ReadBack

@[expose] public section

set_option maxRecDepth 16384

noncomputable section

namespace Cert.InProjRefIdeal.Term

open Cert.InProjRefIdeal Cert.InProjRefIdeal.Gen Idealize.ShloMosaic

/-- A row of the modulation, one entry per sample and channel. -/
def row (k : Nat) (a1 : FVec Ideal S4x12288 .f32) (h : S4x12288.Slices ![0, k] S4x2048) : FVec Ideal S4x1x2048 .f32 :=
  broadcastInDim S4x1x2048 ![0, 2] bcast_S4x2048_S4x1x2048_0_2 (extractStridedSlice S4x2048 ![0, k] a1 h)

/-- The normalised, modulated input. -/
def hidden (a0 : FVec Ideal S4x4096x2048 .f32) (a1 : FVec Ideal S4x12288 .f32) (a2 : FVec Ideal S2048 .f32) : FVec Ideal S4x4096x2048 .f32 :=
  addf (mulf (mulf (mulf a0 (broadcastInDim S4x4096x2048 ![0, 1, 2] bcast_S4x4096x1_S4x4096x2048_0_1_2
      (Host.rsqrt (addf (Host.divf (broadcastInDim S4x4096x1 ![0, 1] bcast_S4x4096_S4x4096x1_0_1
          (Host.reduceAdd (mulf a0 a0) (constant S_ .f32 0x00000000#32) reducesTo_S4x4096x2048_S4x4096_d2 h_S_))
        (broadcastInDim S4x4096x1 ![] bcast_S_S4x4096x1 (constant S_ .f32 0x45000000#32)))
        (broadcastInDim S4x4096x1 ![] bcast_S_S4x4096x1 (constant S_ .f32 0x358637BD#32))))))
      (broadcastInDim S4x4096x2048 ![0, 1, 2] bcast_S1x1x2048_S4x4096x2048_0_1_2 (broadcastInDim S1x1x2048 ![2] bcast_S2048_S1x1x2048_2 a2)))
      (broadcastInDim S4x4096x2048 ![0, 1, 2] bcast_S4x1x2048_S4x4096x2048_0_1_2
        (addf (broadcastInDim S4x1x2048 ![] bcast_S_S4x1x2048 (constant S_ .f32 0x3F800000#32)) (row 2048 a1 slices_S4x12288_S4x2048_0_2048))))
    (broadcastInDim S4x4096x2048 ![0, 1, 2] bcast_S4x1x2048_S4x4096x2048_0_1_2 (row 0 a1 slices_S4x12288_S4x2048_0_0))

/-- The product with the whole weight, its columns in the weight's order. -/
def proj (h : FVec Ideal S4x4096x2048 .f32) (a3 : FVec Ideal S2048x11744 .f32) : FVec Ideal S4x4096x11744 .f32 :=
  Host.dotGeneral dot_S4x4096x2048_S2048x11744_S4x4096x11744_2_0_01_1_n_n none h a3

/-- The product's columns in the order the result lists them. -/
def parts (z : FVec Ideal S4x4096x11744 .f32) : FVec Ideal S4x4096x11776 .f32 :=
  concatenate S4x4096x11776 2 [⟨S4x4096x3072, extractStridedSlice S4x4096x3072 ![0, 0, 1088] z slices_S4x4096x11744_S4x4096x3072_0_0_1088⟩,
    ⟨S4x4096x1024, extractStridedSlice S4x4096x1024 ![0, 0, 4576] z slices_S4x4096x11744_S4x4096x1024_0_0_4576⟩,
    ⟨S4x4096x6144, extractStridedSlice S4x4096x6144 ![0, 0, 5600] z slices_S4x4096x11744_S4x4096x6144_0_0_5600⟩,
    ⟨S4x4096x1024, extractStridedSlice S4x4096x1024 ![0, 0, 0] z slices_S4x4096x11744_S4x4096x1024_0_0_0⟩,
    ⟨S4x4096x64, extractStridedSlice S4x4096x64 ![0, 0, 1024] z slices_S4x4096x11744_S4x4096x64_0_0_1024⟩,
    ⟨S4x4096x416, extractStridedSlice S4x4096x416 ![0, 0, 4160] z slices_S4x4096x11744_S4x4096x416_0_0_4160⟩,
    ⟨S4x4096x32, broadcastInDim S4x4096x32 ![] bcast_S_S4x4096x32 (constant (F := Ideal) S_ .f32 0x00000000#32)⟩]
    concatenates_S4x4096x3072_S4x4096x1024_S4x4096x6144_S4x4096x1024_S4x4096x64_S4x4096x416_S4x4096x32_S4x4096x11776_d2

/-- The reference's result as a function of its argument arrays. -/
def result (a0 : FVec Ideal S4x4096x2048 .f32) (a1 : FVec Ideal S4x12288 .f32) (a2 : FVec Ideal S2048 .f32) (a3 : FVec Ideal S2048x11744 .f32) :
    FVec Ideal S16384x11776 .bf16 :=
  truncf .bf16 (shapeCast S16384x11776 (parts (proj (hidden a0 a1 a2) a3)) shapeCasts_S4x4096x11776_S16384x11776 : FVec Ideal S16384x11776 .f32) bitsLt_bf16_f32

/-- Channel `k` of a row `x` divided by the root of its mean square, then scaled and shifted. -/
def modNorm (x : Fin 2048 → EReal) (g sc sh : EReal) (k : Fin 2048) : EReal :=
  x k * Ideal.rsqrt (Ideal.div (∑ j, x j * x j) (Ideal.ofBits FTy.f32 1157627904#32) + Ideal.ofBits FTy.f32 897988541#32) * g * (1 + sc) + sh

/-- The normalised input at an index. -/
theorem hidden_at (a0 : FVec Ideal S4x4096x2048 .f32) (a1 : FVec Ideal S4x12288 .f32) (a2 : FVec Ideal S2048 .f32) (p : Fin 4) (q : Fin 4096) (k : Fin 2048) :
    hidden a0 a1 a2 (ix3 p q k) = modNorm (fun j => a0 (ix3 p q j)) (a2 (ix1 k)) (a1 (ix2 p ⟨2048 + k.val, by omega⟩))
      (a1 (ix2 p ⟨k.val, by omega⟩)) k := by
  pointwise [hidden, row, modNorm]

/-- The entry a result column takes from a row of the weight's columns: the column it lists, zero in the last 32. -/
def pick (f : Fin 11744 → EReal) (b : Fin 11776) : EReal :=
  if h : b.val < 3072 then f ⟨1088 + b.val, by omega⟩
  else if h1 : b.val - 3072 < 1024 then f ⟨4576 + (b.val - 3072), by omega⟩
  else if h2 : b.val - 3072 - 1024 < 6144 then f ⟨5600 + (b.val - 3072 - 1024), by omega⟩
  else if h3 : b.val - 3072 - 1024 - 6144 < 1024 then f ⟨b.val - 3072 - 1024 - 6144, by omega⟩
  else if h4 : b.val - 3072 - 1024 - 6144 - 1024 < 64 then f ⟨1024 + (b.val - 3072 - 1024 - 6144 - 1024), by omega⟩
  else if h5 : b.val - 3072 - 1024 - 6144 - 1024 - 64 < 416 then f ⟨4160 + (b.val - 3072 - 1024 - 6144 - 1024 - 64), by omega⟩
  else 0

/-- A weighted sum of picked entries is the picked weighted sum. -/
theorem sum_pick (h : Fin 2048 → EReal) (f : Fin 2048 → Fin 11744 → EReal) (b : Fin 11776) :
    ∑ k, h k * pick (f k) b = pick (fun j => ∑ k, h k * f k j) b := by
  unfold pick
  split_ifs <;> simp

/-- The reordered columns at an index. -/
theorem parts_at (z : FVec Ideal S4x4096x11744 .f32) (p : Fin 4) (q : Fin 4096) (b : Fin 11776) :
    parts z (ix3 p q b) = pick (fun j => z (ix3 p q j)) b := by
  pointwise [parts, pick]

/-- The result's entry: the picked column of the product. -/
theorem result_at (a0 : FVec Ideal S4x4096x2048 .f32) (a1 : FVec Ideal S4x12288 .f32) (a2 : FVec Ideal S2048 .f32) (a3 : FVec Ideal S2048x11744 .f32)
    (r : Fin 16384) (b : Fin 11776) (p : Fin 4) (q : Fin 4096) (hp : p.val = r.val / 4096) (hq : q.val = r.val % 4096) :
    result a0 a1 a2 a3 (ix2 r b) = ∑ k, hidden a0 a1 a2 (ix3 p q k) * pick (fun j => a3 (ix2 k j)) b := by
  have ep : p = ⟨r.val / 4096, by omega⟩ := Fin.ext hp
  have eq : q = ⟨r.val % 4096, by omega⟩ := Fin.ext hq
  rw [sum_pick (fun k => hidden a0 a1 a2 (ix3 p q k)) (fun k j => a3 (ix2 k j)) b, ep, eq]
  pointwise [result]
  rw [parts_at]
  congr 1
  funext j
  pointwise [proj]

/-- The printed run's result is this function of the arguments. -/
theorem res_eq (m : (ℓ : Loc nD τ sig) → Buf (Elt Ideal) ℓ) (c : Dev nD) : Cert.InProjRefIdeal.Value.res_main_v41 m c =
    result (m ((c.tc : Thread nD τ).loc main_arg0)) (m ((c.tc : Thread nD τ).loc main_arg1))
      (m ((c.tc : Thread nD τ).loc main_arg2)) (m ((c.tc : Thread nD τ).loc main_arg3)) := rfl

end Cert.InProjRefIdeal.Term

namespace Cert.InProjIdeal.InValue

open Cert.InProjIdeal Cert.InProjIdeal.Gen Idealize.ShloMosaic Idealize.ShloMosaic.TcCoe Idealize.SL.Sem
open Idealize.ShloMosaic.Pipeline (Dat)
open Cert.InProjRefIdeal.Term (modNorm hidden hidden_at pick)

/-- The normalised block at an index. -/
theorem pay1_at (x : Vec Ideal S1024x2048 .f32) (g : Vec Ideal S1x2048 .f32) (sc sh : Vec Ideal S1x1x1x2048 .f32) (a : Fin 1024) (k : Fin 2048) :
    k0_pay1 x g sc sh (ix2 a k) = modNorm (fun j => x (ix2 a j)) (g (ix2 0 k)) (sc (ix4 0 0 0 k)) (sh (ix4 0 0 0 k)) k := by
  pointwise [k0_pay1, modNorm]

/-- The output block: the product of the normalised rows and the point's columns. -/
theorem pay2_at (h : Vec Ideal S1024x2048 .bf16) (w : Vec Ideal S2048x512 .bf16) (a : Fin 1024) (b : Fin 512) :
    k0_pay2 h w (ix2 a b) = ∑ k : Fin 2048, h (ix2 a k) * w (ix2 k b) := by
  pointwise [k0_pay2]

variable (m : (ℓ : Loc nD τ sig) → Buf (Elt Ideal) ℓ)

/-- The blocks the windows show at each grid point. -/
theorem idx : ∀ t : Fin cfg0.N, win0_0.index t = ![t.val / 23, 0] ∧ win0_1.index t = ![0, 0] ∧ win0_2.index t = ![t.val / 92, 0, 0, 0] ∧
    win0_3.index t = ![t.val / 92, 1, 0, 0] ∧ win0_4.index t = ![0, t.val % 23] ∧ win0_5.index t = ![t.val / 23, t.val % 23] :=
  (by decide +kernel : ∀ t : Fin grid0.N, _)

/-- The grid has 368 points. -/
theorem lt (t : Fin cfg0.N) : t.val < 368 := t.2

/-- The array row of row `a` of the block at point `t`. -/
def row (t : Fin cfg0.N) (a : Fin 1024) : Fin 16384 := ⟨1024 * (t.val / 23) + a.val, by have := lt t; omega⟩
/-- The sample that row belongs to. -/
def sample (t : Fin cfg0.N) (a : Fin 1024) : Fin 4 := ⟨(1024 * (t.val / 23) + a.val) / 4096, by have := lt t; omega⟩
/-- Its place in the sample. -/
def token (t : Fin cfg0.N) (a : Fin 1024) : Fin 4096 := ⟨(1024 * (t.val / 23) + a.val) % 4096, by omega⟩
/-- The array column of column `b` of the block at point `t`. -/
def col (t : Fin cfg0.N) (b : Fin 512) : Fin 11776 := ⟨512 * (t.val % 23) + b.val, by omega⟩

/-- The input's block: the point's rows. -/
theorem blk0 (t : Fin cfg0.N) (f : FVec Ideal S16384x2048 .f32) (a : Fin 1024) (b : Fin 2048) :
    f ((win0_0.blk t).view.emb (ix2 a b)) = f (ix2 (row t a) b) := by blk_ext [idx t, row]
/-- The norm weight has one block. -/
theorem blk1 (t : Fin cfg0.N) (f : FVec Ideal S1x2048 .f32) (b : Fin 2048) :
    f ((win0_1.blk t).view.emb (ix2 0 b)) = f (ix2 0 b) := by blk_ext [idx t]
/-- The shift's block: row 0 of the point's sample. -/
theorem blk2 (t : Fin cfg0.N) (f : FVec Ideal S8x6x1x2048 .f32) (b : Fin 2048) :
    f ((win0_2.blk t).view.emb (ix4 0 0 0 b)) = f (ix4 ⟨t.val / 92, by have := lt t; omega⟩ 0 0 b) := by blk_ext [idx t]
/-- The scale's block: row 1 of the point's sample. -/
theorem blk3 (t : Fin cfg0.N) (f : FVec Ideal S8x6x1x2048 .f32) (b : Fin 2048) :
    f ((win0_3.blk t).view.emb (ix4 0 0 0 b)) = f (ix4 ⟨t.val / 92, by have := lt t; omega⟩ 1 0 b) := by blk_ext [idx t]
/-- The weight's block: the point's columns. -/
theorem blk4 (t : Fin cfg0.N) (f : FVec Ideal S2048x11776 .bf16) (a : Fin 2048) (b : Fin 512) :
    f ((win0_4.blk t).view.emb (ix2 a b)) = f (ix2 a (col t b)) := by blk_ext [idx t, col]

/-- The reshaped rows at an index. -/
theorem rows_at (v : FVec Ideal S4x4096x2048 .f32) (r : Fin 16384) (b : Fin 2048) :
    shapeCast S16384x2048 v shapeCasts_S4x4096x2048_S16384x2048 (ix2 r b) = v (ix3 ⟨r.val / 4096, by omega⟩ ⟨r.val % 4096, by omega⟩ b) := by
  pointwise
/-- The norm weight as one row. -/
theorem g_at (v : FVec Ideal S2048 .f32) (b : Fin 2048) :
    shapeCast S1x2048 v shapeCasts_S2048_S1x2048 (ix2 0 b) = v (ix1 b) := by
  pointwise
/-- Row `k` of the six rows of a sample of the padded modulation. -/
theorem mod_at (v : FVec Ideal S4x12288 .f32) (z : FVec Ideal S_ .f32) (s : Fin 8) (hs : s.val < 4) (k : Fin 6) (b : Fin 2048) :
    (shapeCast S8x6x1x2048 (pad S8x12288 ![0, 0] ![4, 0] ![0, 0] v z pads_S4x12288_S8x12288_040_000 h_S_ : FVec Ideal S8x12288 .f32)
      shapeCasts_S8x12288_S8x6x1x2048 : FVec Ideal S8x6x1x2048 .f32) (ix4 s k 0 b) = v (ix2 ⟨s.val, hs⟩ ⟨k.val * 2048 + b.val, by omega⟩) := by
  pointwise
  exact dif_pos ⟨hs, by omega⟩

/-- The weight's columns in the order the call takes them, padded with zeros. -/
def cols (w : FVec Ideal S2048x11744 .f32) : FVec Ideal S2048x11776 .f32 :=
  concatenate S2048x11776 1 [⟨S2048x3072, extractStridedSlice S2048x3072 ![0, 1088] w slices_S2048x11744_S2048x3072_0_1088⟩,
    ⟨S2048x1024, extractStridedSlice S2048x1024 ![0, 4576] w slices_S2048x11744_S2048x1024_0_4576⟩,
    ⟨S2048x6144, extractStridedSlice S2048x6144 ![0, 5600] w slices_S2048x11744_S2048x6144_0_5600⟩,
    ⟨S2048x1024, extractStridedSlice S2048x1024 ![0, 0] w slices_S2048x11744_S2048x1024_0_0⟩,
    ⟨S2048x64, extractStridedSlice S2048x64 ![0, 1024] w slices_S2048x11744_S2048x64_0_1024⟩,
    ⟨S2048x416, extractStridedSlice S2048x416 ![0, 4160] w slices_S2048x11744_S2048x416_0_4160⟩,
    ⟨S2048x32, broadcastInDim S2048x32 ![] bcast_S_S2048x32 (constant (F := Ideal) S_ .f32 0x00000000#32)⟩]
    concatenates_S2048x3072_S2048x1024_S2048x6144_S2048x1024_S2048x64_S2048x416_S2048x32_S2048x11776_d1

/-- The reordered weight at an index. -/
theorem cols_at (w : FVec Ideal S2048x11744 .f32) (k : Fin 2048) (b : Fin 11776) : cols w (ix2 k b) = pick (fun j => w (ix2 k j)) b := by
  pointwise [cols, pick]

/-- The input, reshaped to rows. -/
theorem v9_eq (c : Dev nD) : V m c main_v9 =
    (shapeCast S16384x2048 (m ((c.tc : Thread nD τ).loc main_arg0)) shapeCasts_S4x4096x2048_S16384x2048 : FVec Ideal S16384x2048 .f32) := by
  unfold V
  simp only [List.flatten_cons, List.flatten_nil, hostOps0, hostOps0_1, hostOps0_2, List.cons_append, List.nil_append]
  after_results
  rfl

/-- The norm weight, as one row. -/
theorem v10_eq (c : Dev nD) : V m c main_v10 =
    (shapeCast S1x2048 (m ((c.tc : Thread nD τ).loc main_arg2)) shapeCasts_S2048_S1x2048 : FVec Ideal S1x2048 .f32) := by
  unfold V
  simp only [List.flatten_cons, List.flatten_nil, hostOps0, hostOps0_1, hostOps0_2, List.cons_append, List.nil_append]
  after_results
  rfl

/-- The modulation, padded to eight samples and reshaped into six rows. -/
theorem v12_eq (c : Dev nD) : V m c main_v12 =
    (shapeCast S8x6x1x2048 (pad S8x12288 ![0, 0] ![4, 0] ![0, 0] (m ((c.tc : Thread nD τ).loc main_arg1)) (sitofp .f32 (constantI S_ 32 0#32)) pads_S4x12288_S8x12288_040_000 h_S_ : FVec Ideal S8x12288 .f32) shapeCasts_S8x12288_S8x6x1x2048 : FVec Ideal S8x6x1x2048 .f32) := by
  unfold V
  simp only [List.flatten_cons, List.flatten_nil, hostOps0, hostOps0_1, hostOps0_2, List.cons_append, List.nil_append]
  after_results
  rfl

/-- The weight, its columns reordered, cast. -/
theorem v8_eq (c : Dev nD) : V m c main_v8 =
    (truncf .bf16 (cols (m ((c.tc : Thread nD τ).loc main_arg3)) : FVec Ideal S2048x11776 .f32) bitsLt_bf16_f32 : FVec Ideal S2048x11776 .bf16) := by
  unfold V
  simp only [List.flatten_cons, List.flatten_nil, hostOps0, hostOps0_1, hostOps0_2, List.cons_append, List.nil_append]
  after_results
  rfl

/-- The block of the input, as entries of its argument. -/
theorem x_read (c : Dev nD) (t : Fin cfg0.N) (a : Fin 1024) (b : Fin 2048) :
    iblk m c 0 t (ix2 a b) = m ((c.tc : Thread nD τ).loc main_arg0) (ix3 (sample t a) (token t a) b) :=
  (blk0 t (V m c main_v9) a b).trans ((congrFun (v9_eq m c) _).trans (rows_at _ _ _))
/-- The norm weight's block is the whole weight. -/
theorem g_read (c : Dev nD) (t : Fin cfg0.N) (b : Fin 2048) :
    iblk m c 1 t (ix2 0 b) = m ((c.tc : Thread nD τ).loc main_arg2) (ix1 b) :=
  (blk1 t (V m c main_v10) b).trans ((congrFun (v10_eq m c) _).trans (g_at _ _))
/-- The weight's block: the columns the point's result columns list. -/
theorem w_read (c : Dev nD) (t : Fin cfg0.N) (a : Fin 2048) (b : Fin 512) :
    iblk m c 4 t (ix2 a b) = pick (fun j => m ((c.tc : Thread nD τ).loc main_arg3) (ix2 a j)) (col t b) :=
  (blk4 t (V m c main_v8) a b).trans ((congrFun (v8_eq m c) _).trans (cols_at _ _ _))
/-- The modulation's row 0 of the sample the block's rows belong to. -/
theorem m0_read (c : Dev nD) (t : Fin cfg0.N) (a : Fin 1024) (b : Fin 2048) :
    iblk m c 2 t (ix4 0 0 0 b) = m ((c.tc : Thread nD τ).loc main_arg1) (ix2 (sample t a) ⟨b.val, by omega⟩) := by
  refine (blk2 t (V m c main_v12) b).trans ((congrFun (v12_eq m c) _).trans
    ((mod_at _ _ _ (by have := lt t; show t.val / 92 < 4; omega) _ _).trans ?_))
  congr 2
  · exact Fin.ext (show t.val / 92 = (1024 * (t.val / 23) + a.val) / 4096 by omega)
  · exact Fin.ext (show 0 * 2048 + b.val = b.val by omega)

/-- The modulation's row 1 of the sample the block's rows belong to. -/
theorem m1_read (c : Dev nD) (t : Fin cfg0.N) (a : Fin 1024) (b : Fin 2048) :
    iblk m c 3 t (ix4 0 0 0 b) = m ((c.tc : Thread nD τ).loc main_arg1) (ix2 (sample t a) ⟨2048 + b.val, by omega⟩) := by
  refine (blk3 t (V m c main_v12) b).trans ((congrFun (v12_eq m c) _).trans
    ((mod_at _ _ _ (by have := lt t; show t.val / 92 < 4; omega) _ _).trans ?_))
  congr 2
  exact Fin.ext (show t.val / 92 = (1024 * (t.val / 23) + a.val) / 4096 by omega)

/-- The reference's normalised input, of the kernel's arguments. -/
def hid (c : Dev nD) : FVec Ideal Cert.InProjRefIdeal.S4x4096x2048 .f32 :=
  hidden (m ((c.tc : Thread nD τ).loc main_arg0)) (m ((c.tc : Thread nD τ).loc main_arg1)) (m ((c.tc : Thread nD τ).loc main_arg2))

/-- The normalised block computed from the blocks of any point is the reference's normalised input. -/
theorem norm_read (c : Dev nD) (t : Fin cfg0.N) (a : Fin 1024) (k : Fin 2048) :
    k0_pay1 (iblk m c 0 t) (iblk m c 1 t) (iblk m c 3 t) (iblk m c 2 t) (ix2 a k) = hid m c (ix3 (sample t a) (token t a) k) := by
  refine (pay1_at _ _ _ _ a k).trans ?_
  rw [hid, hidden_at, g_read, m0_read m c t a, m1_read m c t a]
  congr 1
  exact funext fun j => x_read m c t a j

/-- The scratch holds the normalised block of the run's first point. -/
theorem held (c : Dev nD) (t : Fin cfg0.N) : (outsAt0 m c t.val t.isLt).2 =
    (fun t : Fin cfg0.N => k0_pay1 (iblk m c 0 t) (iblk m c 1 t) (iblk m c 3 t) (iblk m c 2 t)) ⟨23 * (t.val / 23), Pipeline.run_start_lt t⟩ := by
  refine Pipeline.eq_of_write_hold (fun n h => (outsAt0 m c n h).2) 23
    (fun t : Fin cfg0.N => k0_pay1 (iblk m c 0 t) (iblk m c 1 t) (iblk m c 3 t) (iblk m c 2 t)) (fun t h0 => ?_) (fun t h0 => ?_) t
  · rw [outsAt0_A m c t h0]
    funext y
    frame_out
  · rw [outsAt0_B m c t h0]
    rfl

/-- At every point the scratch holds the reference's normalised rows. -/
theorem held_at (c : Dev nD) (t : Fin cfg0.N) (a : Fin 1024) (k : Fin 2048) :
    (outsAt0 m c t.val t.isLt).2 (ix2 a k) = hid m c (ix3 (sample t a) (token t a) k) := by
  rw [held m c t]
  refine (norm_read m c ⟨23 * (t.val / 23), Pipeline.run_start_lt t⟩ a k).trans ?_
  congr 1
  simp only [sample, token]
  congr 2 <;> congr 2 <;> omega

/-- The block written back: the product of the scratch's rows and the point's columns. -/
theorem out (c : Dev nD) (t : Fin cfg0.N) (y : S1024x512.Idx) :
    (outsAt0 m c t.val t.isLt).1 y = k0_pay2 (outsAt0 m c t.val t.isLt).2 (iblk m c 4 t) y := by
  by_cases h0 : t.val % 23 = 0
  · rw [outsAt0_A m c t h0]
    frame_out
  · rw [outsAt0_B m c t h0]
    frame_out
    simp only [read_unread_whole]
    rfl

/-- The result array after the run is the reference's result of the same arguments. -/
theorem result (c : Dev nD) : (dats m 0 c).arrAt 5 cfg0.N =
    Cert.InProjRefIdeal.Term.result (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 5 _ (by decide +kernel) fun t hf y => ?_
  blk_simp
  rw [after0_5, out m c t]
  idx_vars y
  generalize hX : Cert.InProjRefIdeal.Term.result (m ((c.tc : Thread nD τ).loc main_arg0)) (m ((c.tc : Thread nD τ).loc main_arg1))
      (m ((c.tc : Thread nD τ).loc main_arg2)) (m ((c.tc : Thread nD τ).loc main_arg3)) = X
  have hE : X (((View.whole main_v13).slice (win0_5.rect t)).emb (ix2 y0 y1)) = X (ix2 (row t y0) (col t y1)) := by
    blk_ext [idx t, row, col]
  refine Eq.trans ?_ hE.symm
  subst hX
  rw [Cert.InProjRefIdeal.Term.result_at _ _ _ _ (row t y0) (col t y1) (sample t y0) (token t y0) rfl rfl]
  refine (pay2_at _ _ y0 y1).trans (Finset.sum_congr rfl fun k _ => ?_)
  exact congrArg₂ (fun u v : EReal => u * v) (held_at m c t y0 k) (w_read m c t k y1)

/-- The kernel and the reference, launched on equal arguments, end with equal results. -/
theorem algebraic : @Cert.algebraic_InProjIdeal_InProjRefIdeal Cert.InProjIdeal.Gen.facts Cert.InProjRefIdeal.Gen.facts := by
  intro m g m' g' _ hagree
  refine ⟨fun c => (dats m 0 c).arrAt 5 cfg0.N, Cert.InProjIdeal.Value.run_blocks m g, ?_⟩
  refine (θ_run _ _ _).mono (fun r h c => ⟨(h c).1.trans ?_, (h c).2⟩) (Cert.InProjRefIdeal.Value.run (F := Ideal) m' g')
  obtain ⟨h0, h1, h2, h3⟩ := hagree c
  rw [Cert.InProjRefIdeal.Term.res_eq, h0, h1, h2, h3]
  exact (result m c).symm

/-- The reference ends with its arguments unchanged and every counter at zero. -/
theorem ref_frame : @Cert.quiescent_InProjRefIdeal Cert.InProjRefIdeal.Gen.facts := fun m g _ =>
  (θ_run _ _ _).mono (fun r h => ⟨fun c => (h c).2, Idealize.ShloMosaic.sem_eq_zero_of_no_sems (by decide) r.2⟩)
    (Cert.InProjRefIdeal.Value.run (F := Ideal) m g)

end Cert.InProjIdeal.InValue

end
-- ==== Proof.MergeValue.lean ====
/- The gated merge's result array, over the extended reals, is the reference's composed term of the arguments. -/
module

public import proofs.«01_k».proof.Defs
public import proofs.«01_k».proof.Proof.Gen.MergeIdeal.Value
public import proofs.«01_k».proof.Proof.Gen.MergeRefIdeal.Run
public import Idealize.ShloMosaic.Lib.Pipeline.ValueKit
public import Idealize.ShloMosaic.Lib.Pointwise

@[expose] public section

set_option maxRecDepth 16384

noncomputable section

namespace Cert.MergeRefIdeal.Term

open Cert.MergeRefIdeal Cert.MergeRefIdeal.Gen Idealize.ShloMosaic

/-- The sigmoid of the gates, as the reference spells it. -/
def gates (a3 : FVec Ideal S4x4096x6144 .f32) : FVec Ideal S4x4096x6144 .f32 :=
  Host.divf (broadcastInDim S4x4096x6144 ![] bcast_S_S4x4096x6144 (constant S_ .f32 0x3F800000#32))
    (addf (broadcastInDim S4x4096x6144 ![] bcast_S_S4x4096x6144 (constant S_ .f32 0x3F800000#32)) (Host.exp (Host.negf a3)))

/-- The three branches side by side. -/
def branches (a0 a1 a2 : FVec Ideal S4x4096x1024 .f32) : FVec Ideal S4x4096x3x1024 .f32 :=
  concatenate S4x4096x3x1024 2 [⟨S4x4096x1x1024, broadcastInDim S4x4096x1x1024 ![0, 1, 3] bcast_S4x4096x1024_S4x4096x1x1024_0_1_3 a0⟩,
    ⟨S4x4096x1x1024, broadcastInDim S4x4096x1x1024 ![0, 1, 3] bcast_S4x4096x1024_S4x4096x1x1024_0_1_3 a1⟩,
    ⟨S4x4096x1x1024, broadcastInDim S4x4096x1x1024 ![0, 1, 3] bcast_S4x4096x1024_S4x4096x1x1024_0_1_3 a2⟩]
    concatenates_S4x4096x1x1024_S4x4096x1x1024_S4x4096x1x1024_S4x4096x3x1024_d2

/-- The reference's result as a function of its argument arrays. -/
def result (a0 a1 a2 : FVec Ideal S4x4096x1024 .f32) (a3 : FVec Ideal S4x4096x6144 .f32) (a4 : FVec Ideal S3x1024x2048 .f32) :
    FVec Ideal S16384x2048 .bf16 :=
  truncf .bf16 (shapeCast S16384x2048 (Host.dotGeneral dot_S4x4096x3x2048_S4x4096x3x2048_S4x4096x2048_2_2_n_n_013_013 none
    (shapeCast S4x4096x3x2048 (gates a3) shapeCasts_S4x4096x6144_S4x4096x3x2048)
    (transpose S4x4096x3x2048 [2, 3, 0, 1] (Host.dotGeneral dot_S3x1024x2048_S4x4096x3x1024_S3x2048x4x4096_1_3_2_01_0_2 none a4 (branches a0 a1 a2))
      transposes_S3x2048x4x4096_S4x4096x3x2048_2_3_0_1)) shapeCasts_S4x4096x2048_S16384x2048) bitsLt_bf16_f32

/-- The reference's result at row `r`, column `b`: the three branches' products, each times the sigmoid of its gate. -/
theorem result_at (a0 a1 a2 : FVec Ideal S4x4096x1024 .f32) (a3 : FVec Ideal S4x4096x6144 .f32) (a4 : FVec Ideal S3x1024x2048 .f32)
    (r : Fin 16384) (b : Fin 2048) (p : Fin 4) (q : Fin 4096) (hp : p.val = r.val / 4096) (hq : q.val = r.val % 4096) :
    result a0 a1 a2 a3 a4 (ix2 r b) =
      Ideal.div 1 (1 + Ideal.exp (-a3 (ix3 p q ⟨b.val, by omega⟩))) * ∑ x, a4 (ix3 0 x b) * a0 (ix3 p q x) +
        Ideal.div 1 (1 + Ideal.exp (-a3 (ix3 p q ⟨2048 + b.val, by omega⟩))) * ∑ x, a4 (ix3 1 x b) * a1 (ix3 p q x) +
      Ideal.div 1 (1 + Ideal.exp (-a3 (ix3 p q ⟨4096 + b.val, by omega⟩))) * ∑ x, a4 (ix3 2 x b) * a2 (ix3 p q x) := by
  have ep : p = ⟨r.val / 4096, by omega⟩ := Fin.ext hp
  have eq : q = ⟨r.val % 4096, by omega⟩ := Fin.ext hq
  rw [ep, eq]
  pointwise [result, gates, branches]
  simp only [Fin.sum_univ_three]
  pointwise

end Cert.MergeRefIdeal.Term

namespace Cert.MergeIdeal.MergeValue

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at point `t`: row block `t / 4`, column block `t % 4`. -/
theorem idx : ∀ t : Fin cfg0.N, win0_0.index t = ![t.val / 4, 0] ∧ win0_1.index t = ![t.val / 4, 0] ∧ win0_2.index t = ![t.val / 4, 0]
    ∧ win0_3.index t = ![t.val / 4, 8 + t.val % 4] ∧ win0_4.index t = ![t.val / 4, 12 + t.val % 4] ∧ win0_5.index t = ![t.val / 4, 16 + t.val % 4]
    ∧ win0_6.index t = ![0, 0, t.val % 4] ∧ win0_7.index t = ![t.val / 4, t.val % 4] :=
  (by decide +kernel : ∀ t : Fin grid0.N, _)

/-- The row of the flattened arrays at which row `a` of the block at point `t` lies. -/
def row (t : Fin cfg0.N) (a : Fin 1024) : Fin 16384 := ⟨1024 * (t.val / 4) + a.val, by have : t.val < 64 := t.2; omega⟩

/-- The column of the result at which column `b` of the block at point `t` lies. -/
def col (t : Fin cfg0.N) (b : Fin 512) : Fin 2048 := ⟨512 * (t.val % 4) + b.val, by omega⟩

/-- The sample of that row. -/
def sample (t : Fin cfg0.N) (a : Fin 1024) : Fin 4 := ⟨(row t a).val / 4096, by omega⟩

/-- The token of that row. -/
def token (t : Fin cfg0.N) (a : Fin 1024) : Fin 4096 := ⟨(row t a).val % 4096, by omega⟩

/-- A row of a branch, read through the host's reshape and cast. -/
theorem rows_at (v : FVec Ideal S4x4096x1024 .f32) (r : Fin 16384) (b : Fin 1024) :
    (truncf .bf16 (shapeCast S16384x1024 v shapeCasts_S4x4096x1024_S16384x1024 : FVec Ideal S16384x1024 .f32) bitsLt_bf16_f32 : FVec Ideal S16384x1024 .bf16) (ix2 r b) =
      v (ix3 ⟨r.val / 4096, by omega⟩ ⟨r.val % 4096, by omega⟩ b) := by
  pointwise

/-- A gate, read through the host's reshape, cast and padding. -/
theorem gates_at (v : FVec Ideal S4x4096x6144 .f32) (z : FVec Ideal S_ .bf16) (r : Fin 16384) (b : Fin 6144) :
    (pad S16384x11776 ![0, 4096] ![0, 1536] ![0, 0] (truncf .bf16 (shapeCast S16384x6144 v shapeCasts_S4x4096x6144_S16384x6144 : FVec Ideal S16384x6144 .f32) bitsLt_bf16_f32) z
      pads_S16384x6144_S16384x11776_000_409615360 h_S_ : FVec Ideal S16384x11776 .bf16) (ix2 r ⟨4096 + b.val, by omega⟩) =
      v (ix3 ⟨r.val / 4096, by omega⟩ ⟨r.val % 4096, by omega⟩ b) := by
  pointwise

/-- The gates' operand: reshaped, cast, and placed in the columns of the projected array that hold them. -/
theorem v2_eq (c : Dev nD) : V m c main_v2 =
    (pad S16384x11776 ![0, 4096] ![0, 1536] ![0, 0] (truncf .bf16 (shapeCast S16384x6144 (m ((c.tc : Thread nD τ).loc main_arg3)) shapeCasts_S4x4096x6144_S16384x6144 : FVec Ideal S16384x6144 .f32) bitsLt_bf16_f32)
      (sitofp .bf16 (constantI S_ 32 0#32)) pads_S16384x6144_S16384x11776_000_409615360 h_S_ : FVec Ideal S16384x11776 .bf16) := by
  unfold V
  simp only [List.flatten_cons, List.flatten_nil, hostOps0, hostOps0_1, hostOps0_2, List.cons_append, List.nil_append]
  after_results
  rfl

/-- The weights' operand: the argument, cast. -/
theorem v9_eq (c : Dev nD) : V m c main_v9 = (truncf .bf16 (m ((c.tc : Thread nD τ).loc main_arg4) : FVec Ideal S3x1024x2048 .f32) bitsLt_bf16_f32 : FVec Ideal S3x1024x2048 .bf16) := by
  unfold V
  simp only [List.flatten_cons, List.flatten_nil, hostOps0, hostOps0_1, hostOps0_2, List.cons_append, List.nil_append]
  after_results

/-- The weights' block: all three branches' rows, the result's column block. -/
theorem blk6 (t : Fin cfg0.N) (f : FVec Ideal S3x1024x2048 .bf16) (n : Fin 3) (a : Fin 1024) (b : Fin 512) :
    f ((win0_6.blk t).view.emb (ix3 n a b)) = f (ix3 n a (col t b)) := by
  blk_ext [idx t, row, col]

/-- The weights' block, as entries of the argument. -/
theorem w_read (c : Dev nD) (t : Fin cfg0.N) (n : Fin 3) (a : Fin 1024) (b : Fin 512) :
    iblk m c 6 t (ix3 n a b) = m ((c.tc : Thread nD τ).loc main_arg4) (ix3 n a (col t b)) :=
  (blk6 t (V m c main_v9) n a b).trans (congrFun (v9_eq m c) _)

/-- Branch 0's operand: the reshaped argument. -/
theorem v4_eq (c : Dev nD) : V m c main_v4 =
    (truncf .bf16 (shapeCast S16384x1024 (m ((c.tc : Thread nD τ).loc main_arg0)) shapeCasts_S4x4096x1024_S16384x1024 : FVec Ideal S16384x1024 .f32)
      bitsLt_bf16_f32 : FVec Ideal S16384x1024 .bf16) := by
  unfold V
  simp only [List.flatten_cons, List.flatten_nil, hostOps0, hostOps0_1, hostOps0_2, List.cons_append, List.nil_append]
  after_results
  rfl

/-- Branch 0's block starts at row `1024 (t / 4)`. -/
theorem blk0 (t : Fin cfg0.N) (f : FVec Ideal S16384x1024 .bf16) (a : Fin 1024) (b : Fin 1024) :
    f ((win0_0.blk t).view.emb (ix2 a b)) = f (ix2 (row t a) b) := by
  blk_ext [idx t, row, col]

/-- Branch 0's block, as entries of its argument. -/
theorem branch0_read (c : Dev nD) (t : Fin cfg0.N) (a : Fin 1024) (b : Fin 1024) :
    iblk m c 0 t (ix2 a b) = m ((c.tc : Thread nD τ).loc main_arg0) (ix3 (sample t a) (token t a) b) :=
  (blk0 t (V m c main_v4) a b).trans ((congrFun (v4_eq m c) _).trans (rows_at _ _ _))

/-- Branch 1's operand: the reshaped argument. -/
theorem v6_eq (c : Dev nD) : V m c main_v6 =
    (truncf .bf16 (shapeCast S16384x1024 (m ((c.tc : Thread nD τ).loc main_arg1)) shapeCasts_S4x4096x1024_S16384x1024 : FVec Ideal S16384x1024 .f32)
      bitsLt_bf16_f32 : FVec Ideal S16384x1024 .bf16) := by
  unfold V
  simp only [List.flatten_cons, List.flatten_nil, hostOps0, hostOps0_1, hostOps0_2, List.cons_append, List.nil_append]
  after_results
  rfl

/-- Branch 1's block starts at row `1024 (t / 4)`. -/
theorem blk1 (t : Fin cfg0.N) (f : FVec Ideal S16384x1024 .bf16) (a : Fin 1024) (b : Fin 1024) :
    f ((win0_1.blk t).view.emb (ix2 a b)) = f (ix2 (row t a) b) := by
  blk_ext [idx t, row, col]

/-- Branch 1's block, as entries of its argument. -/
theorem branch1_read (c : Dev nD) (t : Fin cfg0.N) (a : Fin 1024) (b : Fin 1024) :
    iblk m c 1 t (ix2 a b) = m ((c.tc : Thread nD τ).loc main_arg1) (ix3 (sample t a) (token t a) b) :=
  (blk1 t (V m c main_v6) a b).trans ((congrFun (v6_eq m c) _).trans (rows_at _ _ _))

/-- Branch 2's operand: the reshaped argument. -/
theorem v8_eq (c : Dev nD) : V m c main_v8 =
    (truncf .bf16 (shapeCast S16384x1024 (m ((c.tc : Thread nD τ).loc main_arg2)) shapeCasts_S4x4096x1024_S16384x1024 : FVec Ideal S16384x1024 .f32)
      bitsLt_bf16_f32 : FVec Ideal S16384x1024 .bf16) := by
  unfold V
  simp only [List.flatten_cons, List.flatten_nil, hostOps0, hostOps0_1, hostOps0_2, List.cons_append, List.nil_append]
  after_results
  rfl

/-- Branch 2's block starts at row `1024 (t / 4)`. -/
theorem blk2 (t : Fin cfg0.N) (f : FVec Ideal S16384x1024 .bf16) (a : Fin 1024) (b : Fin 1024) :
    f ((win0_2.blk t).view.emb (ix2 a b)) = f (ix2 (row t a) b) := by
  blk_ext [idx t, row, col]

/-- Branch 2's block, as entries of its argument. -/
theorem branch2_read (c : Dev nD) (t : Fin cfg0.N) (a : Fin 1024) (b : Fin 1024) :
    iblk m c 2 t (ix2 a b) = m ((c.tc : Thread nD τ).loc main_arg2) (ix3 (sample t a) (token t a) b) :=
  (blk2 t (V m c main_v8) a b).trans ((congrFun (v8_eq m c) _).trans (rows_at _ _ _))

/-- Gate 0's block: columns from `4096 + 512 (t % 4)` of the padded array. -/
theorem blk3 (t : Fin cfg0.N) (f : FVec Ideal S16384x11776 .bf16) (a : Fin 1024) (b : Fin 512) :
    f ((win0_3.blk t).view.emb (ix2 a b)) = f (ix2 (row t a) ⟨4096 + (0 + (col t b).val), by omega⟩) := by
  blk_ext [idx t, row, col]

/-- Gate 0's block, as entries of the gates. -/
theorem gate0_read (c : Dev nD) (t : Fin cfg0.N) (a : Fin 1024) (b : Fin 512) :
    iblk m c 3 t (ix2 a b) = m ((c.tc : Thread nD τ).loc main_arg3) (ix3 (sample t a) (token t a) ⟨0 + (col t b).val, by omega⟩) :=
  (blk3 t (V m c main_v2) a b).trans ((congrFun (v2_eq m c) _).trans (gates_at _ _ _ ⟨0 + (col t b).val, by omega⟩))

/-- Gate 1's block: columns from `6144 + 512 (t % 4)` of the padded array. -/
theorem blk4 (t : Fin cfg0.N) (f : FVec Ideal S16384x11776 .bf16) (a : Fin 1024) (b : Fin 512) :
    f ((win0_4.blk t).view.emb (ix2 a b)) = f (ix2 (row t a) ⟨4096 + (2048 + (col t b).val), by omega⟩) := by
  blk_ext [idx t, row, col]

/-- Gate 1's block, as entries of the gates. -/
theorem gate1_read (c : Dev nD) (t : Fin cfg0.N) (a : Fin 1024) (b : Fin 512) :
    iblk m c 4 t (ix2 a b) = m ((c.tc : Thread nD τ).loc main_arg3) (ix3 (sample t a) (token t a) ⟨2048 + (col t b).val, by omega⟩) :=
  (blk4 t (V m c main_v2) a b).trans ((congrFun (v2_eq m c) _).trans (gates_at _ _ _ ⟨2048 + (col t b).val, by omega⟩))

/-- Gate 2's block: columns from `8192 + 512 (t % 4)` of the padded array. -/
theorem blk5 (t : Fin cfg0.N) (f : FVec Ideal S16384x11776 .bf16) (a : Fin 1024) (b : Fin 512) :
    f ((win0_5.blk t).view.emb (ix2 a b)) = f (ix2 (row t a) ⟨4096 + (4096 + (col t b).val), by omega⟩) := by
  blk_ext [idx t, row, col]

/-- Gate 2's block, as entries of the gates. -/
theorem gate2_read (c : Dev nD) (t : Fin cfg0.N) (a : Fin 1024) (b : Fin 512) :
    iblk m c 5 t (ix2 a b) = m ((c.tc : Thread nD τ).loc main_arg3) (ix3 (sample t a) (token t a) ⟨4096 + (col t b).val, by omega⟩) :=
  (blk5 t (V m c main_v2) a b).trans ((congrFun (v2_eq m c) _).trans (gates_at _ _ _ ⟨4096 + (col t b).val, by omega⟩))

/-- Half of one plus the hyperbolic tangent of half of `x` is the sigmoid of `x`, at the infinities too. -/
theorem half_tanh (x : EReal) : Ideal.ofBits FTy.f32 1056964608#32 + Ideal.ofBits FTy.f32 1056964608#32 *
    Ideal.tanh (Ideal.ofBits FTy.f32 1056964608#32 * x) = Ideal.div 1 (1 + Ideal.exp (-x)) := by
  have h2 : Ideal.ofBits FTy.f32 1056964608#32 = ((1 / 2 : ℝ) : EReal) := by
    simp [Ideal.ofBits, Ideal.ieee]
    rw [← EReal.coe_mul]
    norm_num
  rw [h2]
  induction x with
  | bot =>
    rw [EReal.coe_mul_bot_of_pos (by norm_num)]
    have h1 : (1 : EReal) + ⊤ = ⊤ := by
      rw [← EReal.coe_one, EReal.coe_add_top]
    simp [Ideal.div, h1]
    rw [← EReal.coe_neg, ← EReal.coe_add]
    simp
  | top =>
    rw [EReal.coe_mul_top_of_pos (by norm_num)]
    simp [Ideal.div]
    rw [← EReal.coe_add]
    norm_num
  | coe r =>
    have hr : (1 / 2 : ℝ) + 1 / 2 * Real.tanh (1 / 2 * r) = 1 / (1 + Real.exp (-r)) := by
      have hu := Real.exp_pos (1 / 2 * r)
      have h1 : Real.exp (-r) = 1 / (Real.exp (1 / 2 * r) * Real.exp (1 / 2 * r)) := by
        rw [← Real.exp_add, one_div, ← Real.exp_neg]
        congr 1
        ring
      rw [Real.tanh_eq_sinh_div_cosh, Real.sinh_eq, Real.cosh_eq, h1, Real.exp_neg]
      field_simp
      ring
    have hp := Real.exp_pos (-r)
    have hd : Ideal.div 1 (1 + Ideal.exp (-(r : EReal))) = ((1 / (1 + Real.exp (-r)) : ℝ) : EReal) := by
      rw [← EReal.coe_neg, Ideal.exp_coe, ← EReal.coe_one, ← EReal.coe_add, Ideal.div_coe (by positivity), ← EReal.coe_mul, one_mul]
    rw [hd, ← hr, ← EReal.coe_mul, Ideal.tanh_coe, ← EReal.coe_mul, ← EReal.coe_add]

/-- The result array after the run is the reference's result of the same arguments. -/
theorem result (c : Dev nD) : (dats m 0 c).arrAt 7 cfg0.N =
    Cert.MergeRefIdeal.Term.result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  refine (dats m 0 c).arrAt_eq_of_covers 7 _ (by decide +kernel) fun t hf y => ?_
  blk_simp
  rw [after0_7]
  frame_out
  idx_vars y
  generalize hX : Cert.MergeRefIdeal.Term.result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = X
  have hE : X (((View.whole main_v10).slice (win0_7.rect t)).emb (ix2 y0 y1)) = X (ix2 (row t y0) (col t y1)) := by
    blk_ext [idx t, row, col]
  refine Eq.trans ?_ hE.symm
  subst hX
  rw [Cert.MergeRefIdeal.Term.result_at _ _ _ _ _ _ _ (sample t y0) (token t y0) rfl rfl]
  pointwise [k0_pay1, k0_pay2]
  rw [half_tanh, half_tanh, half_tanh, gate0_read, gate1_read, gate2_read]
  refine congrArg₂ (· + ·) (congrArg₂ (· + ·) (congrArg₂ (· * ·) ?_ (Finset.sum_congr rfl fun k _ => ?_))
    (congrArg₂ (· * ·) rfl (Finset.sum_congr rfl fun k _ => ?_))) (congrArg₂ (· * ·) rfl (Finset.sum_congr rfl fun k _ => ?_))
  · simp only [Nat.zero_add]
  · rw [branch0_read, w_read]; exact mul_comm _ _
  · rw [branch1_read, w_read]; exact mul_comm _ _
  · rw [branch2_read, w_read]; exact mul_comm _ _

/-- The kernel and the reference, launched on equal arguments, end with equal results. -/
theorem algebraic : @Cert.algebraic_MergeIdeal_MergeRefIdeal Cert.MergeIdeal.Gen.facts Cert.MergeRefIdeal.Gen.facts := by
  intro m g m' g' _ hagree
  refine ⟨fun c => (dats m 0 c).arrAt 7 cfg0.N, Cert.MergeIdeal.Value.run_blocks m g, ?_⟩
  refine (θ_run _ _ _).mono (fun r h c => ⟨(h c).1.trans ?_, (h c).2⟩) (Cert.MergeRefIdeal.Value.run (F := Ideal) m' g')
  obtain ⟨h0, h1, h2, h3, h4⟩ := hagree c
  rw [h0, h1, h2, h3, h4]
  exact (result m c).symm

/-- The reference ends with its arguments unchanged and every counter at zero. -/
theorem ref_frame : @Cert.quiescent_MergeRefIdeal Cert.MergeRefIdeal.Gen.facts := fun m g _ =>
  (θ_run _ _ _).mono (fun r h => ⟨fun c => (h c).2, Idealize.ShloMosaic.sem_eq_zero_of_no_sems (by decide) r.2⟩)
    (Cert.MergeRefIdeal.Value.run (F := Ideal) m g)

end Cert.MergeIdeal.MergeValue

end
-- ==== Proof.OutProjValue.lean ====
/- The output projection's result array, over the extended reals, is the reference's composed term of the arguments. -/
module

public import proofs.«01_k».proof.Defs
public import proofs.«01_k».proof.Proof.Gen.OutProjIdeal.Value
public import proofs.«01_k».proof.Proof.Gen.OutProjRefIdeal.Run
public import Idealize.ShloMosaic.Lib.Pipeline.ValueKit
public import Idealize.ShloMosaic.Lib.Pointwise

@[expose] public section

set_option maxRecDepth 16384

noncomputable section

namespace Cert.OutProjRefIdeal.Term

open Cert.OutProjRefIdeal Cert.OutProjRefIdeal.Gen Idealize.ShloMosaic

/-- The reference's result as a function of its argument arrays: the residual plus the gate times the product. -/
def result (a0 : FVec Ideal S4x4096x2048 .f32) (a1 : FVec Ideal S2048x2048 .f32) (a2 : FVec Ideal S4x4096x2048 .f32)
    (a3 : FVec Ideal S4x12288 .f32) : FVec Ideal S16384x2048 .f32 :=
  shapeCast S16384x2048 (addf a2 (mulf (broadcastInDim S4x4096x2048 ![0, 1, 2] bcast_S4x1x2048_S4x4096x2048_0_1_2
    (broadcastInDim S4x1x2048 ![0, 2] bcast_S4x2048_S4x1x2048_0_2 (extractStridedSlice S4x2048 ![0, 4096] a3 slices_S4x12288_S4x2048_0_4096)))
    (Host.dotGeneral dot_S4x4096x2048_S2048x2048_S4x4096x2048_2_0_01_1_n_n none a0 a1))) shapeCasts_S4x4096x2048_S16384x2048

end Cert.OutProjRefIdeal.Term

namespace Cert.OutProjIdeal.ProjValue

open Cert.OutProjIdeal Cert.OutProjIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at point `t`: rows in blocks of 512, the weight whole, the modulation row of the sample. -/
theorem idx : ∀ t : Fin cfg0.N, win0_0.index t = ![t.val, 0] ∧ win0_1.index t = ![0, 0] ∧ win0_2.index t = ![t.val, 0]
    ∧ win0_3.index t = ![t.val / 8, 2, 0, 0] ∧ win0_4.index t = ![t.val, 0] :=
  (by decide +kernel : ∀ t : Fin grid0.N, _)

/-- The rows of the residual, read through the host's reshape. -/
theorem rows_at (v : FVec Ideal S4x4096x2048 .f32) (r : Fin 16384) (b : Fin 2048) :
    shapeCast S16384x2048 v shapeCasts_S4x4096x2048_S16384x2048 (ix2 r b) =
      v (ix3 ⟨r.val / 4096, by omega⟩ ⟨r.val % 4096, by omega⟩ b) := by
  pointwise

/-- The modulation rows, read through the host's padding and reshape. -/
theorem mod_at (v : FVec Ideal S4x12288 .f32) (z : FVec Ideal S_ .f32) (s : Fin 8) (hs : s.val < 4) (k : Fin 6) (b : Fin 2048) :
    shapeCast S8x6x1x2048 (pad S8x12288 ![0, 0] ![4, 0] ![0, 0] v z
     pads_S4x12288_S8x12288_040_000 h_S_ : FVec Ideal S8x12288 .f32) shapeCasts_S8x12288_S8x6x1x2048 (ix4 s k 0 b) =
      v (ix2 ⟨s.val, hs⟩ ⟨k.val * 2048 + b.val, by omega⟩) := by
  pointwise
  exact dif_pos ⟨hs, by omega⟩

/-- The residual's block `t` starts at row `512 t`. -/
theorem blk2 (t : Fin cfg0.N) (f : FVec Ideal S16384x2048 .f32) (a : Fin 512) (b : Fin 2048) :
    f ((win0_2.blk t).view.emb (ix2 a b)) = f (ix2 ⟨512 * t.val + a.val, by have : t.val < 32 := t.2; omega⟩ b) := by
  blk_ext [idx t]
/-- The merged stream's block `t` starts at row `512 t`. -/
theorem blk0 (t : Fin cfg0.N) (f : FVec Ideal S16384x2048 .bf16) (a : Fin 512) (b : Fin 2048) :
    f ((win0_0.blk t).view.emb (ix2 a b)) = f (ix2 ⟨512 * t.val + a.val, by have : t.val < 32 := t.2; omega⟩ b) := by
  blk_ext [idx t]
/-- The weight has one block. -/
theorem blk1 (t : Fin cfg0.N) (f : FVec Ideal S2048x2048 .bf16) (a : Fin 2048) (b : Fin 2048) :
    f ((win0_1.blk t).view.emb (ix2 a b)) = f (ix2 a b) := by
  blk_ext [idx t]
/-- The modulation's block `t` is row 2 of sample `t / 8`. -/
theorem blk3 (t : Fin cfg0.N) (f : FVec Ideal S8x6x1x2048 .f32) (b : Fin 2048) :
    f ((win0_3.blk t).view.emb (ix4 0 0 0 b)) = f (ix4 ⟨t.val / 8, by have : t.val < 32 := t.2; omega⟩ 2 0 b) := by
  blk_ext [idx t]

/-- The residual operand: the reshaped input. -/
theorem v3_eq (c : Dev nD) : (V m c main_v3 : FVec Ideal S16384x2048 .f32) =
    shapeCast S16384x2048 (m ((c.tc : Thread nD τ).loc main_arg2)) shapeCasts_S4x4096x2048_S16384x2048 := by
  unfold V
  simp only [List.flatten_cons, List.flatten_nil, hostOps0, hostOps0_1, hostOps0_2, List.cons_append, List.nil_append]
  after_results
  rfl

/-- The merged stream's operand: the reshaped argument. -/
theorem v1_eq (c : Dev nD) : (V m c main_v1) =
    (truncf .bf16 (shapeCast S16384x2048 (m ((c.tc : Thread nD τ).loc main_arg0)) shapeCasts_S4x4096x2048_S16384x2048 : FVec Ideal S16384x2048 .f32) bitsLt_bf16_f32 : FVec Ideal S16384x2048 .bf16) := by
  unfold V
  simp only [List.flatten_cons, List.flatten_nil, hostOps0, hostOps0_1, hostOps0_2, List.cons_append, List.nil_append]
  after_results
  rfl

/-- The weight operand: the argument, cast. -/
theorem v2_eq (c : Dev nD) : (V m c main_v2) =
    (truncf .bf16 (m ((c.tc : Thread nD τ).loc main_arg1) : FVec Ideal S2048x2048 .f32) bitsLt_bf16_f32 : FVec Ideal S2048x2048 .bf16) := by
  unfold V
  simp only [List.flatten_cons, List.flatten_nil, hostOps0, hostOps0_1, hostOps0_2, List.cons_append, List.nil_append]
  after_results

/-- The modulation operand: padded to eight samples and reshaped into six rows. -/
theorem v5_eq (c : Dev nD) : (V m c main_v5 : FVec Ideal S8x6x1x2048 .f32) =
   shapeCast S8x6x1x2048 (pad S8x12288 ![0, 0] ![4, 0] ![0, 0] (m ((c.tc : Thread nD τ).loc main_arg3)) (sitofp .f32 (constantI S_ 32 0#32))
     pads_S4x12288_S8x12288_040_000 h_S_ : FVec Ideal S8x12288 .f32) shapeCasts_S8x12288_S8x6x1x2048 := by
  unfold V
  simp only [List.flatten_cons, List.flatten_nil, hostOps0, hostOps0_1, hostOps0_2, List.cons_append, List.nil_append]
  after_results
  rfl

/-- The block of the residual, as entries of its argument. -/
theorem x_read (c : Dev nD) (t : Fin cfg0.N) (a : Fin 512) (b : Fin 2048) :
    iblk m c 2 t (ix2 a b) = m ((c.tc : Thread nD τ).loc main_arg2)
      (ix3 ⟨(512 * t.val + a.val) / 4096, by have : t.val < 32 := t.2; omega⟩ ⟨(512 * t.val + a.val) % 4096, by omega⟩ b) :=
  (blk2 t (V m c main_v3) a b).trans ((congrFun (v3_eq m c) _).trans (rows_at _ _ _))

/-- The block of the merged stream, as entries of its argument. -/
theorem p_read (c : Dev nD) (t : Fin cfg0.N) (a : Fin 512) (b : Fin 2048) :
    iblk m c 0 t (ix2 a b) = m ((c.tc : Thread nD τ).loc main_arg0)
      (ix3 ⟨(512 * t.val + a.val) / 4096, by have : t.val < 32 := t.2; omega⟩ ⟨(512 * t.val + a.val) % 4096, by omega⟩ b) :=
  (blk0 t (V m c main_v1) a b).trans ((congrFun (v1_eq m c) _).trans (rows_at _ _ _))

/-- The weight's block is the whole weight. -/
theorem w_read (c : Dev nD) (t : Fin cfg0.N) (a : Fin 2048) (b : Fin 2048) :
    iblk m c 1 t (ix2 a b) = m ((c.tc : Thread nD τ).loc main_arg1) (ix2 a b) :=
  (blk1 t (V m c main_v2) a b).trans (congrFun (v2_eq m c) _)

/-- The modulation's block: the gate row of the sample the block's rows belong to. -/
theorem m_read (c : Dev nD) (t : Fin cfg0.N) (a : Fin 512) (b : Fin 2048) :
    iblk m c 3 t (ix4 0 0 0 b) = m ((c.tc : Thread nD τ).loc main_arg3)
      (ix2 ⟨(512 * t.val + a.val) / 4096, by have : t.val < 32 := t.2; omega⟩ ⟨4096 + b.val, by omega⟩) := by
  refine (blk3 t (V m c main_v5) b).trans ((congrFun (v5_eq m c) _).trans
    ((mod_at _ _ _ (by have : t.val < 32 := t.2; show t.val / 8 < 4; omega) _ _).trans ?_))
  congr 2
  exact Fin.ext (show t.val / 8 = (512 * t.val + a.val) / 4096 by omega)

/-- The result array after the run is the reference's result of the same arguments. -/
theorem result (c : Dev nD) : (dats m 0 c).arrAt 4 cfg0.N =
    Cert.OutProjRefIdeal.Term.result (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ (by decide +kernel) fun t hf y => ?_
  blk_simp
  rw [after0_4]
  frame_out
  idx_vars y
  generalize hX : Cert.OutProjRefIdeal.Term.result (m ((c.tc : Thread nD τ).loc main_arg0)) (m ((c.tc : Thread nD τ).loc main_arg1))
      (m ((c.tc : Thread nD τ).loc main_arg2)) (m ((c.tc : Thread nD τ).loc main_arg3)) = X
  have hE : X (((View.whole main_v6).slice (win0_4.rect t)).emb (ix2 y0 y1)) = X (ix2 ⟨512 * t.val + y0.val, by have : t.val < 32 := t.2; omega⟩ y1) := by
    blk_ext [idx t]
  refine Eq.trans ?_ hE.symm
  subst hX
  pointwise [k0_pay1, Cert.OutProjRefIdeal.Term.result]
  rw [x_read, m_read m c t y0]
  congr 2
  exact Finset.sum_congr rfl fun k _ => by rw [p_read, w_read]
/-- The kernel and the reference, launched on equal arguments, end with equal results. -/
theorem algebraic : @Cert.algebraic_OutProjIdeal_OutProjRefIdeal Cert.OutProjIdeal.Gen.facts Cert.OutProjRefIdeal.Gen.facts := by
  intro m g m' g' _ hagree
  refine ⟨fun c => (dats m 0 c).arrAt 4 cfg0.N, Cert.OutProjIdeal.Value.run_blocks m g, ?_⟩
  refine (θ_run _ _ _).mono (fun r h c => ⟨(h c).1.trans ?_, (h c).2⟩) (Cert.OutProjRefIdeal.Value.run (F := Ideal) m' g')
  obtain ⟨h0, h1, h2, h3⟩ := hagree c
  rw [h0, h1, h2, h3]
  exact (result m c).symm

/-- The reference ends with its arguments unchanged and every counter at zero. -/
theorem ref_frame : @Cert.quiescent_OutProjRefIdeal Cert.OutProjRefIdeal.Gen.facts := fun m g _ =>
  (θ_run _ _ _).mono (fun r h => ⟨fun c => (h c).2, Idealize.ShloMosaic.sem_eq_zero_of_no_sems (by decide) r.2⟩)
    (Cert.OutProjRefIdeal.Value.run (F := Ideal) m g)

end Cert.OutProjIdeal.ProjValue

end
-- ==== Proof.S5PostValue.lean ====
/- The result array of the call after the S5 scan, over the extended reals, is the reference's composed term of the arguments. -/
module

public import proofs.«01_k».proof.Defs
public import proofs.«01_k».proof.Proof.Gen.S5PostIdeal.Value
public import proofs.«01_k».proof.Proof.Gen.S5PostRefIdeal.Run
public import Idealize.ShloMosaic.Lib.Pipeline.ValueKit
public import Idealize.ShloMosaic.Lib.Pointwise

@[expose] public section

set_option maxRecDepth 16384

noncomputable section

namespace Cert.S5PostRefIdeal.Term

open Cert.S5PostRefIdeal Cert.S5PostRefIdeal.Gen Idealize.ShloMosaic

/-- The scan's output with its skip: `y + d u`. -/
def skip (a0 a1 : FVec Ideal S4x4096x1024 .f32) (a2 : FVec Ideal S1024 .f32) : FVec Ideal S4x4096x1024 .f32 :=
  addf a0 (mulf (broadcastInDim S4x4096x1024 ![0, 1, 2] bcast_S1x1x1024_S4x4096x1024_0_1_2 (broadcastInDim S1x1x1024 ![2] bcast_S1024_S1x1x1024_2 a2)) a1)

/-- The nonlinearity in its tanh form: `x · (1 + tanh (c (x + c' x x x))) / 2`. -/
def act (x : FVec Ideal S4x4096x1024 .f32) : FVec Ideal S4x4096x1024 .f32 :=
  mulf x (mulf (broadcastInDim S4x4096x1024 ![] bcast_S_S4x4096x1024 (constant S_ .f32 0x3F000000#32))
    (addf (broadcastInDim S4x4096x1024 ![] bcast_S_S4x4096x1024 (constant S_ .f32 0x3F800000#32))
      (Host.tanh (mulf (broadcastInDim S4x4096x1024 ![] bcast_S_S4x4096x1024 (constant S_ .f32 0x3F4C422A#32))
        (addf x (mulf (broadcastInDim S4x4096x1024 ![] bcast_S_S4x4096x1024 (constant S_ .f32 0x3D372713#32)) (mulf (mulf x x) x)))))))

/-- The gated linear unit: `z · 1 / (1 + exp (-(z w + b)))`. -/
def glu (z : FVec Ideal S4x4096x1024 .f32) (a3 : FVec Ideal S1024x1024 .f32) (a4 : FVec Ideal S1024 .f32) : FVec Ideal S4x4096x1024 .f32 :=
  mulf z (Host.divf (broadcastInDim S4x4096x1024 ![] bcast_S_S4x4096x1024 (constant S_ .f32 0x3F800000#32))
    (addf (broadcastInDim S4x4096x1024 ![] bcast_S_S4x4096x1024 (constant S_ .f32 0x3F800000#32))
      (Host.exp (Host.negf (addf (Host.dotGeneral dot_S4x4096x1024_S1024x1024_S4x4096x1024_2_0_01_1_n_n none z a3)
        (broadcastInDim S4x4096x1024 ![0, 1, 2] bcast_S1x1x1024_S4x4096x1024_0_1_2 (broadcastInDim S1x1x1024 ![2] bcast_S1024_S1x1x1024_2 a4)))))))

/-- The reference's result as a function of its argument arrays. -/
def result (a0 a1 : FVec Ideal S4x4096x1024 .f32) (a2 : FVec Ideal S1024 .f32) (a3 : FVec Ideal S1024x1024 .f32)
    (a4 : FVec Ideal S1024 .f32) : FVec Ideal S16384x1024 .bf16 :=
  truncf .bf16 (shapeCast S16384x1024 (glu (act (skip a0 a1 a2)) a3 a4) shapeCasts_S4x4096x1024_S16384x1024 : FVec Ideal S16384x1024 .f32) bitsLt_bf16_f32

end Cert.S5PostRefIdeal.Term

namespace Cert.S5PostIdeal.S5Value

open Cert.S5PostIdeal Cert.S5PostIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at point `t`: rows in blocks of 512, the input's columns from 3072 on, the rest whole. -/
theorem idx : ∀ t : Fin cfg0.N, win0_0.index t = ![t.val, 0] ∧ win0_1.index t = ![t.val, 3] ∧ win0_2.index t = ![0, 0]
    ∧ win0_3.index t = ![0, 0] ∧ win0_4.index t = ![0, 0] ∧ win0_5.index t = ![t.val, 0] :=
  (by decide +kernel : ∀ t : Fin grid0.N, _)

/-- The row of the flattened arrays at which row `a` of the block at point `t` lies. -/
def row (t : Fin cfg0.N) (a : Fin 512) : Fin 16384 := ⟨512 * t.val + a.val, by have : t.val < 32 := t.2; omega⟩

/-- The sample of that row. -/
def sample (t : Fin cfg0.N) (a : Fin 512) : Fin 4 := ⟨(row t a).val / 4096, by omega⟩

/-- The token of that row. -/
def token (t : Fin cfg0.N) (a : Fin 512) : Fin 4096 := ⟨(row t a).val % 4096, by omega⟩

/-- A row of the scan's output, read through the host's reshape and cast. -/
theorem rows_at (v : FVec Ideal S4x4096x1024 .f32) (r : Fin 16384) (b : Fin 1024) :
    (truncf .bf16 (shapeCast S16384x1024 v shapeCasts_S4x4096x1024_S16384x1024 : FVec Ideal S16384x1024 .f32) bitsLt_bf16_f32 : FVec Ideal S16384x1024 .bf16) (ix2 r b) =
      v (ix3 ⟨r.val / 4096, by omega⟩ ⟨r.val % 4096, by omega⟩ b) := by
  pointwise

/-- The scan's input, read through the host's reshape, cast and padding. -/
theorem cols_at (v : FVec Ideal S4x4096x1024 .f32) (z : FVec Ideal S_ .bf16) (r : Fin 16384) (b : Fin 1024) :
    (pad S16384x11776 ![0, 3072] ![0, 7680] ![0, 0] (truncf .bf16 (shapeCast S16384x1024 v shapeCasts_S4x4096x1024_S16384x1024 : FVec Ideal S16384x1024 .f32) bitsLt_bf16_f32) z
      pads_S16384x1024_S16384x11776_000_307276800 h_S_ : FVec Ideal S16384x11776 .bf16) (ix2 r ⟨3072 + b.val, by omega⟩) =
      v (ix3 ⟨r.val / 4096, by omega⟩ ⟨r.val % 4096, by omega⟩ b) := by
  pointwise

/-- A vector, read through the host's reshape to a row. -/
theorem vec_at (v : FVec Ideal S1024 .f32) (b : Fin 1024) :
    (shapeCast S1x1024 v shapeCasts_S1024_S1x1024 : FVec Ideal S1x1024 .f32) (ix2 0 b) = v (ix1 b) := by
  pointwise

/-- The scan's output block `t` starts at row `512 t`. -/
theorem blk0 (t : Fin cfg0.N) (f : FVec Ideal S16384x1024 .bf16) (a : Fin 512) (b : Fin 1024) :
    f ((win0_0.blk t).view.emb (ix2 a b)) = f (ix2 (row t a) b) := by
  blk_ext [idx t, row]
/-- The scan's input block `t` starts at row `512 t`, column 3072; no part of it is cut. -/
theorem blk1 (t : Fin cfg0.N) (f : FVec Ideal S16384x11776 .bf16) (d : (cfg0.win 1).block.Idx → Elt Ideal (cfg0.win 1).elt) (a : Fin 512) (b : Fin 1024) :
    (cfg0.win 1).fill (cfg0.grid.coords t) d (((cfg0.win 1).blk t).view.read (Elt Ideal) f) (ix2 a b) = f (ix2 (row t a) ⟨3072 + b.val, by omega⟩) := by
  unfold Pipeline.Window.fill
  rw [dif_pos (moved0_1 t _)]
  show f ((win0_1.blk t).view.emb _) = _
  blk_ext [idx t, row]
/-- The skip's vector has one block. -/
theorem blk2 (t : Fin cfg0.N) (f : FVec Ideal S1x1024 .f32) (b : Fin 1024) :
    f ((win0_2.blk t).view.emb (ix2 0 b)) = f (ix2 0 b) := by
  blk_ext [idx t]
/-- The weight has one block. -/
theorem blk3 (t : Fin cfg0.N) (f : FVec Ideal S1024x1024 .bf16) (a b : Fin 1024) :
    f ((win0_3.blk t).view.emb (ix2 a b)) = f (ix2 a b) := by
  blk_ext [idx t]
/-- The bias has one block. -/
theorem blk4 (t : Fin cfg0.N) (f : FVec Ideal S1x1024 .f32) (b : Fin 1024) :
    f ((win0_4.blk t).view.emb (ix2 0 b)) = f (ix2 0 b) := by
  blk_ext [idx t]

/-- The scan's output operand: the reshaped argument. -/
theorem v1_eq (c : Dev nD) : (V m c main_v1) =
    (truncf .bf16 (shapeCast S16384x1024 (m ((c.tc : Thread nD τ).loc main_arg0)) shapeCasts_S4x4096x1024_S16384x1024 : FVec Ideal S16384x1024 .f32) bitsLt_bf16_f32 : FVec Ideal S16384x1024 .bf16) := by
  unfold V
  simp only [List.flatten_cons, List.flatten_nil, hostOps0, hostOps0_1, hostOps0_2, List.cons_append, List.nil_append]
  after_results
  rfl

/-- The scan's input operand: reshaped, cast, and placed in the columns of the projected array that hold it. -/
theorem v4_eq (c : Dev nD) : V m c main_v4 =
    (pad S16384x11776 ![0, 3072] ![0, 7680] ![0, 0] (truncf .bf16 (shapeCast S16384x1024 (m ((c.tc : Thread nD τ).loc main_arg1)) shapeCasts_S4x4096x1024_S16384x1024 : FVec Ideal S16384x1024 .f32) bitsLt_bf16_f32)
      (sitofp .bf16 (constantI S_ 32 0#32)) pads_S16384x1024_S16384x11776_000_307276800 h_S_ : FVec Ideal S16384x11776 .bf16) := by
  unfold V
  simp only [List.flatten_cons, List.flatten_nil, hostOps0, hostOps0_1, hostOps0_2, List.cons_append, List.nil_append]
  after_results
  rfl

/-- The skip's operand: the argument as a row. -/
theorem v5_eq (c : Dev nD) : (V m c main_v5) = (shapeCast S1x1024 (m ((c.tc : Thread nD τ).loc main_arg2)) shapeCasts_S1024_S1x1024 : FVec Ideal S1x1024 .f32) := by
  unfold V
  simp only [List.flatten_cons, List.flatten_nil, hostOps0, hostOps0_1, hostOps0_2, List.cons_append, List.nil_append]
  after_results
  rfl

/-- The weight's operand: the argument, cast. -/
theorem v6_eq (c : Dev nD) : (V m c main_v6) =
    (truncf .bf16 (m ((c.tc : Thread nD τ).loc main_arg3) : FVec Ideal S1024x1024 .f32) bitsLt_bf16_f32 : FVec Ideal S1024x1024 .bf16) := by
  unfold V
  simp only [List.flatten_cons, List.flatten_nil, hostOps0, hostOps0_1, hostOps0_2, List.cons_append, List.nil_append]
  after_results

/-- The bias's operand: the argument as a row. -/
theorem v7_eq (c : Dev nD) : (V m c main_v7) = (shapeCast S1x1024 (m ((c.tc : Thread nD τ).loc main_arg4)) shapeCasts_S1024_S1x1024 : FVec Ideal S1x1024 .f32) := by
  unfold V
  simp only [List.flatten_cons, List.flatten_nil, hostOps0, hostOps0_1, hostOps0_2, List.cons_append, List.nil_append]
  after_results
  rfl

/-- The block of the scan's output, as entries of its argument. -/
theorem y_read (c : Dev nD) (t : Fin cfg0.N) (a : Fin 512) (b : Fin 1024) :
    iblk m c 0 t (ix2 a b) = m ((c.tc : Thread nD τ).loc main_arg0) (ix3 (sample t a) (token t a) b) :=
  (blk0 t (V m c main_v1) a b).trans ((congrFun (v1_eq m c) _).trans (rows_at _ _ _))

/-- The block of the scan's input, as entries of its argument. -/
theorem u_read (c : Dev nD) (t : Fin cfg0.N) (a : Fin 512) (b : Fin 1024) :
    X0_1 m c t (ix2 a b) = m ((c.tc : Thread nD τ).loc main_arg1) (ix3 (sample t a) (token t a) b) :=
  (blk1 t (V m c main_v4) dflt0_1 a b).trans ((congrFun (v4_eq m c) _).trans (cols_at _ _ _ _))

/-- The skip's block is the whole vector. -/
theorem d_read (c : Dev nD) (t : Fin cfg0.N) (b : Fin 1024) :
    iblk m c 2 t (ix2 0 b) = m ((c.tc : Thread nD τ).loc main_arg2) (ix1 b) :=
  (blk2 t (V m c main_v5) b).trans ((congrFun (v5_eq m c) _).trans (vec_at _ _))

/-- The weight's block is the whole weight. -/
theorem w_read (c : Dev nD) (t : Fin cfg0.N) (a b : Fin 1024) :
    iblk m c 3 t (ix2 a b) = m ((c.tc : Thread nD τ).loc main_arg3) (ix2 a b) :=
  (blk3 t (V m c main_v6) a b).trans (congrFun (v6_eq m c) _)

/-- The bias's block is the whole vector. -/
theorem b_read (c : Dev nD) (t : Fin cfg0.N) (b : Fin 1024) :
    iblk m c 4 t (ix2 0 b) = m ((c.tc : Thread nD τ).loc main_arg4) (ix1 b) :=
  (blk4 t (V m c main_v7) b).trans ((congrFun (v7_eq m c) _).trans (vec_at _ _))

/-- The cube, in the order the reference multiplies it. -/
theorem cube (x : EReal) : x * (x * x) = x * x * x := (mul_assoc x x x).symm

/-- The result array after the run is the reference's result of the same arguments. -/
theorem result (c : Dev nD) : (dats m 0 c).arrAt 5 cfg0.N =
    Cert.S5PostRefIdeal.Term.result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp
  rw [after0_5]
  unfold outsAt0
  frame_out
  idx_vars y
  generalize hX : Cert.S5PostRefIdeal.Term.result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = X
  have hE : X (((View.whole main_v8).slice (win0_5.rect t)).emb (ix2 y0 y1)) = X (ix2 (row t y0) y1) := by
    blk_ext [idx t, row]
  refine Eq.trans ?_ hE.symm
  subst hX
  pointwise [k0_pay1, Cert.S5PostRefIdeal.Term.result, Cert.S5PostRefIdeal.Term.glu, Cert.S5PostRefIdeal.Term.act, Cert.S5PostRefIdeal.Term.skip]
  simp only [y_read, u_read, d_read, w_read, b_read, cube]
  rfl

/-- The kernel and the reference, launched on equal arguments, end with equal results. -/
theorem algebraic : @Cert.algebraic_S5PostIdeal_S5PostRefIdeal Cert.S5PostIdeal.Gen.facts Cert.S5PostRefIdeal.Gen.facts := by
  intro m g m' g' _ hagree
  refine ⟨fun c => (dats m 0 c).arrAt 5 cfg0.N, Cert.S5PostIdeal.Value.run_blocks m g, ?_⟩
  refine (θ_run _ _ _).mono (fun r h c => ⟨(h c).1.trans ?_, (h c).2⟩) (Cert.S5PostRefIdeal.Value.run (F := Ideal) m' g')
  obtain ⟨h0, h1, h2, h3, h4⟩ := hagree c
  refine Eq.trans ?_ (result m c).symm
  rw [← h0, ← h1, ← h2, ← h3, ← h4]
  rfl

/-- The reference ends with its arguments unchanged and every counter at zero. -/
theorem ref_frame : @Cert.quiescent_S5PostRefIdeal Cert.S5PostRefIdeal.Gen.facts := fun m g _ =>
  (θ_run _ _ _).mono (fun r h => ⟨fun c => (h c).2, Idealize.ShloMosaic.sem_eq_zero_of_no_sems (by decide) r.2⟩)
    (Cert.S5PostRefIdeal.Value.run (F := Ideal) m g)

end Cert.S5PostIdeal.S5Value

end
-- ==== Proof.RopeMath.lean ====
/- One head's normalisation and rotary turn on 128 lanes, of which 64 carry data: equal, over the extended reals, to the turn on 64 lanes. -/
module

public import Idealize.ShloMosaic.Lib.Pipeline.ValueKit
public import Idealize.ShloMosaic.Lib.Pointwise

@[expose] public section

set_option maxRecDepth 16384

noncomputable section

namespace Cert.Rope

open Idealize.ShloMosaic

/-- A normalised row of 512 entries: `x / √(mean x² + ε) · g`. -/
def norm512 (x g : Fin 512 → EReal) (l : Fin 512) : EReal :=
  x l * Ideal.rsqrt (Ideal.div (∑ k, x k * x k) (Ideal.ofBits FTy.f32 0x44000000#32) + Ideal.ofBits FTy.f32 0x358637BD#32) * g l

/-- The normalised vector: `x / √(mean x² + ε) · g`, the mean over 128. -/
def norm128 (x g : Fin 128 → EReal) (l : Fin 128) : EReal :=
  x l * Ideal.rsqrt (Ideal.div (∑ k, x k * x k) (Ideal.ofBits FTy.f32 0x43000000#32) + Ideal.ofBits FTy.f32 0x358637BD#32) * g l

/-- The normalised vector of 64 entries: `x / √(mean x² + ε) · g`. -/
def norm64 (x g : Fin 64 → EReal) (l : Fin 64) : EReal :=
  x l * Ideal.rsqrt (Ideal.div (∑ k, x k * x k) (Ideal.ofBits FTy.f32 0x42800000#32) + Ideal.ofBits FTy.f32 0x358637BD#32) * g l

/-- The normalised vector of 64 entries laid in 128 lanes, its sum of squares multiplied by 1/64. -/
def lanes (x g : Fin 128 → EReal) (l : Fin 128) : EReal :=
  x l * Ideal.rsqrt ((∑ k, x k * x k) * Ideal.ofBits FTy.f32 0x3C800000#32 + Ideal.ofBits FTy.f32 0x358637BD#32) * g l

/-- The rotary turn in 128 lanes: the vector times the cosines plus its halves exchanged times the signed sines. -/
def turnLanes (x g cos sin : Fin 128 → EReal) (l : Fin 128) : EReal :=
  lanes x g l * cos l + (if l.val < 32 then lanes x g ⟨(l.val + 32) % 128, Nat.mod_lt _ (by norm_num)⟩
    else lanes x g ⟨(l.val + 96) % 128, Nat.mod_lt _ (by norm_num)⟩) * sin l

/-- The rotary turn of a vector of 64 entries: `(a cos - b sin, a sin + b cos)` for its halves `a` and `b`. -/
def turn64 (n : Fin 64 → EReal) (cos sin : Fin 32 → EReal) (l : Fin 64) : EReal :=
  if h : l.val < 32 then n l * cos ⟨l.val, h⟩ - n ⟨l.val + 32, by omega⟩ * sin ⟨l.val, h⟩
  else n ⟨l.val - 32, by omega⟩ * sin ⟨l.val - 32, by omega⟩ + n l * cos ⟨l.val - 32, by omega⟩

/-- The lane that holds entry `l` of 64. -/
def lane (l : Fin 64) : Fin 128 := Fin.castAdd 64 l

/-- The factor 1/64 is division by 64. -/
theorem sixty_fourth (x : EReal) : x * Ideal.ofBits FTy.f32 0x3C800000#32 = Ideal.div x (Ideal.ofBits FTy.f32 0x42800000#32) := by
  have e : Ideal.ofBits FTy.f32 0x42800000#32 = ((64 : ℝ) : EReal) := by
    simp [Ideal.ofBits, Ideal.ieee]
    rw [← EReal.coe_mul]; norm_num
  have e' : Ideal.ofBits FTy.f32 0x3C800000#32 = ((1 / 64 : ℝ) : EReal) := by
    simp [Ideal.ofBits, Ideal.ieee]
    rw [← EReal.coe_mul]; norm_num
  rw [e, e', Ideal.div_coe (by norm_num)]

/-- The squares over 128 lanes, the upper 64 zero, sum to the squares of the 64 entries. -/
theorem squares (x : Fin 128 → EReal) (y : Fin 64 → EReal) (hx : ∀ l, x (lane l) = y l) (h0 : ∀ l : Fin 64, x (Fin.natAdd 64 l) = 0) :
    ∑ k, x k * x k = ∑ k, y k * y k := by
  rw [show (∑ k : Fin 128, x k * x k) = ∑ k : Fin (64 + 64), x k * x k from rfl, Fin.sum_univ_add]
  have h1 : ∀ k : Fin 64, x (Fin.castAdd 64 k) = y k := hx
  simp only [h0, h1, mul_zero, Finset.sum_const_zero, add_zero]

/-- The normalised lane of an entry is the normalised entry. -/
theorem lanes_eq (x g : Fin 128 → EReal) (y w : Fin 64 → EReal) (hx : ∀ l, x (lane l) = y l)
    (h0 : ∀ l : Fin 64, x (Fin.natAdd 64 l) = 0) (hg : ∀ l, g (lane l) = w l) (l : Fin 64) :
    lanes x g (lane l) = norm64 y w l := by
  unfold lanes norm64
  rw [squares x y hx h0, sixty_fourth, hx, hg]

/-- The turn in 128 lanes, at the lane of an entry, is the turn of the 64 entries. -/
theorem turn_eq (x g cos sin : Fin 128 → EReal) (y w : Fin 64 → EReal) (c s : Fin 32 → EReal) (hx : ∀ l, x (lane l) = y l)
    (h0 : ∀ l : Fin 64, x (Fin.natAdd 64 l) = 0) (hg : ∀ l, g (lane l) = w l)
    (hc : ∀ l : Fin 64, cos (lane l) = c ⟨l.val % 32, Nat.mod_lt _ (by norm_num)⟩)
    (hs : ∀ l : Fin 64, sin (lane l) = if l.val < 32 then -s ⟨l.val % 32, Nat.mod_lt _ (by norm_num)⟩ else s ⟨l.val % 32, Nat.mod_lt _ (by norm_num)⟩)
    (l : Fin 64) : turnLanes x g cos sin (lane l) = turn64 (norm64 y w) c s l := by
  unfold turnLanes turn64
  rw [lanes_eq x g y w hx h0 hg, hc, hs]
  have hl : (lane l).val = l.val := rfl
  by_cases h : l.val < 32
  · rw [if_pos (by rw [hl]; exact h), if_pos h, dif_pos h]
    rw [show (⟨((lane l).val + 32) % 128, Nat.mod_lt _ (by norm_num)⟩ : Fin 128) = lane ⟨l.val + 32, by omega⟩ from
      Fin.ext (by show (l.val + 32) % 128 = l.val + 32; omega), lanes_eq x g y w hx h0 hg]
    have e : (⟨l.val % 32, Nat.mod_lt _ (by norm_num)⟩ : Fin 32) = ⟨l.val, h⟩ := Fin.ext (Nat.mod_eq_of_lt h)
    rw [e, mul_neg, sub_eq_add_neg]
  · rw [if_neg (by rw [hl]; exact h), if_neg h, dif_neg h]
    rw [show (⟨((lane l).val + 96) % 128, Nat.mod_lt _ (by norm_num)⟩ : Fin 128) = lane ⟨l.val - 32, by omega⟩ from
      Fin.ext (by show (l.val + 96) % 128 = l.val - 32; omega), lanes_eq x g y w hx h0 hg]
    have e : (⟨l.val % 32, Nat.mod_lt _ (by norm_num)⟩ : Fin 32) = ⟨l.val - 32, by omega⟩ :=
      Fin.ext (by show l.val % 32 = l.val - 32; omega)
    rw [e, add_comm]

/-- The turn in the upper 64 lanes, where both tables are zero, is zero. -/
theorem turn_zero (x g cos sin : Fin 128 → EReal) (l : Fin 128) (hc : cos l = 0) (hs : sin l = 0) : turnLanes x g cos sin l = 0 := by
  unfold turnLanes
  rw [hc, hs, mul_zero, mul_zero, add_zero]

end Cert.Rope

end
-- ==== Proof.QueriesValue.lean ====
/- The queries laid out for the attention, over the extended reals, are the reference's composed term of the arguments. -/
module

public import proofs.«01_k».proof.Defs
public import proofs.«01_k».proof.Proof.RopeMath
public import proofs.«01_k».proof.Proof.Gen.QueriesIdeal.Value
public import proofs.«01_k».proof.Proof.Gen.QueriesRefIdeal.Run
public import Idealize.ShloMosaic.Lib.Pipeline.ValueKit
public import Idealize.ShloMosaic.Lib.Pointwise

@[expose] public section

set_option maxRecDepth 16384

noncomputable section

namespace Cert.QueriesRefIdeal.Term

open Cert.QueriesRefIdeal Cert.QueriesRefIdeal.Gen Idealize.ShloMosaic

/-- The compressed queries, normalised over their 512 entries. -/
def normed (a0 : FVec Ideal S4x4096x512 .f32) (a1 : FVec Ideal S512 .f32) : FVec Ideal S4x4096x512 .f32 :=
  mulf (mulf a0 (broadcastInDim S4x4096x512 ![0, 1, 2] bcast_S4x4096x1_S4x4096x512_0_1_2 (Host.rsqrt (addf (Host.divf
    (broadcastInDim S4x4096x1 ![0, 1] bcast_S4x4096_S4x4096x1_0_1 (Host.reduceAdd (mulf a0 a0) (constant S_ .f32 0x00000000#32) reducesTo_S4x4096x512_S4x4096_d2 h_S_))
    (broadcastInDim S4x4096x1 ![] bcast_S_S4x4096x1 (constant S_ .f32 0x44000000#32))) (broadcastInDim S4x4096x1 ![] bcast_S_S4x4096x1 (constant S_ .f32 0x358637BD#32))))))
    (broadcastInDim S4x4096x512 ![0, 1, 2] bcast_S1x1x512_S4x4096x512_0_1_2 (broadcastInDim S1x1x512 ![2] bcast_S512_S1x1x512_2 a1))

/-- The eight heads' queries: the normalised rows times the weight. -/
def heads (a0 : FVec Ideal S4x4096x512 .f32) (a1 : FVec Ideal S512 .f32) (a2 : FVec Ideal S512x1536 .f32) : FVec Ideal S4x4096x8x192 .f32 :=
  shapeCast S4x4096x8x192 (Host.dotGeneral dot_S4x4096x512_S512x1536_S4x4096x1536_2_0_01_1_n_n none (normed a0 a1) a2 : FVec Ideal S4x4096x1536 .f32) shapeCasts_S4x4096x1536_S4x4096x8x192

/-- The first 128 entries of each head, normalised. -/
def nope (q : FVec Ideal S4x4096x8x192 .f32) (a3 : FVec Ideal S128 .f32) : FVec Ideal S4x4096x8x128 .f32 :=
  mulf (mulf (extractStridedSlice S4x4096x8x128 ![0, 0, 0, 0] q slices_S4x4096x8x192_S4x4096x8x128_0_0_0_0) (broadcastInDim S4x4096x8x128 ![0, 1, 2, 3] bcast_S4x4096x8x1_S4x4096x8x128_0_1_2_3
    (Host.rsqrt (addf (Host.divf (broadcastInDim S4x4096x8x1 ![0, 1, 2] bcast_S4x4096x8_S4x4096x8x1_0_1_2
      (Host.reduceAdd (mulf (extractStridedSlice S4x4096x8x128 ![0, 0, 0, 0] q slices_S4x4096x8x192_S4x4096x8x128_0_0_0_0) (extractStridedSlice S4x4096x8x128 ![0, 0, 0, 0] q slices_S4x4096x8x192_S4x4096x8x128_0_0_0_0))
        (constant S_ .f32 0x00000000#32) reducesTo_S4x4096x8x128_S4x4096x8_d3 h_S_))
      (broadcastInDim S4x4096x8x1 ![] bcast_S_S4x4096x8x1 (constant S_ .f32 0x43000000#32))) (broadcastInDim S4x4096x8x1 ![] bcast_S_S4x4096x8x1 (constant S_ .f32 0x358637BD#32))))))
    (broadcastInDim S4x4096x8x128 ![0, 1, 2, 3] bcast_S1x1x1x128_S4x4096x8x128_0_1_2_3 (broadcastInDim S1x1x1x128 ![3] bcast_S128_S1x1x1x128_3 a3))

/-- The last 64 entries of each head, normalised. -/
def rope (q : FVec Ideal S4x4096x8x192 .f32) (a4 : FVec Ideal S64 .f32) : FVec Ideal S4x4096x8x64 .f32 :=
  mulf (mulf (extractStridedSlice S4x4096x8x64 ![0, 0, 0, 128] q slices_S4x4096x8x192_S4x4096x8x64_0_0_0_128) (broadcastInDim S4x4096x8x64 ![0, 1, 2, 3] bcast_S4x4096x8x1_S4x4096x8x64_0_1_2_3
    (Host.rsqrt (addf (Host.divf (broadcastInDim S4x4096x8x1 ![0, 1, 2] bcast_S4x4096x8_S4x4096x8x1_0_1_2
      (Host.reduceAdd (mulf (extractStridedSlice S4x4096x8x64 ![0, 0, 0, 128] q slices_S4x4096x8x192_S4x4096x8x64_0_0_0_128) (extractStridedSlice S4x4096x8x64 ![0, 0, 0, 128] q slices_S4x4096x8x192_S4x4096x8x64_0_0_0_128))
        (constant S_ .f32 0x00000000#32) reducesTo_S4x4096x8x64_S4x4096x8_d3 h_S_))
      (broadcastInDim S4x4096x8x1 ![] bcast_S_S4x4096x8x1 (constant S_ .f32 0x42800000#32))) (broadcastInDim S4x4096x8x1 ![] bcast_S_S4x4096x8x1 (constant S_ .f32 0x358637BD#32))))))
    (broadcastInDim S4x4096x8x64 ![0, 1, 2, 3] bcast_S1x1x1x64_S4x4096x8x64_0_1_2_3 (broadcastInDim S1x1x1x64 ![3] bcast_S64_S1x1x1x64_3 a4))

/-- A table of 32 columns by token, one copy for every sample and head. -/
def table (a : FVec Ideal S4096x32 .f32) : FVec Ideal S4x4096x8x32 .f32 :=
  broadcastInDim S4x4096x8x32 ![0, 1, 2, 3] bcast_S1x4096x1x32_S4x4096x8x32_0_1_2_3 (broadcastInDim S1x4096x1x32 ![1, 3] bcast_S4096x32_S1x4096x1x32_1_3 a)

/-- The rotary turn: the halves `a` and `b` become `a cos - b sin` and `a sin + b cos`. -/
def turn (n : FVec Ideal S4x4096x8x64 .f32) (a5 a6 : FVec Ideal S4096x32 .f32) : FVec Ideal S4x4096x8x64 .f32 :=
  concatenate S4x4096x8x64 3
    [⟨S4x4096x8x32, subf (mulf (extractStridedSlice S4x4096x8x32 ![0, 0, 0, 0] n slices_S4x4096x8x64_S4x4096x8x32_0_0_0_0) (table a5))
      (mulf (extractStridedSlice S4x4096x8x32 ![0, 0, 0, 32] n slices_S4x4096x8x64_S4x4096x8x32_0_0_0_32) (table a6))⟩,
     ⟨S4x4096x8x32, addf (mulf (extractStridedSlice S4x4096x8x32 ![0, 0, 0, 0] n slices_S4x4096x8x64_S4x4096x8x32_0_0_0_0) (table a6))
      (mulf (extractStridedSlice S4x4096x8x32 ![0, 0, 0, 32] n slices_S4x4096x8x64_S4x4096x8x32_0_0_0_32) (table a5))⟩] concatenates_S4x4096x8x32_S4x4096x8x32_S4x4096x8x64_d3

/-- Both parts side by side, scaled, laid out by head and padded to 256 columns. -/
def laid (x : FVec Ideal S4x4096x8x128 .f32) (z : FVec Ideal S4x4096x8x64 .f32) : FVec Ideal S4x8x4096x256 .bf16 :=
  truncf .bf16 (pad S4x8x4096x256 ![0, 0, 0, 0] ![0, 0, 0, 64] ![0, 0, 0, 0] (transpose S4x8x4096x192 [0, 2, 1, 3]
    (mulf (concatenate S4x4096x8x192 3 [⟨S4x4096x8x128, x⟩, ⟨S4x4096x8x64, z⟩] concatenates_S4x4096x8x128_S4x4096x8x64_S4x4096x8x192_d3)
      (broadcastInDim S4x4096x8x192 ![] bcast_S_S4x4096x8x192 (constant S_ .f32 0x3DD53B95#32)) : FVec Ideal S4x4096x8x192 .f32) transposes_S4x4096x8x192_S4x8x4096x192_0_2_1_3)
    (sitofp .f32 (constantI S_ 32 0#32)) pads_S4x8x4096x192_S4x8x4096x256_000_000_000_0640 h_S_ : FVec Ideal S4x8x4096x256 .f32) bitsLt_bf16_f32

/-- The reference's result as a function of its argument arrays. -/
def result (a0 : FVec Ideal S4x4096x512 .f32) (a1 : FVec Ideal S512 .f32) (a2 : FVec Ideal S512x1536 .f32) (a3 : FVec Ideal S128 .f32)
    (a4 : FVec Ideal S64 .f32) (a5 a6 : FVec Ideal S4096x32 .f32) : FVec Ideal S4x8x4096x256 .bf16 :=
  laid (nope (heads a0 a1 a2) a3) (turn (rope (heads a0 a1 a2) a4) a5 a6)

/-- An entry of the heads' queries. -/
theorem heads_at (a0 : FVec Ideal S4x4096x512 .f32) (a1 : FVec Ideal S512 .f32) (a2 : FVec Ideal S512x1536 .f32) (b : Fin 4) (n : Fin 4096) (h : Fin 8) (l : Fin 192) :
    heads a0 a1 a2 (ix4 b n h l) = ∑ k, Rope.norm512 (fun k => a0 (ix3 b n k)) (fun k => a1 (ix1 k)) k * a2 (ix2 k ⟨192 * h.val + l.val, by omega⟩) := by
  pointwise [heads, normed, Rope.norm512]
  refine Finset.sum_congr rfl fun x _ => congrArg₂ (· * ·) rfl (congrArg (fun j => a2 (ix2 x j)) (Fin.ext ?_))
  show h.val * 192 + l.val = 192 * h.val + l.val
  omega

/-- An entry of the first part. -/
theorem nope_at (q : FVec Ideal S4x4096x8x192 .f32) (a3 : FVec Ideal S128 .f32) (b : Fin 4) (n : Fin 4096) (h : Fin 8) (l : Fin 128) :
    nope q a3 (ix4 b n h l) = Rope.norm128 (fun k => q (ix4 b n h ⟨k.val, by omega⟩)) (fun k => a3 (ix1 k)) l := by
  pointwise [nope, Rope.norm128]

/-- An entry of the second part. -/
theorem rope_at (q : FVec Ideal S4x4096x8x192 .f32) (a4 : FVec Ideal S64 .f32) (b : Fin 4) (n : Fin 4096) (h : Fin 8) (l : Fin 64) :
    rope q a4 (ix4 b n h l) = Rope.norm64 (fun k => q (ix4 b n h ⟨128 + k.val, by omega⟩)) (fun k => a4 (ix1 k)) l := by
  pointwise [rope, Rope.norm64]

/-- An entry of the turned second part. -/
theorem turn_at (z : FVec Ideal S4x4096x8x64 .f32) (a5 a6 : FVec Ideal S4096x32 .f32) (b : Fin 4) (n : Fin 4096) (h : Fin 8) (l : Fin 64) :
    turn z a5 a6 (ix4 b n h l) = Rope.turn64 (fun k => z (ix4 b n h k)) (fun k => a5 (ix2 n k)) (fun k => a6 (ix2 n k)) l := by
  pointwise [turn, table, Rope.turn64]
  by_cases hl : l.val < 32
  · rw [dif_pos hl, dif_pos hl, show (⟨32 + l.val, by omega⟩ : Fin 64) = ⟨l.val + 32, by omega⟩ from Fin.ext (Nat.add_comm _ _)]
  · rw [dif_neg hl, dif_neg hl, show (⟨32 + (l.val - 32), by omega⟩ : Fin 64) = l from Fin.ext (by show 32 + (l.val - 32) = l.val; omega)]

/-- An entry of the result in its first 128 columns. -/
theorem laid_nope (x : FVec Ideal S4x4096x8x128 .f32) (z : FVec Ideal S4x4096x8x64 .f32) (b : Fin 4) (h : Fin 8) (n : Fin 4096) (l : Fin 128) :
    laid x z (ix4 b h n ⟨l.val, by omega⟩) = x (ix4 b n h l) * Ideal.ofBits FTy.f32 0x3DD53B95#32 := by
  pointwise [laid]
  exact dif_pos (by omega)

/-- An entry of the result in its next 64 columns. -/
theorem laid_rope (x : FVec Ideal S4x4096x8x128 .f32) (z : FVec Ideal S4x4096x8x64 .f32) (b : Fin 4) (h : Fin 8) (n : Fin 4096) (l : Fin 64) :
    laid x z (ix4 b h n ⟨128 + l.val, by omega⟩) = z (ix4 b n h l) * Ideal.ofBits FTy.f32 0x3DD53B95#32 := by
  pointwise [laid]
  exact dif_pos (by omega)

/-- An entry of the result in its last 64 columns. -/
theorem laid_zero (x : FVec Ideal S4x4096x8x128 .f32) (z : FVec Ideal S4x4096x8x64 .f32) (b : Fin 4) (h : Fin 8) (n : Fin 4096) (l : Fin 64) :
    laid x z (ix4 b h n ⟨192 + l.val, by omega⟩) = 0 := by
  pointwise [laid]
  show (((0#32).toInt : ℝ) : EReal) = 0
  simp

end Cert.QueriesRefIdeal.Term

namespace Cert.QueriesIdeal.QValue

open Cert.QueriesIdeal Cert.QueriesIdeal.Gen Idealize.ShloMosaic Idealize.ShloMosaic.TcCoe Idealize.SL.Sem
open Idealize.ShloMosaic.Pipeline (Dat)

/-- One head's first 128 columns: normalised over the 128, scaled, cast. -/
def nopeHead (x : FVec Ideal S512x128 .f32) (g : FVec Ideal S1x128 .f32) : FVec Ideal S1x1x512x128 .bf16 :=
  shapeCast S1x1x512x128 (truncf .bf16 (mulf (mulf (mulf x
    (broadcastTo S512x128 (rsqrt (addf (divf (shapeCast S512x1 (multiReduction .add [1] S512 (mulf x x) 0x00000000#32 reduces_S512x128_S512 (.inl rfl) rfl) shapeCasts_S512_S512x1 : FVec Ideal S512x1 .f32)
      (broadcast S512x1 (Scalar.ofBits .f32 0x43000000#32 : Ideal .f32))) (broadcast S512x1 (Scalar.ofBits .f32 0x358637BD#32 : Ideal .f32)))) broadcasts_S512x1_S512x128))
    (broadcastTo S512x128 (shapeCast S1x128 g shapeCasts_S1x128_S1x128 : FVec Ideal S1x128 .f32) broadcasts_S1x128_S512x128))
    (broadcast S512x128 (Scalar.ofBits .f32 0x3DD53B95#32 : Ideal .f32))) bitsLt_bf16_f32 : FVec Ideal S512x128 .bf16) shapeCasts_S512x128_S1x1x512x128

/-- One head's second 128 columns, 64 of them data: normalised over the 64. -/
def ropeNorm (x : FVec Ideal S512x128 .f32) (g : FVec Ideal S1x128 .f32) : FVec Ideal S512x128 .f32 :=
  mulf (mulf x
    (broadcastTo S512x128 (rsqrt (addf (mulf (shapeCast S512x1 (multiReduction .add [1] S512 (mulf x x) 0x00000000#32 reduces_S512x128_S512 (.inl rfl) rfl) shapeCasts_S512_S512x1 : FVec Ideal S512x1 .f32)
      (broadcast S512x1 (Scalar.ofBits .f32 0x3C800000#32 : Ideal .f32))) (broadcast S512x1 (Scalar.ofBits .f32 0x358637BD#32 : Ideal .f32)))) broadcasts_S512x1_S512x128))
    (broadcastTo S512x128 (shapeCast S1x128 g shapeCasts_S1x128_S1x128 : FVec Ideal S1x128 .f32) broadcasts_S1x128_S512x128)

/-- The normalised columns turned by the tables: times the cosines, plus the halves exchanged times the signed sines. -/
def turned (n cosT sinT : FVec Ideal S512x128 .f32) : FVec Ideal S512x128 .f32 :=
  addf (mulf n cosT) (mulf (select (cmpi .slt (iota .tc S512x128 32 [1] iota_S512x128_d1_w32) (broadcast S512x128 32#32) : IVec S512x128 1)
    (dynamicRotate 1 96#32 none n rotates_S512x128_d1) (dynamicRotate 1 32#32 none n rotates_S512x128_d1)) sinT)

/-- One head's second 128 columns: normalised, turned, scaled, cast. -/
def ropeHead (x : FVec Ideal S512x128 .f32) (g : FVec Ideal S1x128 .f32) (cosT sinT : FVec Ideal S512x128 .f32) : FVec Ideal S1x1x512x128 .bf16 :=
  shapeCast S1x1x512x128 (truncf .bf16 (mulf (turned (ropeNorm x g) cosT sinT)
    (broadcast S512x128 (Scalar.ofBits .f32 0x3DD53B95#32 : Ideal .f32))) bitsLt_bf16_f32 : FVec Ideal S512x128 .bf16) shapeCasts_S512x128_S1x1x512x128

/-- An entry of the first part of a head. -/
theorem nopeHead_at (x : FVec Ideal S512x128 .f32) (g : FVec Ideal S1x128 .f32) (a : Fin 512) (l : Fin 128) :
    nopeHead x g (ix4 0 0 a l) = Rope.norm128 (fun k => x (ix2 a k)) (fun k => g (ix2 0 k)) l * Ideal.ofBits FTy.f32 0x3DD53B95#32 := by
  pointwise [nopeHead, Rope.norm128]

/-- An entry of the normalised second part of a head. -/
theorem ropeNorm_at (x : FVec Ideal S512x128 .f32) (g : FVec Ideal S1x128 .f32) (a : Fin 512) (l : Fin 128) :
    ropeNorm x g (ix2 a l) = Rope.lanes (fun k => x (ix2 a k)) (fun k => g (ix2 0 k)) l := by
  pointwise [ropeNorm, Rope.lanes]

/-- The comparison of a lane's number with 32. -/
theorem slt_32 : ∀ l : Fin 128, IntOp.cmpi CmpIPredicate.slt (BitVec.ofNat 32 l.val) 32#32 = if l.val < 32 then 1#1 else 0#1 := by
  decide

/-- An entry of the turned columns. -/
theorem turned_at (n cosT sinT : FVec Ideal S512x128 .f32) (a : Fin 512) (l : Fin 128) :
    turned n cosT sinT (ix2 a l) = n (ix2 a l) * cosT (ix2 a l) +
      (if l.val < 32 then n (ix2 a ⟨(l.val + 32) % 128, Nat.mod_lt _ (by norm_num)⟩) else n (ix2 a ⟨(l.val + 96) % 128, Nat.mod_lt _ (by norm_num)⟩)) * sinT (ix2 a l) := by
  pointwise [turned]
  rw [slt_32]
  by_cases h : l.val < 32
  · rw [if_pos h, if_pos h]; rfl
  · rw [if_neg h, if_neg h]; rfl

/-- An entry of the second part of a head. -/
theorem ropeHead_at (x : FVec Ideal S512x128 .f32) (g : FVec Ideal S1x128 .f32) (cosT sinT : FVec Ideal S512x128 .f32) (a : Fin 512) (l : Fin 128) :
    ropeHead x g cosT sinT (ix4 0 0 a l) = Rope.turnLanes (fun k => x (ix2 a k)) (fun k => g (ix2 0 k)) (fun k => cosT (ix2 a k)) (fun k => sinT (ix2 a k)) l
      * Ideal.ofBits FTy.f32 0x3DD53B95#32 := by
  have e : ropeHead x g cosT sinT (ix4 0 0 a l) = turned (ropeNorm x g) cosT sinT (ix2 a l) * Ideal.ofBits FTy.f32 0x3DD53B95#32 := by
    unfold ropeHead
    generalize turned (ropeNorm x g) cosT sinT = z
    pointwise
  rw [e, turned_at]
  simp only [ropeNorm_at, Rope.turnLanes]

/-- The block the kernel writes, as one function of its place: head, row and lane. -/
def block (q : FVec Ideal S512x2048 .f32) (gn gr : FVec Ideal S1x128 .f32) (cosT sinT : FVec Ideal S512x128 .f32) (y : S1x8x512x256.Idx) : EReal :=
  if h : (y 3).val < 128 then
    Rope.norm128 (fun k => q (ix2 ⟨(y 2).val, (y 2).isLt⟩ ⟨256 * (y 1).val + k.val, by have : (y 1).val < 8 := (y 1).isLt; omega⟩)) (fun k => gn (ix2 0 k)) ⟨(y 3).val, h⟩
      * Ideal.ofBits FTy.f32 0x3DD53B95#32
  else
    Rope.turnLanes (fun k => q (ix2 ⟨(y 2).val, (y 2).isLt⟩ ⟨256 * (y 1).val + 128 + k.val, by have : (y 1).val < 8 := (y 1).isLt; omega⟩)) (fun k => gr (ix2 0 k))
      (fun k => cosT (ix2 ⟨(y 2).val, (y 2).isLt⟩ k)) (fun k => sinT (ix2 ⟨(y 2).val, (y 2).isLt⟩ k)) ⟨(y 3).val - 128, by have : (y 3).val < 256 := (y 3).isLt; omega⟩
      * Ideal.ofBits FTy.f32 0x3DD53B95#32

/-- The first part of head `h`, at its place in the block. -/
theorem nope_piece (q : FVec Ideal S512x2048 .f32) (gn gr : FVec Ideal S1x128 .f32) (cosT sinT : FVec Ideal S512x128 .f32) (h o : Nat) (hh : h < 8) (ho : o = 256 * h)
    (hs : S512x2048.Slices ![0, o] S512x128) (hr : ∀ a, ![0, h, 0, 0] a + S1x1x512x128.size a ≤ S1x8x512x256.size a) (x : S1x1x512x128.Idx) :
    nopeHead (extractStridedSlice S512x128 ![0, o] q hs) gn x = block q gn gr cosT sinT ((Rect.unit (s := S1x8x512x256) ![0, h, 0, 0] S1x1x512x128.size hr).emb x) := by
  subst ho
  idx_vars x
  have hE : ∀ f : S1x8x512x256.Idx → EReal, f ((Rect.unit (s := S1x8x512x256) ![0, h, 0, 0] S1x1x512x128.size hr).emb (ix4 x0 x1 x2 x3)) =
      f (ix4 0 ⟨h, hh⟩ x2 ⟨x3.val, by omega⟩) := by
    intro f
    blk_ext []
  refine Eq.trans ?_ (hE _).symm
  rw [show (ix4 x0 x1 x2 x3 : S1x1x512x128.Idx) = ix4 0 0 x2 x3 by rw [Subsingleton.elim x0 0, Subsingleton.elim x1 0], nopeHead_at]
  unfold block
  refine Eq.trans ?_ (dif_pos x3.isLt).symm
  congr 2
  funext k
  pointwise

/-- The second part of head `h`, at its place in the block. -/
theorem rope_piece (q : FVec Ideal S512x2048 .f32) (gn gr : FVec Ideal S1x128 .f32) (cosT sinT : FVec Ideal S512x128 .f32) (h o : Nat) (hh : h < 8) (ho : o = 256 * h + 128)
    (hs : S512x2048.Slices ![0, o] S512x128) (hr : ∀ a, ![0, h, 0, 128] a + S1x1x512x128.size a ≤ S1x8x512x256.size a) (x : S1x1x512x128.Idx) :
    ropeHead (extractStridedSlice S512x128 ![0, o] q hs) gr cosT sinT x = block q gn gr cosT sinT ((Rect.unit (s := S1x8x512x256) ![0, h, 0, 128] S1x1x512x128.size hr).emb x) := by
  subst ho
  idx_vars x
  have hE : ∀ f : S1x8x512x256.Idx → EReal, f ((Rect.unit (s := S1x8x512x256) ![0, h, 0, 128] S1x1x512x128.size hr).emb (ix4 x0 x1 x2 x3)) =
      f (ix4 0 ⟨h, hh⟩ x2 ⟨128 + x3.val, by omega⟩) := by
    intro f
    blk_ext []
  refine Eq.trans ?_ (hE _).symm
  rw [show (ix4 x0 x1 x2 x3 : S1x1x512x128.Idx) = ix4 0 0 x2 x3 by rw [Subsingleton.elim x0 0, Subsingleton.elim x1 0], ropeHead_at]
  unfold block
  refine Eq.trans ?_ (dif_neg (show ¬ 128 + x3.val < 128 by omega)).symm
  have e : (⟨128 + x3.val - 128, by omega⟩ : Fin 128) = x3 := Fin.ext (Nat.add_sub_cancel_left _ _)
  refine congrArg (· * _) ?_
  refine (congrArg (fun f => Rope.turnLanes f _ _ _ x3) (funext fun k => ?_)).trans (congrArg (Rope.turnLanes _ _ _ _) e.symm)
  pointwise

/-- The kernel's block is that function, of the product of the normalised rows with the weight. -/
theorem out_eq (x0 : FVec Ideal S512x512 .bf16) (x1 : FVec Ideal S1x512 .f32) (x2 : FVec Ideal S512x2048 .bf16) (x3 x4 : FVec Ideal S1x128 .f32)
    (x5 x6 : FVec Ideal S512x128 .f32) (y : S1x8x512x256.Idx) :
    out0_7 (F := Ideal) x0 x1 x2 x3 x4 x5 x6 y = block (k0_pay46 (F := Ideal) x0 x1 x2 x3 x4 x5 x6) (View.ld (Val := Elt Ideal) (e' := .f32) x3 r0_4) (View.ld (Val := Elt Ideal) (e' := .f32) x4 r0_4)
      (k0_pay47 (F := Ideal) x0 x1 x2 x3 x4 x5 x6) (k0_pay48 (F := Ideal) x0 x1 x2 x3 x4 x5 x6) y := by
  unfold out0_7
  refine View.canon_apply_of_pieces (Val := Elt Ideal) (e := .bf16) (block (k0_pay46 (F := Ideal) x0 x1 x2 x3 x4 x5 x6) (View.ld (Val := Elt Ideal) (e' := .f32) x3 r0_4) (View.ld (Val := Elt Ideal) (e' := .f32) x4 r0_4)
      (k0_pay47 (F := Ideal) x0 x1 x2 x3 x4 x5 x6) (k0_pay48 (F := Ideal) x0 x1 x2 x3 x4 x5 x6)) _ ?_ y (cover0_7 _ _ _ _ _ _ _ _ _ _ _ _ _ _ _ _ y)
  simp only [List.forall_mem_cons, List.not_mem_nil, false_imp_iff, implies_true, and_true]
  refine ⟨?_, ?_, ?_, ?_, ?_, ?_, ?_, ?_, ?_, ?_, ?_, ?_, ?_, ?_, ?_, ?_⟩
  · exact rope_piece _ (View.ld (Val := Elt Ideal) (e' := .f32) x3 r0_4) (View.ld (Val := Elt Ideal) (e' := .f32) x4 r0_4) _ _ 7 1920 (by norm_num) rfl slices_S512x2048_o0_1920_S512x128 _
  · exact nope_piece _ (View.ld (Val := Elt Ideal) (e' := .f32) x3 r0_4) (View.ld (Val := Elt Ideal) (e' := .f32) x4 r0_4) _ _ 7 1792 (by norm_num) rfl slices_S512x2048_o0_1792_S512x128 _
  · exact rope_piece _ (View.ld (Val := Elt Ideal) (e' := .f32) x3 r0_4) (View.ld (Val := Elt Ideal) (e' := .f32) x4 r0_4) _ _ 6 1664 (by norm_num) rfl slices_S512x2048_o0_1664_S512x128 _
  · exact nope_piece _ (View.ld (Val := Elt Ideal) (e' := .f32) x3 r0_4) (View.ld (Val := Elt Ideal) (e' := .f32) x4 r0_4) _ _ 6 1536 (by norm_num) rfl slices_S512x2048_o0_1536_S512x128 _
  · exact rope_piece _ (View.ld (Val := Elt Ideal) (e' := .f32) x3 r0_4) (View.ld (Val := Elt Ideal) (e' := .f32) x4 r0_4) _ _ 5 1408 (by norm_num) rfl slices_S512x2048_o0_1408_S512x128 _
  · exact nope_piece _ (View.ld (Val := Elt Ideal) (e' := .f32) x3 r0_4) (View.ld (Val := Elt Ideal) (e' := .f32) x4 r0_4) _ _ 5 1280 (by norm_num) rfl slices_S512x2048_o0_1280_S512x128 _
  · exact rope_piece _ (View.ld (Val := Elt Ideal) (e' := .f32) x3 r0_4) (View.ld (Val := Elt Ideal) (e' := .f32) x4 r0_4) _ _ 4 1152 (by norm_num) rfl slices_S512x2048_o0_1152_S512x128 _
  · exact nope_piece _ (View.ld (Val := Elt Ideal) (e' := .f32) x3 r0_4) (View.ld (Val := Elt Ideal) (e' := .f32) x4 r0_4) _ _ 4 1024 (by norm_num) rfl slices_S512x2048_o0_1024_S512x128 _
  · exact rope_piece _ (View.ld (Val := Elt Ideal) (e' := .f32) x3 r0_4) (View.ld (Val := Elt Ideal) (e' := .f32) x4 r0_4) _ _ 3 896 (by norm_num) rfl slices_S512x2048_o0_896_S512x128 _
  · exact nope_piece _ (View.ld (Val := Elt Ideal) (e' := .f32) x3 r0_4) (View.ld (Val := Elt Ideal) (e' := .f32) x4 r0_4) _ _ 3 768 (by norm_num) rfl slices_S512x2048_o0_768_S512x128 _
  · exact rope_piece _ (View.ld (Val := Elt Ideal) (e' := .f32) x3 r0_4) (View.ld (Val := Elt Ideal) (e' := .f32) x4 r0_4) _ _ 2 640 (by norm_num) rfl slices_S512x2048_o0_640_S512x128 _
  · exact nope_piece _ (View.ld (Val := Elt Ideal) (e' := .f32) x3 r0_4) (View.ld (Val := Elt Ideal) (e' := .f32) x4 r0_4) _ _ 2 512 (by norm_num) rfl slices_S512x2048_o0_512_S512x128 _
  · exact rope_piece _ (View.ld (Val := Elt Ideal) (e' := .f32) x3 r0_4) (View.ld (Val := Elt Ideal) (e' := .f32) x4 r0_4) _ _ 1 384 (by norm_num) rfl slices_S512x2048_o0_384_S512x128 _
  · exact nope_piece _ (View.ld (Val := Elt Ideal) (e' := .f32) x3 r0_4) (View.ld (Val := Elt Ideal) (e' := .f32) x4 r0_4) _ _ 1 256 (by norm_num) rfl slices_S512x2048_o0_256_S512x128 _
  · exact rope_piece _ (View.ld (Val := Elt Ideal) (e' := .f32) x3 r0_4) (View.ld (Val := Elt Ideal) (e' := .f32) x4 r0_4) _ _ 0 128 (by norm_num) rfl slices_S512x2048_o0_128_S512x128 _
  · exact nope_piece _ (View.ld (Val := Elt Ideal) (e' := .f32) x3 r0_4) (View.ld (Val := Elt Ideal) (e' := .f32) x4 r0_4) _ _ 0 0 (by norm_num) rfl slices_S512x2048_o0_0_S512x128 _

/-- The block in its first 128 lanes. -/
theorem block_nope (q : FVec Ideal S512x2048 .f32) (gn gr : FVec Ideal S1x128 .f32) (cosT sinT : FVec Ideal S512x128 .f32) (h : Fin 8) (a : Fin 512) (l : Fin 128) :
    block q gn gr cosT sinT (ix4 0 h a ⟨l.val, by omega⟩) =
      Rope.norm128 (fun k => q (ix2 a ⟨256 * h.val + k.val, by omega⟩)) (fun k => gn (ix2 0 k)) l * Ideal.ofBits FTy.f32 0x3DD53B95#32 := by
  unfold block
  exact dif_pos l.isLt

/-- The block in its last 128 lanes. -/
theorem block_rope (q : FVec Ideal S512x2048 .f32) (gn gr : FVec Ideal S1x128 .f32) (cosT sinT : FVec Ideal S512x128 .f32) (h : Fin 8) (a : Fin 512) (l : Fin 128) :
    block q gn gr cosT sinT (ix4 0 h a ⟨128 + l.val, by omega⟩) =
      Rope.turnLanes (fun k => q (ix2 a ⟨256 * h.val + 128 + k.val, by omega⟩)) (fun k => gr (ix2 0 k)) (fun k => cosT (ix2 a k)) (fun k => sinT (ix2 a k)) l
        * Ideal.ofBits FTy.f32 0x3DD53B95#32 := by
  unfold block
  refine (dif_neg (show ¬ 128 + l.val < 128 by omega)).trans ?_
  refine congrArg (· * _) (congrArg (Rope.turnLanes _ _ _ _) (Fin.ext ?_))
  show 128 + l.val - 128 = l.val
  omega

/-- A lane is one of the first 128, of the next 64 or of the last 64. -/
theorem lane_cases (l : Fin 256) : (∃ j : Fin 128, l = ⟨j.val, by omega⟩) ∨ (∃ j : Fin 64, l = ⟨128 + j.val, by omega⟩) ∨ ∃ j : Fin 64, l = ⟨192 + j.val, by omega⟩ := by
  by_cases h1 : l.val < 128
  · exact .inl ⟨⟨l.val, h1⟩, rfl⟩
  · by_cases h2 : l.val < 192
    · exact .inr (.inl ⟨⟨l.val - 128, by omega⟩, Fin.ext (by show l.val = 128 + (l.val - 128); omega)⟩)
    · exact .inr (.inr ⟨⟨l.val - 192, by omega⟩, Fin.ext (by show l.val = 192 + (l.val - 192); omega)⟩)

/-- The block's entry for one head, row and lane is the reference's, when the block's operands hold what the reference computes from. -/
theorem entry (q : FVec Ideal S512x2048 .f32) (gn gr : FVec Ideal S1x128 .f32) (cosT sinT : FVec Ideal S512x128 .f32)
    (H : FVec Ideal Cert.QueriesRefIdeal.S4x4096x8x192 .f32) (a3 : FVec Ideal Cert.QueriesRefIdeal.S128 .f32) (a4 : FVec Ideal Cert.QueriesRefIdeal.S64 .f32)
    (a5 a6 : FVec Ideal Cert.QueriesRefIdeal.S4096x32 .f32) (b : Fin 4) (n : Fin 4096) (h : Fin 8) (a : Fin 512)
    (hq : ∀ l : Fin 192, q (ix2 a ⟨256 * h.val + l.val, by omega⟩) = H (ix4 b n h l))
    (hq0 : ∀ l : Fin 64, q (ix2 a ⟨256 * h.val + 192 + l.val, by omega⟩) = 0)
    (hgn : ∀ k : Fin 128, gn (ix2 0 k) = a3 (ix1 k)) (hgr : ∀ k : Fin 64, gr (ix2 0 (Rope.lane k)) = a4 (ix1 k))
    (hc : ∀ l : Fin 64, cosT (ix2 a (Rope.lane l)) = a5 (ix2 n ⟨l.val % 32, Nat.mod_lt _ (by norm_num)⟩))
    (hs : ∀ l : Fin 64, sinT (ix2 a (Rope.lane l)) = if l.val < 32 then -a6 (ix2 n ⟨l.val % 32, Nat.mod_lt _ (by norm_num)⟩) else a6 (ix2 n ⟨l.val % 32, Nat.mod_lt _ (by norm_num)⟩))
    (hc0 : ∀ l : Fin 64, cosT (ix2 a ⟨64 + l.val, by omega⟩) = 0) (hs0 : ∀ l : Fin 64, sinT (ix2 a ⟨64 + l.val, by omega⟩) = 0) (l : Fin 256) :
    block q gn gr cosT sinT (ix4 0 h a l) =
      Cert.QueriesRefIdeal.Term.laid (Cert.QueriesRefIdeal.Term.nope H a3) (Cert.QueriesRefIdeal.Term.turn (Cert.QueriesRefIdeal.Term.rope H a4) a5 a6) (ix4 b h n l) := by
  obtain ⟨j, rfl⟩ | ⟨j, rfl⟩ | ⟨j, rfl⟩ := lane_cases l
  · refine (block_nope q gn gr cosT sinT h a j).trans (Eq.trans ?_ (Cert.QueriesRefIdeal.Term.laid_nope _ _ b h n j).symm)
    rw [Cert.QueriesRefIdeal.Term.nope_at]
    exact congrArg (· * _) (congrArg₂ (fun f g => Rope.norm128 f g _) (funext fun k => hq ⟨k.val, by omega⟩) (funext hgn))
  · refine (block_rope q gn gr cosT sinT h a (Rope.lane j)).trans (Eq.trans ?_ (Cert.QueriesRefIdeal.Term.laid_rope _ _ b h n j).symm)
    rw [Cert.QueriesRefIdeal.Term.turn_at]
    refine congrArg (· * _) ((Rope.turn_eq _ _ _ _ (fun k => H (ix4 b n h ⟨128 + k.val, by omega⟩)) (fun k => a4 (ix1 k)) (fun k => a5 (ix2 n k)) (fun k => a6 (ix2 n k))
      (fun k => ?_) (fun k => ?_) hgr hc hs j).trans ?_)
    · refine Eq.trans (congrArg (fun i => q (ix2 a i)) (Fin.ext ?_)) (hq ⟨128 + k.val, by omega⟩)
      show 256 * h.val + 128 + k.val = 256 * h.val + (128 + k.val)
      omega
    · refine Eq.trans (congrArg (fun i => q (ix2 a i)) (Fin.ext ?_)) (hq0 k)
      show 256 * h.val + 128 + (64 + k.val) = 256 * h.val + 192 + k.val
      omega
    · exact congrArg (fun f => Rope.turn64 f _ _ _) (funext fun k => (Cert.QueriesRefIdeal.Term.rope_at H a4 b n h k).symm)
  · refine Eq.trans ?_ (Cert.QueriesRefIdeal.Term.laid_zero _ _ b h n j).symm
    refine Eq.trans (congrArg (fun i => block q gn gr cosT sinT (ix4 0 h a i)) (Fin.ext ?_)) ((block_rope q gn gr cosT sinT h a ⟨64 + j.val, by omega⟩).trans ?_)
    · show 192 + j.val = 128 + (64 + j.val)
      omega
    · rw [Rope.turn_zero _ _ _ _ _ (hc0 j) (hs0 j), zero_mul]

/-- The compressed queries' operand: reshaped, cast, and placed in the columns of the projected array that hold them. -/
def cqPad (v : FVec Ideal S4x4096x512 .f32) : FVec Ideal S16384x11776 .bf16 :=
  pad S16384x11776 ![0, 10240] ![0, 1024] ![0, 0] (truncf .bf16 (shapeCast S16384x512 v shapeCasts_S4x4096x512_S16384x512 : FVec Ideal S16384x512 .f32) bitsLt_bf16_f32)
    (sitofp .bf16 (constantI S_ 32 0#32)) pads_S16384x512_S16384x11776_000_1024010240 h_S_

/-- The weight's operand: each head's 192 columns padded to 256. -/
def wPad (w : FVec Ideal S512x1536 .f32) : FVec Ideal S512x2048 .bf16 :=
  truncf .bf16 (shapeCast S512x2048 (pad S512x8x256 ![0, 0, 0] ![0, 0, 64] ![0, 0, 0] (shapeCast S512x8x192 w shapeCasts_S512x1536_S512x8x192 : FVec Ideal S512x8x192 .f32)
    (sitofp .f32 (constantI S_ 32 0#32)) pads_S512x8x192_S512x8x256_000_000_0640 h_S_ : FVec Ideal S512x8x256 .f32) shapeCasts_S512x8x256_S512x2048 : FVec Ideal S512x2048 .f32) bitsLt_bf16_f32

/-- The second gain's operand: 64 entries padded to 128. -/
def gPad (g : FVec Ideal S64 .f32) : FVec Ideal S1x128 .f32 :=
  pad S1x128 ![0, 0] ![0, 64] ![0, 0] (shapeCast S1x64 g shapeCasts_S64_S1x64 : FVec Ideal S1x64 .f32) (sitofp .f32 (constantI S_ 32 0#32)) pads_S1x64_S1x128_000_0640 h_S_

/-- A table's operand: two tables of 32 columns side by side, and 64 columns of zeros. -/
def tabPad (v w : FVec Ideal S4096x32 .f32) : FVec Ideal S4096x128 .f32 :=
  concatenate S4096x128 1 [⟨S4096x32, v⟩, ⟨S4096x32, w⟩, ⟨S4096x64, broadcastInDim S4096x64 ![] bcast_S_S4096x64 (constant S_ .f32 0x00000000#32 : FVec Ideal S_ .f32)⟩]
    concatenates_S4096x32_S4096x32_S4096x64_S4096x128_d1

/-- A row of the compressed queries, read through the operand's layout. -/
theorem cqPad_at (v : FVec Ideal S4x4096x512 .f32) (r : Fin 16384) (k : Fin 512) :
    cqPad v (ix2 r ⟨10240 + k.val, by omega⟩) = v (ix3 ⟨r.val / 4096, by omega⟩ ⟨r.val % 4096, by omega⟩ k) := by
  pointwise [cqPad]

/-- A data column of the weight's operand. -/
theorem wPad_at (w : FVec Ideal S512x1536 .f32) (k : Fin 512) (h : Fin 8) (l : Fin 192) :
    wPad w (ix2 k ⟨256 * h.val + l.val, by omega⟩) = w (ix2 k ⟨192 * h.val + l.val, by omega⟩) := by
  pointwise [wPad]
  refine (dif_pos (by omega)).trans (congrArg (fun j => w (ix2 k j)) (Fin.ext ?_))
  show h.val * 192 + (256 * h.val + l.val) % 256 = 192 * h.val + l.val
  omega

/-- A padding column of the weight's operand. -/
theorem wPad_zero (w : FVec Ideal S512x1536 .f32) (k : Fin 512) (h : Fin 8) (l : Fin 64) :
    wPad w (ix2 k ⟨256 * h.val + 192 + l.val, by omega⟩) = 0 := by
  pointwise [wPad]
  refine (dif_neg (by omega)).trans ?_
  show (((0#32).toInt : ℝ) : EReal) = 0
  simp

/-- A data entry of the second gain's operand. -/
theorem gPad_at (g : FVec Ideal S64 .f32) (l : Fin 64) : gPad g (ix2 0 (Rope.lane l)) = g (ix1 l) := by
  pointwise [gPad]
  exact dif_pos l.isLt

/-- A table's operand in its first 32 columns. -/
theorem tabPad_low (v w : FVec Ideal S4096x32 .f32) (n : Fin 4096) (l : Fin 32) : tabPad v w (ix2 n ⟨l.val, by omega⟩) = v (ix2 n l) := by
  pointwise [tabPad]

/-- A table's operand in its next 32 columns. -/
theorem tabPad_high (v w : FVec Ideal S4096x32 .f32) (n : Fin 4096) (l : Fin 32) : tabPad v w (ix2 n ⟨32 + l.val, by omega⟩) = w (ix2 n l) := by
  pointwise [tabPad]

/-- A table's operand in its last 64 columns. -/
theorem tabPad_zero (v w : FVec Ideal S4096x32 .f32) (n : Fin 4096) (l : Fin 64) : tabPad v w (ix2 n ⟨64 + l.val, by omega⟩) = 0 := by
  pointwise [tabPad]
  exact (dif_neg (by omega)).trans (dif_neg (by omega))

variable (m : (ℓ : Loc nD τ sig) → Buf (Elt Ideal) ℓ)

/-- Where each window's block lies at point `t`: sample `t / 8`, 512 tokens from `512 (t % 8)`. -/
theorem idx : ∀ t : Fin cfg0.N, win0_0.index t = ![t.val, 20] ∧ win0_1.index t = ![0, 0] ∧ win0_2.index t = ![0, 0]
    ∧ win0_3.index t = ![0, 0] ∧ win0_4.index t = ![0, 0] ∧ win0_5.index t = ![t.val % 8, 0] ∧ win0_6.index t = ![t.val % 8, 0]
    ∧ win0_7.index t = ![t.val / 8, 0, t.val % 8, 0] :=
  (by decide +kernel : ∀ t : Fin grid0.N, _)

/-- The row of the flattened array at which row `a` of the block at point `t` lies. -/
def row (t : Fin cfg0.N) (a : Fin 512) : Fin 16384 := ⟨512 * t.val + a.val, by have : t.val < 32 := t.2; omega⟩

/-- The sample of point `t`. -/
def sample (t : Fin cfg0.N) : Fin 4 := ⟨t.val / 8, by have : t.val < 32 := t.2; omega⟩

/-- The token of row `a` at point `t`. -/
def token (t : Fin cfg0.N) (a : Fin 512) : Fin 4096 := ⟨512 * (t.val % 8) + a.val, by omega⟩

/-- The compressed queries' block `t` starts at row `512 t`, column 10240. -/
theorem blk0 (t : Fin cfg0.N) (f : FVec Ideal S16384x11776 .bf16) (a k : Fin 512) :
    f ((win0_0.blk t).view.emb (ix2 a k)) = f (ix2 (row t a) ⟨10240 + k.val, by omega⟩) := by
  blk_ext [idx t, row]
/-- The rows' gain has one block. -/
theorem blk1 (t : Fin cfg0.N) (f : FVec Ideal S1x512 .f32) (k : Fin 512) : f ((win0_1.blk t).view.emb (ix2 0 k)) = f (ix2 0 k) := by
  blk_ext [idx t]
/-- The weight has one block. -/
theorem blk2 (t : Fin cfg0.N) (f : FVec Ideal S512x2048 .bf16) (k : Fin 512) (j : Fin 2048) : f ((win0_2.blk t).view.emb (ix2 k j)) = f (ix2 k j) := by
  blk_ext [idx t]
/-- The first part's gain has one block. -/
theorem blk3 (t : Fin cfg0.N) (f : FVec Ideal S1x128 .f32) (k : Fin 128) : f ((win0_3.blk t).view.emb (ix2 0 k)) = f (ix2 0 k) := by
  blk_ext [idx t]
/-- The second part's gain has one block. -/
theorem blk4 (t : Fin cfg0.N) (f : FVec Ideal S1x128 .f32) (k : Fin 128) : f ((win0_4.blk t).view.emb (ix2 0 k)) = f (ix2 0 k) := by
  blk_ext [idx t]
/-- The cosines' block lies at the tokens of the point. -/
theorem blk5 (t : Fin cfg0.N) (f : FVec Ideal S4096x128 .f32) (a : Fin 512) (k : Fin 128) : f ((win0_5.blk t).view.emb (ix2 a k)) = f (ix2 (token t a) k) := by
  blk_ext [idx t, token]
/-- The sines' block lies at the tokens of the point. -/
theorem blk6 (t : Fin cfg0.N) (f : FVec Ideal S4096x128 .f32) (a : Fin 512) (k : Fin 128) : f ((win0_6.blk t).view.emb (ix2 a k)) = f (ix2 (token t a) k) := by
  blk_ext [idx t, token]

/-- The compressed queries: the operand, of the argument. -/
theorem v6_eq (c : Dev nD) : V m c main_v6 = cqPad (m ((c.tc : Thread nD τ).loc main_arg0)) := by
  unfold V
  simp only [List.flatten_cons, List.flatten_nil, hostOps0, hostOps0_1, hostOps0_2, hostOps0_3, hostOps0_4, hostOps0_5, hostOps0_6, List.cons_append, List.nil_append]
  after_results
  rfl

/-- The weight: the operand, of the argument. -/
theorem v3_eq (c : Dev nD) : V m c main_v3 = wPad (m ((c.tc : Thread nD τ).loc main_arg2)) := by
  unfold V
  simp only [List.flatten_cons, List.flatten_nil, hostOps0, hostOps0_1, hostOps0_2, hostOps0_3, hostOps0_4, hostOps0_5, hostOps0_6, List.cons_append, List.nil_append]
  after_results
  rfl

/-- The rows' gain: the operand, of the argument. -/
theorem v7_eq (c : Dev nD) : V m c main_v7 = (shapeCast S1x512 (m ((c.tc : Thread nD τ).loc main_arg1)) shapeCasts_S512_S1x512 : FVec Ideal S1x512 .f32) := by
  unfold V
  simp only [List.flatten_cons, List.flatten_nil, hostOps0, hostOps0_1, hostOps0_2, hostOps0_3, hostOps0_4, hostOps0_5, hostOps0_6, List.cons_append, List.nil_append]
  after_results
  rfl

/-- The first part's gain: the operand, of the argument. -/
theorem v8_eq (c : Dev nD) : V m c main_v8 = (shapeCast S1x128 (m ((c.tc : Thread nD τ).loc main_arg3)) shapeCasts_S128_S1x128 : FVec Ideal S1x128 .f32) := by
  unfold V
  simp only [List.flatten_cons, List.flatten_nil, hostOps0, hostOps0_1, hostOps0_2, hostOps0_3, hostOps0_4, hostOps0_5, hostOps0_6, List.cons_append, List.nil_append]
  after_results
  rfl

/-- The second part's gain: the operand, of the argument. -/
theorem v10_eq (c : Dev nD) : V m c main_v10 = gPad (m ((c.tc : Thread nD τ).loc main_arg4)) := by
  unfold V
  simp only [List.flatten_cons, List.flatten_nil, hostOps0, hostOps0_1, hostOps0_2, hostOps0_3, hostOps0_4, hostOps0_5, hostOps0_6, List.cons_append, List.nil_append]
  after_results
  rfl

/-- The cosines: the operand, of the argument. -/
theorem v12_eq (c : Dev nD) : V m c main_v12 = tabPad (m ((c.tc : Thread nD τ).loc main_arg5)) (m ((c.tc : Thread nD τ).loc main_arg5)) := by
  unfold V
  simp only [List.flatten_cons, List.flatten_nil, hostOps0, hostOps0_1, hostOps0_2, hostOps0_3, hostOps0_4, hostOps0_5, hostOps0_6, List.cons_append, List.nil_append]
  after_results
  rfl

/-- The signed sines: the operand, of the argument. -/
theorem v14_eq (c : Dev nD) : V m c main_v14 = tabPad (Host.negf (m ((c.tc : Thread nD τ).loc main_arg6) : FVec Ideal S4096x32 .f32)) (m ((c.tc : Thread nD τ).loc main_arg6)) := by
  unfold V
  simp only [List.flatten_cons, List.flatten_nil, hostOps0, hostOps0_1, hostOps0_2, hostOps0_3, hostOps0_4, hostOps0_5, hostOps0_6, List.cons_append, List.nil_append]
  after_results
  rfl

/-- The compressed queries' block, as entries of the argument. -/
theorem x_read (c : Dev nD) (t : Fin cfg0.N) (a k : Fin 512) :
    iblk m c 0 t (ix2 a k) = m ((c.tc : Thread nD τ).loc main_arg0) (ix3 (sample t) (token t a) k) := by
  refine (blk0 t (V m c main_v6) a k).trans ((congrFun (v6_eq m c) _).trans ((cqPad_at _ (row t a) k).trans ?_))
  have h1 : (⟨(row t a).val / 4096, by omega⟩ : Fin 4) = sample t := Fin.ext (by show (512 * t.val + a.val) / 4096 = t.val / 8; omega)
  have h2 : (⟨(row t a).val % 4096, by omega⟩ : Fin 4096) = token t a := Fin.ext (by show (512 * t.val + a.val) % 4096 = 512 * (t.val % 8) + a.val; omega)
  rw [h1, h2]

/-- A gain of 512 entries, read through the host's reshape to a row. -/
theorem row512_at (v : FVec Ideal S512 .f32) (k : Fin 512) : (shapeCast S1x512 v shapeCasts_S512_S1x512 : FVec Ideal S1x512 .f32) (ix2 0 k) = v (ix1 k) := by
  pointwise

/-- A gain of 128 entries, read through the host's reshape to a row. -/
theorem row128_at (v : FVec Ideal S128 .f32) (k : Fin 128) : (shapeCast S1x128 v shapeCasts_S128_S1x128 : FVec Ideal S1x128 .f32) (ix2 0 k) = v (ix1 k) := by
  pointwise

/-- The rows' gain, as entries of the argument. -/
theorem g_read (c : Dev nD) (t : Fin cfg0.N) (k : Fin 512) : iblk m c 1 t (ix2 0 k) = m ((c.tc : Thread nD τ).loc main_arg1) (ix1 k) :=
  (blk1 t (V m c main_v7) k).trans ((congrFun (v7_eq m c) _).trans (row512_at _ _))

/-- The weight's data columns, as entries of the argument. -/
theorem w_read (c : Dev nD) (t : Fin cfg0.N) (k : Fin 512) (h : Fin 8) (l : Fin 192) :
    iblk m c 2 t (ix2 k ⟨256 * h.val + l.val, by omega⟩) = m ((c.tc : Thread nD τ).loc main_arg2) (ix2 k ⟨192 * h.val + l.val, by omega⟩) :=
  (blk2 t (V m c main_v3) k _).trans ((congrFun (v3_eq m c) _).trans (wPad_at _ k h l))

/-- The weight's padding columns. -/
theorem w_zero (c : Dev nD) (t : Fin cfg0.N) (k : Fin 512) (h : Fin 8) (l : Fin 64) :
    iblk m c 2 t (ix2 k ⟨256 * h.val + 192 + l.val, by omega⟩) = (0 : EReal) :=
  (blk2 t (V m c main_v3) k _).trans ((congrFun (v3_eq m c) _).trans (wPad_zero _ k h l))

/-- The first part's gain, as entries of the argument. -/
theorem gn_read (c : Dev nD) (t : Fin cfg0.N) (k : Fin 128) : iblk m c 3 t (ix2 0 k) = m ((c.tc : Thread nD τ).loc main_arg3) (ix1 k) :=
  (blk3 t (V m c main_v8) k).trans ((congrFun (v8_eq m c) _).trans (row128_at _ _))

/-- The second part's gain, as entries of the argument. -/
theorem gr_read (c : Dev nD) (t : Fin cfg0.N) (k : Fin 64) : iblk m c 4 t (ix2 0 (Rope.lane k)) = m ((c.tc : Thread nD τ).loc main_arg4) (ix1 k) :=
  (blk4 t (V m c main_v10) _).trans ((congrFun (v10_eq m c) _).trans (gPad_at _ k))

/-- A table's operand in its first 64 columns: the first table, then the second. -/
theorem tabPad_at (v w : FVec Ideal S4096x32 .f32) (n : Fin 4096) (l : Fin 64) :
    tabPad v w (ix2 n (Rope.lane l)) = if l.val < 32 then v (ix2 n ⟨l.val % 32, Nat.mod_lt _ (by norm_num)⟩) else w (ix2 n ⟨l.val % 32, Nat.mod_lt _ (by norm_num)⟩) := by
  by_cases h : l.val < 32
  · rw [if_pos h]
    refine (tabPad_low v w n ⟨l.val, h⟩).trans (congrArg (fun j => v (ix2 n j)) (Fin.ext ?_))
    show l.val = l.val % 32
    omega
  · rw [if_neg h]
    refine Eq.trans (congrArg (fun j => tabPad v w (ix2 n j)) (Fin.ext ?_)) ((tabPad_high v w n ⟨l.val - 32, by omega⟩).trans (congrArg (fun j => w (ix2 n j)) (Fin.ext ?_)))
    · show l.val = 32 + (l.val - 32)
      omega
    · show l.val - 32 = l.val % 32
      omega

/-- The cosines, as entries of the argument. -/
theorem c_read (c : Dev nD) (t : Fin cfg0.N) (a : Fin 512) (l : Fin 64) :
    iblk m c 5 t (ix2 a (Rope.lane l)) = m ((c.tc : Thread nD τ).loc main_arg5) (ix2 (token t a) ⟨l.val % 32, Nat.mod_lt _ (by norm_num)⟩) :=
  (blk5 t (V m c main_v12) a _).trans ((congrFun (v12_eq m c) _).trans ((tabPad_at _ _ _ l).trans (ite_self _)))

/-- The cosines' padding lanes. -/
theorem c_zero (c : Dev nD) (t : Fin cfg0.N) (a : Fin 512) (l : Fin 64) : iblk m c 5 t (ix2 a ⟨64 + l.val, by omega⟩) = (0 : EReal) :=
  (blk5 t (V m c main_v12) a _).trans ((congrFun (v12_eq m c) _).trans (tabPad_zero _ _ _ l))

/-- The signed sines, as entries of the argument. -/
theorem s_read (c : Dev nD) (t : Fin cfg0.N) (a : Fin 512) (l : Fin 64) :
    iblk m c 6 t (ix2 a (Rope.lane l)) = (fun v : FVec Ideal S4096x32 .f32 => if l.val < 32 then -v (ix2 (token t a) ⟨l.val % 32, Nat.mod_lt _ (by norm_num)⟩)
      else v (ix2 (token t a) ⟨l.val % 32, Nat.mod_lt _ (by norm_num)⟩)) (m ((c.tc : Thread nD τ).loc main_arg6)) :=
  (blk6 t (V m c main_v14) a _).trans ((congrFun (v14_eq m c) _).trans (tabPad_at _ _ _ l))

/-- The sines' padding lanes. -/
theorem s_zero (c : Dev nD) (t : Fin cfg0.N) (a : Fin 512) (l : Fin 64) : iblk m c 6 t (ix2 a ⟨64 + l.val, by omega⟩) = (0 : EReal) :=
  (blk6 t (V m c main_v14) a _).trans ((congrFun (v14_eq m c) _).trans (tabPad_zero _ _ _ l))

/-- An entry of the kernel's product: the normalised row times a column of the weight. -/
theorem product_at (x0 : FVec Ideal S512x512 .bf16) (x1 : FVec Ideal S1x512 .f32) (x2 : FVec Ideal S512x2048 .bf16) (x3 x4 : FVec Ideal S1x128 .f32)
    (x5 x6 : FVec Ideal S512x128 .f32) (a : Fin 512) (j : Fin 2048) :
    k0_pay46 (F := Ideal) x0 x1 x2 x3 x4 x5 x6 (ix2 a j) = ∑ k, Rope.norm512 (fun k => x0 (ix2 a k)) (fun k => x1 (ix2 0 k)) k * x2 (ix2 k j) := by
  pointwise [k0_pay46, k0_pay3, Rope.norm512]

/-- The cosines as the kernel loads them. -/
theorem cos_at (x0 : FVec Ideal S512x512 .bf16) (x1 : FVec Ideal S1x512 .f32) (x2 : FVec Ideal S512x2048 .bf16) (x3 x4 : FVec Ideal S1x128 .f32)
    (x5 x6 : FVec Ideal S512x128 .f32) (a : Fin 512) (j : Fin 128) : k0_pay47 (F := Ideal) x0 x1 x2 x3 x4 x5 x6 (ix2 a j) = x5 (ix2 a j) := by
  pointwise [k0_pay47, k0_pay4]

/-- The sines as the kernel loads them. -/
theorem sin_at (x0 : FVec Ideal S512x512 .bf16) (x1 : FVec Ideal S1x512 .f32) (x2 : FVec Ideal S512x2048 .bf16) (x3 x4 : FVec Ideal S1x128 .f32)
    (x5 x6 : FVec Ideal S512x128 .f32) (a : Fin 512) (j : Fin 128) : k0_pay48 (F := Ideal) x0 x1 x2 x3 x4 x5 x6 (ix2 a j) = x6 (ix2 a j) := by
  pointwise [k0_pay48, k0_pay5]

/-- A gain as the kernel loads it. -/
theorem gain_at (x : FVec Ideal S1x128 .f32) (j : Fin 128) : View.ld (Val := Elt Ideal) (e' := .f32) x r0_4 (ix2 0 j) = x (ix2 0 j) := by
  pointwise

/-- The result array after the run is the reference's result of the same arguments. -/
theorem result (c : Dev nD) : (dats m 0 c).arrAt 7 cfg0.N = Cert.QueriesRefIdeal.Term.result (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  refine (dats m 0 c).arrAt_eq_of_covers 7 _ (by decide +kernel) fun t hf y => ?_
  blk_simp
  rw [after0_7]
  idx_vars y
  generalize hX : Cert.QueriesRefIdeal.Term.result (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) = X
  have hE : X (((View.whole main_v15).slice (win0_7.rect t)).emb (ix4 y0 y1 y2 y3)) = X (ix4 (sample t) y1 (token t y2) y3) := by
    blk_ext [idx t, sample, token]
  refine Eq.trans ?_ hE.symm
  subst hX
  rw [Subsingleton.elim y0 0]
  refine (out_eq _ _ _ _ _ _ _ _).trans ?_
  refine entry _ _ _ _ _ (Cert.QueriesRefIdeal.Term.heads (m ((c.tc : Thread nD τ).loc main_arg0)) (m ((c.tc : Thread nD τ).loc main_arg1)) (m ((c.tc : Thread nD τ).loc main_arg2))) _ _ _ _ (sample t) (token t y2) y1 y2
    (fun l => ?_) (fun l => ?_) (fun k => ?_) (fun k => ?_) (fun l => ?_) (fun l => ?_) (fun l => ?_) (fun l => ?_) y3
  · refine (product_at _ _ _ _ _ _ _ _ _).trans (Eq.trans ?_ (Cert.QueriesRefIdeal.Term.heads_at _ _ _ _ _ _ _).symm)
    refine Finset.sum_congr rfl fun k _ => congrArg₂ (· * ·) ?_ (w_read m c t k y1 l)
    exact congrArg₂ (fun f g => Rope.norm512 f g k) (funext fun j => x_read m c t y2 j) (funext fun j => g_read m c t j)
  · refine (product_at _ _ _ _ _ _ _ _ _).trans (Finset.sum_eq_zero fun k _ => ?_)
    exact (congrArg (_ * ·) (w_zero m c t k y1 l)).trans (mul_zero _)
  · exact (gain_at _ _).trans (gn_read m c t k)
  · exact (gain_at _ _).trans (gr_read m c t k)
  · exact (cos_at _ _ _ _ _ _ _ _ _).trans (c_read m c t y2 l)
  · exact (sin_at _ _ _ _ _ _ _ _ _).trans (s_read m c t y2 l)
  · exact (cos_at _ _ _ _ _ _ _ _ _).trans (c_zero m c t y2 l)
  · exact (sin_at _ _ _ _ _ _ _ _ _).trans (s_zero m c t y2 l)

/-- The kernel and the reference, launched on equal arguments, end with equal results. -/
theorem algebraic : @Cert.algebraic_QueriesIdeal_QueriesRefIdeal Cert.QueriesIdeal.Gen.facts Cert.QueriesRefIdeal.Gen.facts := by
  intro m g m' g' _ hagree
  refine ⟨fun c => (dats m 0 c).arrAt 7 cfg0.N, Cert.QueriesIdeal.Value.run_blocks m g, ?_⟩
  refine (θ_run _ _ _).mono (fun r h c => ⟨(h c).1.trans ?_, (h c).2⟩) (Cert.QueriesRefIdeal.Value.run (F := Ideal) m' g')
  obtain ⟨h0, h1, h2, h3, h4, h5, h6⟩ := hagree c
  refine Eq.trans ?_ (result m c).symm
  rw [← h0, ← h1, ← h2, ← h3, ← h4, ← h5, ← h6]
  rfl

/-- The reference ends with its arguments unchanged and every counter at zero. -/
theorem ref_frame : @Cert.quiescent_QueriesRefIdeal Cert.QueriesRefIdeal.Gen.facts := fun m g _ =>
  (θ_run _ _ _).mono (fun r h => ⟨fun c => (h c).2, Idealize.ShloMosaic.sem_eq_zero_of_no_sems (by decide) r.2⟩)
    (Cert.QueriesRefIdeal.Value.run (F := Ideal) m g)

end Cert.QueriesIdeal.QValue

end
-- ==== Proof.KeysValuesValue.lean ====
/- The keys and the values laid out for the attention, over the extended reals, are the reference's composed terms of the arguments. -/
module

public import proofs.«01_k».proof.Defs
public import proofs.«01_k».proof.Proof.RopeMath
public import proofs.«01_k».proof.Proof.Gen.KeysValuesIdeal.Value
public import proofs.«01_k».proof.Proof.Gen.KeysValuesRefIdeal.Run
public import Idealize.ShloMosaic.Lib.Pipeline.ValueKit
public import Idealize.ShloMosaic.Lib.Pointwise

@[expose] public section

set_option maxRecDepth 16384

noncomputable section

namespace Cert.KeysValuesRefIdeal.Term

open Cert.KeysValuesRefIdeal Cert.KeysValuesRefIdeal.Gen Idealize.ShloMosaic

/-- The low-rank input, normalised over its 512 entries. -/
def normed (a0 : FVec Ideal S4x4096x512 .f32) (a2 : FVec Ideal S512 .f32) : FVec Ideal S4x4096x512 .f32 :=
  mulf (mulf a0 (broadcastInDim S4x4096x512 ![0, 1, 2] bcast_S4x4096x1_S4x4096x512_0_1_2 (Host.rsqrt (addf (Host.divf
    (broadcastInDim S4x4096x1 ![0, 1] bcast_S4x4096_S4x4096x1_0_1 (Host.reduceAdd (mulf a0 a0) (constant S_ .f32 0x00000000#32) reducesTo_S4x4096x512_S4x4096_d2 h_S_))
    (broadcastInDim S4x4096x1 ![] bcast_S_S4x4096x1 (constant S_ .f32 0x44000000#32))) (broadcastInDim S4x4096x1 ![] bcast_S_S4x4096x1 (constant S_ .f32 0x358637BD#32))))))
    (broadcastInDim S4x4096x512 ![0, 1, 2] bcast_S1x1x512_S4x4096x512_0_1_2 (broadcastInDim S1x1x512 ![2] bcast_S512_S1x1x512_2 a2))

/-- The eight heads' keys and values: the normalised rows times the weight. -/
def heads (a0 : FVec Ideal S4x4096x512 .f32) (a2 : FVec Ideal S512 .f32) (a3 : FVec Ideal S512x2048 .f32) : FVec Ideal S4x4096x8x256 .f32 :=
  shapeCast S4x4096x8x256 (Host.dotGeneral dot_S4x4096x512_S512x2048_S4x4096x2048_2_0_01_1_n_n none (normed a0 a2) a3 : FVec Ideal S4x4096x2048 .f32) shapeCasts_S4x4096x2048_S4x4096x8x256

/-- The first 128 entries of each head, normalised: the keys' first part. -/
def nope (q : FVec Ideal S4x4096x8x256 .f32) (a4 : FVec Ideal S128 .f32) : FVec Ideal S4x4096x8x128 .f32 :=
  mulf (mulf (extractStridedSlice S4x4096x8x128 ![0, 0, 0, 0] q slices_S4x4096x8x256_S4x4096x8x128_0_0_0_0) (broadcastInDim S4x4096x8x128 ![0, 1, 2, 3] bcast_S4x4096x8x1_S4x4096x8x128_0_1_2_3
    (Host.rsqrt (addf (Host.divf (broadcastInDim S4x4096x8x1 ![0, 1, 2] bcast_S4x4096x8_S4x4096x8x1_0_1_2
      (Host.reduceAdd (mulf (extractStridedSlice S4x4096x8x128 ![0, 0, 0, 0] q slices_S4x4096x8x256_S4x4096x8x128_0_0_0_0) (extractStridedSlice S4x4096x8x128 ![0, 0, 0, 0] q slices_S4x4096x8x256_S4x4096x8x128_0_0_0_0))
        (constant S_ .f32 0x00000000#32) reducesTo_S4x4096x8x128_S4x4096x8_d3 h_S_))
      (broadcastInDim S4x4096x8x1 ![] bcast_S_S4x4096x8x1 (constant S_ .f32 0x43000000#32))) (broadcastInDim S4x4096x8x1 ![] bcast_S_S4x4096x8x1 (constant S_ .f32 0x358637BD#32))))))
    (broadcastInDim S4x4096x8x128 ![0, 1, 2, 3] bcast_S1x1x1x128_S4x4096x8x128_0_1_2_3 (broadcastInDim S1x1x1x128 ![3] bcast_S128_S1x1x1x128_3 a4))

/-- The rotary key shared by the heads, normalised over its 64 entries. -/
def rope (a1 : FVec Ideal S4x4096x64 .f32) (a5 : FVec Ideal S64 .f32) : FVec Ideal S4x4096x1x64 .f32 :=
  broadcastInDim S4x4096x1x64 ![0, 1, 3] bcast_S4x4096x64_S4x4096x1x64_0_1_3
    (mulf (mulf a1 (broadcastInDim S4x4096x64 ![0, 1, 2] bcast_S4x4096x1_S4x4096x64_0_1_2 (Host.rsqrt (addf (Host.divf
      (broadcastInDim S4x4096x1 ![0, 1] bcast_S4x4096_S4x4096x1_0_1 (Host.reduceAdd (mulf a1 a1) (constant S_ .f32 0x00000000#32) reducesTo_S4x4096x64_S4x4096_d2 h_S_))
      (broadcastInDim S4x4096x1 ![] bcast_S_S4x4096x1 (constant S_ .f32 0x42800000#32))) (broadcastInDim S4x4096x1 ![] bcast_S_S4x4096x1 (constant S_ .f32 0x358637BD#32))))))
      (broadcastInDim S4x4096x64 ![0, 1, 2] bcast_S1x1x64_S4x4096x64_0_1_2 (broadcastInDim S1x1x64 ![2] bcast_S64_S1x1x64_2 a5)) : FVec Ideal S4x4096x64 .f32)

/-- A table of 32 columns by token, one copy for every sample. -/
def table (a : FVec Ideal S4096x32 .f32) : FVec Ideal S4x4096x1x32 .f32 :=
  broadcastInDim S4x4096x1x32 ![0, 1, 2, 3] bcast_S1x4096x1x32_S4x4096x1x32_0_1_2_3 (broadcastInDim S1x4096x1x32 ![1, 3] bcast_S4096x32_S1x4096x1x32_1_3 a)

/-- The rotary turn: the halves `a` and `b` become `a cos - b sin` and `a sin + b cos`. -/
def turn (n : FVec Ideal S4x4096x1x64 .f32) (a6 a7 : FVec Ideal S4096x32 .f32) : FVec Ideal S4x4096x1x64 .f32 :=
  concatenate S4x4096x1x64 3
    [⟨S4x4096x1x32, subf (mulf (extractStridedSlice S4x4096x1x32 ![0, 0, 0, 0] n slices_S4x4096x1x64_S4x4096x1x32_0_0_0_0) (table a6))
      (mulf (extractStridedSlice S4x4096x1x32 ![0, 0, 0, 32] n slices_S4x4096x1x64_S4x4096x1x32_0_0_0_32) (table a7))⟩,
     ⟨S4x4096x1x32, addf (mulf (extractStridedSlice S4x4096x1x32 ![0, 0, 0, 0] n slices_S4x4096x1x64_S4x4096x1x32_0_0_0_0) (table a7))
      (mulf (extractStridedSlice S4x4096x1x32 ![0, 0, 0, 32] n slices_S4x4096x1x64_S4x4096x1x32_0_0_0_32) (table a6))⟩] concatenates_S4x4096x1x32_S4x4096x1x32_S4x4096x1x64_d3

/-- The keys: both parts side by side, the second shared by the heads, laid out by head and padded to 256 columns. -/
def laidK (x : FVec Ideal S4x4096x8x128 .f32) (z : FVec Ideal S4x4096x1x64 .f32) : FVec Ideal S4x8x4096x256 .bf16 :=
  truncf .bf16 (pad S4x8x4096x256 ![0, 0, 0, 0] ![0, 0, 0, 64] ![0, 0, 0, 0] (transpose S4x8x4096x192 [0, 2, 1, 3]
    (concatenate S4x4096x8x192 3 [⟨S4x4096x8x128, x⟩, ⟨S4x4096x8x64, broadcastInDim S4x4096x8x64 ![0, 1, 2, 3] bcast_S4x4096x1x64_S4x4096x8x64_0_1_2_3 z⟩]
      concatenates_S4x4096x8x128_S4x4096x8x64_S4x4096x8x192_d3 : FVec Ideal S4x4096x8x192 .f32) transposes_S4x4096x8x192_S4x8x4096x192_0_2_1_3)
    (sitofp .f32 (constantI S_ 32 0#32)) pads_S4x8x4096x192_S4x8x4096x256_000_000_000_0640 h_S_ : FVec Ideal S4x8x4096x256 .f32) bitsLt_bf16_f32

/-- The values: the last 128 entries of each head and a column of ones, laid out by head and padded to 256 columns. -/
def laidV (q : FVec Ideal S4x4096x8x256 .f32) : FVec Ideal S4x8x4096x256 .bf16 :=
  truncf .bf16 (pad S4x8x4096x256 ![0, 0, 0, 0] ![0, 0, 0, 127] ![0, 0, 0, 0] (transpose S4x8x4096x129 [0, 2, 1, 3]
    (concatenate S4x4096x8x129 3 [⟨S4x4096x8x128, extractStridedSlice S4x4096x8x128 ![0, 0, 0, 128] q slices_S4x4096x8x256_S4x4096x8x128_0_0_0_128⟩,
      ⟨S4x4096x8x1, broadcastInDim S4x4096x8x1 ![] bcast_S_S4x4096x8x1 (constant S_ .f32 0x3F800000#32 : FVec Ideal S_ .f32)⟩]
      concatenates_S4x4096x8x128_S4x4096x8x1_S4x4096x8x129_d3 : FVec Ideal S4x4096x8x129 .f32) transposes_S4x4096x8x129_S4x8x4096x129_0_2_1_3)
    (sitofp .f32 (constantI S_ 32 0#32)) pads_S4x8x4096x129_S4x8x4096x256_000_000_000_01270 h_S_ : FVec Ideal S4x8x4096x256 .f32) bitsLt_bf16_f32

/-- The reference's keys as a function of its argument arrays. -/
def keys (a0 : FVec Ideal S4x4096x512 .f32) (a1 : FVec Ideal S4x4096x64 .f32) (a2 : FVec Ideal S512 .f32) (a3 : FVec Ideal S512x2048 .f32)
    (a4 : FVec Ideal S128 .f32) (a5 : FVec Ideal S64 .f32) (a6 a7 : FVec Ideal S4096x32 .f32) : FVec Ideal S4x8x4096x256 .bf16 :=
  laidK (nope (heads a0 a2 a3) a4) (turn (rope a1 a5) a6 a7)

/-- The reference's values as a function of its argument arrays. -/
def values (a0 : FVec Ideal S4x4096x512 .f32) (a2 : FVec Ideal S512 .f32) (a3 : FVec Ideal S512x2048 .f32) : FVec Ideal S4x8x4096x256 .bf16 :=
  laidV (heads a0 a2 a3)

/-- An entry of the heads' keys and values. -/
theorem heads_at (a0 : FVec Ideal S4x4096x512 .f32) (a2 : FVec Ideal S512 .f32) (a3 : FVec Ideal S512x2048 .f32) (b : Fin 4) (n : Fin 4096) (h : Fin 8) (l : Fin 256) :
    heads a0 a2 a3 (ix4 b n h l) = ∑ k, Rope.norm512 (fun k => a0 (ix3 b n k)) (fun k => a2 (ix1 k)) k * a3 (ix2 k ⟨256 * h.val + l.val, by omega⟩) := by
  pointwise [heads, normed, Rope.norm512]
  refine Finset.sum_congr rfl fun x _ => congrArg₂ (· * ·) rfl (congrArg (fun j => a3 (ix2 x j)) (Fin.ext ?_))
  show h.val * 256 + l.val = 256 * h.val + l.val
  omega

/-- An entry of the keys' first part. -/
theorem nope_at (q : FVec Ideal S4x4096x8x256 .f32) (a4 : FVec Ideal S128 .f32) (b : Fin 4) (n : Fin 4096) (h : Fin 8) (l : Fin 128) :
    nope q a4 (ix4 b n h l) = Rope.norm128 (fun k => q (ix4 b n h ⟨k.val, by omega⟩)) (fun k => a4 (ix1 k)) l := by
  pointwise [nope, Rope.norm128]

/-- An entry of the shared rotary key. -/
theorem rope_at (a1 : FVec Ideal S4x4096x64 .f32) (a5 : FVec Ideal S64 .f32) (b : Fin 4) (n : Fin 4096) (l : Fin 64) :
    rope a1 a5 (ix4 b n 0 l) = Rope.norm64 (fun k => a1 (ix3 b n k)) (fun k => a5 (ix1 k)) l := by
  pointwise [rope, Rope.norm64]

/-- An entry of the turned rotary key. -/
theorem turn_at (z : FVec Ideal S4x4096x1x64 .f32) (a6 a7 : FVec Ideal S4096x32 .f32) (b : Fin 4) (n : Fin 4096) (l : Fin 64) :
    turn z a6 a7 (ix4 b n 0 l) = Rope.turn64 (fun k => z (ix4 b n 0 k)) (fun k => a6 (ix2 n k)) (fun k => a7 (ix2 n k)) l := by
  pointwise [turn, table, Rope.turn64]
  by_cases hl : l.val < 32
  · rw [dif_pos hl, dif_pos hl, show (⟨32 + l.val, by omega⟩ : Fin 64) = ⟨l.val + 32, by omega⟩ from Fin.ext (Nat.add_comm _ _)]
  · rw [dif_neg hl, dif_neg hl, show (⟨32 + (l.val - 32), by omega⟩ : Fin 64) = l from Fin.ext (by show 32 + (l.val - 32) = l.val; omega)]

/-- An entry of the keys in their first 128 columns. -/
theorem laidK_nope (x : FVec Ideal S4x4096x8x128 .f32) (z : FVec Ideal S4x4096x1x64 .f32) (b : Fin 4) (h : Fin 8) (n : Fin 4096) (l : Fin 128) :
    laidK x z (ix4 b h n ⟨l.val, by omega⟩) = x (ix4 b n h l) := by
  pointwise [laidK]
  exact dif_pos (by omega)

/-- An entry of the keys in their next 64 columns. -/
theorem laidK_rope (x : FVec Ideal S4x4096x8x128 .f32) (z : FVec Ideal S4x4096x1x64 .f32) (b : Fin 4) (h : Fin 8) (n : Fin 4096) (l : Fin 64) :
    laidK x z (ix4 b h n ⟨128 + l.val, by omega⟩) = z (ix4 b n 0 l) := by
  pointwise [laidK]
  exact dif_pos (by omega)

/-- An entry of the keys in their last 64 columns. -/
theorem laidK_zero (x : FVec Ideal S4x4096x8x128 .f32) (z : FVec Ideal S4x4096x1x64 .f32) (b : Fin 4) (h : Fin 8) (n : Fin 4096) (l : Fin 64) :
    laidK x z (ix4 b h n ⟨192 + l.val, by omega⟩) = 0 := by
  pointwise [laidK]
  show (((0#32).toInt : ℝ) : EReal) = 0
  simp

/-- An entry of the values in their first 128 columns. -/
theorem laidV_data (q : FVec Ideal S4x4096x8x256 .f32) (b : Fin 4) (h : Fin 8) (n : Fin 4096) (l : Fin 128) :
    laidV q (ix4 b h n ⟨l.val, by omega⟩) = q (ix4 b n h ⟨128 + l.val, by omega⟩) := by
  pointwise [laidV]
  exact dif_pos (by omega)

/-- An entry of the values in their last 128 columns: one in the first of them, zero in the others. -/
theorem laidV_ones (q : FVec Ideal S4x4096x8x256 .f32) (b : Fin 4) (h : Fin 8) (n : Fin 4096) (l : Fin 128) :
    laidV q (ix4 b h n ⟨128 + l.val, by omega⟩) = if l.val = 0 then Ideal.ofBits FTy.f32 0x3F800000#32 else 0 := by
  pointwise [laidV]
  by_cases h0 : l.val = 0
  · rw [if_pos h0, dif_pos (by omega)]
  · rw [if_neg h0, dif_neg (by omega)]
    show (((0#32).toInt : ℝ) : EReal) = 0
    simp

end Cert.KeysValuesRefIdeal.Term

namespace Cert.KeysValuesIdeal.KVValue

open Cert.KeysValuesIdeal Cert.KeysValuesIdeal.Gen Idealize.ShloMosaic Idealize.ShloMosaic.TcCoe Idealize.SL.Sem
open Idealize.ShloMosaic.Pipeline (Dat)

/-- One head's keys, first part: normalised over 128 columns, cast. -/
def nopeHead (x : FVec Ideal S512x128 .f32) (g : FVec Ideal S1x128 .f32) : FVec Ideal S1x1x512x128 .bf16 :=
  shapeCast S1x1x512x128 (truncf .bf16 (mulf (mulf x
    (broadcastTo S512x128 (rsqrt (addf (divf (shapeCast S512x1 (multiReduction .add [1] S512 (mulf x x) 0x00000000#32 reduces_S512x128_S512 (.inl rfl) rfl) shapeCasts_S512_S512x1 : FVec Ideal S512x1 .f32)
      (broadcast S512x1 (Scalar.ofBits .f32 0x43000000#32 : Ideal .f32))) (broadcast S512x1 (Scalar.ofBits .f32 0x358637BD#32 : Ideal .f32)))) broadcasts_S512x1_S512x128))
    (broadcastTo S512x128 (shapeCast S1x128 g shapeCasts_S1x128_S1x128 : FVec Ideal S1x128 .f32) broadcasts_S1x128_S512x128)) bitsLt_bf16_f32 : FVec Ideal S512x128 .bf16) shapeCasts_S512x128_S1x1x512x128

/-- An array of 128 columns laid in the block's shape. -/
def placed (x : FVec Ideal S512x128 .bf16) : FVec Ideal S1x1x512x128 .bf16 :=
  shapeCast S1x1x512x128 x shapeCasts_S512x128_S1x1x512x128

/-- The first 64 columns, the others set to zero. -/
def masked (x : FVec Ideal S512x128 .bf16) : FVec Ideal S512x128 .f32 :=
  select (cmpi .slt (iota .tc S512x128 32 [1] iota_S512x128_d1_w32) (broadcast S512x128 64#32) : IVec S512x128 1)
    (extf .f32 (shapeCast S512x128 x shapeCasts_S512x128_S512x128 : FVec Ideal S512x128 .bf16) bitsLt_bf16_f32) (broadcast S512x128 (Scalar.ofBits .f32 0x00000000#32 : Ideal .f32))

/-- The rotary key in 128 columns, normalised over its 64 entries. -/
def ropeNorm (x : FVec Ideal S512x128 .f32) (g : FVec Ideal S1x128 .f32) : FVec Ideal S512x128 .f32 :=
  mulf (mulf x
    (broadcastTo S512x128 (rsqrt (addf (mulf (shapeCast S512x1 (multiReduction .add [1] S512 (mulf x x) 0x00000000#32 reduces_S512x128_S512 (.inl rfl) rfl) shapeCasts_S512_S512x1 : FVec Ideal S512x1 .f32)
      (broadcast S512x1 (Scalar.ofBits .f32 0x3C800000#32 : Ideal .f32))) (broadcast S512x1 (Scalar.ofBits .f32 0x358637BD#32 : Ideal .f32)))) broadcasts_S512x1_S512x128))
    (broadcastTo S512x128 (shapeCast S1x128 g shapeCasts_S1x128_S1x128 : FVec Ideal S1x128 .f32) broadcasts_S1x128_S512x128)

/-- The normalised columns turned by the tables: times the cosines, plus the halves exchanged times the signed sines. -/
def turned (n cosT sinT : FVec Ideal S512x128 .f32) : FVec Ideal S512x128 .f32 :=
  addf (mulf n cosT) (mulf (select (cmpi .slt (iota .tc S512x128 32 [1] iota_S512x128_d1_w32) (broadcast S512x128 32#32) : IVec S512x128 1)
    (dynamicRotate 1 96#32 none n rotates_S512x128_d1) (dynamicRotate 1 32#32 none n rotates_S512x128_d1)) sinT)

/-- An entry of a head's first part. -/
theorem nopeHead_at (x : FVec Ideal S512x128 .f32) (g : FVec Ideal S1x128 .f32) (a : Fin 512) (l : Fin 128) :
    nopeHead x g (ix4 0 0 a l) = Rope.norm128 (fun k => x (ix2 a k)) (fun k => g (ix2 0 k)) l := by
  pointwise [nopeHead, Rope.norm128]

/-- An entry of an array laid in the block's shape. -/
theorem placed_at (x : FVec Ideal S512x128 .bf16) (a : Fin 512) (l : Fin 128) : placed x (ix4 0 0 a l) = x (ix2 a l) := by
  pointwise [placed]

/-- An entry of the normalised rotary key. -/
theorem ropeNorm_at (x : FVec Ideal S512x128 .f32) (g : FVec Ideal S1x128 .f32) (a : Fin 512) (l : Fin 128) :
    ropeNorm x g (ix2 a l) = Rope.lanes (fun k => x (ix2 a k)) (fun k => g (ix2 0 k)) l := by
  pointwise [ropeNorm, Rope.lanes]

/-- The comparison of a lane's number with 32. -/
theorem slt_32 : ∀ l : Fin 128, IntOp.cmpi CmpIPredicate.slt (BitVec.ofNat 32 l.val) 32#32 = if l.val < 32 then 1#1 else 0#1 := by
  decide

/-- The comparison of a lane's number with 64. -/
theorem slt_64 : ∀ l : Fin 128, IntOp.cmpi CmpIPredicate.slt (BitVec.ofNat 32 l.val) 64#32 = if l.val < 64 then 1#1 else 0#1 := by
  decide

/-- The comparison of a lane's number with 0. -/
theorem eq_0 : ∀ l : Fin 128, IntOp.cmpi CmpIPredicate.eq (BitVec.ofNat 32 l.val) 0#32 = if l.val = 0 then 1#1 else 0#1 := by
  decide

/-- An entry of the turned columns. -/
theorem turned_at (n cosT sinT : FVec Ideal S512x128 .f32) (a : Fin 512) (l : Fin 128) :
    turned n cosT sinT (ix2 a l) = n (ix2 a l) * cosT (ix2 a l) +
      (if l.val < 32 then n (ix2 a ⟨(l.val + 32) % 128, Nat.mod_lt _ (by norm_num)⟩) else n (ix2 a ⟨(l.val + 96) % 128, Nat.mod_lt _ (by norm_num)⟩)) * sinT (ix2 a l) := by
  pointwise [turned]
  rw [slt_32]
  by_cases h : l.val < 32
  · rw [if_pos h, if_pos h]; rfl
  · rw [if_neg h, if_neg h]; rfl

/-- An entry of the masked columns. -/
theorem masked_at (x : FVec Ideal S512x128 .bf16) (a : Fin 512) (l : Fin 128) : masked x (ix2 a l) = if l.val < 64 then x (ix2 a l) else 0 := by
  pointwise [masked]
  rw [slt_64]
  by_cases h : l.val < 64
  · rw [if_pos h, if_pos h]; rfl
  · rw [if_neg h, if_neg h]; rfl

/-- The rotary key the kernel computes: masked, normalised, turned, cast. -/
theorem rotary_eq (x0 : FVec Ideal S512x512 .bf16) (x1 : FVec Ideal S512x128 .bf16) (x2 : FVec Ideal S1x512 .f32) (x3 : FVec Ideal S512x2048 .bf16) (x4 x5 : FVec Ideal S1x128 .f32)
    (x6 x7 : FVec Ideal S512x128 .f32) (a : Fin 512) (l : Fin 128) :
    k0_pay41 (F := Ideal) x0 x1 x2 x3 x4 x5 x6 x7 (ix2 a l) = turned (ropeNorm (masked (View.ld (Val := Elt Ideal) (e' := .bf16) x1 r0_3)) (View.ld (Val := Elt Ideal) (e' := .f32) x5 r0_4))
      (shapeCast S512x128 (View.ld (Val := Elt Ideal) (e' := .f32) x6 r0_3 : FVec Ideal S512x128 .f32) shapeCasts_S512x128_S512x128)
      (shapeCast S512x128 (View.ld (Val := Elt Ideal) (e' := .f32) x7 r0_3 : FVec Ideal S512x128 .f32) shapeCasts_S512x128_S512x128) (ix2 a l) := rfl

/-- A block of 128 columns as the kernel loads it. -/
theorem cols_at (x : FVec Ideal S512x128 .f32) (a : Fin 512) (j : Fin 128) :
    (shapeCast S512x128 (View.ld (Val := Elt Ideal) (e' := .f32) x r0_3 : FVec Ideal S512x128 .f32) shapeCasts_S512x128_S512x128 : FVec Ideal S512x128 .f32) (ix2 a j) = x (ix2 a j) := by
  pointwise

/-- The rotary key's block as the kernel loads it. -/
theorem small_at (x : FVec Ideal S512x128 .bf16) (a : Fin 512) (j : Fin 128) : View.ld (Val := Elt Ideal) (e' := .bf16) x r0_3 (ix2 a j) = x (ix2 a j) := by
  pointwise

/-- A gain as the kernel loads it. -/
theorem gain_at (x : FVec Ideal S1x128 .f32) (j : Fin 128) : View.ld (Val := Elt Ideal) (e' := .f32) x r0_4 (ix2 0 j) = x (ix2 0 j) := by
  pointwise

/-- An entry of the rotary key the kernel computes. -/
theorem rotary_at (x0 : FVec Ideal S512x512 .bf16) (x1 : FVec Ideal S512x128 .bf16) (x2 : FVec Ideal S1x512 .f32) (x3 : FVec Ideal S512x2048 .bf16) (x4 x5 : FVec Ideal S1x128 .f32)
    (x6 x7 : FVec Ideal S512x128 .f32) (a : Fin 512) (l : Fin 128) :
    k0_pay41 (F := Ideal) x0 x1 x2 x3 x4 x5 x6 x7 (ix2 a l) =
      Rope.turnLanes (fun k => if k.val < 64 then x1 (ix2 a k) else 0) (fun k => x5 (ix2 0 k)) (fun k => x6 (ix2 a k)) (fun k => x7 (ix2 a k)) l := by
  rw [rotary_eq, turned_at, cols_at, cols_at]
  simp only [ropeNorm_at, masked_at]
  rw [show (fun k : Fin 128 => if k.val < 64 then View.ld (Val := Elt Ideal) (e' := .bf16) x1 r0_3 (ix2 a k) else 0) = fun k => if k.val < 64 then x1 (ix2 a k) else 0 from
      funext fun k => congrArg (fun v : EReal => if k.val < 64 then v else 0) (small_at x1 a k),
    show (fun k : Fin 128 => View.ld (Val := Elt Ideal) (e' := .f32) x5 r0_4 (ix2 0 k)) = fun k => x5 (ix2 0 k) from funext fun k => gain_at x5 k]
  rfl

/-- An entry of the column of ones the kernel writes. -/
theorem ones_at (x0 : FVec Ideal S512x512 .bf16) (x1 : FVec Ideal S512x128 .bf16) (x2 : FVec Ideal S1x512 .f32) (x3 : FVec Ideal S512x2048 .bf16) (x4 x5 : FVec Ideal S1x128 .f32)
    (x6 x7 : FVec Ideal S512x128 .f32) (a : Fin 512) (l : Fin 128) :
    k0_pay42 (F := Ideal) x0 x1 x2 x3 x4 x5 x6 x7 (ix2 a l) = if l.val = 0 then Ideal.ofBits FTy.f32 0x3F800000#32 else 0 := by
  pointwise [k0_pay42, k0_pay4]
  rw [eq_0]
  by_cases h : l.val = 0
  · rw [if_pos h, if_pos h]; rfl
  · rw [if_neg h, if_neg h]; rfl

/-- An entry of the kernel's product: the normalised row times a column of the weight. -/
theorem product_at (x0 : FVec Ideal S512x512 .bf16) (x1 : FVec Ideal S512x128 .bf16) (x2 : FVec Ideal S1x512 .f32) (x3 : FVec Ideal S512x2048 .bf16) (x4 x5 : FVec Ideal S1x128 .f32)
    (x6 x7 : FVec Ideal S512x128 .f32) (a : Fin 512) (j : Fin 2048) :
    k0_pay40 (F := Ideal) x0 x1 x2 x3 x4 x5 x6 x7 (ix2 a j) = ∑ k, Rope.norm512 (fun k => x0 (ix2 a k)) (fun k => x2 (ix2 0 k)) k * x3 (ix2 k j) := by
  pointwise [k0_pay40, k0_pay1, Rope.norm512]

/-- The block of keys the kernel writes, as one function of its place: head, row and lane. -/
def blockK (q : FVec Ideal S512x2048 .f32) (gn : FVec Ideal S1x128 .f32) (kr : FVec Ideal S512x128 .bf16) (y : S1x8x512x256.Idx) : EReal :=
  if h : (y 3).val < 128 then
    Rope.norm128 (fun k => q (ix2 ⟨(y 2).val, (y 2).isLt⟩ ⟨256 * (y 1).val + k.val, by have : (y 1).val < 8 := (y 1).isLt; omega⟩)) (fun k => gn (ix2 0 k)) ⟨(y 3).val, h⟩
  else kr (ix2 ⟨(y 2).val, (y 2).isLt⟩ ⟨(y 3).val - 128, by have : (y 3).val < 256 := (y 3).isLt; omega⟩)

/-- The block of values the kernel writes, as one function of its place. -/
def blockV (q : FVec Ideal S512x2048 .f32) (ones : FVec Ideal S512x128 .bf16) (y : S1x8x512x256.Idx) : EReal :=
  if h : (y 3).val < 128 then q (ix2 ⟨(y 2).val, (y 2).isLt⟩ ⟨256 * (y 1).val + 128 + (y 3).val, by have : (y 1).val < 8 := (y 1).isLt; omega⟩)
  else ones (ix2 ⟨(y 2).val, (y 2).isLt⟩ ⟨(y 3).val - 128, by have : (y 3).val < 256 := (y 3).isLt; omega⟩)

/-- The place of the first 128 lanes of head `h` in the block. -/
theorem place_low (h : Nat) (hh : h < 8) (hr : ∀ a, ![0, h, 0, 0] a + S1x1x512x128.size a ≤ S1x8x512x256.size a) (f : S1x8x512x256.Idx → EReal)
    (x0 x1 : Fin 1) (x2 : Fin 512) (x3 : Fin 128) :
    f ((Rect.unit (s := S1x8x512x256) ![0, h, 0, 0] S1x1x512x128.size hr).emb (ix4 x0 x1 x2 x3)) = f (ix4 0 ⟨h, hh⟩ x2 ⟨x3.val, by omega⟩) := by
  blk_ext []

/-- The place of the last 128 lanes of head `h` in the block. -/
theorem place_high (h : Nat) (hh : h < 8) (hr : ∀ a, ![0, h, 0, 128] a + S1x1x512x128.size a ≤ S1x8x512x256.size a) (f : S1x8x512x256.Idx → EReal)
    (x0 x1 : Fin 1) (x2 : Fin 512) (x3 : Fin 128) :
    f ((Rect.unit (s := S1x8x512x256) ![0, h, 0, 128] S1x1x512x128.size hr).emb (ix4 x0 x1 x2 x3)) = f (ix4 0 ⟨h, hh⟩ x2 ⟨128 + x3.val, by omega⟩) := by
  blk_ext []

/-- The keys' block in its first 128 lanes. -/
theorem blockK_low (q : FVec Ideal S512x2048 .f32) (gn : FVec Ideal S1x128 .f32) (kr : FVec Ideal S512x128 .bf16) (h : Fin 8) (a : Fin 512) (l : Fin 128) :
    blockK q gn kr (ix4 0 h a ⟨l.val, by omega⟩) = Rope.norm128 (fun k => q (ix2 a ⟨256 * h.val + k.val, by omega⟩)) (fun k => gn (ix2 0 k)) l := by
  unfold blockK
  exact dif_pos l.isLt

/-- The keys' block in its last 128 lanes. -/
theorem blockK_high (q : FVec Ideal S512x2048 .f32) (gn : FVec Ideal S1x128 .f32) (kr : FVec Ideal S512x128 .bf16) (h : Fin 8) (a : Fin 512) (l : Fin 128) :
    blockK q gn kr (ix4 0 h a ⟨128 + l.val, by omega⟩) = kr (ix2 a l) := by
  unfold blockK
  refine (dif_neg (show ¬ 128 + l.val < 128 by omega)).trans (congrArg (fun j => kr (ix2 a j)) (Fin.ext ?_))
  show 128 + l.val - 128 = l.val
  omega

/-- The values' block in its first 128 lanes. -/
theorem blockV_low (q : FVec Ideal S512x2048 .f32) (ones : FVec Ideal S512x128 .bf16) (h : Fin 8) (a : Fin 512) (l : Fin 128) :
    blockV q ones (ix4 0 h a ⟨l.val, by omega⟩) = q (ix2 a ⟨256 * h.val + 128 + l.val, by omega⟩) := by
  unfold blockV
  exact dif_pos l.isLt

/-- The values' block in its last 128 lanes. -/
theorem blockV_high (q : FVec Ideal S512x2048 .f32) (ones : FVec Ideal S512x128 .bf16) (h : Fin 8) (a : Fin 512) (l : Fin 128) :
    blockV q ones (ix4 0 h a ⟨128 + l.val, by omega⟩) = ones (ix2 a l) := by
  unfold blockV
  refine (dif_neg (show ¬ 128 + l.val < 128 by omega)).trans (congrArg (fun j => ones (ix2 a j)) (Fin.ext ?_))
  show 128 + l.val - 128 = l.val
  omega

/-- The first part of head `h`'s keys, at its place in the block. -/
theorem key_piece (q : FVec Ideal S512x2048 .f32) (gn : FVec Ideal S1x128 .f32) (kr : FVec Ideal S512x128 .bf16) (h o : Nat) (hh : h < 8) (ho : o = 256 * h)
    (hs : S512x2048.Slices ![0, o] S512x128) (hr : ∀ a, ![0, h, 0, 0] a + S1x1x512x128.size a ≤ S1x8x512x256.size a) (x : S1x1x512x128.Idx) :
    nopeHead (extractStridedSlice S512x128 ![0, o] q hs) gn x = blockK q gn kr ((Rect.unit (s := S1x8x512x256) ![0, h, 0, 0] S1x1x512x128.size hr).emb x) := by
  subst ho
  idx_vars x
  refine Eq.trans ?_ ((place_low h hh hr _ x0 x1 x2 x3).trans (blockK_low q gn kr ⟨h, hh⟩ x2 x3)).symm
  rw [show (ix4 x0 x1 x2 x3 : S1x1x512x128.Idx) = ix4 0 0 x2 x3 by rw [Subsingleton.elim x0 0, Subsingleton.elim x1 0], nopeHead_at]
  congr 1
  funext k
  pointwise

/-- The rotary key in head `h`'s keys, at its place in the block. -/
theorem rotary_piece (q : FVec Ideal S512x2048 .f32) (gn : FVec Ideal S1x128 .f32) (kr : FVec Ideal S512x128 .bf16) (h : Nat) (hh : h < 8)
    (hr : ∀ a, ![0, h, 0, 128] a + S1x1x512x128.size a ≤ S1x8x512x256.size a) (x : S1x1x512x128.Idx) :
    placed kr x = blockK q gn kr ((Rect.unit (s := S1x8x512x256) ![0, h, 0, 128] S1x1x512x128.size hr).emb x) := by
  idx_vars x
  refine Eq.trans ?_ ((place_high h hh hr _ x0 x1 x2 x3).trans (blockK_high q gn kr ⟨h, hh⟩ x2 x3)).symm
  rw [show (ix4 x0 x1 x2 x3 : S1x1x512x128.Idx) = ix4 0 0 x2 x3 by rw [Subsingleton.elim x0 0, Subsingleton.elim x1 0], placed_at]

/-- Head `h`'s values, at their place in the block. -/
theorem value_piece (q : FVec Ideal S512x2048 .f32) (ones : FVec Ideal S512x128 .bf16) (h o : Nat) (hh : h < 8) (ho : o = 256 * h + 128)
    (hs : S512x2048.Slices ![0, o] S512x128) (hr : ∀ a, ![0, h, 0, 0] a + S1x1x512x128.size a ≤ S1x8x512x256.size a) (x : S1x1x512x128.Idx) :
    placed (truncf .bf16 (extractStridedSlice S512x128 ![0, o] q hs : FVec Ideal S512x128 .f32) bitsLt_bf16_f32) x =
      blockV q ones ((Rect.unit (s := S1x8x512x256) ![0, h, 0, 0] S1x1x512x128.size hr).emb x) := by
  subst ho
  idx_vars x
  refine Eq.trans ?_ ((place_low h hh hr _ x0 x1 x2 x3).trans (blockV_low q ones ⟨h, hh⟩ x2 x3)).symm
  rw [show (ix4 x0 x1 x2 x3 : S1x1x512x128.Idx) = ix4 0 0 x2 x3 by rw [Subsingleton.elim x0 0, Subsingleton.elim x1 0], placed_at]
  pointwise

/-- The column of ones in head `h`'s values, at its place in the block. -/
theorem ones_piece (q : FVec Ideal S512x2048 .f32) (ones : FVec Ideal S512x128 .bf16) (h : Nat) (hh : h < 8)
    (hr : ∀ a, ![0, h, 0, 128] a + S1x1x512x128.size a ≤ S1x8x512x256.size a) (x : S1x1x512x128.Idx) :
    placed ones x = blockV q ones ((Rect.unit (s := S1x8x512x256) ![0, h, 0, 128] S1x1x512x128.size hr).emb x) := by
  idx_vars x
  refine Eq.trans ?_ ((place_high h hh hr _ x0 x1 x2 x3).trans (blockV_high q ones ⟨h, hh⟩ x2 x3)).symm
  rw [show (ix4 x0 x1 x2 x3 : S1x1x512x128.Idx) = ix4 0 0 x2 x3 by rw [Subsingleton.elim x0 0, Subsingleton.elim x1 0], placed_at]

/-- The kernel's block of keys is that function. -/
theorem keys_eq (x0 : FVec Ideal S512x512 .bf16) (x1 : FVec Ideal S512x128 .bf16) (x2 : FVec Ideal S1x512 .f32) (x3 : FVec Ideal S512x2048 .bf16) (x4 x5 : FVec Ideal S1x128 .f32)
    (x6 x7 : FVec Ideal S512x128 .f32) (y : S1x8x512x256.Idx) :
    out0_8 (F := Ideal) x0 x1 x2 x3 x4 x5 x6 x7 y = blockK (k0_pay40 (F := Ideal) x0 x1 x2 x3 x4 x5 x6 x7) (View.ld (Val := Elt Ideal) (e' := .f32) x4 r0_4) (k0_pay41 (F := Ideal) x0 x1 x2 x3 x4 x5 x6 x7) y := by
  unfold out0_8
  refine View.canon_apply_of_pieces (Val := Elt Ideal) (e := .bf16) (blockK (k0_pay40 (F := Ideal) x0 x1 x2 x3 x4 x5 x6 x7) (View.ld (Val := Elt Ideal) (e' := .f32) x4 r0_4) (k0_pay41 (F := Ideal) x0 x1 x2 x3 x4 x5 x6 x7)) _ ?_ y (cover0_8 _ _ _ _ _ _ _ _ _ _ _ _ _ _ _ _ y)
  simp only [List.forall_mem_cons, List.not_mem_nil, false_imp_iff, implies_true, and_true]
  refine ⟨?_, ?_, ?_, ?_, ?_, ?_, ?_, ?_, ?_, ?_, ?_, ?_, ?_, ?_, ?_, ?_⟩
  · exact rotary_piece _ (View.ld (Val := Elt Ideal) (e' := .f32) x4 r0_4) (k0_pay41 (F := Ideal) x0 x1 x2 x3 x4 x5 x6 x7) 7 (by norm_num) _
  · exact key_piece (k0_pay40 (F := Ideal) x0 x1 x2 x3 x4 x5 x6 x7) (View.ld (Val := Elt Ideal) (e' := .f32) x4 r0_4) _ 7 1792 (by norm_num) rfl slices_S512x2048_o0_1792_S512x128 _
  · exact rotary_piece _ (View.ld (Val := Elt Ideal) (e' := .f32) x4 r0_4) (k0_pay41 (F := Ideal) x0 x1 x2 x3 x4 x5 x6 x7) 6 (by norm_num) _
  · exact key_piece (k0_pay40 (F := Ideal) x0 x1 x2 x3 x4 x5 x6 x7) (View.ld (Val := Elt Ideal) (e' := .f32) x4 r0_4) _ 6 1536 (by norm_num) rfl slices_S512x2048_o0_1536_S512x128 _
  · exact rotary_piece _ (View.ld (Val := Elt Ideal) (e' := .f32) x4 r0_4) (k0_pay41 (F := Ideal) x0 x1 x2 x3 x4 x5 x6 x7) 5 (by norm_num) _
  · exact key_piece (k0_pay40 (F := Ideal) x0 x1 x2 x3 x4 x5 x6 x7) (View.ld (Val := Elt Ideal) (e' := .f32) x4 r0_4) _ 5 1280 (by norm_num) rfl slices_S512x2048_o0_1280_S512x128 _
  · exact rotary_piece _ (View.ld (Val := Elt Ideal) (e' := .f32) x4 r0_4) (k0_pay41 (F := Ideal) x0 x1 x2 x3 x4 x5 x6 x7) 4 (by norm_num) _
  · exact key_piece (k0_pay40 (F := Ideal) x0 x1 x2 x3 x4 x5 x6 x7) (View.ld (Val := Elt Ideal) (e' := .f32) x4 r0_4) _ 4 1024 (by norm_num) rfl slices_S512x2048_o0_1024_S512x128 _
  · exact rotary_piece _ (View.ld (Val := Elt Ideal) (e' := .f32) x4 r0_4) (k0_pay41 (F := Ideal) x0 x1 x2 x3 x4 x5 x6 x7) 3 (by norm_num) _
  · exact key_piece (k0_pay40 (F := Ideal) x0 x1 x2 x3 x4 x5 x6 x7) (View.ld (Val := Elt Ideal) (e' := .f32) x4 r0_4) _ 3 768 (by norm_num) rfl slices_S512x2048_o0_768_S512x128 _
  · exact rotary_piece _ (View.ld (Val := Elt Ideal) (e' := .f32) x4 r0_4) (k0_pay41 (F := Ideal) x0 x1 x2 x3 x4 x5 x6 x7) 2 (by norm_num) _
  · exact key_piece (k0_pay40 (F := Ideal) x0 x1 x2 x3 x4 x5 x6 x7) (View.ld (Val := Elt Ideal) (e' := .f32) x4 r0_4) _ 2 512 (by norm_num) rfl slices_S512x2048_o0_512_S512x128 _
  · exact rotary_piece _ (View.ld (Val := Elt Ideal) (e' := .f32) x4 r0_4) (k0_pay41 (F := Ideal) x0 x1 x2 x3 x4 x5 x6 x7) 1 (by norm_num) _
  · exact key_piece (k0_pay40 (F := Ideal) x0 x1 x2 x3 x4 x5 x6 x7) (View.ld (Val := Elt Ideal) (e' := .f32) x4 r0_4) _ 1 256 (by norm_num) rfl slices_S512x2048_o0_256_S512x128 _
  · exact rotary_piece _ (View.ld (Val := Elt Ideal) (e' := .f32) x4 r0_4) (k0_pay41 (F := Ideal) x0 x1 x2 x3 x4 x5 x6 x7) 0 (by norm_num) _
  · exact key_piece (k0_pay40 (F := Ideal) x0 x1 x2 x3 x4 x5 x6 x7) (View.ld (Val := Elt Ideal) (e' := .f32) x4 r0_4) _ 0 0 (by norm_num) rfl slices_S512x2048_o0_0_S512x128 _

/-- The kernel's block of values is that function. -/
theorem values_eq (x0 : FVec Ideal S512x512 .bf16) (x1 : FVec Ideal S512x128 .bf16) (x2 : FVec Ideal S1x512 .f32) (x3 : FVec Ideal S512x2048 .bf16) (x4 x5 : FVec Ideal S1x128 .f32)
    (x6 x7 : FVec Ideal S512x128 .f32) (y : S1x8x512x256.Idx) :
    out0_9 (F := Ideal) x0 x1 x2 x3 x4 x5 x6 x7 y = blockV (k0_pay40 (F := Ideal) x0 x1 x2 x3 x4 x5 x6 x7) (k0_pay42 (F := Ideal) x0 x1 x2 x3 x4 x5 x6 x7) y := by
  unfold out0_9
  refine View.canon_apply_of_pieces (Val := Elt Ideal) (e := .bf16) (blockV (k0_pay40 (F := Ideal) x0 x1 x2 x3 x4 x5 x6 x7) (k0_pay42 (F := Ideal) x0 x1 x2 x3 x4 x5 x6 x7)) _ ?_ y (cover0_9 _ _ _ _ _ _ _ _ _ _ _ _ _ _ _ _ y)
  simp only [List.forall_mem_cons, List.not_mem_nil, false_imp_iff, implies_true, and_true]
  refine ⟨?_, ?_, ?_, ?_, ?_, ?_, ?_, ?_, ?_, ?_, ?_, ?_, ?_, ?_, ?_, ?_⟩
  · exact ones_piece _ (k0_pay42 (F := Ideal) x0 x1 x2 x3 x4 x5 x6 x7) 7 (by norm_num) _
  · exact value_piece (k0_pay40 (F := Ideal) x0 x1 x2 x3 x4 x5 x6 x7) _ 7 1920 (by norm_num) rfl slices_S512x2048_o0_1920_S512x128 _
  · exact ones_piece _ (k0_pay42 (F := Ideal) x0 x1 x2 x3 x4 x5 x6 x7) 6 (by norm_num) _
  · exact value_piece (k0_pay40 (F := Ideal) x0 x1 x2 x3 x4 x5 x6 x7) _ 6 1664 (by norm_num) rfl slices_S512x2048_o0_1664_S512x128 _
  · exact ones_piece _ (k0_pay42 (F := Ideal) x0 x1 x2 x3 x4 x5 x6 x7) 5 (by norm_num) _
  · exact value_piece (k0_pay40 (F := Ideal) x0 x1 x2 x3 x4 x5 x6 x7) _ 5 1408 (by norm_num) rfl slices_S512x2048_o0_1408_S512x128 _
  · exact ones_piece _ (k0_pay42 (F := Ideal) x0 x1 x2 x3 x4 x5 x6 x7) 4 (by norm_num) _
  · exact value_piece (k0_pay40 (F := Ideal) x0 x1 x2 x3 x4 x5 x6 x7) _ 4 1152 (by norm_num) rfl slices_S512x2048_o0_1152_S512x128 _
  · exact ones_piece _ (k0_pay42 (F := Ideal) x0 x1 x2 x3 x4 x5 x6 x7) 3 (by norm_num) _
  · exact value_piece (k0_pay40 (F := Ideal) x0 x1 x2 x3 x4 x5 x6 x7) _ 3 896 (by norm_num) rfl slices_S512x2048_o0_896_S512x128 _
  · exact ones_piece _ (k0_pay42 (F := Ideal) x0 x1 x2 x3 x4 x5 x6 x7) 2 (by norm_num) _
  · exact value_piece (k0_pay40 (F := Ideal) x0 x1 x2 x3 x4 x5 x6 x7) _ 2 640 (by norm_num) rfl slices_S512x2048_o0_640_S512x128 _
  · exact ones_piece _ (k0_pay42 (F := Ideal) x0 x1 x2 x3 x4 x5 x6 x7) 1 (by norm_num) _
  · exact value_piece (k0_pay40 (F := Ideal) x0 x1 x2 x3 x4 x5 x6 x7) _ 1 384 (by norm_num) rfl slices_S512x2048_o0_384_S512x128 _
  · exact ones_piece _ (k0_pay42 (F := Ideal) x0 x1 x2 x3 x4 x5 x6 x7) 0 (by norm_num) _
  · exact value_piece (k0_pay40 (F := Ideal) x0 x1 x2 x3 x4 x5 x6 x7) _ 0 128 (by norm_num) rfl slices_S512x2048_o0_128_S512x128 _

/-- A lane of the 256 is one of the first 128, of the next 64 or of the last 64. -/
theorem lane_cases (l : Fin 256) : (∃ j : Fin 128, l = ⟨j.val, by omega⟩) ∨ (∃ j : Fin 64, l = ⟨128 + j.val, by omega⟩) ∨ ∃ j : Fin 64, l = ⟨192 + j.val, by omega⟩ := by
  by_cases h1 : l.val < 128
  · exact .inl ⟨⟨l.val, h1⟩, rfl⟩
  · by_cases h2 : l.val < 192
    · exact .inr (.inl ⟨⟨l.val - 128, by omega⟩, Fin.ext (by show l.val = 128 + (l.val - 128); omega)⟩)
    · exact .inr (.inr ⟨⟨l.val - 192, by omega⟩, Fin.ext (by show l.val = 192 + (l.val - 192); omega)⟩)

/-- The keys' entry for one head, row and lane is the reference's, when the block's operands hold what the reference computes from. -/
theorem key_entry (q : FVec Ideal S512x2048 .f32) (gn gr : FVec Ideal S1x128 .f32) (kr : FVec Ideal S512x128 .bf16) (x : Fin 128 → EReal) (cosT sinT : FVec Ideal S512x128 .f32)
    (H : FVec Ideal Cert.KeysValuesRefIdeal.S4x4096x8x256 .f32) (a1 : FVec Ideal Cert.KeysValuesRefIdeal.S4x4096x64 .f32)
    (a4 : FVec Ideal Cert.KeysValuesRefIdeal.S128 .f32) (a5 : FVec Ideal Cert.KeysValuesRefIdeal.S64 .f32)
    (a6 a7 : FVec Ideal Cert.KeysValuesRefIdeal.S4096x32 .f32) (b : Fin 4) (n : Fin 4096) (h : Fin 8) (a : Fin 512)
    (hkr : ∀ l, kr (ix2 a l) = Rope.turnLanes x (fun k => gr (ix2 0 k)) (fun k => cosT (ix2 a k)) (fun k => sinT (ix2 a k)) l)
    (hq : ∀ l : Fin 256, q (ix2 a ⟨256 * h.val + l.val, by omega⟩) = H (ix4 b n h l))
    (hx : ∀ l : Fin 64, x (Rope.lane l) = a1 (ix3 b n l)) (hx0 : ∀ l : Fin 64, x ⟨64 + l.val, by omega⟩ = 0)
    (hgn : ∀ k : Fin 128, gn (ix2 0 k) = a4 (ix1 k)) (hgr : ∀ k : Fin 64, gr (ix2 0 (Rope.lane k)) = a5 (ix1 k))
    (hc : ∀ l : Fin 64, cosT (ix2 a (Rope.lane l)) = a6 (ix2 n ⟨l.val % 32, Nat.mod_lt _ (by norm_num)⟩))
    (hs : ∀ l : Fin 64, sinT (ix2 a (Rope.lane l)) = if l.val < 32 then -a7 (ix2 n ⟨l.val % 32, Nat.mod_lt _ (by norm_num)⟩) else a7 (ix2 n ⟨l.val % 32, Nat.mod_lt _ (by norm_num)⟩))
    (hc0 : ∀ l : Fin 64, cosT (ix2 a ⟨64 + l.val, by omega⟩) = 0) (hs0 : ∀ l : Fin 64, sinT (ix2 a ⟨64 + l.val, by omega⟩) = 0) (l : Fin 256) :
    blockK q gn kr (ix4 0 h a l) = Cert.KeysValuesRefIdeal.Term.laidK (Cert.KeysValuesRefIdeal.Term.nope H a4) (Cert.KeysValuesRefIdeal.Term.turn (Cert.KeysValuesRefIdeal.Term.rope a1 a5) a6 a7) (ix4 b h n l) := by
  obtain ⟨j, rfl⟩ | ⟨j, rfl⟩ | ⟨j, rfl⟩ := lane_cases l
  · refine (blockK_low q gn kr h a j).trans (Eq.trans ?_ (Cert.KeysValuesRefIdeal.Term.laidK_nope _ _ b h n j).symm)
    rw [Cert.KeysValuesRefIdeal.Term.nope_at]
    exact congrArg₂ (fun f g => Rope.norm128 f g _) (funext fun k => hq ⟨k.val, by omega⟩) (funext hgn)
  · refine (blockK_high q gn kr h a (Rope.lane j)).trans (Eq.trans ?_ (Cert.KeysValuesRefIdeal.Term.laidK_rope _ _ b h n j).symm)
    rw [Cert.KeysValuesRefIdeal.Term.turn_at]
    refine (hkr _).trans ((Rope.turn_eq _ _ _ _ (fun k => a1 (ix3 b n k)) (fun k => a5 (ix1 k)) (fun k => a6 (ix2 n k)) (fun k => a7 (ix2 n k)) hx hx0 hgr hc hs j).trans ?_)
    exact congrArg (fun f => Rope.turn64 f _ _ _) (funext fun k => (Cert.KeysValuesRefIdeal.Term.rope_at a1 a5 b n k).symm)
  · refine Eq.trans ?_ (Cert.KeysValuesRefIdeal.Term.laidK_zero _ _ b h n j).symm
    refine Eq.trans (congrArg (fun i => blockK q gn kr (ix4 0 h a i)) (Fin.ext ?_)) ((blockK_high q gn kr h a ⟨64 + j.val, by omega⟩).trans ?_)
    · show 192 + j.val = 128 + (64 + j.val)
      omega
    · rw [hkr, Rope.turn_zero _ _ _ _ _ (hc0 j) (hs0 j)]

/-- A lane of the 256 is one of the first 128 or of the last 128. -/
theorem half_cases (l : Fin 256) : (∃ j : Fin 128, l = ⟨j.val, by omega⟩) ∨ ∃ j : Fin 128, l = ⟨128 + j.val, by omega⟩ := by
  by_cases h : l.val < 128
  · exact .inl ⟨⟨l.val, h⟩, rfl⟩
  · exact .inr ⟨⟨l.val - 128, by omega⟩, Fin.ext (by show l.val = 128 + (l.val - 128); omega)⟩

/-- The values' entry for one head, row and lane is the reference's, when the product is. -/
theorem value_entry (q : FVec Ideal S512x2048 .f32) (ones : FVec Ideal S512x128 .bf16) (H : FVec Ideal Cert.KeysValuesRefIdeal.S4x4096x8x256 .f32) (b : Fin 4) (n : Fin 4096) (h : Fin 8) (a : Fin 512)
    (hones : ∀ l : Fin 128, ones (ix2 a l) = if l.val = 0 then Ideal.ofBits FTy.f32 0x3F800000#32 else 0)
    (hq : ∀ l : Fin 256, q (ix2 a ⟨256 * h.val + l.val, by omega⟩) = H (ix4 b n h l)) (l : Fin 256) :
    blockV q ones (ix4 0 h a l) = Cert.KeysValuesRefIdeal.Term.laidV H (ix4 b h n l) := by
  obtain ⟨j, rfl⟩ | ⟨j, rfl⟩ := half_cases l
  · refine (blockV_low q ones h a j).trans (Eq.trans ?_ (Cert.KeysValuesRefIdeal.Term.laidV_data H b h n j).symm)
    refine Eq.trans (congrArg (fun i => q (ix2 a i)) (Fin.ext ?_)) (hq ⟨128 + j.val, by omega⟩)
    show 256 * h.val + 128 + j.val = 256 * h.val + (128 + j.val)
    omega
  · exact (blockV_high q ones h a j).trans ((hones j).trans (Cert.KeysValuesRefIdeal.Term.laidV_ones H b h n j).symm)

/-- The compressed rows' operand: the two arguments side by side, reshaped, cast, and placed in the columns of the projected array that hold them. -/
def ckvPad (v : FVec Ideal S4x4096x512 .f32) (w : FVec Ideal S4x4096x64 .f32) : FVec Ideal S16384x11776 .bf16 :=
  pad S16384x11776 ![0, 10752] ![0, 448] ![0, 0] (truncf .bf16 (shapeCast S16384x576
    (concatenate S4x4096x576 2 [⟨S4x4096x512, v⟩, ⟨S4x4096x64, w⟩] concatenates_S4x4096x512_S4x4096x64_S4x4096x576_d2 : FVec Ideal S4x4096x576 .f32)
    shapeCasts_S4x4096x576_S16384x576 : FVec Ideal S16384x576 .f32) bitsLt_bf16_f32)
    (sitofp .bf16 (constantI S_ 32 0#32)) pads_S16384x576_S16384x11776_000_107524480 h_S_

/-- The second gain's operand: 64 entries padded to 128. -/
def gPad (g : FVec Ideal S64 .f32) : FVec Ideal S1x128 .f32 :=
  pad S1x128 ![0, 0] ![0, 64] ![0, 0] (shapeCast S1x64 g shapeCasts_S64_S1x64 : FVec Ideal S1x64 .f32) (sitofp .f32 (constantI S_ 32 0#32)) pads_S1x64_S1x128_000_0640 h_S_

/-- A table's operand: two tables of 32 columns side by side, and 64 columns of zeros. -/
def tabPad (v w : FVec Ideal S4096x32 .f32) : FVec Ideal S4096x128 .f32 :=
  concatenate S4096x128 1 [⟨S4096x32, v⟩, ⟨S4096x32, w⟩, ⟨S4096x64, broadcastInDim S4096x64 ![] bcast_S_S4096x64 (constant S_ .f32 0x00000000#32 : FVec Ideal S_ .f32)⟩]
    concatenates_S4096x32_S4096x32_S4096x64_S4096x128_d1

/-- A row of the compressed keys and values, read through the operand's layout. -/
theorem ckvPad_at (v : FVec Ideal S4x4096x512 .f32) (w : FVec Ideal S4x4096x64 .f32) (r : Fin 16384) (k : Fin 512) :
    ckvPad v w (ix2 r ⟨10752 + k.val, by omega⟩) = v (ix3 ⟨r.val / 4096, by omega⟩ ⟨r.val % 4096, by omega⟩ k) := by
  pointwise [ckvPad]
  exact dif_pos (by omega)

/-- A row of the rotary key, read through the operand's layout. -/
theorem ckvPad_rope (v : FVec Ideal S4x4096x512 .f32) (w : FVec Ideal S4x4096x64 .f32) (r : Fin 16384) (k : Fin 64) :
    ckvPad v w (ix2 r ⟨11264 + k.val, by omega⟩) = w (ix3 ⟨r.val / 4096, by omega⟩ ⟨r.val % 4096, by omega⟩ k) := by
  pointwise [ckvPad]
  refine (dif_pos (by omega)).trans ((dif_neg (by omega)).trans (congrArg (fun j => w (ix3 _ _ j)) (Fin.ext ?_)))
  show 11264 + k.val - 10752 - 512 = k.val
  omega

/-- A data entry of the second gain's operand. -/
theorem gPad_at (g : FVec Ideal S64 .f32) (l : Fin 64) : gPad g (ix2 0 (Rope.lane l)) = g (ix1 l) := by
  pointwise [gPad]
  exact dif_pos l.isLt

/-- A table's operand in its first 32 columns. -/
theorem tabPad_low (v w : FVec Ideal S4096x32 .f32) (n : Fin 4096) (l : Fin 32) : tabPad v w (ix2 n ⟨l.val, by omega⟩) = v (ix2 n l) := by
  pointwise [tabPad]

/-- A table's operand in its next 32 columns. -/
theorem tabPad_high (v w : FVec Ideal S4096x32 .f32) (n : Fin 4096) (l : Fin 32) : tabPad v w (ix2 n ⟨32 + l.val, by omega⟩) = w (ix2 n l) := by
  pointwise [tabPad]

/-- A table's operand in its last 64 columns. -/
theorem tabPad_zero (v w : FVec Ideal S4096x32 .f32) (n : Fin 4096) (l : Fin 64) : tabPad v w (ix2 n ⟨64 + l.val, by omega⟩) = 0 := by
  pointwise [tabPad]
  exact (dif_neg (by omega)).trans (dif_neg (by omega))

variable (m : (ℓ : Loc nD τ sig) → Buf (Elt Ideal) ℓ)

/-- Where each window's block lies at point `t`: sample `t / 8`, 512 tokens from `512 (t % 8)`. -/
theorem idx : ∀ t : Fin cfg0.N, win0_0.index t = ![t.val, 21] ∧ win0_1.index t = ![t.val, 88] ∧ win0_2.index t = ![0, 0] ∧ win0_3.index t = ![0, 0]
    ∧ win0_4.index t = ![0, 0] ∧ win0_5.index t = ![0, 0] ∧ win0_6.index t = ![t.val % 8, 0] ∧ win0_7.index t = ![t.val % 8, 0]
    ∧ win0_8.index t = ![t.val / 8, 0, t.val % 8, 0] ∧ win0_9.index t = ![t.val / 8, 0, t.val % 8, 0] :=
  (by decide +kernel : ∀ t : Fin grid0.N, _)

/-- The row of the flattened array at which row `a` of the block at point `t` lies. -/
def row (t : Fin cfg0.N) (a : Fin 512) : Fin 16384 := ⟨512 * t.val + a.val, by have : t.val < 32 := t.2; omega⟩

/-- The sample of point `t`. -/
def sample (t : Fin cfg0.N) : Fin 4 := ⟨t.val / 8, by have : t.val < 32 := t.2; omega⟩

/-- The token of row `a` at point `t`. -/
def token (t : Fin cfg0.N) (a : Fin 512) : Fin 4096 := ⟨512 * (t.val % 8) + a.val, by omega⟩

/-- The compressed rows' block `t` starts at row `512 t`, column 10752. -/
theorem blk0 (t : Fin cfg0.N) (f : FVec Ideal S16384x11776 .bf16) (a k : Fin 512) :
    f ((win0_0.blk t).view.emb (ix2 a k)) = f (ix2 (row t a) ⟨10752 + k.val, by omega⟩) := by
  blk_ext [idx t, row]
/-- The rotary key's block `t` starts at row `512 t`, column 11264. -/
theorem blk1 (t : Fin cfg0.N) (f : FVec Ideal S16384x11776 .bf16) (a : Fin 512) (k : Fin 128) :
    f ((win0_1.blk t).view.emb (ix2 a k)) = f (ix2 (row t a) ⟨11264 + k.val, by omega⟩) := by
  blk_ext [idx t, row]
/-- The rows' gain has one block. -/
theorem blk2 (t : Fin cfg0.N) (f : FVec Ideal S1x512 .f32) (k : Fin 512) : f ((win0_2.blk t).view.emb (ix2 0 k)) = f (ix2 0 k) := by
  blk_ext [idx t]
/-- The weight has one block. -/
theorem blk3 (t : Fin cfg0.N) (f : FVec Ideal S512x2048 .bf16) (k : Fin 512) (j : Fin 2048) : f ((win0_3.blk t).view.emb (ix2 k j)) = f (ix2 k j) := by
  blk_ext [idx t]
/-- The first part's gain has one block. -/
theorem blk4 (t : Fin cfg0.N) (f : FVec Ideal S1x128 .f32) (k : Fin 128) : f ((win0_4.blk t).view.emb (ix2 0 k)) = f (ix2 0 k) := by
  blk_ext [idx t]
/-- The rotary key's gain has one block. -/
theorem blk5 (t : Fin cfg0.N) (f : FVec Ideal S1x128 .f32) (k : Fin 128) : f ((win0_5.blk t).view.emb (ix2 0 k)) = f (ix2 0 k) := by
  blk_ext [idx t]
/-- The cosines' block lies at the tokens of the point. -/
theorem blk6 (t : Fin cfg0.N) (f : FVec Ideal S4096x128 .f32) (a : Fin 512) (k : Fin 128) : f ((win0_6.blk t).view.emb (ix2 a k)) = f (ix2 (token t a) k) := by
  blk_ext [idx t, token]
/-- The sines' block lies at the tokens of the point. -/
theorem blk7 (t : Fin cfg0.N) (f : FVec Ideal S4096x128 .f32) (a : Fin 512) (k : Fin 128) : f ((win0_7.blk t).view.emb (ix2 a k)) = f (ix2 (token t a) k) := by
  blk_ext [idx t, token]

/-- The compressed rows: the operand, of the arguments. -/
theorem v3_eq (c : Dev nD) : V m c main_v3 = ckvPad (m ((c.tc : Thread nD τ).loc main_arg0)) (m ((c.tc : Thread nD τ).loc main_arg1)) := by
  unfold V
  simp only [List.flatten_cons, List.flatten_nil, hostOps0, hostOps0_1, hostOps0_2, hostOps0_3, hostOps0_4, List.cons_append, List.nil_append]
  after_results
  rfl

/-- The rows' gain: the operand, of the argument. -/
theorem v4_eq (c : Dev nD) : V m c main_v4 = (shapeCast S1x512 (m ((c.tc : Thread nD τ).loc main_arg2)) shapeCasts_S512_S1x512 : FVec Ideal S1x512 .f32) := by
  unfold V
  simp only [List.flatten_cons, List.flatten_nil, hostOps0, hostOps0_1, hostOps0_2, hostOps0_3, hostOps0_4, List.cons_append, List.nil_append]
  after_results
  rfl

/-- The weight: the operand, of the argument. -/
theorem v5_eq (c : Dev nD) : V m c main_v5 = (truncf .bf16 ((m ((c.tc : Thread nD τ).loc main_arg3)) : FVec Ideal S512x2048 .f32) bitsLt_bf16_f32 : FVec Ideal S512x2048 .bf16) := by
  unfold V
  simp only [List.flatten_cons, List.flatten_nil, hostOps0, hostOps0_1, hostOps0_2, hostOps0_3, hostOps0_4, List.cons_append, List.nil_append]
  after_results

/-- The first part's gain: the operand, of the argument. -/
theorem v6_eq (c : Dev nD) : V m c main_v6 = (shapeCast S1x128 (m ((c.tc : Thread nD τ).loc main_arg4)) shapeCasts_S128_S1x128 : FVec Ideal S1x128 .f32) := by
  unfold V
  simp only [List.flatten_cons, List.flatten_nil, hostOps0, hostOps0_1, hostOps0_2, hostOps0_3, hostOps0_4, List.cons_append, List.nil_append]
  after_results
  rfl

/-- The rotary key's gain: the operand, of the argument. -/
theorem v8_eq (c : Dev nD) : V m c main_v8 = gPad (m ((c.tc : Thread nD τ).loc main_arg5)) := by
  unfold V
  simp only [List.flatten_cons, List.flatten_nil, hostOps0, hostOps0_1, hostOps0_2, hostOps0_3, hostOps0_4, List.cons_append, List.nil_append]
  after_results
  rfl

/-- The cosines: the operand, of the argument. -/
theorem v10_eq (c : Dev nD) : V m c main_v10 = tabPad (m ((c.tc : Thread nD τ).loc main_arg6)) (m ((c.tc : Thread nD τ).loc main_arg6)) := by
  unfold V
  simp only [List.flatten_cons, List.flatten_nil, hostOps0, hostOps0_1, hostOps0_2, hostOps0_3, hostOps0_4, List.cons_append, List.nil_append]
  after_results
  rfl

/-- The signed sines: the operand, of the argument. -/
theorem v12_eq (c : Dev nD) : V m c main_v12 = tabPad (Host.negf ((m ((c.tc : Thread nD τ).loc main_arg7)) : FVec Ideal S4096x32 .f32)) (m ((c.tc : Thread nD τ).loc main_arg7)) := by
  unfold V
  simp only [List.flatten_cons, List.flatten_nil, hostOps0, hostOps0_1, hostOps0_2, hostOps0_3, hostOps0_4, List.cons_append, List.nil_append]
  after_results
  rfl

/-- The sample and token of a row of the flattened array. -/
theorem row_split (t : Fin cfg0.N) (a : Fin 512) : (⟨(row t a).val / 4096, by omega⟩ : Fin 4) = sample t ∧ (⟨(row t a).val % 4096, by omega⟩ : Fin 4096) = token t a :=
  ⟨Fin.ext (by show (512 * t.val + a.val) / 4096 = t.val / 8; omega), Fin.ext (by show (512 * t.val + a.val) % 4096 = 512 * (t.val % 8) + a.val; omega)⟩

/-- The compressed rows' block, as entries of the argument. -/
theorem x_read (c : Dev nD) (t : Fin cfg0.N) (a k : Fin 512) :
    iblk m c 0 t (ix2 a k) = m ((c.tc : Thread nD τ).loc main_arg0) (ix3 (sample t) (token t a) k) := by
  refine (blk0 t (V m c main_v3) a k).trans ((congrFun (v3_eq m c) _).trans ((ckvPad_at _ _ (row t a) k).trans ?_))
  rw [(row_split t a).1, (row_split t a).2]

/-- The rotary key's block in its first 64 lanes, as entries of the argument. -/
theorem kr_read (c : Dev nD) (t : Fin cfg0.N) (a : Fin 512) (k : Fin 64) :
    iblk m c 1 t (ix2 a (Rope.lane k)) = m ((c.tc : Thread nD τ).loc main_arg1) (ix3 (sample t) (token t a) k) := by
  refine (blk1 t (V m c main_v3) a (Rope.lane k)).trans ((congrFun (v3_eq m c) _).trans ((ckvPad_rope _ _ (row t a) k).trans ?_))
  rw [(row_split t a).1, (row_split t a).2]

/-- A gain of 512 entries, read through the host's reshape to a row. -/
theorem row512_at (v : FVec Ideal S512 .f32) (k : Fin 512) : (shapeCast S1x512 v shapeCasts_S512_S1x512 : FVec Ideal S1x512 .f32) (ix2 0 k) = v (ix1 k) := by
  pointwise

/-- A gain of 128 entries, read through the host's reshape to a row. -/
theorem row128_at (v : FVec Ideal S128 .f32) (k : Fin 128) : (shapeCast S1x128 v shapeCasts_S128_S1x128 : FVec Ideal S1x128 .f32) (ix2 0 k) = v (ix1 k) := by
  pointwise

/-- The rows' gain, as entries of the argument. -/
theorem g_read (c : Dev nD) (t : Fin cfg0.N) (k : Fin 512) : iblk m c 2 t (ix2 0 k) = m ((c.tc : Thread nD τ).loc main_arg2) (ix1 k) :=
  (blk2 t (V m c main_v4) k).trans ((congrFun (v4_eq m c) _).trans (row512_at _ _))

/-- The weight, as entries of the argument. -/
theorem w_read (c : Dev nD) (t : Fin cfg0.N) (k : Fin 512) (j : Fin 2048) : iblk m c 3 t (ix2 k j) = m ((c.tc : Thread nD τ).loc main_arg3) (ix2 k j) :=
  (blk3 t (V m c main_v5) k j).trans (congrFun (v5_eq m c) _)

/-- The first part's gain, as entries of the argument. -/
theorem gn_read (c : Dev nD) (t : Fin cfg0.N) (k : Fin 128) : iblk m c 4 t (ix2 0 k) = m ((c.tc : Thread nD τ).loc main_arg4) (ix1 k) :=
  (blk4 t (V m c main_v6) k).trans ((congrFun (v6_eq m c) _).trans (row128_at _ _))

/-- The rotary key's gain, as entries of the argument. -/
theorem gr_read (c : Dev nD) (t : Fin cfg0.N) (k : Fin 64) : iblk m c 5 t (ix2 0 (Rope.lane k)) = m ((c.tc : Thread nD τ).loc main_arg5) (ix1 k) :=
  (blk5 t (V m c main_v8) _).trans ((congrFun (v8_eq m c) _).trans (gPad_at _ k))

/-- A table's operand in its first 64 columns: the first table, then the second. -/
theorem tabPad_at (v w : FVec Ideal S4096x32 .f32) (n : Fin 4096) (l : Fin 64) :
    tabPad v w (ix2 n (Rope.lane l)) = if l.val < 32 then v (ix2 n ⟨l.val % 32, Nat.mod_lt _ (by norm_num)⟩) else w (ix2 n ⟨l.val % 32, Nat.mod_lt _ (by norm_num)⟩) := by
  by_cases h : l.val < 32
  · rw [if_pos h]
    refine (tabPad_low v w n ⟨l.val, h⟩).trans (congrArg (fun j => v (ix2 n j)) (Fin.ext ?_))
    show l.val = l.val % 32
    omega
  · rw [if_neg h]
    refine Eq.trans (congrArg (fun j => tabPad v w (ix2 n j)) (Fin.ext ?_)) ((tabPad_high v w n ⟨l.val - 32, by omega⟩).trans (congrArg (fun j => w (ix2 n j)) (Fin.ext ?_)))
    · show l.val = 32 + (l.val - 32)
      omega
    · show l.val - 32 = l.val % 32
      omega

/-- The cosines, as entries of the argument. -/
theorem c_read (c : Dev nD) (t : Fin cfg0.N) (a : Fin 512) (l : Fin 64) :
    iblk m c 6 t (ix2 a (Rope.lane l)) = m ((c.tc : Thread nD τ).loc main_arg6) (ix2 (token t a) ⟨l.val % 32, Nat.mod_lt _ (by norm_num)⟩) :=
  (blk6 t (V m c main_v10) a _).trans ((congrFun (v10_eq m c) _).trans ((tabPad_at _ _ _ l).trans (ite_self _)))

/-- The cosines' padding lanes. -/
theorem c_zero (c : Dev nD) (t : Fin cfg0.N) (a : Fin 512) (l : Fin 64) : iblk m c 6 t (ix2 a ⟨64 + l.val, by omega⟩) = (0 : EReal) :=
  (blk6 t (V m c main_v10) a _).trans ((congrFun (v10_eq m c) _).trans (tabPad_zero _ _ _ l))

/-- The signed sines, as entries of the argument. -/
theorem s_read (c : Dev nD) (t : Fin cfg0.N) (a : Fin 512) (l : Fin 64) :
    iblk m c 7 t (ix2 a (Rope.lane l)) = (fun v : FVec Ideal S4096x32 .f32 => if l.val < 32 then -v (ix2 (token t a) ⟨l.val % 32, Nat.mod_lt _ (by norm_num)⟩)
      else v (ix2 (token t a) ⟨l.val % 32, Nat.mod_lt _ (by norm_num)⟩)) (m ((c.tc : Thread nD τ).loc main_arg7)) :=
  (blk7 t (V m c main_v12) a _).trans ((congrFun (v12_eq m c) _).trans (tabPad_at _ _ _ l))

/-- The sines' padding lanes. -/
theorem s_zero (c : Dev nD) (t : Fin cfg0.N) (a : Fin 512) (l : Fin 64) : iblk m c 7 t (ix2 a ⟨64 + l.val, by omega⟩) = (0 : EReal) :=
  (blk7 t (V m c main_v12) a _).trans ((congrFun (v12_eq m c) _).trans (tabPad_zero _ _ _ l))

/-- The kernel's product at point `t`, as the reference's heads. -/
theorem q_read (c : Dev nD) (t : Fin cfg0.N) (a : Fin 512) (h : Fin 8) (l : Fin 256) :
    k0_pay40 (F := Ideal) (iblk m c 0 t) (iblk m c 1 t) (iblk m c 2 t) (iblk m c 3 t) (iblk m c 4 t) (iblk m c 5 t) (iblk m c 6 t) (iblk m c 7 t) (ix2 a ⟨256 * h.val + l.val, by omega⟩) =
      Cert.KeysValuesRefIdeal.Term.heads (m ((c.tc : Thread nD τ).loc main_arg0)) (m ((c.tc : Thread nD τ).loc main_arg2)) (m ((c.tc : Thread nD τ).loc main_arg3)) (ix4 (sample t) (token t a) h l) := by
  refine (product_at _ _ _ _ _ _ _ _ _ _).trans (Eq.trans ?_ (Cert.KeysValuesRefIdeal.Term.heads_at _ _ _ _ _ _ _).symm)
  refine Finset.sum_congr rfl fun k _ => congrArg₂ (· * ·) ?_ (w_read m c t k _)
  exact congrArg₂ (fun f g => Rope.norm512 f g k) (funext fun j => x_read m c t a j) (funext fun j => g_read m c t j)

/-- The keys after the run are the reference's keys of the same arguments. -/
theorem keys (c : Dev nD) : (dats m 0 c).arrAt 8 cfg0.N = Cert.KeysValuesRefIdeal.Term.keys (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (dats m 0 c).arrAt_eq_of_covers 8 _ (by decide +kernel) fun t hf y => ?_
  blk_simp
  rw [after0_8]
  idx_vars y
  generalize hX : Cert.KeysValuesRefIdeal.Term.keys (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) = X
  have hE : X (((View.whole main_v13_0).slice (win0_8.rect t)).emb (ix4 y0 y1 y2 y3)) = X (ix4 (sample t) y1 (token t y2) y3) := by
    blk_ext [idx t, sample, token]
  refine Eq.trans ?_ hE.symm
  subst hX
  rw [Subsingleton.elim y0 0]
  refine (keys_eq _ _ _ _ _ _ _ _ _).trans ?_
  refine key_entry _ _ (iblk m c 5 t) _ (fun k => if k.val < 64 then iblk m c 1 t (ix2 y2 k) else (0 : EReal)) (iblk m c 6 t) (iblk m c 7 t) (Cert.KeysValuesRefIdeal.Term.heads (m ((c.tc : Thread nD τ).loc main_arg0)) (m ((c.tc : Thread nD τ).loc main_arg2)) (m ((c.tc : Thread nD τ).loc main_arg3))) _ _ _ _ _ (sample t) (token t y2) y1 y2
    (fun l => rotary_at _ _ _ _ _ _ _ _ y2 l) (fun l => q_read m c t y2 y1 l) (fun k => ?_) (fun k => if_neg (show ¬ 64 + k.val < 64 by omega)) (fun k => ?_) (gr_read m c t)
    (c_read m c t y2) (s_read m c t y2) (c_zero m c t y2) (s_zero m c t y2) y3
  · exact (if_pos k.isLt).trans (kr_read m c t y2 k)
  · exact (gain_at _ _).trans (gn_read m c t k)

/-- The values after the run are the reference's values of the same arguments. -/
theorem values (c : Dev nD) : (dats m 0 c).arrAt 9 cfg0.N = Cert.KeysValuesRefIdeal.Term.values (m ((c.tc : Thread nD τ).loc main_arg0)) (m ((c.tc : Thread nD τ).loc main_arg2)) (m ((c.tc : Thread nD τ).loc main_arg3)) := by
  refine (dats m 0 c).arrAt_eq_of_covers 9 _ (by decide +kernel) fun t hf y => ?_
  blk_simp
  rw [after0_9]
  idx_vars y
  generalize hX : Cert.KeysValuesRefIdeal.Term.values (m ((c.tc : Thread nD τ).loc main_arg0)) (m ((c.tc : Thread nD τ).loc main_arg2)) (m ((c.tc : Thread nD τ).loc main_arg3)) = X
  have hE : X (((View.whole main_v13_1).slice (win0_9.rect t)).emb (ix4 y0 y1 y2 y3)) = X (ix4 (sample t) y1 (token t y2) y3) := by
    blk_ext [idx t, sample, token]
  refine Eq.trans ?_ hE.symm
  subst hX
  rw [Subsingleton.elim y0 0]
  refine (values_eq _ _ _ _ _ _ _ _ _).trans ?_
  exact value_entry _ _ (Cert.KeysValuesRefIdeal.Term.heads (m ((c.tc : Thread nD τ).loc main_arg0)) (m ((c.tc : Thread nD τ).loc main_arg2)) (m ((c.tc : Thread nD τ).loc main_arg3))) (sample t) (token t y2) y1 y2 (fun l => ones_at _ _ _ _ _ _ _ _ y2 l) (fun l => q_read m c t y2 y1 l) y3

/-- The kernel and the reference, launched on equal arguments, end with equal keys and equal values. -/
theorem algebraic : @Cert.algebraic_KeysValuesIdeal_KeysValuesRefIdeal Cert.KeysValuesIdeal.Gen.facts Cert.KeysValuesRefIdeal.Gen.facts := by
  intro m g m' g' _ hagree
  refine ⟨fun c => (dats m 0 c).arrAt 8 cfg0.N, fun c => (dats m 0 c).arrAt 9 cfg0.N, Cert.KeysValuesIdeal.Value.run_blocks m g, ?_⟩
  refine (θ_run _ _ _).mono (fun r h c => ⟨(h c).1.trans ?_, (h c).2.1.trans ?_, (h c).2.2⟩) (Cert.KeysValuesRefIdeal.Value.run (F := Ideal) m' g')
  · obtain ⟨h0, h1, h2, h3, h4, h5, h6, h7⟩ := hagree c
    refine Eq.trans ?_ (keys m c).symm
    rw [← h0, ← h1, ← h2, ← h3, ← h4, ← h5, ← h6, ← h7]
    rfl
  · obtain ⟨h0, h1, h2, h3, h4, h5, h6, h7⟩ := hagree c
    refine Eq.trans ?_ (values m c).symm
    rw [← h0, ← h2, ← h3]
    rfl

/-- The reference ends with its arguments unchanged and every counter at zero. -/
theorem ref_frame : @Cert.quiescent_KeysValuesRefIdeal Cert.KeysValuesRefIdeal.Gen.facts := fun m g _ =>
  (θ_run _ _ _).mono (fun r h => ⟨fun c => (h c).2.2, Idealize.ShloMosaic.sem_eq_zero_of_no_sems (by decide) r.2⟩)
    (Cert.KeysValuesRefIdeal.Value.run (F := Ideal) m g)

end Cert.KeysValuesIdeal.KVValue

end
-- ==== Proof.InCtxValue.lean ====
/- The context stream's input projection: its result array, over the extended reals, is the reference's composed term of the arguments. -/
module

public import proofs.«01_k».proof.Defs
public import proofs.«01_k».proof.Proof.InProjValue
public import proofs.«01_k».proof.Proof.Gen.InCtxIdeal.Value
public import proofs.«01_k».proof.Proof.Gen.InCtxRefIdeal.Run
public import Idealize.ShloMosaic.Lib.Pipeline.ValueKit
public import Idealize.ShloMosaic.Lib.Pointwise
public import Idealize.ShloMosaic.Lib.Pipeline.ValueKit.Held
public import Idealize.ShloMosaic.Lib.Pipeline.ReadBack

@[expose] public section

set_option maxRecDepth 16384

noncomputable section

namespace Cert.InCtxRefIdeal.Term

open Cert.InCtxRefIdeal Cert.InCtxRefIdeal.Gen Idealize.ShloMosaic
open Cert.InProjRefIdeal.Term (modNorm pick sum_pick)

/-- A vector of the channels, the same at every token. -/
def spread (v : FVec Ideal S2048 .f32) : FVec Ideal S4x256x2048 .f32 :=
  broadcastInDim S4x256x2048 ![0, 1, 2] bcast_S1x1x2048_S4x256x2048_0_1_2 (broadcastInDim S1x1x2048 ![2] bcast_S2048_S1x1x2048_2 v)

/-- The normalised, modulated input. -/
def hidden (a0 : FVec Ideal S4x256x2048 .f32) (a1 : FVec Ideal S12288 .f32) (a2 : FVec Ideal S2048 .f32) : FVec Ideal S4x256x2048 .f32 :=
  addf (mulf (mulf (mulf a0 (broadcastInDim S4x256x2048 ![0, 1, 2] bcast_S4x256x1_S4x256x2048_0_1_2
      (Host.rsqrt (addf (Host.divf (broadcastInDim S4x256x1 ![0, 1] bcast_S4x256_S4x256x1_0_1
          (Host.reduceAdd (mulf a0 a0) (constant S_ .f32 0x00000000#32) reducesTo_S4x256x2048_S4x256_d2 h_S_))
        (broadcastInDim S4x256x1 ![] bcast_S_S4x256x1 (constant S_ .f32 0x45000000#32)))
        (broadcastInDim S4x256x1 ![] bcast_S_S4x256x1 (constant S_ .f32 0x358637BD#32))))))
      (spread a2))
      (spread (addf (broadcastInDim S2048 ![] bcast_S_S2048 (constant S_ .f32 0x3F800000#32)) (extractStridedSlice S2048 ![2048] a1 slices_S12288_S2048_2048))))
    (spread (extractStridedSlice S2048 ![0] a1 slices_S12288_S2048_0))

/-- The product with the whole weight, its columns in the weight's order. -/
def proj (h : FVec Ideal S4x256x2048 .f32) (a3 : FVec Ideal S2048x11744 .f32) : FVec Ideal S4x256x11744 .f32 :=
  Host.dotGeneral dot_S4x256x2048_S2048x11744_S4x256x11744_2_0_01_1_n_n none h a3

/-- The product's columns in the order the result lists them. -/
def parts (z : FVec Ideal S4x256x11744 .f32) : FVec Ideal S4x256x11776 .f32 :=
  concatenate S4x256x11776 2 [⟨S4x256x3072, extractStridedSlice S4x256x3072 ![0, 0, 1088] z slices_S4x256x11744_S4x256x3072_0_0_1088⟩,
    ⟨S4x256x1024, extractStridedSlice S4x256x1024 ![0, 0, 4576] z slices_S4x256x11744_S4x256x1024_0_0_4576⟩,
    ⟨S4x256x6144, extractStridedSlice S4x256x6144 ![0, 0, 5600] z slices_S4x256x11744_S4x256x6144_0_0_5600⟩,
    ⟨S4x256x1024, extractStridedSlice S4x256x1024 ![0, 0, 0] z slices_S4x256x11744_S4x256x1024_0_0_0⟩,
    ⟨S4x256x64, extractStridedSlice S4x256x64 ![0, 0, 1024] z slices_S4x256x11744_S4x256x64_0_0_1024⟩,
    ⟨S4x256x416, extractStridedSlice S4x256x416 ![0, 0, 4160] z slices_S4x256x11744_S4x256x416_0_0_4160⟩,
    ⟨S4x256x32, broadcastInDim S4x256x32 ![] bcast_S_S4x256x32 (constant (F := Ideal) S_ .f32 0x00000000#32)⟩]
    concatenates_S4x256x3072_S4x256x1024_S4x256x6144_S4x256x1024_S4x256x64_S4x256x416_S4x256x32_S4x256x11776_d2

/-- The reference's result as a function of its argument arrays. -/
def result (a0 : FVec Ideal S4x256x2048 .f32) (a1 : FVec Ideal S12288 .f32) (a2 : FVec Ideal S2048 .f32) (a3 : FVec Ideal S2048x11744 .f32) :
    FVec Ideal S1024x11776 .bf16 :=
  truncf .bf16 (shapeCast S1024x11776 (parts (proj (hidden a0 a1 a2) a3)) shapeCasts_S4x256x11776_S1024x11776 : FVec Ideal S1024x11776 .f32) bitsLt_bf16_f32

/-- The normalised input at an index. -/
theorem hidden_at (a0 : FVec Ideal S4x256x2048 .f32) (a1 : FVec Ideal S12288 .f32) (a2 : FVec Ideal S2048 .f32) (p : Fin 4) (q : Fin 256) (k : Fin 2048) :
    hidden a0 a1 a2 (ix3 p q k) = modNorm (fun j => a0 (ix3 p q j)) (a2 (ix1 k)) (a1 (ix1 ⟨2048 + k.val, by omega⟩))
      (a1 (ix1 ⟨k.val, by omega⟩)) k := by
  pointwise [hidden, spread, modNorm]

/-- The reordered columns at an index. -/
theorem parts_at (z : FVec Ideal S4x256x11744 .f32) (p : Fin 4) (q : Fin 256) (b : Fin 11776) :
    parts z (ix3 p q b) = pick (fun j => z (ix3 p q j)) b := by
  pointwise [parts, pick]

/-- The result's entry: the picked column of the product. -/
theorem result_at (a0 : FVec Ideal S4x256x2048 .f32) (a1 : FVec Ideal S12288 .f32) (a2 : FVec Ideal S2048 .f32) (a3 : FVec Ideal S2048x11744 .f32)
    (r : Fin 1024) (b : Fin 11776) (p : Fin 4) (q : Fin 256) (hp : p.val = r.val / 256) (hq : q.val = r.val % 256) :
    result a0 a1 a2 a3 (ix2 r b) = ∑ k, hidden a0 a1 a2 (ix3 p q k) * pick (fun j => a3 (ix2 k j)) b := by
  have ep : p = ⟨r.val / 256, by omega⟩ := Fin.ext hp
  have eq : q = ⟨r.val % 256, by omega⟩ := Fin.ext hq
  rw [sum_pick (fun k => hidden a0 a1 a2 (ix3 p q k)) (fun k j => a3 (ix2 k j)) b, ep, eq]
  pointwise [result]
  rw [parts_at]
  congr 1
  funext j
  pointwise [proj]

/-- The printed run's result is this function of the arguments. -/
theorem res_eq (m : (ℓ : Loc nD τ sig) → Buf (Elt Ideal) ℓ) (c : Dev nD) : Cert.InCtxRefIdeal.Value.res_main_v37 m c =
    result (m ((c.tc : Thread nD τ).loc main_arg0)) (m ((c.tc : Thread nD τ).loc main_arg1))
      (m ((c.tc : Thread nD τ).loc main_arg2)) (m ((c.tc : Thread nD τ).loc main_arg3)) := rfl

end Cert.InCtxRefIdeal.Term

namespace Cert.InCtxIdeal.InValue

open Cert.InCtxIdeal Cert.InCtxIdeal.Gen Idealize.ShloMosaic Idealize.ShloMosaic.TcCoe Idealize.SL.Sem
open Idealize.ShloMosaic.Pipeline (Dat)
open Cert.InProjRefIdeal.Term (modNorm pick)
open Cert.InCtxRefIdeal.Term (hidden hidden_at)

/-- The normalised block at an index. -/
theorem pay1_at (x : Vec Ideal S1024x2048 .f32) (g : Vec Ideal S1x2048 .f32) (sc sh : Vec Ideal S1x1x1x2048 .f32) (a : Fin 1024) (k : Fin 2048) :
    k0_pay1 x g sc sh (ix2 a k) = modNorm (fun j => x (ix2 a j)) (g (ix2 0 k)) (sc (ix4 0 0 0 k)) (sh (ix4 0 0 0 k)) k := by
  pointwise [k0_pay1, modNorm]

/-- The output block: the product of the normalised rows and the point's columns. -/
theorem pay2_at (h : Vec Ideal S1024x2048 .bf16) (w : Vec Ideal S2048x512 .bf16) (a : Fin 1024) (b : Fin 512) :
    k0_pay2 h w (ix2 a b) = ∑ k : Fin 2048, h (ix2 a k) * w (ix2 k b) := by
  pointwise [k0_pay2]

variable (m : (ℓ : Loc nD τ sig) → Buf (Elt Ideal) ℓ)

/-- The blocks the windows show at each grid point. -/
theorem idx : ∀ t : Fin cfg0.N, win0_0.index t = ![t.val / 23, 0] ∧ win0_1.index t = ![0, 0] ∧ win0_2.index t = ![4, 0, 0, 0] ∧
    win0_3.index t = ![4, 1, 0, 0] ∧ win0_4.index t = ![0, t.val % 23] ∧ win0_5.index t = ![t.val / 23, t.val % 23] :=
  (by decide +kernel : ∀ t : Fin grid0.N, _)

/-- The grid has 23 points. -/
theorem lt (t : Fin cfg0.N) : t.val < 23 := t.2

/-- The array row of row `a` of the block at point `t`. -/
def row (t : Fin cfg0.N) (a : Fin 1024) : Fin 1024 := ⟨1024 * (t.val / 23) + a.val, by have := lt t; omega⟩
/-- The sample that row belongs to. -/
def sample (t : Fin cfg0.N) (a : Fin 1024) : Fin 4 := ⟨(1024 * (t.val / 23) + a.val) / 256, by have := lt t; omega⟩
/-- Its place in the sample. -/
def token (t : Fin cfg0.N) (a : Fin 1024) : Fin 256 := ⟨(1024 * (t.val / 23) + a.val) % 256, by omega⟩
/-- The array column of column `b` of the block at point `t`. -/
def col (t : Fin cfg0.N) (b : Fin 512) : Fin 11776 := ⟨512 * (t.val % 23) + b.val, by omega⟩

/-- The input's block: the point's rows. -/
theorem blk0 (t : Fin cfg0.N) (f : FVec Ideal S1024x2048 .f32) (a : Fin 1024) (b : Fin 2048) :
    f ((win0_0.blk t).view.emb (ix2 a b)) = f (ix2 (row t a) b) := by blk_ext [idx t, row]
/-- The norm weight has one block. -/
theorem blk1 (t : Fin cfg0.N) (f : FVec Ideal S1x2048 .f32) (b : Fin 2048) :
    f ((win0_1.blk t).view.emb (ix2 0 b)) = f (ix2 0 b) := by blk_ext [idx t]
/-- The shift's block: row 0 of the modulation. -/
theorem blk2 (t : Fin cfg0.N) (f : FVec Ideal S8x6x1x2048 .f32) (b : Fin 2048) :
    f ((win0_2.blk t).view.emb (ix4 0 0 0 b)) = f (ix4 4 0 0 b) := by blk_ext [idx t]
/-- The scale's block: row 1 of the modulation. -/
theorem blk3 (t : Fin cfg0.N) (f : FVec Ideal S8x6x1x2048 .f32) (b : Fin 2048) :
    f ((win0_3.blk t).view.emb (ix4 0 0 0 b)) = f (ix4 4 1 0 b) := by blk_ext [idx t]
/-- The weight's block: the point's columns. -/
theorem blk4 (t : Fin cfg0.N) (f : FVec Ideal S2048x11776 .bf16) (a : Fin 2048) (b : Fin 512) :
    f ((win0_4.blk t).view.emb (ix2 a b)) = f (ix2 a (col t b)) := by blk_ext [idx t, col]

/-- The reshaped rows at an index. -/
theorem rows_at (v : FVec Ideal S4x256x2048 .f32) (r : Fin 1024) (b : Fin 2048) :
    shapeCast S1024x2048 v shapeCasts_S4x256x2048_S1024x2048 (ix2 r b) = v (ix3 ⟨r.val / 256, by omega⟩ ⟨r.val % 256, by omega⟩ b) := by
  pointwise
/-- The norm weight as one row. -/
theorem g_at (v : FVec Ideal S2048 .f32) (b : Fin 2048) :
    shapeCast S1x2048 v shapeCasts_S2048_S1x2048 (ix2 0 b) = v (ix1 b) := by
  pointwise
/-- The modulation as row 4 of eight rows, the others zero, each row cut into six. -/
def mods (v : FVec Ideal S12288 .f32) : FVec Ideal S8x6x1x2048 .f32 :=
  shapeCast S8x6x1x2048 (pad S8x12288 ![4, 0] ![3, 0] ![0, 0] (shapeCast S1x12288 v shapeCasts_S12288_S1x12288 : FVec Ideal S1x12288 .f32)
    (sitofp .f32 (constantI S_ 32 0#32)) pads_S1x12288_S8x12288_430_000 h_S_ : FVec Ideal S8x12288 .f32) shapeCasts_S8x12288_S8x6x1x2048
/-- Row `k` of the six rows of the modulation. -/
theorem mod_at (v : FVec Ideal S12288 .f32) (k : Fin 6) (b : Fin 2048) : mods v (ix4 4 k 0 b) = v (ix1 ⟨k.val * 2048 + b.val, by omega⟩) := by
  pointwise [mods]
  exact dif_pos (by omega)

/-- The weight's columns in the order the call takes them, padded with zeros. -/
def cols (w : FVec Ideal S2048x11744 .f32) : FVec Ideal S2048x11776 .f32 :=
  concatenate S2048x11776 1 [⟨S2048x3072, extractStridedSlice S2048x3072 ![0, 1088] w slices_S2048x11744_S2048x3072_0_1088⟩,
    ⟨S2048x1024, extractStridedSlice S2048x1024 ![0, 4576] w slices_S2048x11744_S2048x1024_0_4576⟩,
    ⟨S2048x6144, extractStridedSlice S2048x6144 ![0, 5600] w slices_S2048x11744_S2048x6144_0_5600⟩,
    ⟨S2048x1024, extractStridedSlice S2048x1024 ![0, 0] w slices_S2048x11744_S2048x1024_0_0⟩,
    ⟨S2048x64, extractStridedSlice S2048x64 ![0, 1024] w slices_S2048x11744_S2048x64_0_1024⟩,
    ⟨S2048x416, extractStridedSlice S2048x416 ![0, 4160] w slices_S2048x11744_S2048x416_0_4160⟩,
    ⟨S2048x32, broadcastInDim S2048x32 ![] bcast_S_S2048x32 (constant (F := Ideal) S_ .f32 0x00000000#32)⟩]
    concatenates_S2048x3072_S2048x1024_S2048x6144_S2048x1024_S2048x64_S2048x416_S2048x32_S2048x11776_d1

/-- The reordered weight at an index. -/
theorem cols_at (w : FVec Ideal S2048x11744 .f32) (k : Fin 2048) (b : Fin 11776) : cols w (ix2 k b) = pick (fun j => w (ix2 k j)) b := by
  pointwise [cols, pick]

/-- The input, reshaped to rows. -/
theorem v9_eq (c : Dev nD) : V m c main_v9 =
    (shapeCast S1024x2048 (m ((c.tc : Thread nD τ).loc main_arg0)) shapeCasts_S4x256x2048_S1024x2048 : FVec Ideal S1024x2048 .f32) := by
  unfold V
  simp only [List.flatten_cons, List.flatten_nil, hostOps0, hostOps0_1, hostOps0_2, List.cons_append, List.nil_append]
  after_results
  rfl

/-- The norm weight, as one row. -/
theorem v10_eq (c : Dev nD) : V m c main_v10 =
    (shapeCast S1x2048 (m ((c.tc : Thread nD τ).loc main_arg2)) shapeCasts_S2048_S1x2048 : FVec Ideal S1x2048 .f32) := by
  unfold V
  simp only [List.flatten_cons, List.flatten_nil, hostOps0, hostOps0_1, hostOps0_2, List.cons_append, List.nil_append]
  after_results
  rfl

/-- The modulation, padded to eight rows and reshaped into six each. -/
theorem v13_eq (c : Dev nD) : V m c main_v13 =
    mods (m ((c.tc : Thread nD τ).loc main_arg1)) := by
  unfold V
  simp only [List.flatten_cons, List.flatten_nil, hostOps0, hostOps0_1, hostOps0_2, List.cons_append, List.nil_append]
  after_results
  rfl

/-- The weight, its columns reordered, cast. -/
theorem v8_eq (c : Dev nD) : V m c main_v8 =
    (truncf .bf16 (cols (m ((c.tc : Thread nD τ).loc main_arg3)) : FVec Ideal S2048x11776 .f32) bitsLt_bf16_f32 : FVec Ideal S2048x11776 .bf16) := by
  unfold V
  simp only [List.flatten_cons, List.flatten_nil, hostOps0, hostOps0_1, hostOps0_2, List.cons_append, List.nil_append]
  after_results
  rfl

/-- The block of the input, as entries of its argument. -/
theorem x_read (c : Dev nD) (t : Fin cfg0.N) (a : Fin 1024) (b : Fin 2048) :
    iblk m c 0 t (ix2 a b) = m ((c.tc : Thread nD τ).loc main_arg0) (ix3 (sample t a) (token t a) b) :=
  (blk0 t (V m c main_v9) a b).trans ((congrFun (v9_eq m c) _).trans (rows_at _ _ _))
/-- The norm weight's block is the whole weight. -/
theorem g_read (c : Dev nD) (t : Fin cfg0.N) (b : Fin 2048) :
    iblk m c 1 t (ix2 0 b) = m ((c.tc : Thread nD τ).loc main_arg2) (ix1 b) :=
  (blk1 t (V m c main_v10) b).trans ((congrFun (v10_eq m c) _).trans (g_at _ _))
/-- The weight's block: the columns the point's result columns list. -/
theorem w_read (c : Dev nD) (t : Fin cfg0.N) (a : Fin 2048) (b : Fin 512) :
    iblk m c 4 t (ix2 a b) = pick (fun j => m ((c.tc : Thread nD τ).loc main_arg3) (ix2 a j)) (col t b) :=
  (blk4 t (V m c main_v8) a b).trans ((congrFun (v8_eq m c) _).trans (cols_at _ _ _))
/-- The shift's block, as entries of the modulation. -/
theorem m0_read (c : Dev nD) (t : Fin cfg0.N) (b : Fin 2048) :
    iblk m c 2 t (ix4 0 0 0 b) = m ((c.tc : Thread nD τ).loc main_arg1) (ix1 ⟨b.val, by omega⟩) :=
  (blk2 t (V m c main_v13) b).trans ((congrFun (v13_eq m c) _).trans ((mod_at _ _ _).trans (congrArg _ (congrArg ix1
    (Fin.ext (show 0 * 2048 + b.val = b.val by omega))))))
/-- The scale's block, as entries of the modulation. -/
theorem m1_read (c : Dev nD) (t : Fin cfg0.N) (b : Fin 2048) :
    iblk m c 3 t (ix4 0 0 0 b) = m ((c.tc : Thread nD τ).loc main_arg1) (ix1 ⟨2048 + b.val, by omega⟩) :=
  (blk3 t (V m c main_v13) b).trans ((congrFun (v13_eq m c) _).trans ((mod_at _ _ _).trans (congrArg _ (congrArg ix1
    (Fin.ext (show 1 * 2048 + b.val = 2048 + b.val by omega))))))

/-- The reference's normalised input, of the kernel's arguments. -/
def hid (c : Dev nD) : FVec Ideal Cert.InCtxRefIdeal.S4x256x2048 .f32 :=
  hidden (m ((c.tc : Thread nD τ).loc main_arg0)) (m ((c.tc : Thread nD τ).loc main_arg1)) (m ((c.tc : Thread nD τ).loc main_arg2))

/-- The normalised block computed from the blocks of any point is the reference's normalised input. -/
theorem norm_read (c : Dev nD) (t : Fin cfg0.N) (a : Fin 1024) (k : Fin 2048) :
    k0_pay1 (iblk m c 0 t) (iblk m c 1 t) (iblk m c 3 t) (iblk m c 2 t) (ix2 a k) = hid m c (ix3 (sample t a) (token t a) k) := by
  refine (pay1_at _ _ _ _ a k).trans ?_
  rw [hid, hidden_at, g_read, m0_read m c t, m1_read m c t]
  congr 1
  exact funext fun j => x_read m c t a j

/-- The scratch holds the normalised block of the run's first point. -/
theorem held (c : Dev nD) (t : Fin cfg0.N) : (outsAt0 m c t.val t.isLt).2 =
    (fun t : Fin cfg0.N => k0_pay1 (iblk m c 0 t) (iblk m c 1 t) (iblk m c 3 t) (iblk m c 2 t)) ⟨23 * (t.val / 23), Pipeline.run_start_lt t⟩ := by
  refine Pipeline.eq_of_write_hold (fun n h => (outsAt0 m c n h).2) 23
    (fun t : Fin cfg0.N => k0_pay1 (iblk m c 0 t) (iblk m c 1 t) (iblk m c 3 t) (iblk m c 2 t)) (fun t h0 => ?_) (fun t h0 => ?_) t
  · rw [outsAt0_A m c t h0]
    funext y
    frame_out
  · rw [outsAt0_B m c t h0]
    rfl

/-- At every point the scratch holds the reference's normalised rows. -/
theorem held_at (c : Dev nD) (t : Fin cfg0.N) (a : Fin 1024) (k : Fin 2048) :
    (outsAt0 m c t.val t.isLt).2 (ix2 a k) = hid m c (ix3 (sample t a) (token t a) k) := by
  rw [held m c t]
  refine (norm_read m c ⟨23 * (t.val / 23), Pipeline.run_start_lt t⟩ a k).trans ?_
  congr 1
  simp only [sample, token]
  congr 2 <;> congr 2 <;> omega

/-- The block written back: the product of the scratch's rows and the point's columns. -/
theorem out (c : Dev nD) (t : Fin cfg0.N) (y : S1024x512.Idx) :
    (outsAt0 m c t.val t.isLt).1 y = k0_pay2 (outsAt0 m c t.val t.isLt).2 (iblk m c 4 t) y := by
  by_cases h0 : t.val % 23 = 0
  · rw [outsAt0_A m c t h0]
    frame_out
  · rw [outsAt0_B m c t h0]
    frame_out
    simp only [read_unread_whole]
    rfl

/-- The result array after the run is the reference's result of the same arguments. -/
theorem result (c : Dev nD) : (dats m 0 c).arrAt 5 cfg0.N =
    Cert.InCtxRefIdeal.Term.result (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 5 _ (by decide +kernel) fun t hf y => ?_
  blk_simp
  rw [after0_5, out m c t]
  idx_vars y
  generalize hX : Cert.InCtxRefIdeal.Term.result (m ((c.tc : Thread nD τ).loc main_arg0)) (m ((c.tc : Thread nD τ).loc main_arg1))
      (m ((c.tc : Thread nD τ).loc main_arg2)) (m ((c.tc : Thread nD τ).loc main_arg3)) = X
  have hE : X (((View.whole main_v14).slice (win0_5.rect t)).emb (ix2 y0 y1)) = X (ix2 (row t y0) (col t y1)) := by
    blk_ext [idx t, row, col]
  refine Eq.trans ?_ hE.symm
  subst hX
  rw [Cert.InCtxRefIdeal.Term.result_at _ _ _ _ (row t y0) (col t y1) (sample t y0) (token t y0) rfl rfl]
  refine (pay2_at _ _ y0 y1).trans (Finset.sum_congr rfl fun k _ => ?_)
  exact congrArg₂ (fun u v : EReal => u * v) (held_at m c t y0 k) (w_read m c t k y1)

/-- The kernel and the reference, launched on equal arguments, end with equal results. -/
theorem algebraic : @Cert.algebraic_InCtxIdeal_InCtxRefIdeal Cert.InCtxIdeal.Gen.facts Cert.InCtxRefIdeal.Gen.facts := by
  intro m g m' g' _ hagree
  refine ⟨fun c => (dats m 0 c).arrAt 5 cfg0.N, Cert.InCtxIdeal.Value.run_blocks m g, ?_⟩
  refine (θ_run _ _ _).mono (fun r h c => ⟨(h c).1.trans ?_, (h c).2⟩) (Cert.InCtxRefIdeal.Value.run (F := Ideal) m' g')
  obtain ⟨h0, h1, h2, h3⟩ := hagree c
  rw [Cert.InCtxRefIdeal.Term.res_eq, h0, h1, h2, h3]
  exact (result m c).symm

/-- The reference ends with its arguments unchanged and every counter at zero. -/
theorem ref_frame : @Cert.quiescent_InCtxRefIdeal Cert.InCtxRefIdeal.Gen.facts := fun m g _ =>
  (θ_run _ _ _).mono (fun r h => ⟨fun c => (h c).2, Idealize.ShloMosaic.sem_eq_zero_of_no_sems (by decide) r.2⟩)
    (Cert.InCtxRefIdeal.Value.run (F := Ideal) m g)

end Cert.InCtxIdeal.InValue

end
-- ==== Proof.MergeCtxValue.lean ====
/- The context stream's gated merge: its result array, over the extended reals, is the reference's composed term of the arguments. -/
module

public import proofs.«01_k».proof.Defs
public import proofs.«01_k».proof.Proof.MergeValue
public import proofs.«01_k».proof.Proof.Gen.MergeCtxIdeal.Value
public import proofs.«01_k».proof.Proof.Gen.MergeCtxRefIdeal.Run
public import Idealize.ShloMosaic.Lib.Pipeline.ValueKit
public import Idealize.ShloMosaic.Lib.Pointwise

@[expose] public section

set_option maxRecDepth 16384

noncomputable section

namespace Cert.MergeCtxRefIdeal.Term

open Cert.MergeCtxRefIdeal Cert.MergeCtxRefIdeal.Gen Idealize.ShloMosaic

/-- The sigmoid of the gates, as the reference spells it. -/
def gates (a3 : FVec Ideal S4x256x6144 .f32) : FVec Ideal S4x256x6144 .f32 :=
  Host.divf (broadcastInDim S4x256x6144 ![] bcast_S_S4x256x6144 (constant S_ .f32 0x3F800000#32))
    (addf (broadcastInDim S4x256x6144 ![] bcast_S_S4x256x6144 (constant S_ .f32 0x3F800000#32)) (Host.exp (Host.negf a3)))

/-- The three branches side by side. -/
def branches (a0 a1 a2 : FVec Ideal S4x256x1024 .f32) : FVec Ideal S4x256x3x1024 .f32 :=
  concatenate S4x256x3x1024 2 [⟨S4x256x1x1024, broadcastInDim S4x256x1x1024 ![0, 1, 3] bcast_S4x256x1024_S4x256x1x1024_0_1_3 a0⟩,
    ⟨S4x256x1x1024, broadcastInDim S4x256x1x1024 ![0, 1, 3] bcast_S4x256x1024_S4x256x1x1024_0_1_3 a1⟩,
    ⟨S4x256x1x1024, broadcastInDim S4x256x1x1024 ![0, 1, 3] bcast_S4x256x1024_S4x256x1x1024_0_1_3 a2⟩]
    concatenates_S4x256x1x1024_S4x256x1x1024_S4x256x1x1024_S4x256x3x1024_d2

/-- The reference's result as a function of its argument arrays. -/
def result (a0 a1 a2 : FVec Ideal S4x256x1024 .f32) (a3 : FVec Ideal S4x256x6144 .f32) (a4 : FVec Ideal S3x1024x2048 .f32) :
    FVec Ideal S1024x2048 .bf16 :=
  truncf .bf16 (shapeCast S1024x2048 (Host.dotGeneral dot_S4x256x3x2048_S4x256x3x2048_S4x256x2048_2_2_n_n_013_013 none
    (shapeCast S4x256x3x2048 (gates a3) shapeCasts_S4x256x6144_S4x256x3x2048)
    (transpose S4x256x3x2048 [2, 3, 0, 1] (Host.dotGeneral dot_S3x1024x2048_S4x256x3x1024_S3x2048x4x256_1_3_2_01_0_2 none a4 (branches a0 a1 a2))
      transposes_S3x2048x4x256_S4x256x3x2048_2_3_0_1)) shapeCasts_S4x256x2048_S1024x2048) bitsLt_bf16_f32

/-- The reference's result at row `r`, column `b`: the three branches' products, each times the sigmoid of its gate. -/
theorem result_at (a0 a1 a2 : FVec Ideal S4x256x1024 .f32) (a3 : FVec Ideal S4x256x6144 .f32) (a4 : FVec Ideal S3x1024x2048 .f32)
    (r : Fin 1024) (b : Fin 2048) (p : Fin 4) (q : Fin 256) (hp : p.val = r.val / 256) (hq : q.val = r.val % 256) :
    result a0 a1 a2 a3 a4 (ix2 r b) =
      Ideal.div 1 (1 + Ideal.exp (-a3 (ix3 p q ⟨b.val, by omega⟩))) * ∑ x, a4 (ix3 0 x b) * a0 (ix3 p q x) +
        Ideal.div 1 (1 + Ideal.exp (-a3 (ix3 p q ⟨2048 + b.val, by omega⟩))) * ∑ x, a4 (ix3 1 x b) * a1 (ix3 p q x) +
      Ideal.div 1 (1 + Ideal.exp (-a3 (ix3 p q ⟨4096 + b.val, by omega⟩))) * ∑ x, a4 (ix3 2 x b) * a2 (ix3 p q x) := by
  have ep : p = ⟨r.val / 256, by omega⟩ := Fin.ext hp
  have eq : q = ⟨r.val % 256, by omega⟩ := Fin.ext hq
  rw [ep, eq]
  pointwise [result, gates, branches]
  simp only [Fin.sum_univ_three]
  pointwise

end Cert.MergeCtxRefIdeal.Term

namespace Cert.MergeCtxIdeal.MergeValue

open Cert.MergeCtxIdeal Cert.MergeCtxIdeal.Gen Idealize.ShloMosaic Idealize.ShloMosaic.TcCoe Idealize.SL.Sem
open Idealize.ShloMosaic.Pipeline (Dat)
open Cert.MergeIdeal.MergeValue (half_tanh)

variable (m : (ℓ : Loc nD τ sig) → Buf (Elt Ideal) ℓ)

/-- Where each window's block lies at point `t`: row block `t / 4`, column block `t % 4`. -/
theorem idx : ∀ t : Fin cfg0.N, win0_0.index t = ![t.val / 4, 0] ∧ win0_1.index t = ![t.val / 4, 0] ∧ win0_2.index t = ![t.val / 4, 0]
    ∧ win0_3.index t = ![t.val / 4, 8 + t.val % 4] ∧ win0_4.index t = ![t.val / 4, 12 + t.val % 4] ∧ win0_5.index t = ![t.val / 4, 16 + t.val % 4]
    ∧ win0_6.index t = ![0, 0, t.val % 4] ∧ win0_7.index t = ![t.val / 4, t.val % 4] :=
  (by decide +kernel : ∀ t : Fin grid0.N, _)

/-- The row of the flattened arrays at which row `a` of the block at point `t` lies. -/
def row (t : Fin cfg0.N) (a : Fin 1024) : Fin 1024 := ⟨1024 * (t.val / 4) + a.val, by have : t.val < 4 := t.2; omega⟩

/-- The column of the result at which column `b` of the block at point `t` lies. -/
def col (t : Fin cfg0.N) (b : Fin 512) : Fin 2048 := ⟨512 * (t.val % 4) + b.val, by omega⟩

/-- The sample of that row. -/
def sample (t : Fin cfg0.N) (a : Fin 1024) : Fin 4 := ⟨(row t a).val / 256, by omega⟩

/-- The token of that row. -/
def token (t : Fin cfg0.N) (a : Fin 1024) : Fin 256 := ⟨(row t a).val % 256, by omega⟩

/-- A row of a branch, read through the host's reshape and cast. -/
theorem rows_at (v : FVec Ideal S4x256x1024 .f32) (r : Fin 1024) (b : Fin 1024) :
    (truncf .bf16 (shapeCast S1024x1024 v shapeCasts_S4x256x1024_S1024x1024 : FVec Ideal S1024x1024 .f32) bitsLt_bf16_f32 : FVec Ideal S1024x1024 .bf16) (ix2 r b) =
      v (ix3 ⟨r.val / 256, by omega⟩ ⟨r.val % 256, by omega⟩ b) := by
  pointwise

/-- A gate, read through the host's reshape, cast and padding. -/
theorem gates_at (v : FVec Ideal S4x256x6144 .f32) (z : FVec Ideal S_ .bf16) (r : Fin 1024) (b : Fin 6144) :
    (pad S1024x11776 ![0, 4096] ![0, 1536] ![0, 0] (truncf .bf16 (shapeCast S1024x6144 v shapeCasts_S4x256x6144_S1024x6144 : FVec Ideal S1024x6144 .f32) bitsLt_bf16_f32) z
      pads_S1024x6144_S1024x11776_000_409615360 h_S_ : FVec Ideal S1024x11776 .bf16) (ix2 r ⟨4096 + b.val, by omega⟩) =
      v (ix3 ⟨r.val / 256, by omega⟩ ⟨r.val % 256, by omega⟩ b) := by
  pointwise

/-- The gates' operand: reshaped, cast, and placed in the columns of the projected array that hold them. -/
theorem v2_eq (c : Dev nD) : V m c main_v2 =
    (pad S1024x11776 ![0, 4096] ![0, 1536] ![0, 0] (truncf .bf16 (shapeCast S1024x6144 (m ((c.tc : Thread nD τ).loc main_arg3)) shapeCasts_S4x256x6144_S1024x6144 : FVec Ideal S1024x6144 .f32) bitsLt_bf16_f32)
      (sitofp .bf16 (constantI S_ 32 0#32)) pads_S1024x6144_S1024x11776_000_409615360 h_S_ : FVec Ideal S1024x11776 .bf16) := by
  unfold V
  simp only [List.flatten_cons, List.flatten_nil, hostOps0, hostOps0_1, hostOps0_2, List.cons_append, List.nil_append]
  after_results
  rfl

/-- The weights' operand: the argument, cast. -/
theorem v9_eq (c : Dev nD) : V m c main_v9 = (truncf .bf16 (m ((c.tc : Thread nD τ).loc main_arg4) : FVec Ideal S3x1024x2048 .f32) bitsLt_bf16_f32 : FVec Ideal S3x1024x2048 .bf16) := by
  unfold V
  simp only [List.flatten_cons, List.flatten_nil, hostOps0, hostOps0_1, hostOps0_2, List.cons_append, List.nil_append]
  after_results

/-- The weights' block: all three branches' rows, the result's column block. -/
theorem blk6 (t : Fin cfg0.N) (f : FVec Ideal S3x1024x2048 .bf16) (n : Fin 3) (a : Fin 1024) (b : Fin 512) :
    f ((win0_6.blk t).view.emb (ix3 n a b)) = f (ix3 n a (col t b)) := by
  blk_ext [idx t, row, col]

/-- The weights' block, as entries of the argument. -/
theorem w_read (c : Dev nD) (t : Fin cfg0.N) (n : Fin 3) (a : Fin 1024) (b : Fin 512) :
    iblk m c 6 t (ix3 n a b) = m ((c.tc : Thread nD τ).loc main_arg4) (ix3 n a (col t b)) :=
  (blk6 t (V m c main_v9) n a b).trans (congrFun (v9_eq m c) _)

/-- Branch 0's operand: the reshaped argument. -/
theorem v4_eq (c : Dev nD) : V m c main_v4 =
    (truncf .bf16 (shapeCast S1024x1024 (m ((c.tc : Thread nD τ).loc main_arg0)) shapeCasts_S4x256x1024_S1024x1024 : FVec Ideal S1024x1024 .f32)
      bitsLt_bf16_f32 : FVec Ideal S1024x1024 .bf16) := by
  unfold V
  simp only [List.flatten_cons, List.flatten_nil, hostOps0, hostOps0_1, hostOps0_2, List.cons_append, List.nil_append]
  after_results
  rfl

/-- Branch 0's block starts at row `1024 (t / 4)`. -/
theorem blk0 (t : Fin cfg0.N) (f : FVec Ideal S1024x1024 .bf16) (a : Fin 1024) (b : Fin 1024) :
    f ((win0_0.blk t).view.emb (ix2 a b)) = f (ix2 (row t a) b) := by
  blk_ext [idx t, row, col]

/-- Branch 0's block, as entries of its argument. -/
theorem branch0_read (c : Dev nD) (t : Fin cfg0.N) (a : Fin 1024) (b : Fin 1024) :
    iblk m c 0 t (ix2 a b) = m ((c.tc : Thread nD τ).loc main_arg0) (ix3 (sample t a) (token t a) b) :=
  (blk0 t (V m c main_v4) a b).trans ((congrFun (v4_eq m c) _).trans (rows_at _ _ _))

/-- Branch 1's operand: the reshaped argument. -/
theorem v6_eq (c : Dev nD) : V m c main_v6 =
    (truncf .bf16 (shapeCast S1024x1024 (m ((c.tc : Thread nD τ).loc main_arg1)) shapeCasts_S4x256x1024_S1024x1024 : FVec Ideal S1024x1024 .f32)
      bitsLt_bf16_f32 : FVec Ideal S1024x1024 .bf16) := by
  unfold V
  simp only [List.flatten_cons, List.flatten_nil, hostOps0, hostOps0_1, hostOps0_2, List.cons_append, List.nil_append]
  after_results
  rfl

/-- Branch 1's block starts at row `1024 (t / 4)`. -/
theorem blk1 (t : Fin cfg0.N) (f : FVec Ideal S1024x1024 .bf16) (a : Fin 1024) (b : Fin 1024) :
    f ((win0_1.blk t).view.emb (ix2 a b)) = f (ix2 (row t a) b) := by
  blk_ext [idx t, row, col]

/-- Branch 1's block, as entries of its argument. -/
theorem branch1_read (c : Dev nD) (t : Fin cfg0.N) (a : Fin 1024) (b : Fin 1024) :
    iblk m c 1 t (ix2 a b) = m ((c.tc : Thread nD τ).loc main_arg1) (ix3 (sample t a) (token t a) b) :=
  (blk1 t (V m c main_v6) a b).trans ((congrFun (v6_eq m c) _).trans (rows_at _ _ _))

/-- Branch 2's operand: the reshaped argument. -/
theorem v8_eq (c : Dev nD) : V m c main_v8 =
    (truncf .bf16 (shapeCast S1024x1024 (m ((c.tc : Thread nD τ).loc main_arg2)) shapeCasts_S4x256x1024_S1024x1024 : FVec Ideal S1024x1024 .f32)
      bitsLt_bf16_f32 : FVec Ideal S1024x1024 .bf16) := by
  unfold V
  simp only [List.flatten_cons, List.flatten_nil, hostOps0, hostOps0_1, hostOps0_2, List.cons_append, List.nil_append]
  after_results
  rfl

/-- Branch 2's block starts at row `1024 (t / 4)`. -/
theorem blk2 (t : Fin cfg0.N) (f : FVec Ideal S1024x1024 .bf16) (a : Fin 1024) (b : Fin 1024) :
    f ((win0_2.blk t).view.emb (ix2 a b)) = f (ix2 (row t a) b) := by
  blk_ext [idx t, row, col]

/-- Branch 2's block, as entries of its argument. -/
theorem branch2_read (c : Dev nD) (t : Fin cfg0.N) (a : Fin 1024) (b : Fin 1024) :
    iblk m c 2 t (ix2 a b) = m ((c.tc : Thread nD τ).loc main_arg2) (ix3 (sample t a) (token t a) b) :=
  (blk2 t (V m c main_v8) a b).trans ((congrFun (v8_eq m c) _).trans (rows_at _ _ _))

/-- Gate 0's block: columns from `4096 + 512 (t % 4)` of the padded array. -/
theorem blk3 (t : Fin cfg0.N) (f : FVec Ideal S1024x11776 .bf16) (a : Fin 1024) (b : Fin 512) :
    f ((win0_3.blk t).view.emb (ix2 a b)) = f (ix2 (row t a) ⟨4096 + (0 + (col t b).val), by omega⟩) := by
  blk_ext [idx t, row, col]

/-- Gate 0's block, as entries of the gates. -/
theorem gate0_read (c : Dev nD) (t : Fin cfg0.N) (a : Fin 1024) (b : Fin 512) :
    iblk m c 3 t (ix2 a b) = m ((c.tc : Thread nD τ).loc main_arg3) (ix3 (sample t a) (token t a) ⟨0 + (col t b).val, by omega⟩) :=
  (blk3 t (V m c main_v2) a b).trans ((congrFun (v2_eq m c) _).trans (gates_at _ _ _ ⟨0 + (col t b).val, by omega⟩))

/-- Gate 1's block: columns from `6144 + 512 (t % 4)` of the padded array. -/
theorem blk4 (t : Fin cfg0.N) (f : FVec Ideal S1024x11776 .bf16) (a : Fin 1024) (b : Fin 512) :
    f ((win0_4.blk t).view.emb (ix2 a b)) = f (ix2 (row t a) ⟨4096 + (2048 + (col t b).val), by omega⟩) := by
  blk_ext [idx t, row, col]

/-- Gate 1's block, as entries of the gates. -/
theorem gate1_read (c : Dev nD) (t : Fin cfg0.N) (a : Fin 1024) (b : Fin 512) :
    iblk m c 4 t (ix2 a b) = m ((c.tc : Thread nD τ).loc main_arg3) (ix3 (sample t a) (token t a) ⟨2048 + (col t b).val, by omega⟩) :=
  (blk4 t (V m c main_v2) a b).trans ((congrFun (v2_eq m c) _).trans (gates_at _ _ _ ⟨2048 + (col t b).val, by omega⟩))

/-- Gate 2's block: columns from `8192 + 512 (t % 4)` of the padded array. -/
theorem blk5 (t : Fin cfg0.N) (f : FVec Ideal S1024x11776 .bf16) (a : Fin 1024) (b : Fin 512) :
    f ((win0_5.blk t).view.emb (ix2 a b)) = f (ix2 (row t a) ⟨4096 + (4096 + (col t b).val), by omega⟩) := by
  blk_ext [idx t, row, col]

/-- Gate 2's block, as entries of the gates. -/
theorem gate2_read (c : Dev nD) (t : Fin cfg0.N) (a : Fin 1024) (b : Fin 512) :
    iblk m c 5 t (ix2 a b) = m ((c.tc : Thread nD τ).loc main_arg3) (ix3 (sample t a) (token t a) ⟨4096 + (col t b).val, by omega⟩) :=
  (blk5 t (V m c main_v2) a b).trans ((congrFun (v2_eq m c) _).trans (gates_at _ _ _ ⟨4096 + (col t b).val, by omega⟩))

/-- The result array after the run is the reference's result of the same arguments. -/
theorem result (c : Dev nD) : (dats m 0 c).arrAt 7 cfg0.N =
    Cert.MergeCtxRefIdeal.Term.result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  refine (dats m 0 c).arrAt_eq_of_covers 7 _ (by decide +kernel) fun t hf y => ?_
  blk_simp
  rw [after0_7]
  frame_out
  idx_vars y
  generalize hX : Cert.MergeCtxRefIdeal.Term.result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = X
  have hE : X (((View.whole main_v10).slice (win0_7.rect t)).emb (ix2 y0 y1)) = X (ix2 (row t y0) (col t y1)) := by
    blk_ext [idx t, row, col]
  refine Eq.trans ?_ hE.symm
  subst hX
  rw [Cert.MergeCtxRefIdeal.Term.result_at _ _ _ _ _ _ _ (sample t y0) (token t y0) rfl rfl]
  pointwise [k0_pay1, k0_pay2]
  rw [half_tanh, half_tanh, half_tanh, gate0_read, gate1_read, gate2_read]
  refine congrArg₂ (· + ·) (congrArg₂ (· + ·) (congrArg₂ (· * ·) ?_ (Finset.sum_congr rfl fun k _ => ?_))
    (congrArg₂ (· * ·) rfl (Finset.sum_congr rfl fun k _ => ?_))) (congrArg₂ (· * ·) rfl (Finset.sum_congr rfl fun k _ => ?_))
  · simp only [Nat.zero_add]
  · rw [branch0_read, w_read]; exact mul_comm _ _
  · rw [branch1_read, w_read]; exact mul_comm _ _
  · rw [branch2_read, w_read]; exact mul_comm _ _

/-- The kernel and the reference, launched on equal arguments, end with equal results. -/
theorem algebraic : @Cert.algebraic_MergeCtxIdeal_MergeCtxRefIdeal Cert.MergeCtxIdeal.Gen.facts Cert.MergeCtxRefIdeal.Gen.facts := by
  intro m g m' g' _ hagree
  refine ⟨fun c => (dats m 0 c).arrAt 7 cfg0.N, Cert.MergeCtxIdeal.Value.run_blocks m g, ?_⟩
  refine (θ_run _ _ _).mono (fun r h c => ⟨(h c).1.trans ?_, (h c).2⟩) (Cert.MergeCtxRefIdeal.Value.run (F := Ideal) m' g')
  obtain ⟨h0, h1, h2, h3, h4⟩ := hagree c
  rw [h0, h1, h2, h3, h4]
  exact (result m c).symm

/-- The reference ends with its arguments unchanged and every counter at zero. -/
theorem ref_frame : @Cert.quiescent_MergeCtxRefIdeal Cert.MergeCtxRefIdeal.Gen.facts := fun m g _ =>
  (θ_run _ _ _).mono (fun r h => ⟨fun c => (h c).2, Idealize.ShloMosaic.sem_eq_zero_of_no_sems (by decide) r.2⟩)
    (Cert.MergeCtxRefIdeal.Value.run (F := Ideal) m g)

end Cert.MergeCtxIdeal.MergeValue

end
-- ==== Proof.OutCtxValue.lean ====
/- The context stream's output projection: its result array, over the extended reals, is the reference's composed term of the arguments. -/
module

public import proofs.«01_k».proof.Defs
public import proofs.«01_k».proof.Proof.Gen.OutCtxIdeal.Value
public import proofs.«01_k».proof.Proof.Gen.OutCtxRefIdeal.Run
public import Idealize.ShloMosaic.Lib.Pipeline.ValueKit
public import Idealize.ShloMosaic.Lib.Pointwise

@[expose] public section

set_option maxRecDepth 16384

noncomputable section

namespace Cert.OutCtxRefIdeal.Term

open Cert.OutCtxRefIdeal Cert.OutCtxRefIdeal.Gen Idealize.ShloMosaic

/-- The reference's result as a function of its argument arrays: the residual plus the gate times the product. -/
def result (a0 : FVec Ideal S4x256x2048 .f32) (a1 : FVec Ideal S2048x2048 .f32) (a2 : FVec Ideal S4x256x2048 .f32)
    (a3 : FVec Ideal S12288 .f32) : FVec Ideal S1024x2048 .f32 :=
  shapeCast S1024x2048 (addf a2 (mulf (broadcastInDim S4x256x2048 ![0, 1, 2] bcast_S1x1x2048_S4x256x2048_0_1_2
    (broadcastInDim S1x1x2048 ![2] bcast_S2048_S1x1x2048_2 (extractStridedSlice S2048 ![4096] a3 slices_S12288_S2048_4096)))
    (Host.dotGeneral dot_S4x256x2048_S2048x2048_S4x256x2048_2_0_01_1_n_n none a0 a1))) shapeCasts_S4x256x2048_S1024x2048

end Cert.OutCtxRefIdeal.Term

namespace Cert.OutCtxIdeal.ProjValue

open Cert.OutCtxIdeal Cert.OutCtxIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies at point `t`: rows in blocks of 512, the weight whole, row 2 of the modulation. -/
theorem idx : ∀ t : Fin cfg0.N, win0_0.index t = ![t.val, 0] ∧ win0_1.index t = ![0, 0] ∧ win0_2.index t = ![t.val, 0]
    ∧ win0_3.index t = ![4, 2, 0, 0] ∧ win0_4.index t = ![t.val, 0] :=
  (by decide +kernel : ∀ t : Fin grid0.N, _)

/-- The rows of the residual, read through the host's reshape. -/
theorem rows_at (v : FVec Ideal S4x256x2048 .f32) (r : Fin 1024) (b : Fin 2048) :
    shapeCast S1024x2048 v shapeCasts_S4x256x2048_S1024x2048 (ix2 r b) =
      v (ix3 ⟨r.val / 256, by omega⟩ ⟨r.val % 256, by omega⟩ b) := by
  pointwise

/-- The modulation as row 4 of eight rows, the others zero, each row cut into six. -/
def mods (v : FVec Ideal S12288 .f32) : FVec Ideal S8x6x1x2048 .f32 :=
  shapeCast S8x6x1x2048 (pad S8x12288 ![4, 0] ![3, 0] ![0, 0] (shapeCast S1x12288 v shapeCasts_S12288_S1x12288 : FVec Ideal S1x12288 .f32)
    (sitofp .f32 (constantI S_ 32 0#32)) pads_S1x12288_S8x12288_430_000 h_S_ : FVec Ideal S8x12288 .f32) shapeCasts_S8x12288_S8x6x1x2048
/-- Row `k` of the six rows of the modulation. -/
theorem mod_at (v : FVec Ideal S12288 .f32) (k : Fin 6) (b : Fin 2048) : mods v (ix4 4 k 0 b) = v (ix1 ⟨k.val * 2048 + b.val, by omega⟩) := by
  pointwise [mods]
  exact dif_pos (by omega)

/-- The residual's block `t` starts at row `512 t`. -/
theorem blk2 (t : Fin cfg0.N) (f : FVec Ideal S1024x2048 .f32) (a : Fin 512) (b : Fin 2048) :
    f ((win0_2.blk t).view.emb (ix2 a b)) = f (ix2 ⟨512 * t.val + a.val, by have : t.val < 2 := t.2; omega⟩ b) := by
  blk_ext [idx t]
/-- The merged stream's block `t` starts at row `512 t`. -/
theorem blk0 (t : Fin cfg0.N) (f : FVec Ideal S1024x2048 .bf16) (a : Fin 512) (b : Fin 2048) :
    f ((win0_0.blk t).view.emb (ix2 a b)) = f (ix2 ⟨512 * t.val + a.val, by have : t.val < 2 := t.2; omega⟩ b) := by
  blk_ext [idx t]
/-- The weight has one block. -/
theorem blk1 (t : Fin cfg0.N) (f : FVec Ideal S2048x2048 .bf16) (a : Fin 2048) (b : Fin 2048) :
    f ((win0_1.blk t).view.emb (ix2 a b)) = f (ix2 a b) := by
  blk_ext [idx t]
/-- The modulation's block is its row 2. -/
theorem blk3 (t : Fin cfg0.N) (f : FVec Ideal S8x6x1x2048 .f32) (b : Fin 2048) :
    f ((win0_3.blk t).view.emb (ix4 0 0 0 b)) = f (ix4 4 2 0 b) := by
  blk_ext [idx t]

/-- The residual operand: the reshaped input. -/
theorem v3_eq (c : Dev nD) : (V m c main_v3 : FVec Ideal S1024x2048 .f32) =
    shapeCast S1024x2048 (m ((c.tc : Thread nD τ).loc main_arg2)) shapeCasts_S4x256x2048_S1024x2048 := by
  unfold V
  simp only [List.flatten_cons, List.flatten_nil, hostOps0, hostOps0_1, hostOps0_2, List.cons_append, List.nil_append]
  after_results
  rfl

/-- The merged stream's operand: the reshaped argument. -/
theorem v1_eq (c : Dev nD) : (V m c main_v1) =
    (truncf .bf16 (shapeCast S1024x2048 (m ((c.tc : Thread nD τ).loc main_arg0)) shapeCasts_S4x256x2048_S1024x2048 : FVec Ideal S1024x2048 .f32) bitsLt_bf16_f32 : FVec Ideal S1024x2048 .bf16) := by
  unfold V
  simp only [List.flatten_cons, List.flatten_nil, hostOps0, hostOps0_1, hostOps0_2, List.cons_append, List.nil_append]
  after_results
  rfl

/-- The weight operand: the argument, cast. -/
theorem v2_eq (c : Dev nD) : (V m c main_v2) =
    (truncf .bf16 (m ((c.tc : Thread nD τ).loc main_arg1) : FVec Ideal S2048x2048 .f32) bitsLt_bf16_f32 : FVec Ideal S2048x2048 .bf16) := by
  unfold V
  simp only [List.flatten_cons, List.flatten_nil, hostOps0, hostOps0_1, hostOps0_2, List.cons_append, List.nil_append]
  after_results

/-- The modulation operand: padded to eight rows and reshaped into six each. -/
theorem v6_eq (c : Dev nD) : V m c main_v6 = mods (m ((c.tc : Thread nD τ).loc main_arg3)) := by
  unfold V
  simp only [List.flatten_cons, List.flatten_nil, hostOps0, hostOps0_1, hostOps0_2, List.cons_append, List.nil_append]
  after_results
  rfl

/-- The block of the residual, as entries of its argument. -/
theorem x_read (c : Dev nD) (t : Fin cfg0.N) (a : Fin 512) (b : Fin 2048) :
    iblk m c 2 t (ix2 a b) = m ((c.tc : Thread nD τ).loc main_arg2)
      (ix3 ⟨(512 * t.val + a.val) / 256, by have : t.val < 2 := t.2; omega⟩ ⟨(512 * t.val + a.val) % 256, by omega⟩ b) :=
  (blk2 t (V m c main_v3) a b).trans ((congrFun (v3_eq m c) _).trans (rows_at _ _ _))

/-- The block of the merged stream, as entries of its argument. -/
theorem p_read (c : Dev nD) (t : Fin cfg0.N) (a : Fin 512) (b : Fin 2048) :
    iblk m c 0 t (ix2 a b) = m ((c.tc : Thread nD τ).loc main_arg0)
      (ix3 ⟨(512 * t.val + a.val) / 256, by have : t.val < 2 := t.2; omega⟩ ⟨(512 * t.val + a.val) % 256, by omega⟩ b) :=
  (blk0 t (V m c main_v1) a b).trans ((congrFun (v1_eq m c) _).trans (rows_at _ _ _))

/-- The weight's block is the whole weight. -/
theorem w_read (c : Dev nD) (t : Fin cfg0.N) (a : Fin 2048) (b : Fin 2048) :
    iblk m c 1 t (ix2 a b) = m ((c.tc : Thread nD τ).loc main_arg1) (ix2 a b) :=
  (blk1 t (V m c main_v2) a b).trans (congrFun (v2_eq m c) _)

/-- The gate's block, as entries of the modulation. -/
theorem m_read (c : Dev nD) (t : Fin cfg0.N) (b : Fin 2048) :
    iblk m c 3 t (ix4 0 0 0 b) = m ((c.tc : Thread nD τ).loc main_arg3) (ix1 ⟨4096 + b.val, by omega⟩) :=
  (blk3 t (V m c main_v6) b).trans ((congrFun (v6_eq m c) _).trans ((mod_at _ _ _).trans (congrArg _ (congrArg ix1
    (Fin.ext (show 2 * 2048 + b.val = 4096 + b.val by omega))))))

/-- The result array after the run is the reference's result of the same arguments. -/
theorem result (c : Dev nD) : (dats m 0 c).arrAt 4 cfg0.N =
    Cert.OutCtxRefIdeal.Term.result (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ (by decide +kernel) fun t hf y => ?_
  blk_simp
  rw [after0_4]
  frame_out
  idx_vars y
  generalize hX : Cert.OutCtxRefIdeal.Term.result (m ((c.tc : Thread nD τ).loc main_arg0)) (m ((c.tc : Thread nD τ).loc main_arg1))
      (m ((c.tc : Thread nD τ).loc main_arg2)) (m ((c.tc : Thread nD τ).loc main_arg3)) = X
  have hE : X (((View.whole main_v7).slice (win0_4.rect t)).emb (ix2 y0 y1)) = X (ix2 ⟨512 * t.val + y0.val, by have : t.val < 2 := t.2; omega⟩ y1) := by
    blk_ext [idx t]
  refine Eq.trans ?_ hE.symm
  subst hX
  pointwise [k0_pay1, Cert.OutCtxRefIdeal.Term.result]
  rw [x_read, m_read m c t]
  congr 2
  exact Finset.sum_congr rfl fun k _ => by rw [p_read, w_read]
/-- The kernel and the reference, launched on equal arguments, end with equal results. -/
theorem algebraic : @Cert.algebraic_OutCtxIdeal_OutCtxRefIdeal Cert.OutCtxIdeal.Gen.facts Cert.OutCtxRefIdeal.Gen.facts := by
  intro m g m' g' _ hagree
  refine ⟨fun c => (dats m 0 c).arrAt 4 cfg0.N, Cert.OutCtxIdeal.Value.run_blocks m g, ?_⟩
  refine (θ_run _ _ _).mono (fun r h c => ⟨(h c).1.trans ?_, (h c).2⟩) (Cert.OutCtxRefIdeal.Value.run (F := Ideal) m' g')
  obtain ⟨h0, h1, h2, h3⟩ := hagree c
  rw [h0, h1, h2, h3]
  exact (result m c).symm

/-- The reference ends with its arguments unchanged and every counter at zero. -/
theorem ref_frame : @Cert.quiescent_OutCtxRefIdeal Cert.OutCtxRefIdeal.Gen.facts := fun m g _ =>
  (θ_run _ _ _).mono (fun r h => ⟨fun c => (h c).2, Idealize.ShloMosaic.sem_eq_zero_of_no_sems (by decide) r.2⟩)
    (Cert.OutCtxRefIdeal.Value.run (F := Ideal) m g)

end Cert.OutCtxIdeal.ProjValue

end
-- ==== Proof.MlpCtxValue.lean ====
/- The context stream's MLP: its result array, over the extended reals, is the reference's composed term of the arguments. -/
module

public import proofs.«01_k».proof.Defs
public import proofs.«01_k».proof.Proof.MlpValue
public import proofs.«01_k».proof.Proof.Gen.MlpCtxIdeal.Value
public import proofs.«01_k».proof.Proof.Gen.MlpCtxRefIdeal.Run
public import Idealize.ShloMosaic.Lib.Pipeline.ValueKit
public import Idealize.ShloMosaic.Lib.Pointwise
public import Idealize.ShloMosaic.Lib.Pipeline.ValueKit.Held
public import Idealize.ShloMosaic.Lib.Pipeline.ReadBack

@[expose] public section

set_option maxRecDepth 16384

noncomputable section

namespace Cert.MlpCtxRefIdeal.Term

open Cert.MlpCtxRefIdeal Cert.MlpCtxRefIdeal.Gen Idealize.ShloMosaic
open Cert.MlpRefIdeal.Term (modNorm)

/-- A vector of the channels, the same at every token. -/
def spread (v : FVec Ideal S2048 .f32) : FVec Ideal S4x256x2048 .f32 :=
  broadcastInDim S4x256x2048 ![0, 1, 2] bcast_S1x1x2048_S4x256x2048_0_1_2 (broadcastInDim S1x1x2048 ![2] bcast_S2048_S1x1x2048_2 v)

/-- The normalised, modulated input. -/
def hidden (a0 : FVec Ideal S4x256x2048 .f32) (a1 : FVec Ideal S12288 .f32) (a2 : FVec Ideal S2048 .f32) : FVec Ideal S4x256x2048 .f32 :=
  addf (mulf (mulf (mulf a0 (broadcastInDim S4x256x2048 ![0, 1, 2] bcast_S4x256x1_S4x256x2048_0_1_2
      (Host.rsqrt (addf (Host.divf (broadcastInDim S4x256x1 ![0, 1] bcast_S4x256_S4x256x1_0_1
          (Host.reduceAdd (mulf a0 a0) (constant S_ .f32 0x00000000#32) reducesTo_S4x256x2048_S4x256_d2 h_S_))
        (broadcastInDim S4x256x1 ![] bcast_S_S4x256x1 (constant S_ .f32 0x45000000#32)))
        (broadcastInDim S4x256x1 ![] bcast_S_S4x256x1 (constant S_ .f32 0x358637BD#32))))))
      (spread a2))
      (spread (addf (broadcastInDim S2048 ![] bcast_S_S2048 (constant S_ .f32 0x3F800000#32)) (extractStridedSlice S2048 ![8192] a1 slices_S12288_S2048_8192))))
    (spread (extractStridedSlice S2048 ![6144] a1 slices_S12288_S2048_6144))

/-- The hidden layer before its square. -/
def relu (h : FVec Ideal S4x256x2048 .f32) (a3 : FVec Ideal S2048x8192 .f32) : FVec Ideal S4x256x8192 .f32 :=
  maximumf (Host.dotGeneral dot_S4x256x2048_S2048x8192_S4x256x8192_2_0_01_1_n_n none h a3)
    (broadcastInDim S4x256x8192 ![] bcast_S_S4x256x8192 (constant S_ .f32 0x00000000#32))

/-- The reference's result as a function of its argument arrays. -/
def result (a0 : FVec Ideal S4x256x2048 .f32) (a1 : FVec Ideal S12288 .f32) (a2 : FVec Ideal S2048 .f32) (a3 : FVec Ideal S2048x8192 .f32)
    (a4 : FVec Ideal S8192x2048 .f32) : FVec Ideal S1024x2048 .f32 :=
  shapeCast S1024x2048 (addf a0 (mulf (spread (extractStridedSlice S2048 ![10240] a1 slices_S12288_S2048_10240))
    (Host.dotGeneral dot_S4x256x8192_S8192x2048_S4x256x2048_2_0_01_1_n_n none
      (mulf (relu (hidden a0 a1 a2) a3) (relu (hidden a0 a1 a2) a3)) a4))) shapeCasts_S4x256x2048_S1024x2048

/-- The normalised input at an index. -/
theorem hidden_at (a0 : FVec Ideal S4x256x2048 .f32) (a1 : FVec Ideal S12288 .f32) (a2 : FVec Ideal S2048 .f32) (p : Fin 4) (q : Fin 256) (k : Fin 2048) :
    hidden a0 a1 a2 (ix3 p q k) = modNorm (fun j => a0 (ix3 p q j)) (a2 (ix1 k)) (a1 (ix1 ⟨8192 + k.val, by omega⟩))
      (a1 (ix1 ⟨6144 + k.val, by omega⟩)) k := by
  pointwise [hidden, spread, modNorm]

/-- The result's entry: the residual plus the gate times the second product of the squared hidden layer. -/
theorem result_at (a0 : FVec Ideal S4x256x2048 .f32) (a1 : FVec Ideal S12288 .f32) (a2 : FVec Ideal S2048 .f32) (a3 : FVec Ideal S2048x8192 .f32)
    (a4 : FVec Ideal S8192x2048 .f32) (r : Fin 1024) (b : Fin 2048) (p : Fin 4) (q : Fin 256) (hp : p.val = r.val / 256) (hq : q.val = r.val % 256) :
    result a0 a1 a2 a3 a4 (ix2 r b) = a0 (ix3 p q b) + a1 (ix1 ⟨10240 + b.val, by omega⟩) * ∑ f : Fin 8192,
      max (∑ k, hidden a0 a1 a2 (ix3 p q k) * a3 (ix2 k f)) 0 * max (∑ k, hidden a0 a1 a2 (ix3 p q k) * a3 (ix2 k f)) 0 * a4 (ix2 f b) := by
  have ep : p = ⟨r.val / 256, by omega⟩ := Fin.ext hp
  have eq : q = ⟨r.val % 256, by omega⟩ := Fin.ext hq
  rw [ep, eq]
  pointwise [result, relu, spread]

end Cert.MlpCtxRefIdeal.Term

namespace Cert.MlpCtxIdeal.MlpValue

open Cert.MlpCtxIdeal Cert.MlpCtxIdeal.Gen Idealize.ShloMosaic Idealize.ShloMosaic.TcCoe Idealize.SL.Sem
open Idealize.ShloMosaic.Pipeline (Dat)
open Cert.MlpRefIdeal.Term (modNorm)
open Cert.MlpCtxRefIdeal.Term (hidden hidden_at)

/-- The normalised block at an index. -/
theorem pay1_at (x : Vec Ideal S512x2048 .f32) (g : Vec Ideal S1x2048 .f32) (sc sh : Vec Ideal S1x1x1x2048 .f32) (a : Fin 512) (k : Fin 2048) :
    k0_pay1 x g sc sh (ix2 a k) = modNorm (fun j => x (ix2 a j)) (g (ix2 0 k)) (sc (ix4 0 0 0 k)) (sh (ix4 0 0 0 k)) k := by
  pointwise [k0_pay1, modNorm]

/-- The accumulator starts at zero. -/
theorem pay2_at (a : Fin 512) (k : Fin 2048) : (k0_pay2 (F := Ideal)) (ix2 a k) = 0 := by
  pointwise [k0_pay2]

/-- One step adds the product of the squared hidden columns with their rows of the second weight. -/
theorem pay3_at (h : Vec Ideal S512x2048 .bf16) (w1 : Vec Ideal S2048x1024 .bf16) (acc : Vec Ideal S512x2048 .f32) (w2 : Vec Ideal S1024x2048 .bf16)
    (a : Fin 512) (b : Fin 2048) :
    k0_pay3 h w1 acc w2 (ix2 a b) = acc (ix2 a b) + ∑ l : Fin 1024,
      max (∑ k : Fin 2048, h (ix2 a k) * w1 (ix2 k l)) 0 * max (∑ k : Fin 2048, h (ix2 a k) * w1 (ix2 k l)) 0 * w2 (ix2 l b) := by
  pointwise [k0_pay3]

/-- The output block: the residual plus the gate times the accumulator. -/
theorem pay4_at (x : Vec Ideal S512x2048 .f32) (g : Vec Ideal S1x1x1x2048 .f32) (acc : Vec Ideal S512x2048 .f32) (a : Fin 512) (b : Fin 2048) :
    k0_pay4 x g acc (ix2 a b) = x (ix2 a b) + g (ix4 0 0 0 b) * acc (ix2 a b) := by
  pointwise [k0_pay4]

variable (m : (ℓ : Loc nD τ sig) → Buf (Elt Ideal) ℓ)

/-- The blocks the windows show at each grid point. -/
theorem idx : ∀ t : Fin cfg0.N, win0_0.index t = ![t.val / 8, 0] ∧ win0_1.index t = ![0, 0] ∧ win0_2.index t = ![4, 3, 0, 0] ∧
    win0_3.index t = ![4, 4, 0, 0] ∧ win0_4.index t = ![4, 5, 0, 0] ∧ win0_5.index t = ![0, t.val % 8] ∧
    win0_6.index t = ![t.val % 8, 0] ∧ win0_7.index t = ![t.val / 8, 0] :=
  (by decide +kernel : ∀ t : Fin grid0.N, _)

theorem lt (t : Fin cfg0.N) : t.val < 16 := t.2

/-- The array row of row `a` of the block at point `t`. -/
def row (t : Fin cfg0.N) (a : Fin 512) : Fin 1024 := ⟨512 * (t.val / 8) + a.val, by have := lt t; omega⟩
/-- The sample that row belongs to. -/
def sample (t : Fin cfg0.N) (a : Fin 512) : Fin 4 := ⟨(512 * (t.val / 8) + a.val) / 256, by have := lt t; omega⟩
/-- Its place in the sample. -/
def token (t : Fin cfg0.N) (a : Fin 512) : Fin 256 := ⟨(512 * (t.val / 8) + a.val) % 256, by omega⟩
/-- The hidden channel of lane `l` at point `t`. -/
def lane (t : Fin cfg0.N) (l : Fin 1024) : Fin 8192 := ⟨t.val % 8 * 1024 + l.val, by omega⟩

theorem blk0 (t : Fin cfg0.N) (f : FVec Ideal S1024x2048 .f32) (a : Fin 512) (b : Fin 2048) :
    f ((win0_0.blk t).view.emb (ix2 a b)) = f (ix2 (row t a) b) := by blk_ext [idx t, row]
theorem blk1 (t : Fin cfg0.N) (f : FVec Ideal S1x2048 .f32) (b : Fin 2048) :
    f ((win0_1.blk t).view.emb (ix2 0 b)) = f (ix2 0 b) := by blk_ext [idx t]
theorem blk2 (t : Fin cfg0.N) (f : FVec Ideal S8x6x1x2048 .f32) (b : Fin 2048) :
    f ((win0_2.blk t).view.emb (ix4 0 0 0 b)) = f (ix4 4 3 0 b) := by blk_ext [idx t]
theorem blk3 (t : Fin cfg0.N) (f : FVec Ideal S8x6x1x2048 .f32) (b : Fin 2048) :
    f ((win0_3.blk t).view.emb (ix4 0 0 0 b)) = f (ix4 4 4 0 b) := by blk_ext [idx t]
theorem blk4 (t : Fin cfg0.N) (f : FVec Ideal S8x6x1x2048 .f32) (b : Fin 2048) :
    f ((win0_4.blk t).view.emb (ix4 0 0 0 b)) = f (ix4 4 5 0 b) := by blk_ext [idx t]
theorem blk5 (t : Fin cfg0.N) (f : FVec Ideal S2048x8192 .bf16) (a : Fin 2048) (b : Fin 1024) :
    f ((win0_5.blk t).view.emb (ix2 a b)) = f (ix2 a (lane t b)) := by blk_ext [idx t, lane]
theorem blk6 (t : Fin cfg0.N) (f : FVec Ideal S8192x2048 .bf16) (a : Fin 1024) (b : Fin 2048) :
    f ((win0_6.blk t).view.emb (ix2 a b)) = f (ix2 (lane t a) b) := by blk_ext [idx t, lane]

/-- The reshaped rows at an index. -/
theorem rows_at (v : FVec Ideal S4x256x2048 .f32) (r : Fin 1024) (b : Fin 2048) :
    shapeCast S1024x2048 v shapeCasts_S4x256x2048_S1024x2048 (ix2 r b) = v (ix3 ⟨r.val / 256, by omega⟩ ⟨r.val % 256, by omega⟩ b) := by
  pointwise
/-- The norm weight as one row. -/
theorem g_at (v : FVec Ideal S2048 .f32) (b : Fin 2048) :
    shapeCast S1x2048 v shapeCasts_S2048_S1x2048 (ix2 0 b) = v (ix1 b) := by
  pointwise
/-- The modulation as row 4 of eight rows, the others zero, each row cut into six. -/
def mods (v : FVec Ideal S12288 .f32) : FVec Ideal S8x6x1x2048 .f32 :=
  shapeCast S8x6x1x2048 (pad S8x12288 ![4, 0] ![3, 0] ![0, 0] (shapeCast S1x12288 v shapeCasts_S12288_S1x12288 : FVec Ideal S1x12288 .f32)
    (sitofp .f32 (constantI S_ 32 0#32)) pads_S1x12288_S8x12288_430_000 h_S_ : FVec Ideal S8x12288 .f32) shapeCasts_S8x12288_S8x6x1x2048
/-- Row `k` of the six rows of the modulation. -/
theorem mod_at (v : FVec Ideal S12288 .f32) (k : Fin 6) (b : Fin 2048) : mods v (ix4 4 k 0 b) = v (ix1 ⟨k.val * 2048 + b.val, by omega⟩) := by
  pointwise [mods]
  exact dif_pos (by omega)

/-- The input, reshaped to rows. -/
theorem v0_eq (c : Dev nD) : V m c main_v0 =
    (shapeCast S1024x2048 (m ((c.tc : Thread nD τ).loc main_arg0)) shapeCasts_S4x256x2048_S1024x2048 : FVec Ideal S1024x2048 .f32) := by
  unfold V
  simp only [List.flatten_cons, List.flatten_nil, hostOps0, hostOps0_1, hostOps0_2, List.cons_append, List.nil_append]
  after_results
  rfl

/-- The norm weight, as one row. -/
theorem v1_eq (c : Dev nD) : V m c main_v1 =
    (shapeCast S1x2048 (m ((c.tc : Thread nD τ).loc main_arg2)) shapeCasts_S2048_S1x2048 : FVec Ideal S1x2048 .f32) := by
  unfold V
  simp only [List.flatten_cons, List.flatten_nil, hostOps0, hostOps0_1, hostOps0_2, List.cons_append, List.nil_append]
  after_results
  rfl

/-- The modulation, padded to eight rows and reshaped into six each. -/
theorem v4_eq (c : Dev nD) : V m c main_v4 =
    mods (m ((c.tc : Thread nD τ).loc main_arg1)) := by
  unfold V
  simp only [List.flatten_cons, List.flatten_nil, hostOps0, hostOps0_1, hostOps0_2, List.cons_append, List.nil_append]
  after_results
  rfl

/-- The first weight, cast. -/
theorem v5_eq (c : Dev nD) : V m c main_v5 =
    (truncf .bf16 (m ((c.tc : Thread nD τ).loc main_arg3) : FVec Ideal S2048x8192 .f32) bitsLt_bf16_f32 : FVec Ideal S2048x8192 .bf16) := by
  unfold V
  simp only [List.flatten_cons, List.flatten_nil, hostOps0, hostOps0_1, hostOps0_2, List.cons_append, List.nil_append]
  after_results

/-- The second weight, cast. -/
theorem v6_eq (c : Dev nD) : V m c main_v6 =
    (truncf .bf16 (m ((c.tc : Thread nD τ).loc main_arg4) : FVec Ideal S8192x2048 .f32) bitsLt_bf16_f32 : FVec Ideal S8192x2048 .bf16) := by
  unfold V
  simp only [List.flatten_cons, List.flatten_nil, hostOps0, hostOps0_1, hostOps0_2, List.cons_append, List.nil_append]
  after_results

/-- The block of the input, as entries of its argument. -/
theorem x_read (c : Dev nD) (t : Fin cfg0.N) (a : Fin 512) (b : Fin 2048) :
    iblk m c 0 t (ix2 a b) = m ((c.tc : Thread nD τ).loc main_arg0) (ix3 (sample t a) (token t a) b) :=
  (blk0 t (V m c main_v0) a b).trans ((congrFun (v0_eq m c) _).trans (rows_at _ _ _))
/-- The norm weight's block is the whole weight. -/
theorem g_read (c : Dev nD) (t : Fin cfg0.N) (b : Fin 2048) :
    iblk m c 1 t (ix2 0 b) = m ((c.tc : Thread nD τ).loc main_arg2) (ix1 b) :=
  (blk1 t (V m c main_v1) b).trans ((congrFun (v1_eq m c) _).trans (g_at _ _))
/-- The first weight's block: the point's columns. -/
theorem w1_read (c : Dev nD) (t : Fin cfg0.N) (a : Fin 2048) (b : Fin 1024) :
    iblk m c 5 t (ix2 a b) = m ((c.tc : Thread nD τ).loc main_arg3) (ix2 a (lane t b)) :=
  (blk5 t (V m c main_v5) a b).trans (congrFun (v5_eq m c) _)
/-- The second weight's block: the point's rows. -/
theorem w2_read (c : Dev nD) (t : Fin cfg0.N) (a : Fin 1024) (b : Fin 2048) :
    iblk m c 6 t (ix2 a b) = m ((c.tc : Thread nD τ).loc main_arg4) (ix2 (lane t a) b) :=
  (blk6 t (V m c main_v6) a b).trans (congrFun (v6_eq m c) _)
/-- Row 3 of the modulation, as entries of its argument. -/
theorem m3_read (c : Dev nD) (t : Fin cfg0.N) (b : Fin 2048) :
    iblk m c 2 t (ix4 0 0 0 b) = m ((c.tc : Thread nD τ).loc main_arg1) (ix1 ⟨6144 + b.val, by omega⟩) :=
  (blk2 t (V m c main_v4) b).trans ((congrFun (v4_eq m c) _).trans ((mod_at _ _ _).trans (congrArg _ (congrArg ix1
    (Fin.ext (show 3 * 2048 + b.val = 6144 + b.val by omega))))))
/-- Row 4 of the modulation, as entries of its argument. -/
theorem m4_read (c : Dev nD) (t : Fin cfg0.N) (b : Fin 2048) :
    iblk m c 3 t (ix4 0 0 0 b) = m ((c.tc : Thread nD τ).loc main_arg1) (ix1 ⟨8192 + b.val, by omega⟩) :=
  (blk3 t (V m c main_v4) b).trans ((congrFun (v4_eq m c) _).trans ((mod_at _ _ _).trans (congrArg _ (congrArg ix1
    (Fin.ext (show 4 * 2048 + b.val = 8192 + b.val by omega))))))
/-- Row 5 of the modulation, as entries of its argument. -/
theorem m5_read (c : Dev nD) (t : Fin cfg0.N) (b : Fin 2048) :
    iblk m c 4 t (ix4 0 0 0 b) = m ((c.tc : Thread nD τ).loc main_arg1) (ix1 ⟨10240 + b.val, by omega⟩) :=
  (blk4 t (V m c main_v4) b).trans ((congrFun (v4_eq m c) _).trans ((mod_at _ _ _).trans (congrArg _ (congrArg ix1
    (Fin.ext (show 5 * 2048 + b.val = 10240 + b.val by omega))))))

/-- The reference's normalised input, of the kernel's arguments. -/
def hid (c : Dev nD) : FVec Ideal Cert.MlpCtxRefIdeal.S4x256x2048 .f32 :=
  hidden (m ((c.tc : Thread nD τ).loc main_arg0)) (m ((c.tc : Thread nD τ).loc main_arg1)) (m ((c.tc : Thread nD τ).loc main_arg2))

/-- The normalised block computed from the blocks of any point is the reference's normalised input. -/
theorem norm_read (c : Dev nD) (t : Fin cfg0.N) (a : Fin 512) (k : Fin 2048) :
    k0_pay1 (iblk m c 0 t) (iblk m c 1 t) (iblk m c 3 t) (iblk m c 2 t) (ix2 a k) = hid m c (ix3 (sample t a) (token t a) k) := by
  refine (pay1_at _ _ _ _ a k).trans ?_
  rw [hid, hidden_at, g_read, m3_read m c t, m4_read m c t]
  congr 1
  exact funext fun j => x_read m c t a j

/-- The scratch holds the normalised block of the run's first point. -/
theorem held (c : Dev nD) (t : Fin cfg0.N) : (outsAt0 m c t.val t.isLt).2.1 =
    (fun t : Fin cfg0.N => k0_pay1 (iblk m c 0 t) (iblk m c 1 t) (iblk m c 3 t) (iblk m c 2 t)) ⟨8 * (t.val / 8), Pipeline.run_start_lt t⟩ := by
  refine Pipeline.eq_of_write_hold (fun n h => (outsAt0 m c n h).2.1) 8
    (fun t : Fin cfg0.N => k0_pay1 (iblk m c 0 t) (iblk m c 1 t) (iblk m c 3 t) (iblk m c 2 t)) (fun t h0 => ?_) (fun t h0 => ?_) t
  · rw [outsAt0_A m c t h0 (by omega)]
    funext y
    frame_out
  · by_cases h1 : t.val % 8 = 7
    · rw [outsAt0_C m c t h0 h1]
      rfl
    · rw [outsAt0_B m c t h0 h1]
      rfl

/-- At every point the scratch holds the reference's normalised rows. -/
theorem held_at (c : Dev nD) (t : Fin cfg0.N) (a : Fin 512) (k : Fin 2048) :
    (outsAt0 m c t.val t.isLt).2.1 (ix2 a k) = hid m c (ix3 (sample t a) (token t a) k) := by
  rw [held m c t]
  refine (norm_read m c ⟨8 * (t.val / 8), Pipeline.run_start_lt t⟩ a k).trans ?_
  congr 1
  simp only [sample, token]
  congr 2 <;> congr 2 <;> omega

/-- What hidden channel `f` of a token contributes to channel `b` of the product. -/
def cell (c : Dev nD) (p : Fin 4) (q : Fin 256) (f : Fin 8192) (b : Fin 2048) : EReal :=
  max (∑ k : Fin 2048, hid m c (ix3 p q k) * (m ((c.tc : Thread nD τ).loc main_arg3) (ix2 k f) : EReal)) 0 *
  max (∑ k : Fin 2048, hid m c (ix3 p q k) * (m ((c.tc : Thread nD τ).loc main_arg3) (ix2 k f) : EReal)) 0 *
  (m ((c.tc : Thread nD τ).loc main_arg4) (ix2 f b) : EReal)

/-- One point's contribution to the accumulator. -/
def part (c : Dev nD) (t : Fin cfg0.N) (y : S512x2048.Idx) : EReal :=
  ∑ l : Fin 1024, cell m c (sample t (y 0)) (token t (y 0)) (lane t l) (y 1)

/-- A step on the normalised rows adds the point's contribution. -/
theorem step (c : Dev nD) (t : Fin cfg0.N) (h : Vec Ideal S512x2048 .bf16) (acc : Vec Ideal S512x2048 .f32)
    (hh : ∀ a k, h (ix2 a k) = hid m c (ix3 (sample t a) (token t a) k)) (a : Fin 512) (b : Fin 2048) :
    k0_pay3 h (iblk m c 5 t) acc (iblk m c 6 t) (ix2 a b) = acc (ix2 a b) + part m c t (ix2 a b) := by
  refine (pay3_at _ _ _ _ a b).trans (congrArg (acc (ix2 a b) + ·) (Finset.sum_congr rfl fun l _ => ?_))
  have e := Finset.sum_congr (s₁ := Finset.univ) rfl fun k (_ : k ∈ Finset.univ) => congrArg₂ (fun u v : EReal => u * v) (hh a k) (w1_read m c t k l)
  exact congrArg₂ (fun u v : EReal => max u 0 * max u 0 * v) e (w2_read m c t l b)

/-- The accumulator at the point that writes the block back. -/
theorem acc (c : Dev nD) (t : Fin cfg0.N) (hf : t.val % 8 = 7) (y : S512x2048.Idx) :
    (outsAt0 m c t.val t.isLt).2.2 y = 0 + ∑ s : Fin 8, part m c ⟨8 * (t.val / 8) + s.val, Pipeline.run_point_lt_of_flush t hf s⟩ y := by
  refine Pipeline.eq_sum_fin_of_reset_step_apply_of_flush (fun n h => (outsAt0 m c n h).2.2) 8 (fun _ => (0 : EReal)) (part m c)
    (fun t h0 y => ?_) (fun t h0 y => ?_) t hf y
  · rw [outsAt0_A m c t h0 (by omega)]
    frame_out
    idx_vars y
    refine (step m c t _ _ (fun a k => norm_read m c t a k) y0 y1).trans ?_
    rw [pay2_at]
  · by_cases h1 : t.val % 8 = 7
    · have hh := held_at m c t
      rw [outsAt0_C m c t h0 h1] at hh ⊢
      frame_out
      idx_vars y
      simp only [read_unread_whole] at hh ⊢
      exact step m c t _ _ hh y0 y1
    · have hh := held_at m c t
      rw [outsAt0_B m c t h0 h1] at hh ⊢
      frame_out
      idx_vars y
      simp only [read_unread_whole] at hh ⊢
      exact step m c t _ _ hh y0 y1

/-- The block written back: the residual plus the gate times the accumulator. -/
theorem out (c : Dev nD) (t : Fin cfg0.N) (hf : t.val % 8 = 7) (y : S512x2048.Idx) :
    (outsAt0 m c t.val t.isLt).1 y = k0_pay4 (iblk m c 0 t) (iblk m c 4 t) (outsAt0 m c t.val t.isLt).2.2 y := by
  have h0 : ¬ t.val % 8 = 0 := by omega
  rw [outsAt0_C m c t h0 hf]
  frame_out

/-- The result array after the run is the reference's result of the same arguments. -/
theorem result (c : Dev nD) : (dats m 0 c).arrAt 7 cfg0.N =
    Cert.MlpCtxRefIdeal.Term.result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  refine (dats m 0 c).arrAt_eq_of_covers 7 _ (by decide +kernel) fun t hf y => ?_
  blk_simp
  have hf : t.val % 8 = 7 := (flush0_7 t).mp hf
  rw [after0_7, out m c t hf]
  idx_vars y
  generalize hX : Cert.MlpCtxRefIdeal.Term.result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = X
  have hE : X (((View.whole main_v7).slice (win0_7.rect t)).emb (ix2 y0 y1)) = X (ix2 (row t y0) y1) := by
    blk_ext [idx t, row]
  refine Eq.trans ?_ hE.symm
  subst hX
  rw [Cert.MlpCtxRefIdeal.Term.result_at _ _ _ _ _ (row t y0) y1 (sample t y0) (token t y0) rfl rfl]
  refine (pay4_at _ _ _ y0 y1).trans ?_
  rw [x_read, m5_read m c t, acc m c t hf, zero_add]
  congr 2
  unfold part
  refine Fin.sum_mul_add_congr fun s k hl => ?_
  have e1 : lane ⟨8 * (t.val / 8) + s.val, Pipeline.run_point_lt_of_flush t hf s⟩ k = ⟨s.val * 1024 + k.val, hl⟩ :=
    Fin.ext (show (8 * (t.val / 8) + s.val) % 8 * 1024 + k.val = s.val * 1024 + k.val by omega)
  have e2 : sample ⟨8 * (t.val / 8) + s.val, Pipeline.run_point_lt_of_flush t hf s⟩ y0 = sample t y0 :=
    Fin.ext (show (512 * ((8 * (t.val / 8) + s.val) / 8) + y0.val) / 256 = (512 * (t.val / 8) + y0.val) / 256 by
      rw [show (8 * (t.val / 8) + s.val) / 8 = t.val / 8 by omega])
  have e3 : token ⟨8 * (t.val / 8) + s.val, Pipeline.run_point_lt_of_flush t hf s⟩ y0 = token t y0 :=
    Fin.ext (show (512 * ((8 * (t.val / 8) + s.val) / 8) + y0.val) % 256 = (512 * (t.val / 8) + y0.val) % 256 by
      rw [show (8 * (t.val / 8) + s.val) / 8 = t.val / 8 by omega])
  show cell m c (sample _ y0) (token _ y0) (lane _ k) y1 = _
  rw [e1, e2, e3]
  rfl

/-- The kernel and the reference, launched on equal arguments, end with equal results. -/
theorem algebraic : @Cert.algebraic_MlpCtxIdeal_MlpCtxRefIdeal Cert.MlpCtxIdeal.Gen.facts Cert.MlpCtxRefIdeal.Gen.facts := by
  intro m g m' g' _ hagree
  refine ⟨fun c => (dats m 0 c).arrAt 7 cfg0.N, Cert.MlpCtxIdeal.Value.run_blocks m g, ?_⟩
  refine (θ_run _ _ _).mono (fun r h c => ⟨(h c).1.trans ?_, (h c).2⟩) (Cert.MlpCtxRefIdeal.Value.run (F := Ideal) m' g')
  obtain ⟨h0, h1, h2, h3, h4⟩ := hagree c
  rw [h0, h1, h2, h3, h4]
  exact (result m c).symm

/-- The reference ends with its arguments unchanged and every counter at zero. -/
theorem ref_frame : @Cert.quiescent_MlpCtxRefIdeal Cert.MlpCtxRefIdeal.Gen.facts := fun m g _ =>
  (θ_run _ _ _).mono (fun r h => ⟨fun c => (h c).2, Idealize.ShloMosaic.sem_eq_zero_of_no_sems (by decide) r.2⟩)
    (Cert.MlpCtxRefIdeal.Value.run (F := Ideal) m g)

end Cert.MlpCtxIdeal.MlpValue

end
-- ==== Proof.AttnMath.lean ====
/- The softmax of a row of real scores: computed by running maxima and sums in base two, and as written, over the extended reals. -/
module

public import Idealize.ShloMosaic.Lib.Pointwise

@[expose] public section

set_option maxRecDepth 16384

noncomputable section

/-! The softmax of a row, once as a mean computed directly in base `e` and once as the running computation in base two,
over the extended reals. The scores are real; the values are arbitrary extended reals. -/

namespace Attn

open Idealize.ShloMosaic

/-- The maximum of finitely many reals, started at `-∞`, is real when there is one of them at least. -/
theorem fold_max_real {n : Nat} (hn : 0 < n) (f : Fin n → ℝ) :
    ∃ r : ℝ, Finset.fold max (⊥ : EReal) (fun k => (f k : EReal)) Finset.univ = r := by
  have key : ∀ s : Finset (Fin n), (Finset.fold max (⊥ : EReal) (fun k => (f k : EReal)) s = ⊥ ∧ s = ∅) ∨
      ∃ r : ℝ, Finset.fold max (⊥ : EReal) (fun k => (f k : EReal)) s = r := by
    intro s
    induction s using Finset.induction_on with
    | empty => exact .inl ⟨rfl, rfl⟩
    | insert a s ha ih =>
      refine .inr ?_
      rw [Finset.fold_insert ha]
      rcases ih with ⟨h, _⟩ | ⟨r, h⟩
      · exact ⟨f a, by rw [h]; exact max_eq_left bot_le⟩
      · exact ⟨max (f a) r, by rw [h]; exact (EReal.coe_strictMono.monotone.map_max).symm⟩
  rcases key Finset.univ with ⟨_, h⟩ | h
  · exact absurd h (Finset.nonempty_iff_ne_empty.mp ⟨⟨0, hn⟩, Finset.mem_univ _⟩)
  · exact h

/-- The maximum of two reals, as extended reals. -/
theorem max_real (a b : ℝ) : max (a : EReal) (b : EReal) = ((max a b : ℝ) : EReal) :=
  (EReal.coe_strictMono.monotone.map_max).symm

/-- A nonnegative real factor goes into a finite sum of extended reals. -/
theorem mul_sum_real {ι : Type} (s : Finset ι) {c : ℝ} (hc : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- A finite sum of reals, as extended reals. -/
theorem sum_real {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- Two to the power of a score over `log 2`, less `μ`, is `e` to the score times a factor of `μ` alone. -/
theorem two_rpow (s μ : ℝ) : Real.rpow 2 (s / Real.log 2 - μ) = Real.exp (-(μ * Real.log 2)) * Real.exp s := by
  have h2 : Real.log 2 ≠ 0 := (Real.log_pos (by norm_num)).ne'
  show (2 : ℝ) ^ (s / Real.log 2 - μ) = _
  rw [Real.rpow_def_of_pos (by norm_num), ← Real.exp_add]
  congr 1
  field_simp
  ring

/-- The product of two powers of two. -/
theorem two_rpow_mul (a b : ℝ) : Real.rpow 2 a * Real.rpow 2 b = Real.rpow 2 (a + b) :=
  (Real.rpow_add (by norm_num) a b).symm

/-- The running computation of one row: the maximum and the sum over the first keys from `μ0` and zero, then over the
    second keys, in base two; `V` and `W` are the values of the two. -/
def running {n p : Nat} (μ0 z : EReal) (S : Fin n → EReal) (R : Fin p → EReal) (V : Fin n → EReal) (W : Fin p → EReal) : EReal :=
  Ideal.exp2 (max μ0 (Finset.fold max ⊥ S Finset.univ) - max (max μ0 (Finset.fold max ⊥ S Finset.univ)) (Finset.fold max ⊥ R Finset.univ))
      * (Ideal.exp2 (μ0 - max μ0 (Finset.fold max ⊥ S Finset.univ)) * z
        + ∑ k, Ideal.exp2 (S k - max μ0 (Finset.fold max ⊥ S Finset.univ)) * V k)
    + ∑ k, Ideal.exp2 (R k - max (max μ0 (Finset.fold max ⊥ S Finset.univ)) (Finset.fold max ⊥ R Finset.univ)) * W k

/-- The weighted sum of the values by `e` to the scores, over both runs of keys, each weight times `c`. -/
def weighted {n p : Nat} (c : ℝ) (s : Fin n → ℝ) (r : Fin p → ℝ) (V : Fin n → EReal) (W : Fin p → EReal) : EReal :=
  ∑ k, ((c * Real.exp (s k) : ℝ) : EReal) * V k + ∑ k, ((c * Real.exp (r k) : ℝ) : EReal) * W k

/-- The running computation from a real start is the weighted sum, up to one positive factor that does not depend on the values. -/
theorem running_eq {n p : Nat} (hn : 0 < n) (hp : 0 < p) (μ0 : ℝ) (s : Fin n → ℝ) (r : Fin p → ℝ) :
    ∃ c : ℝ, 0 < c ∧ ∀ V W, running (μ0 : EReal) 0 (fun k => ((s k / Real.log 2 : ℝ) : EReal)) (fun k => ((r k / Real.log 2 : ℝ) : EReal)) V W
      = weighted c s r V W := by
  obtain ⟨σ, hσ⟩ := fold_max_real hn fun k => s k / Real.log 2
  obtain ⟨ρ, hρ⟩ := fold_max_real hp fun k => r k / Real.log 2
  obtain ⟨μ1, h1⟩ : ∃ μ1 : ℝ, max (μ0 : EReal) (σ : EReal) = μ1 := ⟨_, max_real _ _⟩
  obtain ⟨μ2, h2⟩ : ∃ μ2 : ℝ, max (μ1 : EReal) (ρ : EReal) = μ2 := ⟨_, max_real _ _⟩
  refine ⟨Real.exp (-(μ2 * Real.log 2)), Real.exp_pos _, fun V W => ?_⟩
  unfold running weighted
  rw [hσ, hρ, h1, h2]
  simp only [← EReal.coe_sub, Ideal.exp2_coe, mul_zero, zero_add, two_rpow]
  rw [mul_sum_real _ (show (0 : ℝ) ≤ Real.rpow 2 (μ1 - μ2) from Real.rpow_nonneg (by norm_num) _)]
  congr 1
  refine Finset.sum_congr rfl fun k _ => ?_
  rw [← mul_assoc, ← EReal.coe_mul]
  congr 2
  rw [← two_rpow, ← two_rpow, two_rpow_mul]
  congr 1
  ring

/-- The weighted sum of ones is the sum of the weights, a positive real. -/
theorem weighted_one {n p : Nat} (c : ℝ) (s : Fin n → ℝ) (r : Fin p → ℝ) :
    weighted c s r (fun _ => 1) (fun _ => 1) = ((c * (∑ k, Real.exp (s k) + ∑ k, Real.exp (r k)) : ℝ) : EReal) := by
  unfold weighted
  simp only [mul_one, sum_real, ← EReal.coe_add, mul_add, Finset.mul_sum]

/-- The sum of the exponentials of both runs of scores is positive. -/
theorem total_pos {n p : Nat} (hn : 0 < n) (s : Fin n → ℝ) (r : Fin p → ℝ) :
    0 < ∑ k, Real.exp (s k) + ∑ k, Real.exp (r k) :=
  add_pos_of_pos_of_nonneg (Finset.sum_pos (fun k _ => Real.exp_pos _) ⟨⟨0, hn⟩, Finset.mem_univ _⟩)
    (Finset.sum_nonneg fun k _ => (Real.exp_pos _).le)

/-- The running sum of the values over the running sum of ones is the softmax mean of the values. -/
theorem running_div {n p : Nat} (hn : 0 < n) (hp : 0 < p) (μ0 : ℝ) (s : Fin n → ℝ) (r : Fin p → ℝ) (V : Fin n → EReal) (W : Fin p → EReal) :
    Ideal.div (running (μ0 : EReal) 0 (fun k => ((s k / Real.log 2 : ℝ) : EReal)) (fun k => ((r k / Real.log 2 : ℝ) : EReal)) V W)
        (running (μ0 : EReal) 0 (fun k => ((s k / Real.log 2 : ℝ) : EReal)) (fun k => ((r k / Real.log 2 : ℝ) : EReal)) (fun _ => 1) (fun _ => 1))
      = weighted (1 / (∑ k, Real.exp (s k) + ∑ k, Real.exp (r k))) s r V W := by
  obtain ⟨c, hc, h⟩ := running_eq hn hp μ0 s r
  have hz := total_pos (p := p) hn s r
  rw [h, h, weighted_one, Ideal.div_coe (mul_pos hc hz).ne']
  generalize ∑ k, Real.exp (s k) + ∑ k, Real.exp (r k) = Z at hz ⊢
  have hd : (0 : ℝ) ≤ 1 / (c * Z) := by positivity
  unfold weighted
  rw [mul_comm, EReal.left_distrib_of_nonneg_of_ne_top (by exact_mod_cast hd) (EReal.coe_ne_top _), mul_sum_real _ hd, mul_sum_real _ hd]
  congr 1 <;>
  · refine Finset.sum_congr rfl fun k _ => ?_
    rw [← mul_assoc, ← EReal.coe_mul]
    congr 2
    field_simp

/-- The softmax as written: each exponential of a score less the maximum over the sum of them, times the value, summed over the keys. -/
def direct {n : Nat} (S : Fin n → EReal) (V : Fin n → EReal) : EReal :=
  ∑ k, V k * Ideal.div (Ideal.exp (S k - max ⊥ (Finset.fold max ⊥ S Finset.univ)))
    (∑ j, Ideal.exp (S j - max ⊥ (Finset.fold max ⊥ S Finset.univ)))

/-- The softmax as written, of real scores, in two runs of keys, is the weighted sum of the values. -/
theorem direct_eq {n p : Nat} (hn : 0 < n) (s : Fin n → ℝ) (r : Fin p → ℝ) (S : Fin (n + p) → EReal) (U : Fin (n + p) → EReal)
    (hs : ∀ k, S (Fin.castAdd p k) = (s k : EReal)) (hr : ∀ k, S (Fin.natAdd n k) = (r k : EReal)) :
    direct S U = weighted (1 / (∑ k, Real.exp (s k) + ∑ k, Real.exp (r k))) s r
      (fun k => U (Fin.castAdd p k)) (fun k => U (Fin.natAdd n k)) := by
  have hS : S = fun k => ((Fin.append s r k : ℝ) : EReal) := by
    funext k
    refine Fin.addCases (fun i => ?_) (fun i => ?_) k
    · rw [hs, Fin.append_left]
    · rw [hr, Fin.append_right]
  obtain ⟨μ, hμ⟩ := fold_max_real (n := n + p) (by omega) (Fin.append s r)
  have e : ∀ x : ℝ, Ideal.exp ((x : EReal) - (μ : EReal)) = ((Real.exp (-μ) * Real.exp x : ℝ) : EReal) := fun x => by
    rw [← EReal.coe_sub, Ideal.exp_coe, ← Real.exp_add]
    congr 2
    ring
  have hz := total_pos (p := p) hn s r
  unfold direct
  rw [hS, hμ, max_eq_right bot_le]
  simp only [e, sum_real]
  rw [← Finset.mul_sum, Fin.sum_univ_add, Fin.sum_univ_add]
  simp only [Fin.append_left, Fin.append_right]
  generalize ∑ k, Real.exp (s k) + ∑ k, Real.exp (r k) = Z at hz ⊢
  have hμ0 := Real.exp_pos (-μ)
  have key : ∀ (x : ℝ) (u : EReal), u * Ideal.div ((Real.exp (-μ) * Real.exp x : ℝ) : EReal) ((Real.exp (-μ) * Z : ℝ) : EReal) =
      ((1 / Z * Real.exp x : ℝ) : EReal) * u := fun x u => by
    rw [Ideal.div_coe (mul_pos hμ0 hz).ne', ← EReal.coe_mul, mul_comm]
    congr 2
    field_simp
  simp only [key]
  rfl

/-- The word of the lower bound that the running maximum starts from is a real. -/
theorem start_real : ∃ μ : ℝ, Ideal.ofBits FTy.f32 0xF149F2CA#32 = μ :=
  ⟨_, (by simp [Ideal.ofBits, Ideal.ieee]; rfl)⟩

/-- The word of minus infinity. -/
theorem neg_inf : Ideal.ofBits FTy.f32 0xFF800000#32 = ⊥ := by
  simp [Ideal.ofBits, Ideal.ieee]

/-- The square root of the word of 192. -/
theorem sqrt_192 : Ideal.sqrt (Ideal.ofBits FTy.f32 0x43400000#32) = ((Real.sqrt 192 : ℝ) : EReal) := by
  have e : Ideal.ofBits FTy.f32 0x43400000#32 = ((192 : ℝ) : EReal) := by
    simp [Ideal.ofBits, Ideal.ieee]
    rw [← EReal.coe_mul]
    norm_num
  rw [e, Ideal.sqrt_coe, if_neg (by norm_num)]

/-- The logarithm of the word of 2. -/
theorem log_2 : Ideal.log (Ideal.ofBits FTy.f32 0x40000000#32) = ((Real.log 2 : ℝ) : EReal) := by
  have e : Ideal.ofBits FTy.f32 0x40000000#32 = ((2 : ℝ) : EReal) := by
    simp [Ideal.ofBits, Ideal.ieee]
    rw [← EReal.coe_mul]
    norm_num
  rw [e, Ideal.log_coe, if_neg (by norm_num)]

/-- The kernel's scale of the queries: one over the product of `log 2` and the square root of 192. -/
theorem scale_eq : Ideal.div 1 (Ideal.log (Ideal.ofBits FTy.f32 0x40000000#32) * Ideal.sqrt (Ideal.ofBits FTy.f32 0x43400000#32)) =
    ((1 / (Real.log 2 * Real.sqrt 192) : ℝ) : EReal) := by
  have h2 : Real.log 2 ≠ 0 := (Real.log_pos (by norm_num)).ne'
  have h192 : Real.sqrt 192 ≠ 0 := (Real.sqrt_pos.mpr (by norm_num)).ne'
  rw [sqrt_192, log_2, ← EReal.coe_mul, Ideal.div_coe (mul_ne_zero h2 h192), one_mul]

/-- The score of a query and a key, both real. -/
def score (q k : Fin 192 → ℝ) : ℝ := (∑ d, q d * k d) / Real.sqrt 192

/-- The score as the reference writes it. -/
theorem score_ref (q k : Fin 192 → ℝ) :
    Ideal.div (∑ d, (q d : EReal) * (k d : EReal)) (Ideal.sqrt (Ideal.ofBits FTy.f32 0x43400000#32)) = ((score q k : ℝ) : EReal) := by
  have h192 : Real.sqrt 192 ≠ 0 := (Real.sqrt_pos.mpr (by norm_num)).ne'
  simp only [← EReal.coe_mul, sum_real]
  rw [sqrt_192, Ideal.div_coe h192, ← EReal.coe_mul]
  congr 1
  unfold score
  ring

/-- The score as the kernel computes it, over queries already scaled and both lengthened by zeros to 256: the score over `log 2`. -/
theorem score_ker (q k : Fin 192 → ℝ) (Q K : Fin 256 → EReal)
    (hQ : ∀ d : Fin 192, Q (Fin.castAdd 64 d) = (q d : EReal) * Ideal.div 1 (Ideal.log (Ideal.ofBits FTy.f32 0x40000000#32) * Ideal.sqrt (Ideal.ofBits FTy.f32 0x43400000#32)))
    (hK : ∀ d : Fin 192, K (Fin.castAdd 64 d) = (k d : EReal)) (hK0 : ∀ d : Fin 64, K (Fin.natAdd 192 d) = 0) :
    ∑ d, Q d * K d = ((score q k / Real.log 2 : ℝ) : EReal) := by
  refine (Fin.sum_univ_add (a := 192) (b := 64) fun d => Q d * K d).trans ?_
  have h2 : Real.log 2 ≠ 0 := (Real.log_pos (by norm_num)).ne'
  have h192 : Real.sqrt 192 ≠ 0 := (Real.sqrt_pos.mpr (by norm_num)).ne'
  simp only [hQ, hK, hK0, mul_zero, Finset.sum_const_zero, add_zero, scale_eq, ← EReal.coe_mul, sum_real]
  congr 1
  unfold score
  rw [Finset.sum_div, Finset.sum_div]
  refine Finset.sum_congr rfl fun d _ => ?_
  field_simp

end Attn

end
-- ==== Proof.AttnRef.lean ====
/- The attention reference's result, over the extended reals, read at an index: the softmax of a row of scores against the values. -/
module

public import proofs.«01_k».proof.Defs
public import proofs.«01_k».proof.Proof.Gen.ReferenceIdeal.Run
public import proofs.«01_k».proof.Proof.AttnMath
public import Idealize.ShloMosaic.Lib.Pointwise

@[expose] public section

set_option maxRecDepth 16384

noncomputable section

namespace Cert.ReferenceIdeal.Term

open Cert.ReferenceIdeal Cert.ReferenceIdeal.Gen Idealize.ShloMosaic

/-- The keys of the sequence followed by the keys of the context. -/
def keys (k : FVec Ideal S4x4096x8x192 .f32) (kc : FVec Ideal S4x256x8x192 .f32) : FVec Ideal S4x4352x8x192 .f32 :=
  concatenate S4x4352x8x192 1 [⟨S4x4096x8x192, k⟩, ⟨S4x256x8x192, kc⟩] concatenates_S4x4096x8x192_S4x256x8x192_S4x4352x8x192_d1

/-- The values of the sequence followed by the values of the context. -/
def values (v : FVec Ideal S4x4096x8x128 .f32) (vc : FVec Ideal S4x256x8x128 .f32) : FVec Ideal S4x4352x8x128 .f32 :=
  concatenate S4x4352x8x128 1 [⟨S4x4096x8x128, v⟩, ⟨S4x256x8x128, vc⟩] concatenates_S4x4096x8x128_S4x256x8x128_S4x4352x8x128_d1

/-- The scores: the products of queries and keys over the square root of their length. -/
def scores (q k : FVec Ideal S4x4096x8x192 .f32) (kc : FVec Ideal S4x256x8x192 .f32) : FVec Ideal S4x8x4096x4352 .f32 :=
  Host.divf (Host.dotGeneral dot_S4x4096x8x192_S4x4352x8x192_S4x8x4096x4352_3_3_1_1_02_02 none q (keys k kc))
    (broadcastInDim S4x8x4096x4352 ![] bcast_S_S4x8x4096x4352 (Host.sqrt (constant S_ .f32 0x43400000#32)))

/-- The exponentials of the scores less their row's maximum. -/
def exponentials (s : FVec Ideal S4x8x4096x4352 .f32) : FVec Ideal S4x8x4096x4352 .f32 :=
  Host.exp (subf s (broadcastInDim S4x8x4096x4352 ![0, 1, 2, 3] bcast_S4x8x4096x1_S4x8x4096x4352_0_1_2_3
    (broadcastInDim S4x8x4096x1 ![0, 1, 2] bcast_S4x8x4096_S4x8x4096x1_0_1_2
      (maximumf (broadcastInDim S4x8x4096 ![] bcast_S_S4x8x4096 (constant S_ .f32 0xFF800000#32))
        (Host.reduce FloatOps.maximumf s (constant S_ .f32 0xFF800000#32) reducesTo_S4x8x4096x4352_S4x8x4096_d3 h_S_)))))

/-- The weights: the exponentials over their row's sum. -/
def weights (e : FVec Ideal S4x8x4096x4352 .f32) : FVec Ideal S4x8x4096x4352 .f32 :=
  Host.divf e (broadcastInDim S4x8x4096x4352 ![0, 1, 2, 3] bcast_S4x8x4096x1_S4x8x4096x4352_0_1_2_3
    (broadcastInDim S4x8x4096x1 ![0, 1, 2] bcast_S4x8x4096_S4x8x4096x1_0_1_2
      (Host.reduceAdd e (constant S_ .f32 0x00000000#32) reducesTo_S4x8x4096x4352_S4x8x4096_d3 h_S_)))

/-- The reference's result as a function of its argument arrays: per head the weighted values, the heads side by side. -/
def result (q k : FVec Ideal S4x4096x8x192 .f32) (v : FVec Ideal S4x4096x8x128 .f32) (kc : FVec Ideal S4x256x8x192 .f32)
    (vc : FVec Ideal S4x256x8x128 .f32) : FVec Ideal S4x4096x1024 .bf16 :=
  truncf .bf16 (shapeCast S4x4096x1024 (transpose S4x4096x8x128 [0, 3, 1, 2]
    (Host.dotGeneral dot_S4x4352x8x128_S4x8x4096x4352_S4x8x128x4096_1_3_3_2_02_01 none (values v vc)
      (weights (exponentials (scores q k kc)))) transposes_S4x8x128x4096_S4x4096x8x128_0_3_1_2)
    shapeCasts_S4x4096x8x128_S4x4096x1024) bitsLt_bf16_f32

/-- A score of the sequence's keys. -/
theorem scores_seq (q k : FVec Ideal S4x4096x8x192 .f32) (kc : FVec Ideal S4x256x8x192 .f32) (b : Fin 4) (h : Fin 8) (i : Fin 4096) (j : Fin 4096) :
    scores q k kc (ix4 b h i (Fin.castAdd 256 j)) =
      Ideal.div (∑ d : Fin 192, q (ix4 b i h d) * k (ix4 b j h d)) (Ideal.sqrt (Ideal.ofBits FTy.f32 0x43400000#32)) := by
  pointwise [scores, keys]
  refine congrArg (fun x => Ideal.div x _) (Finset.sum_congr rfl fun d _ => congrArg (fun x : EReal => q (ix4 b i h d) * x) ?_)
  exact dif_pos j.isLt

/-- A score of the context's keys. -/
theorem scores_ctx (q k : FVec Ideal S4x4096x8x192 .f32) (kc : FVec Ideal S4x256x8x192 .f32) (b : Fin 4) (h : Fin 8) (i : Fin 4096) (j : Fin 256) :
    scores q k kc (ix4 b h i (Fin.natAdd 4096 j)) =
      Ideal.div (∑ d : Fin 192, q (ix4 b i h d) * kc (ix4 b j h d)) (Ideal.sqrt (Ideal.ofBits FTy.f32 0x43400000#32)) := by
  pointwise [scores, keys]
  refine congrArg (fun x => Ideal.div x _) (Finset.sum_congr rfl fun d _ => congrArg (fun x : EReal => q (ix4 b i h d) * x) ?_)
  have e : (Fin.natAdd 4096 j).val = 4096 + j.val := rfl
  rw [dif_neg (by omega)]
  exact congrArg (fun x => kc (ix4 b x h d)) (Fin.ext (show (Fin.natAdd 4096 j).val - 4096 = j.val by omega))

/-- A value of the sequence. -/
theorem values_seq (v : FVec Ideal S4x4096x8x128 .f32) (vc : FVec Ideal S4x256x8x128 .f32) (b : Fin 4) (h : Fin 8) (j : Fin 4096) (f : Fin 128) :
    values v vc (ix4 b (Fin.castAdd 256 j) h f) = v (ix4 b j h f) := by
  pointwise [values]
  exact dif_pos j.isLt

/-- A value of the context. -/
theorem values_ctx (v : FVec Ideal S4x4096x8x128 .f32) (vc : FVec Ideal S4x256x8x128 .f32) (b : Fin 4) (h : Fin 8) (j : Fin 256) (f : Fin 128) :
    values v vc (ix4 b (Fin.natAdd 4096 j) h f) = vc (ix4 b j h f) := by
  pointwise [values]
  have e : (Fin.natAdd 4096 j).val = 4096 + j.val := rfl
  rw [dif_neg (by omega)]
  exact congrArg (fun x => vc (ix4 b x h f)) (Fin.ext (show (Fin.natAdd 4096 j).val - 4096 = j.val by omega))

/-- The word of minus infinity. -/
theorem neg_inf : Ideal.ofBits FTy.f32 0xFF800000#32 = ⊥ := by
  simp [Ideal.ofBits, Ideal.ieee]

/-- The maximum of a row, at an index. -/
theorem reduce_at (s : FVec Ideal S4x8x4096x4352 .f32) (c : FVec Ideal S_ .f32) (b : Fin 4) (h : Fin 8) (i : Fin 4096) :
    (Host.reduce FloatOps.maximumf s c reducesTo_S4x8x4096x4352_S4x8x4096_d3 h_S_ : FVec Ideal S4x8x4096 .f32) (ix3 b h i) =
      Finset.fold max (c (Shape.Idx.first h_S_)) (fun x : Fin 4352 => s (ix4 b h i x)) Finset.univ := by
  pointwise

/-- The exponential of a score less an array of maxima, at an index. -/
theorem shifted_at (s : FVec Ideal S4x8x4096x4352 .f32) (c : FVec Ideal S_ .f32) (mx : FVec Ideal S4x8x4096 .f32) (b : Fin 4) (h : Fin 8) (i : Fin 4096)
    (j : Fin 4352) :
    (Host.exp (subf s (broadcastInDim S4x8x4096x4352 ![0, 1, 2, 3] bcast_S4x8x4096x1_S4x8x4096x4352_0_1_2_3
      (broadcastInDim S4x8x4096x1 ![0, 1, 2] bcast_S4x8x4096_S4x8x4096x1_0_1_2
        (maximumf (broadcastInDim S4x8x4096 ![] bcast_S_S4x8x4096 c) mx)))) : FVec Ideal S4x8x4096x4352 .f32) (ix4 b h i j) =
      Ideal.exp (s (ix4 b h i j) - max (c ix0) (mx (ix3 b h i))) := by
  pointwise

/-- An exponential, at an index. -/
theorem exponentials_at (s : FVec Ideal S4x8x4096x4352 .f32) (b : Fin 4) (h : Fin 8) (i : Fin 4096) (j : Fin 4352) :
    exponentials s (ix4 b h i j) =
      Ideal.exp (s (ix4 b h i j) - max ⊥ (Finset.fold max ⊥ (fun x : Fin 4352 => s (ix4 b h i x)) Finset.univ)) := by
  refine (shifted_at s _ _ b h i j).trans ?_
  rw [reduce_at]
  have e : ∀ x, (constant S_ .f32 0xFF800000#32 : FVec Ideal S_ .f32) x = ⊥ := fun _ => neg_inf
  rw [e, e]

/-- A weight, at an index. -/
theorem weights_at (e : FVec Ideal S4x8x4096x4352 .f32) (b : Fin 4) (h : Fin 8) (i : Fin 4096) (j : Fin 4352) :
    weights e (ix4 b h i j) = Ideal.div (e (ix4 b h i j)) (∑ x : Fin 4352, e (ix4 b h i x)) := by
  pointwise [weights]

/-- The weighted values, the heads laid side by side, at an index. -/
theorem joined_at (u : FVec Ideal S4x4352x8x128 .f32) (w : FVec Ideal S4x8x4096x4352 .f32) (b : Fin 4) (i : Fin 4096) (h : Fin 8) (f : Fin 128) :
    (truncf .bf16 (shapeCast S4x4096x1024 (transpose S4x4096x8x128 [0, 3, 1, 2]
      (Host.dotGeneral dot_S4x4352x8x128_S4x8x4096x4352_S4x8x128x4096_1_3_3_2_02_01 none u w)
      transposes_S4x8x128x4096_S4x4096x8x128_0_3_1_2) shapeCasts_S4x4096x8x128_S4x4096x1024 : FVec Ideal S4x4096x1024 .f32) bitsLt_bf16_f32
        : FVec Ideal S4x4096x1024 .bf16) (ix3 b i ⟨h.val * 128 + f.val, by omega⟩) = ∑ x : Fin 4352, u (ix4 b x h f) * w (ix4 b h i x) := by
  pointwise

/-- The result at an index is the softmax of a row of scores against the values of the head. -/
theorem result_at (q k : FVec Ideal S4x4096x8x192 .f32) (v : FVec Ideal S4x4096x8x128 .f32) (kc : FVec Ideal S4x256x8x192 .f32)
    (vc : FVec Ideal S4x256x8x128 .f32) (b : Fin 4) (i : Fin 4096) (h : Fin 8) (f : Fin 128) (p : Fin 1024) (hp : p.val = h.val * 128 + f.val) :
    result q k v kc vc (ix3 b i p) = Attn.direct (fun j : Fin 4352 => scores q k kc (ix4 b h i j)) (fun j : Fin 4352 => values v vc (ix4 b j h f)) := by
  have ep : p = ⟨h.val * 128 + f.val, by omega⟩ := Fin.ext hp
  rw [ep]
  unfold result Attn.direct
  generalize scores q k kc = s
  generalize values v vc = u
  refine (joined_at u _ b i h f).trans (Finset.sum_congr rfl fun j _ => congrArg (fun x : EReal => u (ix4 b j h f) * x) ?_)
  refine (weights_at _ b h i j).trans ?_
  rw [exponentials_at]
  refine congrArg (Ideal.div _) (Finset.sum_congr rfl fun x _ => exponentials_at s b h i x)

end Cert.ReferenceIdeal.Term

end
-- ==== Proof.AttnValue.lean ====
/- The attention kernel's result array, over the extended reals, is the softmax of the reference. -/
module

public import proofs.«01_k».proof.Defs
public import proofs.«01_k».proof.Proof.Gen.KernelIdeal.Value
public import proofs.«01_k».proof.Proof.AttnMath
public import proofs.«01_k».proof.Proof.AttnRef
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.AttnValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The queries as the kernel reads them: scaled by one over `log 2 · √192`, per head, each padded with zeros to 256 lanes. -/
def queries (x : FVec Ideal S4x4096x8x192 .f32) : FVec Ideal S4x8x4096x256 .bf16 :=
  truncf .bf16 (pad S4x8x4096x256 ![0, 0, 0, 0] ![0, 0, 0, 64] ![0, 0, 0, 0]
    (transpose S4x8x4096x192 [0, 2, 1, 3] (mulf x (broadcastInDim S4x4096x8x192 ![] bcast_S_S4x4096x8x192
      (Host.divf (constant S_ .f32 0x3F800000#32) (mulf (Host.log (constant S_ .f32 0x40000000#32)) (Host.sqrt (constant S_ .f32 0x43400000#32)))))) transposes_S4x4096x8x192_S4x8x4096x192_0_2_1_3) (sitofp .f32 (constantI S_ 32 0#32))
    pads_S4x8x4096x192_S4x8x4096x256_000_000_000_0640 h_S_ : FVec Ideal S4x8x4096x256 .f32) bitsLt_bf16_f32

/-- The sequence's keys as the kernel reads them: per head, each padded with zeros to 256 lanes. -/
def seqKeys (x : FVec Ideal S4x4096x8x192 .f32) : FVec Ideal S4x8x4096x256 .bf16 :=
  truncf .bf16 (pad S4x8x4096x256 ![0, 0, 0, 0] ![0, 0, 0, 64] ![0, 0, 0, 0]
    (transpose S4x8x4096x192 [0, 2, 1, 3] x transposes_S4x4096x8x192_S4x8x4096x192_0_2_1_3) (sitofp .f32 (constantI S_ 32 0#32))
    pads_S4x8x4096x192_S4x8x4096x256_000_000_000_0640 h_S_ : FVec Ideal S4x8x4096x256 .f32) bitsLt_bf16_f32

/-- The sequence's values as the kernel reads them: per head, each followed by a one and by zeros to 256 lanes. -/
def seqValues (x : FVec Ideal S4x4096x8x128 .f32) : FVec Ideal S4x8x4096x256 .bf16 :=
  truncf .bf16 (concatenate S4x8x4096x256 3 [⟨S4x8x4096x128, transpose S4x8x4096x128 [0, 2, 1, 3] x transposes_S4x4096x8x128_S4x8x4096x128_0_2_1_3⟩,
    ⟨S4x8x4096x1, broadcastInDim S4x8x4096x1 ![] bcast_S_S4x8x4096x1 (constant S_ .f32 0x3F800000#32)⟩,
    ⟨S4x8x4096x127, broadcastInDim S4x8x4096x127 ![] bcast_S_S4x8x4096x127 (constant S_ .f32 0x00000000#32)⟩]
    concatenates_S4x8x4096x128_S4x8x4096x1_S4x8x4096x127_S4x8x4096x256_d3 : FVec Ideal S4x8x4096x256 .f32) bitsLt_bf16_f32

/-- The context's keys as the kernel reads them: per head, each padded with zeros to 256 lanes. -/
def ctxKeys (x : FVec Ideal S4x256x8x192 .f32) : FVec Ideal S4x8x256x256 .bf16 :=
  truncf .bf16 (pad S4x8x256x256 ![0, 0, 0, 0] ![0, 0, 0, 64] ![0, 0, 0, 0]
    (transpose S4x8x256x192 [0, 2, 1, 3] x transposes_S4x256x8x192_S4x8x256x192_0_2_1_3) (sitofp .f32 (constantI S_ 32 0#32))
    pads_S4x8x256x192_S4x8x256x256_000_000_000_0640 h_S_ : FVec Ideal S4x8x256x256 .f32) bitsLt_bf16_f32

/-- The context's values as the kernel reads them: per head, each followed by a one and by zeros to 256 lanes. -/
def ctxValues (x : FVec Ideal S4x256x8x128 .f32) : FVec Ideal S4x8x256x256 .bf16 :=
  truncf .bf16 (concatenate S4x8x256x256 3 [⟨S4x8x256x128, transpose S4x8x256x128 [0, 2, 1, 3] x transposes_S4x256x8x128_S4x8x256x128_0_2_1_3⟩,
    ⟨S4x8x256x1, broadcastInDim S4x8x256x1 ![] bcast_S_S4x8x256x1 (constant S_ .f32 0x3F800000#32)⟩,
    ⟨S4x8x256x127, broadcastInDim S4x8x256x127 ![] bcast_S_S4x8x256x127 (constant S_ .f32 0x00000000#32)⟩]
    concatenates_S4x8x256x128_S4x8x256x1_S4x8x256x127_S4x8x256x256_d3 : FVec Ideal S4x8x256x256 .f32) bitsLt_bf16_f32

/-- The first 192 lanes of the queries. -/
theorem queries_lt (x : FVec Ideal S4x4096x8x192 .f32) (b : Fin 4) (h : Fin 8) (i : Fin 4096) (d : Fin 192) :
    queries x (ix4 b h i (Fin.castAdd 64 d)) = x (ix4 b i h d) *
      Ideal.div 1 (Ideal.log (Ideal.ofBits FTy.f32 0x40000000#32) * Ideal.sqrt (Ideal.ofBits FTy.f32 0x43400000#32)) := by
  pointwise [queries]
  exact dif_pos d.isLt

/-- The first 192 lanes of the sequence's keys. -/
theorem seqKeys_lt (x : FVec Ideal S4x4096x8x192 .f32) (b : Fin 4) (h : Fin 8) (i : Fin 4096) (d : Fin 192) :
    seqKeys x (ix4 b h i (Fin.castAdd 64 d)) = x (ix4 b i h d) := by
  pointwise [seqKeys]
  exact dif_pos d.isLt

/-- The last 64 lanes of the sequence's keys are zero. -/
theorem seqKeys_ge (x : FVec Ideal S4x4096x8x192 .f32) (b : Fin 4) (h : Fin 8) (i : Fin 4096) (d : Fin 64) :
    seqKeys x (ix4 b h i (Fin.natAdd 192 d)) = 0 := by
  pointwise [seqKeys]
  have e : (Fin.natAdd 192 d).val = 192 + d.val := rfl
  refine (dif_neg (by omega)).trans ?_
  show (((0#32).toInt : ℝ) : EReal) = 0
  simp

/-- The first 128 lanes of the sequence's values. -/
theorem seqValues_lt (x : FVec Ideal S4x4096x8x128 .f32) (b : Fin 4) (h : Fin 8) (i : Fin 4096) (d : Fin 128) :
    seqValues x (ix4 b h i (Fin.castAdd 128 d)) = x (ix4 b i h d) := by
  pointwise [seqValues]
  exact dif_pos d.isLt

/-- The lane after the sequence's values is one. -/
theorem seqValues_one (x : FVec Ideal S4x4096x8x128 .f32) (b : Fin 4) (h : Fin 8) (i : Fin 4096) :
    seqValues x (ix4 b h i (128 : Fin 256)) = 1 := by
  pointwise [seqValues]

/-- The first 192 lanes of the context's keys. -/
theorem ctxKeys_lt (x : FVec Ideal S4x256x8x192 .f32) (b : Fin 4) (h : Fin 8) (i : Fin 256) (d : Fin 192) :
    ctxKeys x (ix4 b h i (Fin.castAdd 64 d)) = x (ix4 b i h d) := by
  pointwise [ctxKeys]
  exact dif_pos d.isLt

/-- The last 64 lanes of the context's keys are zero. -/
theorem ctxKeys_ge (x : FVec Ideal S4x256x8x192 .f32) (b : Fin 4) (h : Fin 8) (i : Fin 256) (d : Fin 64) :
    ctxKeys x (ix4 b h i (Fin.natAdd 192 d)) = 0 := by
  pointwise [ctxKeys]
  have e : (Fin.natAdd 192 d).val = 192 + d.val := rfl
  refine (dif_neg (by omega)).trans ?_
  show (((0#32).toInt : ℝ) : EReal) = 0
  simp

/-- The first 128 lanes of the context's values. -/
theorem ctxValues_lt (x : FVec Ideal S4x256x8x128 .f32) (b : Fin 4) (h : Fin 8) (i : Fin 256) (d : Fin 128) :
    ctxValues x (ix4 b h i (Fin.castAdd 128 d)) = x (ix4 b i h d) := by
  pointwise [ctxValues]
  exact dif_pos d.isLt

/-- The lane after the context's values is one. -/
theorem ctxValues_one (x : FVec Ideal S4x256x8x128 .f32) (b : Fin 4) (h : Fin 8) (i : Fin 256) :
    ctxValues x (ix4 b h i (128 : Fin 256)) = 1 := by
  pointwise [ctxValues]

/-- The operand of window 0. -/
theorem v8_eq (c : Dev nD) : V m c main_v8 = queries (m ((c.tc : Thread nD τ).loc main_arg0)) := by
  unfold V
  simp only [List.flatten_cons, List.flatten_nil, hostOps0, hostOps0_1, hostOps0_2, hostOps0_3, hostOps0_4, hostOps0_5, hostOps0_6, List.cons_append, List.nil_append]
  after_results
  rfl

/-- The operand of window 1. -/
theorem v11_eq (c : Dev nD) : V m c main_v11 = seqKeys (m ((c.tc : Thread nD τ).loc main_arg1)) := by
  unfold V
  simp only [List.flatten_cons, List.flatten_nil, hostOps0, hostOps0_1, hostOps0_2, hostOps0_3, hostOps0_4, hostOps0_5, hostOps0_6, List.cons_append, List.nil_append]
  after_results
  rfl

/-- The operand of window 2. -/
theorem v16_eq (c : Dev nD) : V m c main_v16 = seqValues (m ((c.tc : Thread nD τ).loc main_arg2)) := by
  unfold V
  simp only [List.flatten_cons, List.flatten_nil, hostOps0, hostOps0_1, hostOps0_2, hostOps0_3, hostOps0_4, hostOps0_5, hostOps0_6, List.cons_append, List.nil_append]
  after_results
  rfl

/-- The operand of window 3. -/
theorem v19_eq (c : Dev nD) : V m c main_v19 = ctxKeys (m ((c.tc : Thread nD τ).loc main_arg3)) := by
  unfold V
  simp only [List.flatten_cons, List.flatten_nil, hostOps0, hostOps0_1, hostOps0_2, hostOps0_3, hostOps0_4, hostOps0_5, hostOps0_6, List.cons_append, List.nil_append]
  after_results
  rfl

/-- The operand of window 4. -/
theorem v24_eq (c : Dev nD) : V m c main_v24 = ctxValues (m ((c.tc : Thread nD τ).loc main_arg4)) := by
  unfold V
  simp only [List.flatten_cons, List.flatten_nil, hostOps0, hostOps0_1, hostOps0_2, hostOps0_3, hostOps0_4, hostOps0_5, hostOps0_6, List.cons_append, List.nil_append]
  after_results
  rfl

/-- Where each window's block lies at point `t`: sample `t / 64`, pair of heads `t / 16 % 4`, rows in blocks of 256. -/
theorem idx : ∀ t : Fin cfg0.N, win0_0.index t = ![t.val / 64, t.val / 16 % 4, t.val % 16, 0] ∧ win0_1.index t = ![t.val / 64, t.val / 16 % 4, 0, 0]
    ∧ win0_2.index t = ![t.val / 64, t.val / 16 % 4, 0, 0] ∧ win0_3.index t = ![t.val / 64, t.val / 16 % 4, 0, 0]
    ∧ win0_4.index t = ![t.val / 64, t.val / 16 % 4, 0, 0] ∧ win0_5.index t = ![t.val / 64, t.val % 16, t.val / 16 % 4] :=
  (by decide +kernel : ∀ t : Fin grid0.N, _)

/-- There are 256 grid points. -/
theorem lt (t : Fin cfg0.N) : t.val < 256 := t.2

/-- The block of queries is rows `256 (t % 16)` on of its two heads. -/
theorem blk0 (t : Fin cfg0.N) (f : FVec Ideal S4x8x4096x256 .bf16) (j : Fin 2) (a d : Fin 256) :
    f ((win0_0.blk t).view.emb (ix4 0 j a d)) = f (ix4 ⟨t.val / 64, by have := lt t; omega⟩ ⟨2 * (t.val / 16 % 4) + j.val, by omega⟩ ⟨256 * (t.val % 16) + a.val, by omega⟩ d) := by
  blk_ext [idx t]
/-- The block of the sequence's keys is all rows of its two heads. -/
theorem blk1 (t : Fin cfg0.N) (f : FVec Ideal S4x8x4096x256 .bf16) (j : Fin 2) (a : Fin 4096) (d : Fin 256) :
    f ((win0_1.blk t).view.emb (ix4 0 j a d)) = f (ix4 ⟨t.val / 64, by have := lt t; omega⟩ ⟨2 * (t.val / 16 % 4) + j.val, by omega⟩ a d) := by
  blk_ext [idx t]
/-- The block of the sequence's values is all rows of its two heads. -/
theorem blk2 (t : Fin cfg0.N) (f : FVec Ideal S4x8x4096x256 .bf16) (j : Fin 2) (a : Fin 4096) (d : Fin 256) :
    f ((win0_2.blk t).view.emb (ix4 0 j a d)) = f (ix4 ⟨t.val / 64, by have := lt t; omega⟩ ⟨2 * (t.val / 16 % 4) + j.val, by omega⟩ a d) := by
  blk_ext [idx t]
/-- The block of the context's keys is all rows of its two heads. -/
theorem blk3 (t : Fin cfg0.N) (f : FVec Ideal S4x8x256x256 .bf16) (j : Fin 2) (a : Fin 256) (d : Fin 256) :
    f ((win0_3.blk t).view.emb (ix4 0 j a d)) = f (ix4 ⟨t.val / 64, by have := lt t; omega⟩ ⟨2 * (t.val / 16 % 4) + j.val, by omega⟩ a d) := by
  blk_ext [idx t]
/-- The block of the context's values is all rows of its two heads. -/
theorem blk4 (t : Fin cfg0.N) (f : FVec Ideal S4x8x256x256 .bf16) (j : Fin 2) (a : Fin 256) (d : Fin 256) :
    f ((win0_4.blk t).view.emb (ix4 0 j a d)) = f (ix4 ⟨t.val / 64, by have := lt t; omega⟩ ⟨2 * (t.val / 16 % 4) + j.val, by omega⟩ a d) := by
  blk_ext [idx t]

/-- What the kernel loads of head 0 of window 0's block. -/
theorem ld0_0 (c : Dev nD) (t : Fin cfg0.N) (h : Fin 8) (hh : h.val = 2 * (t.val / 16 % 4) + 0) (a : Fin 256) (d : Fin 256) :
    (View.ld (iblk m c 0 t) (Rect.unit (s := S1x2x256x256) ![0, 0, 0, 0] ![1, 1, 256, 256] inb_S1x2x256x256_S1x1x256x256_0_0_0_0) : Vec Ideal S1x1x256x256 .bf16) (ix4 0 0 a d) =
      queries (m ((c.tc : Thread nD τ).loc main_arg0)) (ix4 ⟨t.val / 64, by have := lt t; omega⟩ h ⟨256 * (t.val % 16) + a.val, by omega⟩ d) := by
  have eh : h = ⟨2 * (t.val / 16 % 4) + (0 : Fin 2).val, by have : ((0 : Fin 2)).val < 2 := Fin.isLt _; omega⟩ := Fin.ext hh
  rw [eh]
  have e : ∀ X : Vec Ideal S1x2x256x256 .bf16, (View.ld X (Rect.unit (s := S1x2x256x256) ![0, 0, 0, 0] ![1, 1, 256, 256] inb_S1x2x256x256_S1x1x256x256_0_0_0_0) :
      Vec Ideal S1x1x256x256 .bf16) (ix4 0 0 a d) = X (ix4 0 0 a d) := fun X => by pointwise
  exact (e _).trans ((blk0 t (V m c main_v8) 0 a d).trans (congrFun (v8_eq m c) _))

/-- What the kernel loads of head 1 of window 0's block. -/
theorem ld0_1 (c : Dev nD) (t : Fin cfg0.N) (h : Fin 8) (hh : h.val = 2 * (t.val / 16 % 4) + 1) (a : Fin 256) (d : Fin 256) :
    (View.ld (iblk m c 0 t) (Rect.unit (s := S1x2x256x256) ![0, 1, 0, 0] ![1, 1, 256, 256] inb_S1x2x256x256_S1x1x256x256_0_1_0_0) : Vec Ideal S1x1x256x256 .bf16) (ix4 0 0 a d) =
      queries (m ((c.tc : Thread nD τ).loc main_arg0)) (ix4 ⟨t.val / 64, by have := lt t; omega⟩ h ⟨256 * (t.val % 16) + a.val, by omega⟩ d) := by
  have eh : h = ⟨2 * (t.val / 16 % 4) + (1 : Fin 2).val, by have : ((1 : Fin 2)).val < 2 := Fin.isLt _; omega⟩ := Fin.ext hh
  rw [eh]
  have e : ∀ X : Vec Ideal S1x2x256x256 .bf16, (View.ld X (Rect.unit (s := S1x2x256x256) ![0, 1, 0, 0] ![1, 1, 256, 256] inb_S1x2x256x256_S1x1x256x256_0_1_0_0) :
      Vec Ideal S1x1x256x256 .bf16) (ix4 0 0 a d) = X (ix4 0 1 a d) := fun X => by pointwise
  exact (e _).trans ((blk0 t (V m c main_v8) 1 a d).trans (congrFun (v8_eq m c) _))

/-- What the kernel loads of head 0 of window 1's block. -/
theorem ld1_0 (c : Dev nD) (t : Fin cfg0.N) (h : Fin 8) (hh : h.val = 2 * (t.val / 16 % 4) + 0) (a : Fin 4096) (d : Fin 256) :
    (View.ld (iblk m c 1 t) (Rect.unit (s := S1x2x4096x256) ![0, 0, 0, 0] ![1, 1, 4096, 256] inb_S1x2x4096x256_S1x1x4096x256_0_0_0_0) : Vec Ideal S1x1x4096x256 .bf16) (ix4 0 0 a d) =
      seqKeys (m ((c.tc : Thread nD τ).loc main_arg1)) (ix4 ⟨t.val / 64, by have := lt t; omega⟩ h a d) := by
  have eh : h = ⟨2 * (t.val / 16 % 4) + (0 : Fin 2).val, by have : ((0 : Fin 2)).val < 2 := Fin.isLt _; omega⟩ := Fin.ext hh
  rw [eh]
  have e : ∀ X : Vec Ideal S1x2x4096x256 .bf16, (View.ld X (Rect.unit (s := S1x2x4096x256) ![0, 0, 0, 0] ![1, 1, 4096, 256] inb_S1x2x4096x256_S1x1x4096x256_0_0_0_0) :
      Vec Ideal S1x1x4096x256 .bf16) (ix4 0 0 a d) = X (ix4 0 0 a d) := fun X => by pointwise
  exact (e _).trans ((blk1 t (V m c main_v11) 0 a d).trans (congrFun (v11_eq m c) _))

/-- What the kernel loads of head 1 of window 1's block. -/
theorem ld1_1 (c : Dev nD) (t : Fin cfg0.N) (h : Fin 8) (hh : h.val = 2 * (t.val / 16 % 4) + 1) (a : Fin 4096) (d : Fin 256) :
    (View.ld (iblk m c 1 t) (Rect.unit (s := S1x2x4096x256) ![0, 1, 0, 0] ![1, 1, 4096, 256] inb_S1x2x4096x256_S1x1x4096x256_0_1_0_0) : Vec Ideal S1x1x4096x256 .bf16) (ix4 0 0 a d) =
      seqKeys (m ((c.tc : Thread nD τ).loc main_arg1)) (ix4 ⟨t.val / 64, by have := lt t; omega⟩ h a d) := by
  have eh : h = ⟨2 * (t.val / 16 % 4) + (1 : Fin 2).val, by have : ((1 : Fin 2)).val < 2 := Fin.isLt _; omega⟩ := Fin.ext hh
  rw [eh]
  have e : ∀ X : Vec Ideal S1x2x4096x256 .bf16, (View.ld X (Rect.unit (s := S1x2x4096x256) ![0, 1, 0, 0] ![1, 1, 4096, 256] inb_S1x2x4096x256_S1x1x4096x256_0_1_0_0) :
      Vec Ideal S1x1x4096x256 .bf16) (ix4 0 0 a d) = X (ix4 0 1 a d) := fun X => by pointwise
  exact (e _).trans ((blk1 t (V m c main_v11) 1 a d).trans (congrFun (v11_eq m c) _))

/-- What the kernel loads of head 0 of window 2's block. -/
theorem ld2_0 (c : Dev nD) (t : Fin cfg0.N) (h : Fin 8) (hh : h.val = 2 * (t.val / 16 % 4) + 0) (a : Fin 4096) (d : Fin 256) :
    (View.ld (iblk m c 2 t) (Rect.unit (s := S1x2x4096x256) ![0, 0, 0, 0] ![1, 1, 4096, 256] inb_S1x2x4096x256_S1x1x4096x256_0_0_0_0) : Vec Ideal S1x1x4096x256 .bf16) (ix4 0 0 a d) =
      seqValues (m ((c.tc : Thread nD τ).loc main_arg2)) (ix4 ⟨t.val / 64, by have := lt t; omega⟩ h a d) := by
  have eh : h = ⟨2 * (t.val / 16 % 4) + (0 : Fin 2).val, by have : ((0 : Fin 2)).val < 2 := Fin.isLt _; omega⟩ := Fin.ext hh
  rw [eh]
  have e : ∀ X : Vec Ideal S1x2x4096x256 .bf16, (View.ld X (Rect.unit (s := S1x2x4096x256) ![0, 0, 0, 0] ![1, 1, 4096, 256] inb_S1x2x4096x256_S1x1x4096x256_0_0_0_0) :
      Vec Ideal S1x1x4096x256 .bf16) (ix4 0 0 a d) = X (ix4 0 0 a d) := fun X => by pointwise
  exact (e _).trans ((blk2 t (V m c main_v16) 0 a d).trans (congrFun (v16_eq m c) _))

/-- What the kernel loads of head 1 of window 2's block. -/
theorem ld2_1 (c : Dev nD) (t : Fin cfg0.N) (h : Fin 8) (hh : h.val = 2 * (t.val / 16 % 4) + 1) (a : Fin 4096) (d : Fin 256) :
    (View.ld (iblk m c 2 t) (Rect.unit (s := S1x2x4096x256) ![0, 1, 0, 0] ![1, 1, 4096, 256] inb_S1x2x4096x256_S1x1x4096x256_0_1_0_0) : Vec Ideal S1x1x4096x256 .bf16) (ix4 0 0 a d) =
      seqValues (m ((c.tc : Thread nD τ).loc main_arg2)) (ix4 ⟨t.val / 64, by have := lt t; omega⟩ h a d) := by
  have eh : h = ⟨2 * (t.val / 16 % 4) + (1 : Fin 2).val, by have : ((1 : Fin 2)).val < 2 := Fin.isLt _; omega⟩ := Fin.ext hh
  rw [eh]
  have e : ∀ X : Vec Ideal S1x2x4096x256 .bf16, (View.ld X (Rect.unit (s := S1x2x4096x256) ![0, 1, 0, 0] ![1, 1, 4096, 256] inb_S1x2x4096x256_S1x1x4096x256_0_1_0_0) :
      Vec Ideal S1x1x4096x256 .bf16) (ix4 0 0 a d) = X (ix4 0 1 a d) := fun X => by pointwise
  exact (e _).trans ((blk2 t (V m c main_v16) 1 a d).trans (congrFun (v16_eq m c) _))

/-- What the kernel loads of head 0 of window 3's block. -/
theorem ld3_0 (c : Dev nD) (t : Fin cfg0.N) (h : Fin 8) (hh : h.val = 2 * (t.val / 16 % 4) + 0) (a : Fin 256) (d : Fin 256) :
    (View.ld (iblk m c 3 t) (Rect.unit (s := S1x2x256x256) ![0, 0, 0, 0] ![1, 1, 256, 256] inb_S1x2x256x256_S1x1x256x256_0_0_0_0) : Vec Ideal S1x1x256x256 .bf16) (ix4 0 0 a d) =
      ctxKeys (m ((c.tc : Thread nD τ).loc main_arg3)) (ix4 ⟨t.val / 64, by have := lt t; omega⟩ h a d) := by
  have eh : h = ⟨2 * (t.val / 16 % 4) + (0 : Fin 2).val, by have : ((0 : Fin 2)).val < 2 := Fin.isLt _; omega⟩ := Fin.ext hh
  rw [eh]
  have e : ∀ X : Vec Ideal S1x2x256x256 .bf16, (View.ld X (Rect.unit (s := S1x2x256x256) ![0, 0, 0, 0] ![1, 1, 256, 256] inb_S1x2x256x256_S1x1x256x256_0_0_0_0) :
      Vec Ideal S1x1x256x256 .bf16) (ix4 0 0 a d) = X (ix4 0 0 a d) := fun X => by pointwise
  exact (e _).trans ((blk3 t (V m c main_v19) 0 a d).trans (congrFun (v19_eq m c) _))

/-- What the kernel loads of head 1 of window 3's block. -/
theorem ld3_1 (c : Dev nD) (t : Fin cfg0.N) (h : Fin 8) (hh : h.val = 2 * (t.val / 16 % 4) + 1) (a : Fin 256) (d : Fin 256) :
    (View.ld (iblk m c 3 t) (Rect.unit (s := S1x2x256x256) ![0, 1, 0, 0] ![1, 1, 256, 256] inb_S1x2x256x256_S1x1x256x256_0_1_0_0) : Vec Ideal S1x1x256x256 .bf16) (ix4 0 0 a d) =
      ctxKeys (m ((c.tc : Thread nD τ).loc main_arg3)) (ix4 ⟨t.val / 64, by have := lt t; omega⟩ h a d) := by
  have eh : h = ⟨2 * (t.val / 16 % 4) + (1 : Fin 2).val, by have : ((1 : Fin 2)).val < 2 := Fin.isLt _; omega⟩ := Fin.ext hh
  rw [eh]
  have e : ∀ X : Vec Ideal S1x2x256x256 .bf16, (View.ld X (Rect.unit (s := S1x2x256x256) ![0, 1, 0, 0] ![1, 1, 256, 256] inb_S1x2x256x256_S1x1x256x256_0_1_0_0) :
      Vec Ideal S1x1x256x256 .bf16) (ix4 0 0 a d) = X (ix4 0 1 a d) := fun X => by pointwise
  exact (e _).trans ((blk3 t (V m c main_v19) 1 a d).trans (congrFun (v19_eq m c) _))

/-- What the kernel loads of head 0 of window 4's block. -/
theorem ld4_0 (c : Dev nD) (t : Fin cfg0.N) (h : Fin 8) (hh : h.val = 2 * (t.val / 16 % 4) + 0) (a : Fin 256) (d : Fin 256) :
    (View.ld (iblk m c 4 t) (Rect.unit (s := S1x2x256x256) ![0, 0, 0, 0] ![1, 1, 256, 256] inb_S1x2x256x256_S1x1x256x256_0_0_0_0) : Vec Ideal S1x1x256x256 .bf16) (ix4 0 0 a d) =
      ctxValues (m ((c.tc : Thread nD τ).loc main_arg4)) (ix4 ⟨t.val / 64, by have := lt t; omega⟩ h a d) := by
  have eh : h = ⟨2 * (t.val / 16 % 4) + (0 : Fin 2).val, by have : ((0 : Fin 2)).val < 2 := Fin.isLt _; omega⟩ := Fin.ext hh
  rw [eh]
  have e : ∀ X : Vec Ideal S1x2x256x256 .bf16, (View.ld X (Rect.unit (s := S1x2x256x256) ![0, 0, 0, 0] ![1, 1, 256, 256] inb_S1x2x256x256_S1x1x256x256_0_0_0_0) :
      Vec Ideal S1x1x256x256 .bf16) (ix4 0 0 a d) = X (ix4 0 0 a d) := fun X => by pointwise
  exact (e _).trans ((blk4 t (V m c main_v24) 0 a d).trans (congrFun (v24_eq m c) _))

/-- What the kernel loads of head 1 of window 4's block. -/
theorem ld4_1 (c : Dev nD) (t : Fin cfg0.N) (h : Fin 8) (hh : h.val = 2 * (t.val / 16 % 4) + 1) (a : Fin 256) (d : Fin 256) :
    (View.ld (iblk m c 4 t) (Rect.unit (s := S1x2x256x256) ![0, 1, 0, 0] ![1, 1, 256, 256] inb_S1x2x256x256_S1x1x256x256_0_1_0_0) : Vec Ideal S1x1x256x256 .bf16) (ix4 0 0 a d) =
      ctxValues (m ((c.tc : Thread nD τ).loc main_arg4)) (ix4 ⟨t.val / 64, by have := lt t; omega⟩ h a d) := by
  have eh : h = ⟨2 * (t.val / 16 % 4) + (1 : Fin 2).val, by have : ((1 : Fin 2)).val < 2 := Fin.isLt _; omega⟩ := Fin.ext hh
  rw [eh]
  have e : ∀ X : Vec Ideal S1x2x256x256 .bf16, (View.ld X (Rect.unit (s := S1x2x256x256) ![0, 1, 0, 0] ![1, 1, 256, 256] inb_S1x2x256x256_S1x1x256x256_0_1_0_0) :
      Vec Ideal S1x1x256x256 .bf16) (ix4 0 0 a d) = X (ix4 0 1 a d) := fun X => by pointwise
  exact (e _).trans ((blk4 t (V m c main_v24) 1 a d).trans (congrFun (v24_eq m c) _))

/-- The larger of a column and of a row of maxima laid as a column, at an index. -/
theorem column_at (x : FVec Ideal S256x1 .f32) (u : FVec Ideal S256 .f32) (a : Fin 256) (b : Fin 1) :
    maximumf x (shapeCast S256x1 u shapeCasts_S256_S256x1) (ix2 a b) = max (x (ix2 a 0)) (u (ix1 a)) := by
  obtain rfl : b = 0 := Subsingleton.elim _ _
  pointwise

/-- The maximum of a row of products with the sequence's keys. -/
theorem rowMax4096_at (s : FVec Ideal S256x4096 .f32) (w : BitVec 32) (hw : w = FKind.maximumf.neutral .f32 (.inl rfl)) (a : Fin 256) :
    (multiReduction .maximumf [1] S256 s w reduces_S256x4096_S256 (.inl rfl) hw : FVec Ideal S256 .f32) (ix1 a) =
      Finset.fold max (Ideal.ofBits FTy.f32 w) (fun x : Fin 4096 => s (ix2 a x)) Finset.univ := by
  pointwise

/-- The maximum of a row of products with the context's keys. -/
theorem rowMax256_at (s : FVec Ideal S256x256 .f32) (w : BitVec 32) (hw : w = FKind.maximumf.neutral .f32 (.inl rfl)) (a : Fin 256) :
    (multiReduction .maximumf [1] S256 s w reduces_S256x256_S256 (.inl rfl) hw : FVec Ideal S256 .f32) (ix1 a) =
      Finset.fold max (Ideal.ofBits FTy.f32 w) (fun x : Fin 256 => s (ix2 a x)) Finset.univ := by
  pointwise

/-- The products with the sequence's keys, of the first head of a pair. -/
theorem k0_pay20_at (q : Vec Ideal S1x1x256x256 .bf16) (k : Vec Ideal S1x1x4096x256 .bf16) (a : Fin 256) (x : Fin 4096) :
    k0_pay20 q k (ix2 a x) = ∑ d : Fin 256, q (ix4 0 0 a d) * k (ix4 0 0 x d) := by
  pointwise [k0_pay20]

/-- The maximum over the sequence's keys, of the first head of a pair. -/
theorem k0_pay24_at (q : Vec Ideal S1x1x256x256 .bf16) (k : Vec Ideal S1x1x4096x256 .bf16) (m0 : Vec Ideal S1x256x1 .f32) (a : Fin 256) (b : Fin 1) :
    k0_pay24 q k m0 (ix2 a b) = max (m0 (ix3 0 a 0)) (Finset.fold max (Ideal.ofBits FTy.f32 0xFF800000#32)
      (fun x : Fin 4096 => k0_pay20 q k (ix2 a x)) Finset.univ) := by
  unfold k0_pay24
  refine (column_at _ _ a b).trans ?_
  refine congrArg₂ (fun x y : EReal => max x y) ?_ (rowMax4096_at _ _ _ a)
  pointwise [k0_pay22]

/-- The factor that the earlier sum is scaled by, of the first head of a pair. -/
theorem k0_pay26_at (q : Vec Ideal S1x1x256x256 .bf16) (k : Vec Ideal S1x1x4096x256 .bf16) (m0 : Vec Ideal S1x256x1 .f32) (a : Fin 256) (b : Fin 1) :
    k0_pay26 q k m0 (ix2 a b) = Ideal.exp2 (m0 (ix3 0 a 0) - k0_pay24 q k m0 (ix2 a 0)) := by
  obtain rfl : b = 0 := Subsingleton.elim _ _
  unfold k0_pay26
  generalize k0_pay24 q k m0 = u
  pointwise [k0_pay22]
  rfl

/-- The sum over the sequence's keys added to the scaled earlier sum, of the first head of a pair. -/
theorem k0_pay28_at (s : FVec Ideal S256x4096 .f32) (m1 al : FVec Ideal S256x1 .f32) (v : Vec Ideal S1x1x4096x256 .bf16)
    (acc : Vec Ideal S1x256x256 .f32) (a b : Fin 256) :
    k0_pay28 s m1 al v acc (ix3 0 a b) = al (ix2 a 0) * acc (ix3 0 a b)
      + ∑ x : Fin 4096, Ideal.exp2 (s (ix2 a x) - m1 (ix2 a 0)) * v (ix4 0 0 x b) := by
  pointwise [k0_pay28]
  rfl

/-- The products with the sequence's keys, of the second head of a pair. -/
theorem k0_pay21_at (q : Vec Ideal S1x1x256x256 .bf16) (k : Vec Ideal S1x1x4096x256 .bf16) (a : Fin 256) (x : Fin 4096) :
    k0_pay21 q k (ix2 a x) = ∑ d : Fin 256, q (ix4 0 0 a d) * k (ix4 0 0 x d) := by
  pointwise [k0_pay21]

/-- The maximum over the sequence's keys, of the second head of a pair. -/
theorem k0_pay25_at (q : Vec Ideal S1x1x256x256 .bf16) (k : Vec Ideal S1x1x4096x256 .bf16) (m0 : Vec Ideal S1x256x1 .f32) (a : Fin 256) (b : Fin 1) :
    k0_pay25 q k m0 (ix2 a b) = max (m0 (ix3 0 a 0)) (Finset.fold max (Ideal.ofBits FTy.f32 0xFF800000#32)
      (fun x : Fin 4096 => k0_pay21 q k (ix2 a x)) Finset.univ) := by
  unfold k0_pay25
  refine (column_at _ _ a b).trans ?_
  refine congrArg₂ (fun x y : EReal => max x y) ?_ (rowMax4096_at _ _ _ a)
  pointwise [k0_pay23]

/-- The factor that the earlier sum is scaled by, of the second head of a pair. -/
theorem k0_pay27_at (q : Vec Ideal S1x1x256x256 .bf16) (k : Vec Ideal S1x1x4096x256 .bf16) (m0 : Vec Ideal S1x256x1 .f32) (a : Fin 256) (b : Fin 1) :
    k0_pay27 q k m0 (ix2 a b) = Ideal.exp2 (m0 (ix3 0 a 0) - k0_pay25 q k m0 (ix2 a 0)) := by
  obtain rfl : b = 0 := Subsingleton.elim _ _
  unfold k0_pay27
  generalize k0_pay25 q k m0 = u
  pointwise [k0_pay23]
  rfl

/-- The sum over the sequence's keys added to the scaled earlier sum, of the second head of a pair. -/
theorem k0_pay30_at (s : FVec Ideal S256x4096 .f32) (m1 al : FVec Ideal S256x1 .f32) (v : Vec Ideal S1x1x4096x256 .bf16)
    (acc : Vec Ideal S1x256x256 .f32) (a b : Fin 256) :
    k0_pay30 s m1 al v acc (ix3 0 a b) = al (ix2 a 0) * acc (ix3 0 a b)
      + ∑ x : Fin 4096, Ideal.exp2 (s (ix2 a x) - m1 (ix2 a 0)) * v (ix4 0 0 x b) := by
  pointwise [k0_pay30]
  rfl

/-- The maximum kept between the two runs of keys, of the first head of a pair. -/
theorem k0_pay29_at (x : FVec Ideal S256x1 .f32) (a : Fin 256) (b : Fin 1) : k0_pay29 x (ix3 0 a b) = x (ix2 a 0) := by
  pointwise [k0_pay29]

/-- The products with the context's keys, of the first head of a pair. -/
theorem k0_pay4_at (q : Vec Ideal S1x1x256x256 .bf16) (k : Vec Ideal S1x1x256x256 .bf16) (a : Fin 256) (x : Fin 256) :
    k0_pay4 q k (ix2 a x) = ∑ d : Fin 256, q (ix4 0 0 a d) * k (ix4 0 0 x d) := by
  pointwise [k0_pay4]

/-- The maximum over the context's keys, of the first head of a pair. -/
theorem k0_pay8_at (q : Vec Ideal S1x1x256x256 .bf16) (k : Vec Ideal S1x1x256x256 .bf16) (m0 : Vec Ideal S1x256x1 .f32) (a : Fin 256) (b : Fin 1) :
    k0_pay8 q k m0 (ix2 a b) = max (m0 (ix3 0 a 0)) (Finset.fold max (Ideal.ofBits FTy.f32 0xFF800000#32)
      (fun x : Fin 256 => k0_pay4 q k (ix2 a x)) Finset.univ) := by
  unfold k0_pay8
  refine (column_at _ _ a b).trans ?_
  refine congrArg₂ (fun x y : EReal => max x y) ?_ (rowMax256_at _ _ _ a)
  pointwise [k0_pay6]

/-- The factor that the sum over the sequence's keys is scaled by, of the first head of a pair. -/
theorem k0_pay10_at (q : Vec Ideal S1x1x256x256 .bf16) (k : Vec Ideal S1x1x256x256 .bf16) (m0 : Vec Ideal S1x256x1 .f32) (a : Fin 256) (b : Fin 1) :
    k0_pay10 q k m0 (ix2 a b) = Ideal.exp2 (m0 (ix3 0 a 0) - k0_pay8 q k m0 (ix2 a 0)) := by
  obtain rfl : b = 0 := Subsingleton.elim _ _
  unfold k0_pay10
  generalize k0_pay8 q k m0 = u
  pointwise [k0_pay6]
  rfl

/-- The weights of the context's keys, of the first head of a pair. -/
theorem k0_pay12_at (q : Vec Ideal S1x1x256x256 .bf16) (k : Vec Ideal S1x1x256x256 .bf16) (m0 : Vec Ideal S1x256x1 .f32) (a : Fin 256) (x : Fin 256) :
    k0_pay12 q k m0 (ix2 a x) = Ideal.exp2 (k0_pay4 q k (ix2 a x) - k0_pay8 q k m0 (ix2 a 0)) := by
  unfold k0_pay12
  generalize k0_pay8 q k m0 = u
  generalize k0_pay4 q k = s
  pointwise
  rfl

/-- The sum over the context's keys added to the scaled earlier sum, of the first head of a pair. -/
theorem k0_pay14_at (al : FVec Ideal S256x1 .f32) (p : FVec Ideal S256x256 .bf16) (v : Vec Ideal S1x1x256x256 .bf16)
    (acc : Vec Ideal S1x256x256 .f32) (a b : Fin 256) :
    k0_pay14 al p v acc (ix3 0 a b) = al (ix2 a 0) * acc (ix3 0 a b) + ∑ x : Fin 256, p (ix2 a x) * v (ix4 0 0 x b) := by
  pointwise [k0_pay14]

/-- The division by the sum of the weights, of the first head of a pair. -/
theorem k0_pay2_at (acc : Vec Ideal S1x256x256 .f32) (a : Fin 256) (b : Fin 128) :
    k0_pay2 acc (ix3 0 a b) = Ideal.div (acc (ix3 0 a (Fin.castAdd 128 b))) (acc (ix3 0 a 128)) := by
  pointwise [k0_pay2]
  rfl

/-- The maximum kept between the two runs of keys, of the second head of a pair. -/
theorem k0_pay1_at (x : FVec Ideal S256x1 .f32) (a : Fin 256) (b : Fin 1) : k0_pay1 x (ix3 0 a b) = x (ix2 a 0) := by
  pointwise [k0_pay1]

/-- The products with the context's keys, of the second head of a pair. -/
theorem k0_pay5_at (q : Vec Ideal S1x1x256x256 .bf16) (k : Vec Ideal S1x1x256x256 .bf16) (a : Fin 256) (x : Fin 256) :
    k0_pay5 q k (ix2 a x) = ∑ d : Fin 256, q (ix4 0 0 a d) * k (ix4 0 0 x d) := by
  pointwise [k0_pay5]

/-- The maximum over the context's keys, of the second head of a pair. -/
theorem k0_pay9_at (q : Vec Ideal S1x1x256x256 .bf16) (k : Vec Ideal S1x1x256x256 .bf16) (m0 : Vec Ideal S1x256x1 .f32) (a : Fin 256) (b : Fin 1) :
    k0_pay9 q k m0 (ix2 a b) = max (m0 (ix3 0 a 0)) (Finset.fold max (Ideal.ofBits FTy.f32 0xFF800000#32)
      (fun x : Fin 256 => k0_pay5 q k (ix2 a x)) Finset.univ) := by
  unfold k0_pay9
  refine (column_at _ _ a b).trans ?_
  refine congrArg₂ (fun x y : EReal => max x y) ?_ (rowMax256_at _ _ _ a)
  pointwise [k0_pay7]

/-- The factor that the sum over the sequence's keys is scaled by, of the second head of a pair. -/
theorem k0_pay11_at (q : Vec Ideal S1x1x256x256 .bf16) (k : Vec Ideal S1x1x256x256 .bf16) (m0 : Vec Ideal S1x256x1 .f32) (a : Fin 256) (b : Fin 1) :
    k0_pay11 q k m0 (ix2 a b) = Ideal.exp2 (m0 (ix3 0 a 0) - k0_pay9 q k m0 (ix2 a 0)) := by
  obtain rfl : b = 0 := Subsingleton.elim _ _
  unfold k0_pay11
  generalize k0_pay9 q k m0 = u
  pointwise [k0_pay7]
  rfl

/-- The weights of the context's keys, of the second head of a pair. -/
theorem k0_pay13_at (q : Vec Ideal S1x1x256x256 .bf16) (k : Vec Ideal S1x1x256x256 .bf16) (m0 : Vec Ideal S1x256x1 .f32) (a : Fin 256) (x : Fin 256) :
    k0_pay13 q k m0 (ix2 a x) = Ideal.exp2 (k0_pay5 q k (ix2 a x) - k0_pay9 q k m0 (ix2 a 0)) := by
  unfold k0_pay13
  generalize k0_pay9 q k m0 = u
  generalize k0_pay5 q k = s
  pointwise
  rfl

/-- The sum over the context's keys added to the scaled earlier sum, of the second head of a pair. -/
theorem k0_pay16_at (al : FVec Ideal S256x1 .f32) (p : FVec Ideal S256x256 .bf16) (v : Vec Ideal S1x1x256x256 .bf16)
    (acc : Vec Ideal S1x256x256 .f32) (a b : Fin 256) :
    k0_pay16 al p v acc (ix3 0 a b) = al (ix2 a 0) * acc (ix3 0 a b) + ∑ x : Fin 256, p (ix2 a x) * v (ix4 0 0 x b) := by
  pointwise [k0_pay16]

/-- The division by the sum of the weights, of the second head of a pair. -/
theorem k0_pay3_at (acc : Vec Ideal S1x256x256 .f32) (a : Fin 256) (b : Fin 128) :
    k0_pay3 acc (ix3 0 a b) = Ideal.div (acc (ix3 0 a (Fin.castAdd 128 b))) (acc (ix3 0 a 128)) := by
  pointwise [k0_pay3]
  rfl

/-- The sum over both runs of keys, of the first head of a pair, from the head's blocks and what the running maximum and sum start at. -/
def firstSum (q : Vec Ideal S1x1x256x256 .bf16) (k v : Vec Ideal S1x1x4096x256 .bf16) (kc vc : Vec Ideal S1x1x256x256 .bf16)
    (m0 : Vec Ideal S1x256x1 .f32) (a0 : Vec Ideal S1x256x256 .f32) : FVec Ideal S1x256x256 .f32 :=
  k0_pay14 (k0_pay10 q kc (k0_pay29 (k0_pay24 q k m0))) (k0_pay12 q kc (k0_pay29 (k0_pay24 q k m0))) vc
    (k0_pay28 (k0_pay20 q k) (k0_pay24 q k m0) (k0_pay26 q k m0) v a0)

/-- That sum, at an index, is the running computation of the row. -/
theorem firstSum_at (q : Vec Ideal S1x1x256x256 .bf16) (k v : Vec Ideal S1x1x4096x256 .bf16) (kc vc : Vec Ideal S1x1x256x256 .bf16)
    (m0 : Vec Ideal S1x256x1 .f32) (a0 : Vec Ideal S1x256x256 .f32) (a b : Fin 256) :
    firstSum q k v kc vc m0 a0 (ix3 0 a b) = Attn.running (m0 (ix3 0 a 0)) (a0 (ix3 0 a b))
      (fun x : Fin 4096 => ∑ d : Fin 256, q (ix4 0 0 a d) * k (ix4 0 0 x d)) (fun x : Fin 256 => ∑ d : Fin 256, q (ix4 0 0 a d) * kc (ix4 0 0 x d))
      (fun x => v (ix4 0 0 x b)) (fun x => vc (ix4 0 0 x b)) := by
  refine (k0_pay14_at _ _ _ _ a b).trans ?_
  unfold Attn.running
  simp only [k0_pay10_at, k0_pay12_at, k0_pay28_at, k0_pay8_at, k0_pay4_at, k0_pay29_at, k0_pay24_at, k0_pay20_at, k0_pay26_at, Attn.neg_inf]

/-- The sum over both runs of keys, of the second head of a pair, from the head's blocks and what the running maximum and sum start at. -/
def secondSum (q : Vec Ideal S1x1x256x256 .bf16) (k v : Vec Ideal S1x1x4096x256 .bf16) (kc vc : Vec Ideal S1x1x256x256 .bf16)
    (m0 : Vec Ideal S1x256x1 .f32) (a0 : Vec Ideal S1x256x256 .f32) : FVec Ideal S1x256x256 .f32 :=
  k0_pay16 (k0_pay11 q kc (k0_pay1 (k0_pay25 q k m0))) (k0_pay13 q kc (k0_pay1 (k0_pay25 q k m0))) vc
    (k0_pay30 (k0_pay21 q k) (k0_pay25 q k m0) (k0_pay27 q k m0) v a0)

/-- That sum, at an index, is the running computation of the row. -/
theorem secondSum_at (q : Vec Ideal S1x1x256x256 .bf16) (k v : Vec Ideal S1x1x4096x256 .bf16) (kc vc : Vec Ideal S1x1x256x256 .bf16)
    (m0 : Vec Ideal S1x256x1 .f32) (a0 : Vec Ideal S1x256x256 .f32) (a b : Fin 256) :
    secondSum q k v kc vc m0 a0 (ix3 0 a b) = Attn.running (m0 (ix3 0 a 0)) (a0 (ix3 0 a b))
      (fun x : Fin 4096 => ∑ d : Fin 256, q (ix4 0 0 a d) * k (ix4 0 0 x d)) (fun x : Fin 256 => ∑ d : Fin 256, q (ix4 0 0 a d) * kc (ix4 0 0 x d))
      (fun x => v (ix4 0 0 x b)) (fun x => vc (ix4 0 0 x b)) := by
  refine (k0_pay16_at _ _ _ _ a b).trans ?_
  unfold Attn.running
  simp only [k0_pay11_at, k0_pay13_at, k0_pay30_at, k0_pay9_at, k0_pay5_at, k0_pay1_at, k0_pay25_at, k0_pay21_at, k0_pay27_at, Attn.neg_inf]

/-- One row: the running computation over padded queries and keys, divided by its own sum of ones, is the softmax as written. -/
theorem row_eq (q : Fin 192 → ℝ) (k : Fin 4096 → Fin 192 → ℝ) (kc : Fin 256 → Fin 192 → ℝ) (μ : EReal)
    (hμ : μ = Ideal.ofBits FTy.f32 0xF149F2CA#32) (Q : Fin 256 → EReal) (K : Fin 4096 → Fin 256 → EReal) (C : Fin 256 → Fin 256 → EReal)
    (hQ : ∀ d : Fin 192, Q (Fin.castAdd 64 d) = (q d : EReal) * Ideal.div 1 (Ideal.log (Ideal.ofBits FTy.f32 0x40000000#32) * Ideal.sqrt (Ideal.ofBits FTy.f32 0x43400000#32)))
    (hK : ∀ x, ∀ d : Fin 192, K x (Fin.castAdd 64 d) = (k x d : EReal)) (hK0 : ∀ x, ∀ d : Fin 64, K x (Fin.natAdd 192 d) = 0)
    (hC : ∀ x, ∀ d : Fin 192, C x (Fin.castAdd 64 d) = (kc x d : EReal)) (hC0 : ∀ x, ∀ d : Fin 64, C x (Fin.natAdd 192 d) = 0)
    (V A : Fin 4096 → EReal) (W B : Fin 256 → EReal) (hA : ∀ x, A x = 1) (hB : ∀ x, B x = 1) (S U : Fin (4096 + 256) → EReal)
    (hS : ∀ x, S (Fin.castAdd 256 x) = Ideal.div (∑ d, (q d : EReal) * (k x d : EReal)) (Ideal.sqrt (Ideal.ofBits FTy.f32 0x43400000#32)))
    (hR : ∀ x, S (Fin.natAdd 4096 x) = Ideal.div (∑ d, (q d : EReal) * (kc x d : EReal)) (Ideal.sqrt (Ideal.ofBits FTy.f32 0x43400000#32)))
    (hV : ∀ x, V x = U (Fin.castAdd 256 x)) (hW : ∀ x, W x = U (Fin.natAdd 4096 x)) :
    Ideal.div (Attn.running μ 0 (fun x => ∑ d, Q d * K x d) (fun x => ∑ d, Q d * C x d) V W)
      (Attn.running μ 0 (fun x => ∑ d, Q d * K x d) (fun x => ∑ d, Q d * C x d) A B) = Attn.direct S U := by
  obtain ⟨r, hr⟩ := Attn.start_real
  rw [show (fun x => ∑ d, Q d * K x d) = fun x => ((Attn.score q (k x) / Real.log 2 : ℝ) : EReal) from
      funext fun x => Attn.score_ker q (k x) Q (K x) hQ (hK x) (hK0 x),
    show (fun x => ∑ d, Q d * C x d) = fun x => ((Attn.score q (kc x) / Real.log 2 : ℝ) : EReal) from
      funext fun x => Attn.score_ker q (kc x) Q (C x) hQ (hC x) (hC0 x),
    show A = fun _ => 1 from funext hA, show B = fun _ => 1 from funext hB, hμ, hr,
    Attn.running_div (by norm_num) (by norm_num),
    Attn.direct_eq (by norm_num) (fun x => Attn.score q (k x)) (fun x => Attn.score q (kc x)) S U
      (fun x => (hS x).trans (Attn.score_ref _ _)) (fun x => (hR x).trans (Attn.score_ref _ _)),
    show V = fun x => U (Fin.castAdd 256 x) from funext hV, show W = fun x => U (Fin.natAdd 4096 x) from funext hW]

/-- The first head of a pair: from blocks that hold the head's rows, the quotient is the reference's result. -/
theorem first_eq (A0 A1 : FVec Ideal S4x4096x8x192 .f32) (A2 : FVec Ideal S4x4096x8x128 .f32) (A3 : FVec Ideal S4x256x8x192 .f32)
    (A4 : FVec Ideal S4x256x8x128 .f32) (h0 : ∀ i, ∃ r : ℝ, A0 i = r) (h1 : ∀ i, ∃ r : ℝ, A1 i = r) (h3 : ∀ i, ∃ r : ℝ, A3 i = r)
    (b : Fin 4) (h : Fin 8) (i : Fin 4096) (a : Fin 256) (f : Fin 128) (p : Fin 1024) (hp : p.val = h.val * 128 + f.val)
    (q : Vec Ideal S1x1x256x256 .bf16) (k v : Vec Ideal S1x1x4096x256 .bf16) (kc vc : Vec Ideal S1x1x256x256 .bf16)
    (m0 : Vec Ideal S1x256x1 .f32) (a0 : Vec Ideal S1x256x256 .f32)
    (hm : m0 (ix3 0 a 0) = Ideal.ofBits FTy.f32 0xF149F2CA#32) (ha : ∀ l, a0 (ix3 0 a l) = 0)
    (hq : ∀ d, q (ix4 0 0 a d) = queries A0 (ix4 b h i d)) (hk : ∀ x d, k (ix4 0 0 x d) = seqKeys A1 (ix4 b h x d))
    (hv : ∀ x d, v (ix4 0 0 x d) = seqValues A2 (ix4 b h x d)) (hkc : ∀ x d, kc (ix4 0 0 x d) = ctxKeys A3 (ix4 b h x d))
    (hvc : ∀ x d, vc (ix4 0 0 x d) = ctxValues A4 (ix4 b h x d)) :
    k0_pay2 (firstSum q k v kc vc m0 a0) (ix3 0 a f) = Cert.ReferenceIdeal.Term.result A0 A1 A2 A3 A4 (ix3 b i p) := by
  choose r0 h0 using h0
  choose r1 h1 using h1
  choose r3 h3 using h3
  refine (k0_pay2_at _ a f).trans ?_
  rw [firstSum_at, firstSum_at, ha, ha]
  refine Eq.trans ?_ (Cert.ReferenceIdeal.Term.result_at A0 A1 A2 A3 A4 b i h f p hp).symm
  exact row_eq (fun d => r0 (ix4 b i h d)) (fun x d => r1 (ix4 b x h d)) (fun x d => r3 (ix4 b x h d)) _ hm
    (fun d => q (ix4 0 0 a d)) (fun x d => k (ix4 0 0 x d)) (fun x d => kc (ix4 0 0 x d))
    (fun d => by rw [hq, queries_lt, h0])
    (fun x d => by rw [hk, seqKeys_lt, h1]) (fun x d => by rw [hk, seqKeys_ge])
    (fun x d => by rw [hkc, ctxKeys_lt, h3]) (fun x d => by rw [hkc, ctxKeys_ge])
    _ _ _ _ (fun x => by rw [hv, seqValues_one]) (fun x => by rw [hvc, ctxValues_one]) _ _
    (fun x => by simp only [← h0, ← h1]; exact Cert.ReferenceIdeal.Term.scores_seq A0 A1 A3 b h i x)
    (fun x => by simp only [← h0, ← h3]; exact Cert.ReferenceIdeal.Term.scores_ctx A0 A1 A3 b h i x)
    (fun x => by rw [hv, seqValues_lt]; exact (Cert.ReferenceIdeal.Term.values_seq A2 A4 b h x f).symm)
    (fun x => by rw [hvc, ctxValues_lt]; exact (Cert.ReferenceIdeal.Term.values_ctx A2 A4 b h x f).symm)

/-- The second head of a pair: from blocks that hold the head's rows, the quotient is the reference's result. -/
theorem second_eq (A0 A1 : FVec Ideal S4x4096x8x192 .f32) (A2 : FVec Ideal S4x4096x8x128 .f32) (A3 : FVec Ideal S4x256x8x192 .f32)
    (A4 : FVec Ideal S4x256x8x128 .f32) (h0 : ∀ i, ∃ r : ℝ, A0 i = r) (h1 : ∀ i, ∃ r : ℝ, A1 i = r) (h3 : ∀ i, ∃ r : ℝ, A3 i = r)
    (b : Fin 4) (h : Fin 8) (i : Fin 4096) (a : Fin 256) (f : Fin 128) (p : Fin 1024) (hp : p.val = h.val * 128 + f.val)
    (q : Vec Ideal S1x1x256x256 .bf16) (k v : Vec Ideal S1x1x4096x256 .bf16) (kc vc : Vec Ideal S1x1x256x256 .bf16)
    (m0 : Vec Ideal S1x256x1 .f32) (a0 : Vec Ideal S1x256x256 .f32)
    (hm : m0 (ix3 0 a 0) = Ideal.ofBits FTy.f32 0xF149F2CA#32) (ha : ∀ l, a0 (ix3 0 a l) = 0)
    (hq : ∀ d, q (ix4 0 0 a d) = queries A0 (ix4 b h i d)) (hk : ∀ x d, k (ix4 0 0 x d) = seqKeys A1 (ix4 b h x d))
    (hv : ∀ x d, v (ix4 0 0 x d) = seqValues A2 (ix4 b h x d)) (hkc : ∀ x d, kc (ix4 0 0 x d) = ctxKeys A3 (ix4 b h x d))
    (hvc : ∀ x d, vc (ix4 0 0 x d) = ctxValues A4 (ix4 b h x d)) :
    k0_pay3 (secondSum q k v kc vc m0 a0) (ix3 0 a f) = Cert.ReferenceIdeal.Term.result A0 A1 A2 A3 A4 (ix3 b i p) := by
  choose r0 h0 using h0
  choose r1 h1 using h1
  choose r3 h3 using h3
  refine (k0_pay3_at _ a f).trans ?_
  rw [secondSum_at, secondSum_at, ha, ha]
  refine Eq.trans ?_ (Cert.ReferenceIdeal.Term.result_at A0 A1 A2 A3 A4 b i h f p hp).symm
  exact row_eq (fun d => r0 (ix4 b i h d)) (fun x d => r1 (ix4 b x h d)) (fun x d => r3 (ix4 b x h d)) _ hm
    (fun d => q (ix4 0 0 a d)) (fun x d => k (ix4 0 0 x d)) (fun x d => kc (ix4 0 0 x d))
    (fun d => by rw [hq, queries_lt, h0])
    (fun x d => by rw [hk, seqKeys_lt, h1]) (fun x d => by rw [hk, seqKeys_ge])
    (fun x d => by rw [hkc, ctxKeys_lt, h3]) (fun x d => by rw [hkc, ctxKeys_ge])
    _ _ _ _ (fun x => by rw [hv, seqValues_one]) (fun x => by rw [hvc, ctxValues_one]) _ _
    (fun x => by simp only [← h0, ← h1]; exact Cert.ReferenceIdeal.Term.scores_seq A0 A1 A3 b h i x)
    (fun x => by simp only [← h0, ← h3]; exact Cert.ReferenceIdeal.Term.scores_ctx A0 A1 A3 b h i x)
    (fun x => by rw [hv, seqValues_lt]; exact (Cert.ReferenceIdeal.Term.values_seq A2 A4 b h x f).symm)
    (fun x => by rw [hvc, ctxValues_lt]; exact (Cert.ReferenceIdeal.Term.values_ctx A2 A4 b h x f).symm)

/-- An entry whose absolute value compares below infinity is a real number. -/
theorem real_of_finite (x y : EReal) (hy : y = ⊤) (h : Ideal.cmp .olt (max x (-x)) y = 1#1) : ∃ r : ℝ, x = r := by
  induction x using EReal.rec with
  | bot => exact absurd h (by simp [Ideal.cmp, hy])
  | top => exact absurd h (by simp [Ideal.cmp, hy])
  | coe r => exact ⟨r, rfl⟩

/-- The word of infinity. -/
theorem pos_inf : Ideal.ofBits FTy.f32 0x7F800000#32 = ⊤ := by
  simp [Ideal.ofBits, Ideal.ieee]

/-- Under the precondition every query is a real number. -/
theorem queries_real [Cert.Pre_finite.Facts] (h : Cert.Pre_KernelIdeal_finite m) (c : Dev nD) :
    ∀ i, ∃ r : ℝ, (m ((c.tc : Thread nD τ).loc main_arg0) : FVec Ideal S4x4096x8x192 .f32) i = (r : EReal) :=
  fun i => real_of_finite _ _ pos_inf (congrFun (h c).1 i)

/-- Under the precondition every key of the sequence is a real number. -/
theorem seqKeys_real [Cert.Pre_finite.Facts] (h : Cert.Pre_KernelIdeal_finite m) (c : Dev nD) :
    ∀ i, ∃ r : ℝ, (m ((c.tc : Thread nD τ).loc main_arg1) : FVec Ideal S4x4096x8x192 .f32) i = (r : EReal) :=
  fun i => real_of_finite _ _ pos_inf (congrFun (h c).2.1 i)

/-- Under the precondition every key of the context is a real number. -/
theorem ctxKeys_real [Cert.Pre_finite.Facts] (h : Cert.Pre_KernelIdeal_finite m) (c : Dev nD) :
    ∀ i, ∃ r : ℝ, (m ((c.tc : Thread nD τ).loc main_arg3) : FVec Ideal S4x256x8x192 .f32) i = (r : EReal) :=
  fun i => real_of_finite _ _ pos_inf (congrFun (h c).2.2 i)

/-- What one grid point leaves of the output block: the second head's quotient in the last 128 lanes, the first head's in the first. -/
theorem outs_eq (c : Dev nD) (t : Fin cfg0.N) : outsAt0 m c t = (View.canon [
      ⟨Rect.unit ![0, 0, 128] ![1, 256, 128] inb_S1x256x256_S1x256x128_0_0_128, k0_pay3 (F := Ideal) (secondSum (View.ld (iblk m c 0 t) (Rect.unit (s := S1x2x256x256) ![0, 1, 0, 0] ![1, 1, 256, 256] inb_S1x2x256x256_S1x1x256x256_0_1_0_0))
        (View.ld (iblk m c 1 t) (Rect.unit (s := S1x2x4096x256) ![0, 1, 0, 0] ![1, 1, 4096, 256] inb_S1x2x4096x256_S1x1x4096x256_0_1_0_0))
        (View.ld (iblk m c 2 t) (Rect.unit (s := S1x2x4096x256) ![0, 1, 0, 0] ![1, 1, 4096, 256] inb_S1x2x4096x256_S1x1x4096x256_0_1_0_0))
        (View.ld (iblk m c 3 t) (Rect.unit (s := S1x2x256x256) ![0, 1, 0, 0] ![1, 1, 256, 256] inb_S1x2x256x256_S1x1x256x256_0_1_0_0))
        (View.ld (iblk m c 4 t) (Rect.unit (s := S1x2x256x256) ![0, 1, 0, 0] ![1, 1, 256, 256] inb_S1x2x256x256_S1x1x256x256_0_1_0_0))
        (View.ld (Val := Elt Ideal) (e' := .f32) (k0_pay18 (F := Ideal)) (Rect.unit (s := S2x256x1) ![1, 0, 0] ![1, 256, 1] inb_S2x256x1_S1x256x1_1_0_0))
        (View.ld (Val := Elt Ideal) (e' := .f32) (k0_pay19 (F := Ideal)) (Rect.unit (s := S2x256x256) ![1, 0, 0] ![1, 256, 256] inb_S2x256x256_S1x256x256_1_0_0)))⟩,
      ⟨Rect.unit ![0, 0, 0] ![1, 256, 128] inb_S1x256x256_S1x256x128_0_0_0, k0_pay2 (F := Ideal) (firstSum (View.ld (iblk m c 0 t) (Rect.unit (s := S1x2x256x256) ![0, 0, 0, 0] ![1, 1, 256, 256] inb_S1x2x256x256_S1x1x256x256_0_0_0_0))
        (View.ld (iblk m c 1 t) (Rect.unit (s := S1x2x4096x256) ![0, 0, 0, 0] ![1, 1, 4096, 256] inb_S1x2x4096x256_S1x1x4096x256_0_0_0_0))
        (View.ld (iblk m c 2 t) (Rect.unit (s := S1x2x4096x256) ![0, 0, 0, 0] ![1, 1, 4096, 256] inb_S1x2x4096x256_S1x1x4096x256_0_0_0_0))
        (View.ld (iblk m c 3 t) (Rect.unit (s := S1x2x256x256) ![0, 0, 0, 0] ![1, 1, 256, 256] inb_S1x2x256x256_S1x1x256x256_0_0_0_0))
        (View.ld (iblk m c 4 t) (Rect.unit (s := S1x2x256x256) ![0, 0, 0, 0] ![1, 1, 256, 256] inb_S1x2x256x256_S1x1x256x256_0_0_0_0))
        (View.ld (Val := Elt Ideal) (e' := .f32) (k0_pay18 (F := Ideal)) (Rect.unit (s := S2x256x1) ![0, 0, 0] ![1, 256, 1] inb_S2x256x1_S1x256x1_0_0_0))
        (View.ld (Val := Elt Ideal) (e' := .f32) (k0_pay19 (F := Ideal)) (Rect.unit (s := S2x256x256) ![0, 0, 0] ![1, 256, 256] inb_S2x256x256_S1x256x256_0_0_0)))⟩] : Vec Ideal S1x256x256 .bf16) := by
  unfold outsAt0
  frame_open
  simp (discharger := decide) only [↓View.readCov_skip, ↓View.readCov_fill, ↓View.readCov_cons_toLoadRect, View.read_writes_junk_eq_canon, View.readAt_eq_ld,
        Memref.IsWhole.read_unread]
  rfl

/-- Where the first head's piece puts its entries. -/
theorem emb_first (a : Fin 256) (f : Fin 128) : (Rect.unit (s := S1x256x256) ![0, 0, 0] ![1, 256, 128] inb_S1x256x256_S1x256x128_0_0_0).emb (ix3 0 a f) =
    (ix3 0 a (Fin.castAdd 128 f) : S1x256x256.Idx) := by
  funext i
  match i with
  | 0 => exact Fin.ext (show 0 + 1 * 0 = 0 by omega)
  | 1 => exact Fin.ext (show 0 + 1 * a.val = a.val by omega)
  | 2 => exact Fin.ext (show 0 + 1 * f.val = f.val by omega)

/-- Where the second head's piece puts its entries. -/
theorem emb_second (a : Fin 256) (f : Fin 128) : (Rect.unit (s := S1x256x256) ![0, 0, 128] ![1, 256, 128] inb_S1x256x256_S1x256x128_0_0_128).emb (ix3 0 a f) =
    (ix3 0 a (Fin.natAdd 128 f) : S1x256x256.Idx) := by
  funext i
  match i with
  | 0 => exact Fin.ext (show 0 + 1 * 0 = 0 by omega)
  | 1 => exact Fin.ext (show 0 + 1 * a.val = a.val by omega)
  | 2 => exact Fin.ext (show 128 + 1 * f.val = 128 + f.val by omega)

/-- A lane below 128 is the first head's. -/
theorem lane_first (A B : Vec Ideal S1x256x128 .bf16) (a : Fin 256) (f : Fin 128) :
    (View.canon [⟨Rect.unit ![0, 0, 128] ![1, 256, 128] inb_S1x256x256_S1x256x128_0_0_128, A⟩,
      ⟨Rect.unit ![0, 0, 0] ![1, 256, 128] inb_S1x256x256_S1x256x128_0_0_0, B⟩] : Vec Ideal S1x256x256 .bf16) (ix3 0 a (Fin.castAdd 128 f)) = B (ix3 0 a f) := by
  refine (View.canon_cons_of_not_mem _ _ fun hm => ?_).trans ?_
  · have h : 128 ≤ f.val := ((Rect.mem_set_unit (inb := inb_S1x256x256_S1x256x128_0_0_128).mp hm) 2).1
    omega
  · exact (congrArg (View.canon (Val := Elt Ideal) (e := .bf16) _) (emb_first a f).symm).trans (View.canon_cons_emb (Val := Elt Ideal) (e := .bf16)
      (Rect.unit (s := S1x256x256) ![0, 0, 0] ![1, 256, 128] inb_S1x256x256_S1x256x128_0_0_0) B [] (ix3 0 a f))

/-- A lane from 128 on is the second head's. -/
theorem lane_second (A B : Vec Ideal S1x256x128 .bf16) (a : Fin 256) (f : Fin 128) :
    (View.canon [⟨Rect.unit ![0, 0, 128] ![1, 256, 128] inb_S1x256x256_S1x256x128_0_0_128, A⟩,
      ⟨Rect.unit ![0, 0, 0] ![1, 256, 128] inb_S1x256x256_S1x256x128_0_0_0, B⟩] : Vec Ideal S1x256x256 .bf16) (ix3 0 a (Fin.natAdd 128 f)) = A (ix3 0 a f) := by
  exact (congrArg (View.canon (Val := Elt Ideal) (e := .bf16) _) (emb_second a f).symm).trans (View.canon_cons_emb (Val := Elt Ideal) (e := .bf16)
    (Rect.unit (s := S1x256x256) ![0, 0, 128] ![1, 256, 128] inb_S1x256x256_S1x256x128_0_0_128) A _ (ix3 0 a f))

/-- The running maximum starts at the word of minus ten to the thirtieth, in either head. -/
theorem start_at (j : Fin 2) (a : Fin 256) : k0_pay18 (F := Ideal) (ix3 j a 0) = Ideal.ofBits FTy.f32 0xF149F2CA#32 := by
  pointwise [k0_pay18]

/-- The running sum starts at zero, in either head. -/
theorem zero_at (j : Fin 2) (a b : Fin 256) : k0_pay19 (F := Ideal) (ix3 j a b) = 0 := by
  pointwise [k0_pay19]

/-- Head 0 loads the start of its running maximum. -/
theorem start0 (a : Fin 256) : (View.ld (Val := Elt Ideal) (e' := .f32) (k0_pay18 (F := Ideal)) (Rect.unit (s := S2x256x1) ![0, 0, 0] ![1, 256, 1] inb_S2x256x1_S1x256x1_0_0_0) : Vec Ideal S1x256x1 .f32) (ix3 0 a 0) =
    Ideal.ofBits FTy.f32 0xF149F2CA#32 := by
  have e : ∀ X : Vec Ideal S2x256x1 .f32, (View.ld X (Rect.unit (s := S2x256x1) ![0, 0, 0] ![1, 256, 1] inb_S2x256x1_S1x256x1_0_0_0) :
      Vec Ideal S1x256x1 .f32) (ix3 0 a 0) = X (ix3 0 a 0) := fun X => by pointwise
  exact (e _).trans (start_at 0 a)

/-- Head 0 loads the start of its running sum. -/
theorem zero0 (a b : Fin 256) : (View.ld (Val := Elt Ideal) (e' := .f32) (k0_pay19 (F := Ideal)) (Rect.unit (s := S2x256x256) ![0, 0, 0] ![1, 256, 256] inb_S2x256x256_S1x256x256_0_0_0) : Vec Ideal S1x256x256 .f32) (ix3 0 a b) = 0 := by
  have e : ∀ X : Vec Ideal S2x256x256 .f32, (View.ld X (Rect.unit (s := S2x256x256) ![0, 0, 0] ![1, 256, 256] inb_S2x256x256_S1x256x256_0_0_0) :
      Vec Ideal S1x256x256 .f32) (ix3 0 a b) = X (ix3 0 a b) := fun X => by pointwise
  exact (e _).trans (zero_at 0 a b)

/-- Head 1 loads the start of its running maximum. -/
theorem start1 (a : Fin 256) : (View.ld (Val := Elt Ideal) (e' := .f32) (k0_pay18 (F := Ideal)) (Rect.unit (s := S2x256x1) ![1, 0, 0] ![1, 256, 1] inb_S2x256x1_S1x256x1_1_0_0) : Vec Ideal S1x256x1 .f32) (ix3 0 a 0) =
    Ideal.ofBits FTy.f32 0xF149F2CA#32 := by
  have e : ∀ X : Vec Ideal S2x256x1 .f32, (View.ld X (Rect.unit (s := S2x256x1) ![1, 0, 0] ![1, 256, 1] inb_S2x256x1_S1x256x1_1_0_0) :
      Vec Ideal S1x256x1 .f32) (ix3 0 a 0) = X (ix3 1 a 0) := fun X => by pointwise
  exact (e _).trans (start_at 1 a)

/-- Head 1 loads the start of its running sum. -/
theorem zero1 (a b : Fin 256) : (View.ld (Val := Elt Ideal) (e' := .f32) (k0_pay19 (F := Ideal)) (Rect.unit (s := S2x256x256) ![1, 0, 0] ![1, 256, 256] inb_S2x256x256_S1x256x256_1_0_0) : Vec Ideal S1x256x256 .f32) (ix3 0 a b) = 0 := by
  have e : ∀ X : Vec Ideal S2x256x256 .f32, (View.ld X (Rect.unit (s := S2x256x256) ![1, 0, 0] ![1, 256, 256] inb_S2x256x256_S1x256x256_1_0_0) :
      Vec Ideal S1x256x256 .f32) (ix3 0 a b) = X (ix3 1 a b) := fun X => by pointwise
  exact (e _).trans (zero_at 1 a b)

/-- What one grid point leaves in the first head's lanes is the reference's result at the block's rows. -/
theorem first_lanes [Cert.Pre_finite.Facts] (hpre : Cert.Pre_KernelIdeal_finite m) (c : Dev nD) (t : Fin cfg0.N) (a : Fin 256) (f : Fin 128) :
    outsAt0 m c t (ix3 0 a (Fin.castAdd 128 f)) = Cert.ReferenceIdeal.Term.result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))
      (ix3 ⟨t.val / 64, by have := lt t; omega⟩ ⟨256 * (t.val % 16) + a.val, by omega⟩ ⟨256 * (t.val / 16 % 4) + (f.val), by omega⟩) := by
  rw [outs_eq]
  refine (lane_first _ _ a f).trans ?_
  exact first_eq _ _ _ _ _ (queries_real m hpre c) (seqKeys_real m hpre c) (ctxKeys_real m hpre c) _ ⟨2 * (t.val / 16 % 4) + 0, by omega⟩ _ a f _
    (show 256 * (t.val / 16 % 4) + (f.val) = (2 * (t.val / 16 % 4) + 0) * 128 + f.val by omega) _ _ _ _ _ _ _ (start0 a) (zero0 a)
    (fun d => ld0_0 m c t _ rfl a d) (fun x d => ld1_0 m c t _ rfl x d) (fun x d => ld2_0 m c t _ rfl x d)
    (fun x d => ld3_0 m c t _ rfl x d) (fun x d => ld4_0 m c t _ rfl x d)

/-- What one grid point leaves in the second head's lanes is the reference's result at the block's rows. -/
theorem second_lanes [Cert.Pre_finite.Facts] (hpre : Cert.Pre_KernelIdeal_finite m) (c : Dev nD) (t : Fin cfg0.N) (a : Fin 256) (f : Fin 128) :
    outsAt0 m c t (ix3 0 a (Fin.natAdd 128 f)) = Cert.ReferenceIdeal.Term.result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))
      (ix3 ⟨t.val / 64, by have := lt t; omega⟩ ⟨256 * (t.val % 16) + a.val, by omega⟩ ⟨256 * (t.val / 16 % 4) + (128 + f.val), by omega⟩) := by
  rw [outs_eq]
  refine (lane_second _ _ a f).trans ?_
  exact second_eq _ _ _ _ _ (queries_real m hpre c) (seqKeys_real m hpre c) (ctxKeys_real m hpre c) _ ⟨2 * (t.val / 16 % 4) + 1, by omega⟩ _ a f _
    (show 256 * (t.val / 16 % 4) + (128 + f.val) = (2 * (t.val / 16 % 4) + 1) * 128 + f.val by omega) _ _ _ _ _ _ _ (start1 a) (zero1 a)
    (fun d => ld0_1 m c t _ rfl a d) (fun x d => ld1_1 m c t _ rfl x d) (fun x d => ld2_1 m c t _ rfl x d)
    (fun x d => ld3_1 m c t _ rfl x d) (fun x d => ld4_1 m c t _ rfl x d)

/-- What one grid point leaves of the output block is the reference's result at the block's rows and lanes. -/
theorem out_at [Cert.Pre_finite.Facts] (hpre : Cert.Pre_KernelIdeal_finite m) (c : Dev nD) (t : Fin cfg0.N) (a l : Fin 256) :
    outsAt0 m c t (ix3 0 a l) = Cert.ReferenceIdeal.Term.result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))
      (ix3 ⟨t.val / 64, by have := lt t; omega⟩ ⟨256 * (t.val % 16) + a.val, by omega⟩ ⟨256 * (t.val / 16 % 4) + l.val, by omega⟩) := by
  by_cases h : l.val < 128
  · have e : l = Fin.castAdd 128 (⟨l.val, h⟩ : Fin 128) := Fin.ext rfl
    rw [e]
    exact first_lanes m hpre c t a ⟨l.val, h⟩
  · have e : l = Fin.natAdd 128 (⟨l.val - 128, by omega⟩ : Fin 128) := Fin.ext (show l.val = 128 + (l.val - 128) by omega)
    rw [e]
    exact second_lanes m hpre c t a ⟨l.val - 128, by omega⟩

/-- The result array after the run is the reference's result of the same arguments. -/
theorem result [Cert.Pre_finite.Facts] (hpre : Cert.Pre_KernelIdeal_finite m) (c : Dev nD) : (dats m 0 c).arrAt 5 cfg0.N =
    Cert.ReferenceIdeal.Term.result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  refine (dats m 0 c).arrAt_eq_of_covers 5 _ (by decide +kernel) fun t hf y => ?_
  blk_simp
  rw [after0_5]
  idx_vars y
  obtain rfl : y0 = 0 := Subsingleton.elim _ _
  refine (out_at m hpre c t y1 y2).trans ?_
  generalize Cert.ReferenceIdeal.Term.result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) = X
  have hE : X (((View.whole main_v25).slice (win0_5.rect t)).emb (ix3 0 y1 y2)) =
      X (ix3 ⟨t.val / 64, by have := lt t; omega⟩ ⟨256 * (t.val % 16) + y1.val, by omega⟩ ⟨256 * (t.val / 16 % 4) + y2.val, by omega⟩) := by
    blk_ext [idx t]
  exact hE.symm

/-- The kernel and the reference, launched on equal arguments whose queries and keys are finite, end with equal results. -/
theorem algebraic [hF : Cert.Pre_finite.Facts] :
    @Cert.algebraic_KernelIdeal_ReferenceIdeal_pre_finite Cert.KernelIdeal.Gen.facts Cert.ReferenceIdeal.Gen.facts hF := by
  intro m g m' g' hpre hagree
  refine ⟨fun c => (dats m 0 c).arrAt 5 cfg0.N, Cert.KernelIdeal.Value.run_blocks m g, ?_⟩
  refine (θ_run _ _ _).mono (fun r h c => ⟨(h c).1.trans ?_, (h c).2⟩) (Cert.ReferenceIdeal.Value.run (F := Ideal) m' g')
  obtain ⟨h0, h1, h2, h3, h4⟩ := hagree c
  rw [h0, h1, h2, h3, h4]
  exact (result m hpre c).symm

end Cert.KernelIdeal.AttnValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.S5Post
public import proofs.«01_k».proof.Proof.Gen.S5Post.Skeleton
public import proofs.«01_k».proof.Proof.Gen.S5Post.Launch
public import proofs.«01_k».proof.Proof.Gen.S5Post.Points
public import proofs.«01_k».proof.Proof.Gen.S5Post.Frame
public import proofs.«01_k».proof.Proof.Gen.S5PostIdeal
public import proofs.«01_k».proof.Proof.Gen.S5PostIdeal.Skeleton
public import proofs.«01_k».proof.Proof.Gen.S5PostIdeal.Launch
public import proofs.«01_k».proof.Proof.Gen.S5PostIdeal.Points
public import proofs.«01_k».proof.Proof.Gen.S5PostIdeal.Frame
public import proofs.«01_k».proof.Proof.Gen.S5PostRefIdeal
public import proofs.«01_k».proof.Proof.Gen.Queries
public import proofs.«01_k».proof.Proof.Gen.Queries.Skeleton
public import proofs.«01_k».proof.Proof.Gen.Queries.Launch
public import proofs.«01_k».proof.Proof.Gen.Queries.Points
public import proofs.«01_k».proof.Proof.Gen.Queries.Frame
public import proofs.«01_k».proof.Proof.Gen.QueriesIdeal
public import proofs.«01_k».proof.Proof.Gen.QueriesIdeal.Skeleton
public import proofs.«01_k».proof.Proof.Gen.QueriesIdeal.Launch
public import proofs.«01_k».proof.Proof.Gen.QueriesIdeal.Points
public import proofs.«01_k».proof.Proof.Gen.QueriesIdeal.Frame
public import proofs.«01_k».proof.Proof.Gen.QueriesRefIdeal
public import proofs.«01_k».proof.Proof.Gen.KeysValues
public import proofs.«01_k».proof.Proof.Gen.KeysValues.Skeleton
public import proofs.«01_k».proof.Proof.Gen.KeysValues.Launch
public import proofs.«01_k».proof.Proof.Gen.KeysValues.Points
public import proofs.«01_k».proof.Proof.Gen.KeysValues.Frame
public import proofs.«01_k».proof.Proof.Gen.KeysValuesIdeal
public import proofs.«01_k».proof.Proof.Gen.KeysValuesIdeal.Skeleton
public import proofs.«01_k».proof.Proof.Gen.KeysValuesIdeal.Launch
public import proofs.«01_k».proof.Proof.Gen.KeysValuesIdeal.Points
public import proofs.«01_k».proof.Proof.Gen.KeysValuesIdeal.Frame
public import proofs.«01_k».proof.Proof.Gen.KeysValuesRefIdeal
public import proofs.«01_k».proof.Proof.Gen.InCtx
public import proofs.«01_k».proof.Proof.Gen.InCtx.Skeleton
public import proofs.«01_k».proof.Proof.Gen.InCtx.Launch
public import proofs.«01_k».proof.Proof.Gen.InCtx.Points
public import proofs.«01_k».proof.Proof.Gen.InCtx.Frame
public import proofs.«01_k».proof.Proof.Gen.InCtxIdeal
public import proofs.«01_k».proof.Proof.Gen.InCtxIdeal.Skeleton
public import proofs.«01_k».proof.Proof.Gen.InCtxIdeal.Launch
public import proofs.«01_k».proof.Proof.Gen.InCtxIdeal.Points
public import proofs.«01_k».proof.Proof.Gen.InCtxIdeal.Frame
public import proofs.«01_k».proof.Proof.Gen.InCtxRefIdeal
public import proofs.«01_k».proof.Proof.Gen.MergeCtx
public import proofs.«01_k».proof.Proof.Gen.MergeCtx.Skeleton
public import proofs.«01_k».proof.Proof.Gen.MergeCtx.Launch
public import proofs.«01_k».proof.Proof.Gen.MergeCtx.Points
public import proofs.«01_k».proof.Proof.Gen.MergeCtx.Frame
public import proofs.«01_k».proof.Proof.Gen.MergeCtxIdeal
public import proofs.«01_k».proof.Proof.Gen.MergeCtxIdeal.Skeleton
public import proofs.«01_k».proof.Proof.Gen.MergeCtxIdeal.Launch
public import proofs.«01_k».proof.Proof.Gen.MergeCtxIdeal.Points
public import proofs.«01_k».proof.Proof.Gen.MergeCtxIdeal.Frame
public import proofs.«01_k».proof.Proof.Gen.MergeCtxRefIdeal
public import proofs.«01_k».proof.Proof.Gen.OutCtx
public import proofs.«01_k».proof.Proof.Gen.OutCtx.Skeleton
public import proofs.«01_k».proof.Proof.Gen.OutCtx.Launch
public import proofs.«01_k».proof.Proof.Gen.OutCtx.Points
public import proofs.«01_k».proof.Proof.Gen.OutCtx.Frame
public import proofs.«01_k».proof.Proof.Gen.OutCtxIdeal
public import proofs.«01_k».proof.Proof.Gen.OutCtxIdeal.Skeleton
public import proofs.«01_k».proof.Proof.Gen.OutCtxIdeal.Launch
public import proofs.«01_k».proof.Proof.Gen.OutCtxIdeal.Points
public import proofs.«01_k».proof.Proof.Gen.OutCtxIdeal.Frame
public import proofs.«01_k».proof.Proof.Gen.OutCtxRefIdeal
public import proofs.«01_k».proof.Proof.Gen.MlpCtx
public import proofs.«01_k».proof.Proof.Gen.MlpCtx.Skeleton
public import proofs.«01_k».proof.Proof.Gen.MlpCtx.Launch
public import proofs.«01_k».proof.Proof.Gen.MlpCtx.Points
public import proofs.«01_k».proof.Proof.Gen.MlpCtx.Frame
public import proofs.«01_k».proof.Proof.Gen.MlpCtxIdeal
public import proofs.«01_k».proof.Proof.Gen.MlpCtxIdeal.Skeleton
public import proofs.«01_k».proof.Proof.Gen.MlpCtxIdeal.Launch
public import proofs.«01_k».proof.Proof.Gen.MlpCtxIdeal.Points
public import proofs.«01_k».proof.Proof.Gen.MlpCtxIdeal.Frame
public import proofs.«01_k».proof.Proof.Gen.MlpCtxRefIdeal
public import proofs.«01_k».proof.Proof.Gen.Pre_finite
public import proofs.«01_k».proof.Proof.Gen.KernelIdeal.Value
public import proofs.«01_k».proof.Proof.Gen.MlpIdeal.Value
public import proofs.«01_k».proof.Proof.Gen.InProjIdeal.Value
public import proofs.«01_k».proof.Proof.Gen.MergeIdeal.Value
public import proofs.«01_k».proof.Proof.Gen.OutProjIdeal.Value
public import proofs.«01_k».proof.Proof.Gen.S5PostIdeal.Value
public import proofs.«01_k».proof.Proof.Gen.QueriesIdeal.Value
public import proofs.«01_k».proof.Proof.Gen.KeysValuesIdeal.Value
public import proofs.«01_k».proof.Proof.Gen.InCtxIdeal.Value
public import proofs.«01_k».proof.Proof.Gen.MergeCtxIdeal.Value
public import proofs.«01_k».proof.Proof.Gen.OutCtxIdeal.Value
public import proofs.«01_k».proof.Proof.Gen.MlpCtxIdeal.Value
public import proofs.«01_k».proof.Proof.Gen.ReferenceIdeal.Run
public import proofs.«01_k».proof.Proof.Gen.MlpRefIdeal.Run
public import proofs.«01_k».proof.Proof.Gen.InProjRefIdeal.Run
public import proofs.«01_k».proof.Proof.Gen.MergeRefIdeal.Run
public import proofs.«01_k».proof.Proof.Gen.OutProjRefIdeal.Run
public import proofs.«01_k».proof.Proof.Gen.S5PostRefIdeal.Run
public import proofs.«01_k».proof.Proof.Gen.QueriesRefIdeal.Run
public import proofs.«01_k».proof.Proof.Gen.KeysValuesRefIdeal.Run
public import proofs.«01_k».proof.Proof.Gen.InCtxRefIdeal.Run
public import proofs.«01_k».proof.Proof.Gen.MergeCtxRefIdeal.Run
public import proofs.«01_k».proof.Proof.Gen.OutCtxRefIdeal.Run
public import proofs.«01_k».proof.Proof.Gen.MlpCtxRefIdeal.Run
public import proofs.«01_k».proof.Proof.MlpValue
public import proofs.«01_k».proof.Proof.InProjValue
public import proofs.«01_k».proof.Proof.MergeValue
public import proofs.«01_k».proof.Proof.OutProjValue
public import proofs.«01_k».proof.Proof.S5PostValue
public import proofs.«01_k».proof.Proof.QueriesValue
public import proofs.«01_k».proof.Proof.KeysValuesValue
public import proofs.«01_k».proof.Proof.InCtxValue
public import proofs.«01_k».proof.Proof.MergeCtxValue
public import proofs.«01_k».proof.Proof.OutCtxValue
public import proofs.«01_k».proof.Proof.MlpCtxValue
public import proofs.«01_k».proof.Proof.AttnValue
public import Idealize.ShloMosaic.Adequacy
public import Idealize.ShloMosaic.Init

@[expose] public section

noncomputable section

namespace Cert.Proof

open Idealize.ShloMosaic Idealize.SL.Sem Cert.Kernel

/-- The attention's reference ends with its arguments unchanged and every counter at zero. -/
theorem attention_ref_frame : @Cert.quiescent_ReferenceIdeal Cert.ReferenceIdeal.Gen.facts := fun m g _ =>
  (θ_run _ _ _).mono (fun r h => ⟨fun c => (h c).2, Idealize.ShloMosaic.sem_eq_zero_of_no_sems (by decide) r.2⟩)
    (Cert.ReferenceIdeal.Value.run (F := Ideal) m g)

/-- Every claim: the frames of the twelve kernels and their references, and the equality of their results. -/
theorem claim : Cert.Claim := ⟨Cert.Kernel.Gen.facts, Cert.KernelIdeal.Gen.facts, Cert.ReferenceIdeal.Gen.facts, Cert.Mlp.Gen.facts, Cert.MlpIdeal.Gen.facts, Cert.MlpRefIdeal.Gen.facts, Cert.InProj.Gen.facts, Cert.InProjIdeal.Gen.facts, Cert.InProjRefIdeal.Gen.facts, Cert.Merge.Gen.facts, Cert.MergeIdeal.Gen.facts, Cert.MergeRefIdeal.Gen.facts, Cert.OutProj.Gen.facts, Cert.OutProjIdeal.Gen.facts, Cert.OutProjRefIdeal.Gen.facts, Cert.S5Post.Gen.facts, Cert.S5PostIdeal.Gen.facts, Cert.S5PostRefIdeal.Gen.facts, Cert.Queries.Gen.facts, Cert.QueriesIdeal.Gen.facts, Cert.QueriesRefIdeal.Gen.facts, Cert.KeysValues.Gen.facts, Cert.KeysValuesIdeal.Gen.facts, Cert.KeysValuesRefIdeal.Gen.facts, Cert.InCtx.Gen.facts, Cert.InCtxIdeal.Gen.facts, Cert.InCtxRefIdeal.Gen.facts, Cert.MergeCtx.Gen.facts, Cert.MergeCtxIdeal.Gen.facts, Cert.MergeCtxRefIdeal.Gen.facts, Cert.OutCtx.Gen.facts, Cert.OutCtxIdeal.Gen.facts, Cert.OutCtxRefIdeal.Gen.facts, Cert.MlpCtx.Gen.facts, Cert.MlpCtxIdeal.Gen.facts, Cert.MlpCtxRefIdeal.Gen.facts, Cert.Pre_finite.Gen.facts,
    fun m g _ => Cert.Kernel.Gen.frame m g,
  fun m g _ => Cert.KernelIdeal.Gen.frame m g,
  fun m g _ => Cert.KernelIdeal.Gen.frame m g,
  attention_ref_frame,
  fun m g _ => attention_ref_frame m g trivial,
  fun m g _ => Cert.Mlp.Gen.frame m g,
  fun m g _ => Cert.MlpIdeal.Gen.frame m g,
  Cert.MlpIdeal.MlpValue.ref_frame,
  fun m g _ => Cert.InProj.Gen.frame m g,
  fun m g _ => Cert.InProjIdeal.Gen.frame m g,
  Cert.InProjIdeal.InValue.ref_frame,
  fun m g _ => Cert.Merge.Gen.frame m g,
  fun m g _ => Cert.MergeIdeal.Gen.frame m g,
  Cert.MergeIdeal.MergeValue.ref_frame,
  fun m g _ => Cert.OutProj.Gen.frame m g,
  fun m g _ => Cert.OutProjIdeal.Gen.frame m g,
  Cert.OutProjIdeal.ProjValue.ref_frame,
  fun m g _ => Cert.S5Post.Gen.frame m g,
  fun m g _ => Cert.S5PostIdeal.Gen.frame m g,
  Cert.S5PostIdeal.S5Value.ref_frame,
  fun m g _ => Cert.Queries.Gen.frame m g,
  fun m g _ => Cert.QueriesIdeal.Gen.frame m g,
  Cert.QueriesIdeal.QValue.ref_frame,
  fun m g _ => Cert.KeysValues.Gen.frame m g,
  fun m g _ => Cert.KeysValuesIdeal.Gen.frame m g,
  Cert.KeysValuesIdeal.KVValue.ref_frame,
  fun m g _ => Cert.InCtx.Gen.frame m g,
  fun m g _ => Cert.InCtxIdeal.Gen.frame m g,
  Cert.InCtxIdeal.InValue.ref_frame,
  fun m g _ => Cert.MergeCtx.Gen.frame m g,
  fun m g _ => Cert.MergeCtxIdeal.Gen.frame m g,
  Cert.MergeCtxIdeal.MergeValue.ref_frame,
  fun m g _ => Cert.OutCtx.Gen.frame m g,
  fun m g _ => Cert.OutCtxIdeal.Gen.frame m g,
  Cert.OutCtxIdeal.ProjValue.ref_frame,
  fun m g _ => Cert.MlpCtx.Gen.frame m g,
  fun m g _ => Cert.MlpCtxIdeal.Gen.frame m g,
  Cert.MlpCtxIdeal.MlpValue.ref_frame,
  trivial,
  Cert.KernelIdeal.AttnValue.algebraic,
  trivial,
  Cert.MlpIdeal.MlpValue.algebraic,
  trivial,
  Cert.InProjIdeal.InValue.algebraic,
  trivial,
  Cert.MergeIdeal.MergeValue.algebraic,
  trivial,
  Cert.OutProjIdeal.ProjValue.algebraic,
  trivial,
  Cert.S5PostIdeal.S5Value.algebraic,
  trivial,
  Cert.QueriesIdeal.QValue.algebraic,
  trivial,
  Cert.KeysValuesIdeal.KVValue.algebraic,
  trivial,
  Cert.InCtxIdeal.InValue.algebraic,
  trivial,
  Cert.MergeCtxIdeal.MergeValue.algebraic,
  trivial,
  Cert.OutCtxIdeal.ProjValue.algebraic,
  trivial,
  Cert.MlpCtxIdeal.MlpValue.algebraic⟩

end Cert.Proof

end
